-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64_0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v64_1) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v64_2) = v4 c
          ∧ r.2.mem ((c.tc : Thread Cert.ReferenceIdeal.nD Cert.ReferenceIdeal.τ).loc Cert.ReferenceIdeal.main_v52) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x7168 : Shape := ⟨3, ![256, 1, 7168]⟩
abbrev S16 : Shape := ⟨1, ![16]⟩
abbrev S7168x18432 : Shape := ⟨2, ![7168, 18432]⟩
abbrev S256x7168 : Shape := ⟨2, ![256, 7168]⟩
abbrev S1x16 : Shape := ⟨2, ![1, 16]⟩
abbrev S256x18432 : Shape := ⟨2, ![256, 18432]⟩
abbrev S1x1 : Shape := ⟨2, ![1, 1]⟩
abbrev S56x144 : Shape := ⟨2, ![56, 144]⟩
abbrev S2x7168x512 : Shape := ⟨3, ![2, 7168, 512]⟩
abbrev S1024x512 : Shape := ⟨2, ![1024, 512]⟩
abbrev S256x512 : Shape := ⟨2, ![256, 512]⟩
abbrev S2x256x512 : Shape := ⟨3, ![2, 256, 512]⟩
abbrev S2x56x128 : Shape := ⟨3, ![2, 56, 128]⟩
abbrev S4x8x128 : Shape := ⟨3, ![4, 8, 128]⟩
abbrev S2x7 : Shape := ⟨2, ![2, 7]⟩
abbrev S2 : Shape := ⟨1, ![2]⟩
abbrev S4 : Shape := ⟨1, ![4]⟩
abbrev S1 : Shape := ⟨1, ![1]⟩
abbrev S_ : Shape := ⟨0, ![]⟩
abbrev S1x1024x512 : Shape := ⟨3, ![1, 1024, 512]⟩
abbrev S8x128 : Shape := ⟨2, ![8, 128]⟩
abbrev S1x8x128 : Shape := ⟨3, ![1, 8, 128]⟩
abbrev S1x1x1 : Shape := ⟨3, ![1, 1, 1]⟩
abbrev S256x128 : Shape := ⟨2, ![256, 128]⟩
abbrev S16x128 : Shape := ⟨2, ![16, 128]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S8 : Shape := ⟨1, ![8]⟩
abbrev S8x1 : Shape := ⟨2, ![8, 1]⟩
abbrev S256x1024 : Shape := ⟨2, ![256, 1024]⟩
abbrev S1x1x128 : Shape := ⟨3, ![1, 1, 128]⟩
abbrev S1x256x512 : Shape := ⟨3, ![1, 256, 512]⟩
abbrev S1x56x128 : Shape := ⟨3, ![1, 56, 128]⟩
abbrev S56x128 : Shape := ⟨2, ![56, 128]⟩
abbrev S1x56x16 : Shape := ⟨3, ![1, 56, 16]⟩
abbrev S56x16 : Shape := ⟨2, ![56, 16]⟩

abbrev nBuf : Space → Nat
  | .hbm => 11
  | .vmem => 15
  | .smem => 3
  | _ => 0

abbrev bufTy : (tb : Table) → Fin (tcTables nBuf tb) → BufTy
  | .hbm, ⟨0, _⟩ => ⟨S256x1x7168, .bf16⟩
  | .hbm, ⟨1, _⟩ => ⟨S16, .f32⟩
  | .hbm, ⟨2, _⟩ => ⟨S7168x18432, .bf16⟩
  | .hbm, ⟨3, _⟩ => ⟨S256x7168, .bf16⟩
  | .hbm, ⟨4, _⟩ => ⟨S1x16, .f32⟩
  | .hbm, ⟨5, _⟩ => ⟨S256x18432, .bf16⟩
  | .hbm, ⟨6, _⟩ => ⟨S1x16, .f32⟩
  | .hbm, ⟨7, _⟩ => ⟨S256x7168, .fp8e4m3⟩
  | .hbm, ⟨8, _⟩ => ⟨S1x1, .f32⟩
  | .hbm, ⟨9, _⟩ => ⟨S7168x18432, .fp8e4m3⟩
  | .hbm, ⟨10, _⟩ => ⟨S56x144, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S2x7168x512, .bf16⟩
  | .local _ .vmem, ⟨4, _⟩ => ⟨S2x7168x512, .fp8e4m3⟩
  | .local _ .vmem, ⟨5, _⟩ => ⟨S1024x512, .bf16⟩
  | .local _ .vmem, ⟨6, _⟩ => ⟨S1024x512, .bf16⟩
  | .local _ .vmem, ⟨7, _⟩ => ⟨S256x512, .f32⟩
  | .local _ .vmem, ⟨8, _⟩ => ⟨S2x256x512, .bf16⟩
  | .local _ .vmem, ⟨9, _⟩ => ⟨S2x56x128, .f32⟩
  | .local _ .vmem, ⟨10, _⟩ => ⟨S56x144, .f32⟩
  | .local _ .vmem, ⟨11, _⟩ => ⟨S4x8x128, .i32⟩
  | .local _ .vmem, ⟨12, _⟩ => ⟨S4x8x128, .i32⟩
  | .local _ .vmem, ⟨13, _⟩ => ⟨S4x8x128, .i32⟩
  | .local _ .vmem, ⟨14, _⟩ => ⟨S4x8x128, .i32⟩
  | .local _ .smem, ⟨0, _⟩ => ⟨S1x16, .f32⟩
  | .local _ .smem, ⟨1, _⟩ => ⟨S1x16, .f32⟩
  | .local _ .smem, ⟨2, _⟩ => ⟨S1x1, .f32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch14 : Ref sig .tc := ⟨.vmem, 11, rfl⟩
abbrev cc0_scratch15 : Ref sig .tc := ⟨.vmem, 12, rfl⟩
abbrev cc0_scratch16 : Ref sig .tc := ⟨.vmem, 13, rfl⟩
abbrev cc0_scratch17 : Ref sig .tc := ⟨.vmem, 14, rfl⟩
abbrev cc0_scratch11 : Ref sig .tc := ⟨.smem, 0, rfl⟩
abbrev cc0_scratch12 : Ref sig .tc := ⟨.smem, 1, rfl⟩
abbrev cc0_scratch13 : Ref sig .tc := ⟨.smem, 2, rfl⟩

abbrev nD : Nat := 1
abbrev τ : Topo := Topo.v7x

variable {F : FTy → Type} [FloatOps F]

abbrev grid0 : Pipeline.Grid := .none

def k0_off1 (c0_i32_1 : BitVec 32) : Fin 2 → Nat :=
  let c2_i32 : BitVec 32 := 2#32
  let v4 : BitVec 32 := Scalar.remsi c0_i32_1 c2_i32
  let c0_i32_2 : BitVec 32 := 0#32
  ![v4.toNat, 0]
def k0_off1_at (r : Fin 4) : BitVec 32 :=
  if r.val < 2 then
    if r.val < 1 then
      0#32
    else
      1#32
  else
    if r.val < 3 then
      34#32
    else
      35#32
def k0_off2 (c0_i32_1 : BitVec 32) : Fin 3 → Nat :=
  let c2_i32 : BitVec 32 := 2#32
  let v4 : BitVec 32 := Scalar.remsi c0_i32_1 c2_i32
  let c0_i32_3 : BitVec 32 := 0#32
  let c0_i32_4 : BitVec 32 := 0#32
  ![v4.toNat, 0, 0]
def k0_off2_at (r : Fin 4) : BitVec 32 :=
  if r.val < 2 then
    if r.val < 1 then
      0#32
    else
      1#32
  else
    if r.val < 3 then
      34#32
    else
      35#32
def k0_off3 (c0_i32_7 : BitVec 32) : Fin 2 → Nat :=
  let c2_i32_8 : BitVec 32 := 2#32
  let v10 : BitVec 32 := Scalar.remsi c0_i32_7 c2_i32_8
  let c1_i32 : BitVec 32 := 1#32
  ![v10.toNat, 1]
def k0_off3_at (r : Fin 4) : BitVec 32 :=
  if r.val < 2 then
    if r.val < 1 then
      0#32
    else
      1#32
  else
    if r.val < 3 then
      34#32
    else
      35#32
def k0_off4 (c0_i32_7 : BitVec 32) : Fin 3 → Nat :=
  let c2_i32_8 : BitVec 32 := 2#32
  let v10 : BitVec 32 := Scalar.remsi c0_i32_7 c2_i32_8
  let c1024_i32 : BitVec 32 := 1024#32
  let c0_i32_9 : BitVec 32 := 0#32
  ![v10.toNat, 1024, 0]
def k0_off4_at (r : Fin 4) : BitVec 32 :=
  if r.val < 2 then
    if r.val < 1 then
      0#32
    else
      1#32
  else
    if r.val < 3 then
      34#32
    else
      35#32
def k0_off5 (c0_i32_12 : BitVec 32) : Fin 2 → Nat :=
  let c2_i32_13 : BitVec 32 := 2#32
  let v16 : BitVec 32 := Scalar.remsi c0_i32_12 c2_i32_13
  let c2_i32_14 : BitVec 32 := 2#32
  ![v16.toNat, 2]
def k0_off5_at (r : Fin 4) : BitVec 32 :=
  if r.val < 2 then
    if r.val < 1 then
      0#32
    else
      1#32
  else
    if r.val < 3 then
      34#32
    else
      35#32
def k0_off6 (c0_i32_12 : BitVec 32) : Fin 3 → Nat :=
  let c2_i32_13 : BitVec 32 := 2#32
  let v16 : BitVec 32 := Scalar.remsi c0_i32_12 c2_i32_13
  let c2048_i32 : BitVec 32 := 2048#32
  let c0_i32_15 : BitVec 32 := 0#32
  ![v16.toNat, 2048, 0]
def k0_off6_at (r : Fin 4) : BitVec 32 :=
  if r.val < 2 then
    if r.val < 1 then
      0#32
    else
      1#32
  else
    if r.val < 3 then
      34#32
    else
      35#32
def k0_off7 (c0_i32_18 : BitVec 32) : Fin 2 → Nat :=
  let c2_i32_19 : BitVec 32 := 2#32
  let v22 : BitVec 32 := Scalar.remsi c0_i32_18 c2_i32_19
  let c3_i32 : BitVec 32 := 3#32
  ![v22.toNat, 3]
def k0_off7_at (r : Fin 4) : BitVec 32 :=
  if r.val < 2 then
    if r.val < 1 then
      0#32
    else
      1#32
  else
    if r.val < 3 then
      34#32
    else
      35#32
def k0_off8 (c0_i32_18 : BitVec 32) : Fin 3 → Nat :=
  let c2_i32_19 : BitVec 32 := 2#32
  let v22 : BitVec 32 := Scalar.remsi c0_i32_18 c2_i32_19
  let c3072_i32 : BitVec 32 := 3072#32
  let c0_i32_20 : BitVec 32 := 0#32
  ![v22.toNat, 3072, 0]
def k0_off8_at (r : Fin 4) : BitVec 32 :=
  if r.val < 2 then
    if r.val < 1 then
      0#32
    else
      1#32
  else
    if r.val < 3 then
      34#32
    else
      35#32
def k0_off9 (c0_i32_23 : BitVec 32) : Fin 2 → Nat :=
  let c2_i32_24 : BitVec 32 := 2#32
  let v28 : BitVec 32 := Scalar.remsi c0_i32_23 c2_i32_24
  let c4_i32 : BitVec 32 := 4#32
  ![v28.toNat, 4]
def k0_off9_at (r : Fin 4) : BitVec 32 :=
  if r.val < 2 then
    if r.val < 1 then
      0#32
    else
      1#32
  else
    if r.val < 3 then
      34#32
    else
      35#32
def k0_off10 (c0_i32_23 : BitVec 32) : Fin 3 → Nat :=
  let c2_i32_24 : BitVec 32 := 2#32
  let v28 : BitVec 32 := Scalar.remsi c0_i32_23 c2_i32_24
  let c4096_i32 : BitVec 32 := 4096#32
  let c0_i32_25 : BitVec 32 := 0#32
  ![v28.toNat, 4096, 0]
def k0_off10_at (r : Fin 4) : BitVec 32 :=
  if r.val < 2 then
    if r.val < 1 then
      0#32
    else
      1#32
  else
    if r.val < 3 then
      34#32
    else
      35#32
def k0_off11 (c0_i32_28 : BitVec 32) : Fin 2 → Nat :=
  let c2_i32_29 : BitVec 32 := 2#32
  let v34 : BitVec 32 := Scalar.remsi c0_i32_28 c2_i32_29
  let c5_i32 : BitVec 32 := 5#32
  ![v34.toNat, 5]
def k0_off11_at (r : Fin 4) : BitVec 32 :=
  if r.val < 2 then
    if r.val < 1 then
      0#32
    else
      1#32
  else
    if r.val < 3 then
      34#32
    else
      35#32
def k0_off12 (c0_i32_28 : BitVec 32) : Fin 3 → Nat :=
  let c2_i32_29 : BitVec 32 := 2#32
  let v34 : BitVec 32 := Scalar.remsi c0_i32_28 c2_i32_29
  let c5120_i32 : BitVec 32 := 5120#32
  let c0_i32_30 : BitVec 32 := 0#32
  ![v34.toNat, 5120, 0]
def k0_off12_at (r : Fin 4) : BitVec 32 :=
  if r.val < 2 then
    if r.val < 1 then
      0#32
    else
      1#32
  else
    if r.val < 3 then
      34#32
    else
      35#32
def k0_off13 (c0_i32_33 : BitVec 32) : Fin 2 → Nat :=
  let c2_i32_34 : BitVec 32 := 2#32
  let v40 : BitVec 32 := Scalar.remsi c0_i32_33 c2_i32_34
  let c6_i32 : BitVec 32 := 6#32
  ![v40.toNat, 6]
def k0_off13_at (r : Fin 4) : BitVec 32 :=
  if r.val < 2 then
    if r.val < 1 then
      0#32
    else
      1#32
  else
    if r.val < 3 then
      34#32
    else
      35#32
def k0_off14 (c0_i32_33 : BitVec 32) : Fin 3 → Nat :=
  let c2_i32_34 : BitVec 32 := 2#32
  let v40 : BitVec 32 := Scalar.remsi c0_i32_33 c2_i32_34
  let c6144_i32 : BitVec 32 := 6144#32
  let c0_i32_35 : BitVec 32 := 0#32
  ![v40.toNat, 6144, 0]
def k0_off14_at (r : Fin 4) : BitVec 32 :=
  if r.val < 2 then
    if r.val < 1 then
      0#32
    else
      1#32
  else
    if r.val < 3 then
      34#32
    else
      35#32
@[reducible] def k0_t1_loop : Scf.Loop 32 :=
  let c0_i32_137 : BitVec 32 := 0#32
  let c56_i32 : BitVec 32 := 56#32
  let v241 : BitVec 32 := Scalar.addi c0_i32_137 c56_i32
  let c1_i32_138 : BitVec 32 := 1#32
  ⟨c0_i32_137, v241, c1_i32_138⟩
def k0_mult1 (k0_t1 : Fin k0_t1_loop.trips) : BitVec 32 :=
  let c0_i32_137 : BitVec 32 := 0#32
  let c1_i32_138 : BitVec 32 := 1#32
  let arg32 : BitVec 32 := Scf.iv c0_i32_137 c1_i32_138 k0_t1
  let c128_i32_389 : BitVec 32 := 128#32
  let v474 : BitVec 32 := Scalar.muli arg32 c128_i32_389
  v474
def k0_off15 (k0_t1 : Fin k0_t1_loop.trips) : Fin 2 → Nat :=
  let c0_390 : Index := 0#32
  let c0_i32_137 : BitVec 32 := 0#32
  let c1_i32_138 : BitVec 32 := 1#32
  let arg32 : BitVec 32 := Scf.iv c0_i32_137 c1_i32_138 k0_t1
  let c128_i32_389 : BitVec 32 := 128#32
  let v474 : BitVec 32 := Scalar.muli arg32 c128_i32_389
  let v475 : BitVec 32 := v474
  let v476 : Index := Scalar.indexCast v475
  ![0, v476.toNat]
def k0_mult2 : BitVec 32 :=
  let c0_i32_225 : BitVec 32 := 0#32
  let c0_i32_222 : BitVec 32 := 0#32
  let c7_i32_223 : BitVec 32 := 7#32
  let v302 : BitVec 32 := Scalar.divsi c0_i32_222 c7_i32_223
  let c7_i32_224 : BitVec 32 := 7#32
  let v303 : BitVec 32 := Scalar.muli v302 c7_i32_224
  let v304 : BitVec 32 := Scalar.subi c0_i32_225 v303
  let c8_i32_229 : BitVec 32 := 8#32
  let v308 : BitVec 32 := Scalar.muli v304 c8_i32_229
  v308
def k0_off16 : Fin 3 → Nat :=
  let c0_i32_222 : BitVec 32 := 0#32
  let c7_i32_223 : BitVec 32 := 7#32
  let v302 : BitVec 32 := Scalar.divsi c0_i32_222 c7_i32_223
  let c32_i32_226 : BitVec 32 := 32#32
  let v305 : BitVec 32 := Scalar.divsi v302 c32_i32_226
  let v310 : Index := Scalar.indexCast v305
  let c0_i32_225 : BitVec 32 := 0#32
  let c7_i32_224 : BitVec 32 := 7#32
  let v303 : BitVec 32 := Scalar.muli v302 c7_i32_224
  let v304 : BitVec 32 := Scalar.subi c0_i32_225 v303
  let c8_i32_229 : BitVec 32 := 8#32
  let v308 : BitVec 32 := Scalar.muli v304 c8_i32_229
  let v309 : BitVec 32 := v308
  let v311 : Index := Scalar.indexCast v309
  let c0_230 : Index := 0#32
  ![v310.toNat, v311.toNat, 0]
@[reducible] def k0_t2_loop : Scf.Loop 32 :=
  let c0_i32_231 : BitVec 32 := 0#32
  let c4_i32_232 : BitVec 32 := 4#32
  let v314 : BitVec 32 := Scalar.addi c0_i32_231 c4_i32_232
  let c1_i32_233 : BitVec 32 := 1#32
  ⟨c0_i32_231, v314, c1_i32_233⟩
@[reducible] def k0_t3_loop : Scf.Loop 32 :=
  let c0_i32_390 : BitVec 32 := 0#32
  let c8_i32_391 : BitVec 32 := 8#32
  let v475 : BitVec 32 := Scalar.addi c0_i32_390 c8_i32_391
  let c1_i32_392 : BitVec 32 := 1#32
  ⟨c0_i32_390, v475, c1_i32_392⟩
def k0_mult3 : BitVec 32 :=
  let c0_i32_442 : BitVec 32 := 0#32
  let c0_i32_439 : BitVec 32 := 0#32
  let c7_i32_440 : BitVec 32 := 7#32
  let v602 : BitVec 32 := Scalar.divsi c0_i32_439 c7_i32_440
  let c7_i32_441 : BitVec 32 := 7#32
  let v603 : BitVec 32 := Scalar.muli v602 c7_i32_441
  let v604 : BitVec 32 := Scalar.subi c0_i32_442 v603
  let c1024_i32_443 : BitVec 32 := 1024#32
  let v605 : BitVec 32 := Scalar.muli v604 c1024_i32_443
  v605
def k0_mult4 (k0_t2 : Fin k0_t2_loop.trips) : BitVec 32 :=
  let c0_i32_231 : BitVec 32 := 0#32
  let c1_i32_233 : BitVec 32 := 1#32
  let arg32 : BitVec 32 := Scf.iv c0_i32_231 c1_i32_233 k0_t2
  let c128_i32_446 : BitVec 32 := 128#32
  let v610 : BitVec 32 := Scalar.muli arg32 c128_i32_446
  v610
def k0_off17 (k0_t2 : Fin k0_t2_loop.trips) (k0_t3 : Fin k0_t3_loop.trips) : Fin 3 → Nat :=
  let c0_i32_439 : BitVec 32 := 0#32
  let c7_i32_440 : BitVec 32 := 7#32
  let v602 : BitVec 32 := Scalar.divsi c0_i32_439 c7_i32_440
  let c2_i32_444 : BitVec 32 := 2#32
  let v607 : BitVec 32 := Scalar.remsi v602 c2_i32_444
  let v612 : Index := Scalar.indexCast v607
  let c0_i32_442 : BitVec 32 := 0#32
  let c7_i32_441 : BitVec 32 := 7#32
  let v603 : BitVec 32 := Scalar.muli v602 c7_i32_441
  let v604 : BitVec 32 := Scalar.subi c0_i32_442 v603
  let c1024_i32_443 : BitVec 32 := 1024#32
  let v605 : BitVec 32 := Scalar.muli v604 c1024_i32_443
  let v606 : BitVec 32 := v605
  let c0_i32_390 : BitVec 32 := 0#32
  let c1_i32_392 : BitVec 32 := 1#32
  let arg34 : BitVec 32 := Scf.iv c0_i32_390 c1_i32_392 k0_t3
  let c128_i32_445 : BitVec 32 := 128#32
  let v608 : BitVec 32 := Scalar.muli arg34 c128_i32_445
  let v609 : BitVec 32 := Scalar.addi v606 v608
  let v613 : Index := Scalar.indexCast v609
  let c0_i32_231 : BitVec 32 := 0#32
  let c1_i32_233 : BitVec 32 := 1#32
  let arg32 : BitVec 32 := Scf.iv c0_i32_231 c1_i32_233 k0_t2
  let c128_i32_446 : BitVec 32 := 128#32
  let v610 : BitVec 32 := Scalar.muli arg32 c128_i32_446
  let v611 : BitVec 32 := v610
  let v614 : Index := Scalar.indexCast v611
  ![v612.toNat, v613.toNat, v614.toNat]
def k0_off18 (k0_t2 : Fin k0_t2_loop.trips) : Fin 3 → Nat :=
  let c0_i32_231 : BitVec 32 := 0#32
  let c1_i32_233 : BitVec 32 := 1#32
  let arg32 : BitVec 32 := Scf.iv c0_i32_231 c1_i32_233 k0_t2
  let v578 : Index := Scalar.indexCast arg32
  let c0_430 : Index := 0#32
  let c0_431 : Index := 0#32
  ![v578.toNat, 0, 0]
@[reducible] def k0_t4_loop : Scf.Loop 32 :=
  let c0_i32_236 : BitVec 32 := 0#32
  let c126_i32_237 : BitVec 32 := 126#32
  let v321 : BitVec 32 := Scalar.addi c0_i32_236 c126_i32_237
  let c1_i32_238 : BitVec 32 := 1#32
  ⟨c0_i32_236, v321, c1_i32_238⟩
def k0_cond1 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_394 : BitVec 32 := 1#32
  let v480 : BitVec 32 := Scalar.addi v476 c1_i32_394
  let c252_i32 : BitVec 32 := 252#32
  let v481 : BitVec 1 := Scalar.cmpi .slt v480 c252_i32
  let v482 : BitVec 32 := Scalar.extui v481
  let c0_i32_395 : BitVec 32 := 0#32
  let v483 : BitVec 1 := Scalar.cmpi .ne v482 c0_i32_395
  v483

def k0_off19 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.addi v476 c1_i32_493
  let c7_i32_494 : BitVec 32 := 7#32
  let v619 : BitVec 32 := Scalar.divsi v618 c7_i32_494
  let c2_i32_496 : BitVec 32 := 2#32
  let v622 : BitVec 32 := Scalar.remsi v619 c2_i32_496
  let c7_i32_495 : BitVec 32 := 7#32
  let v620 : BitVec 32 := Scalar.muli v619 c7_i32_495
  let v621 : BitVec 32 := Scalar.subi v618 v620
  ![v622.toNat, v621.toNat]
def k0_off20 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.addi v476 c1_i32_493
  let c7_i32_494 : BitVec 32 := 7#32
  let v619 : BitVec 32 := Scalar.divsi v618 c7_i32_494
  let c2_i32_496 : BitVec 32 := 2#32
  let v622 : BitVec 32 := Scalar.remsi v619 c2_i32_496
  let c7_i32_495 : BitVec 32 := 7#32
  let v620 : BitVec 32 := Scalar.muli v619 c7_i32_495
  let v621 : BitVec 32 := Scalar.subi v618 v620
  let c1024_i32_497 : BitVec 32 := 1024#32
  let v623 : BitVec 32 := Scalar.muli v621 c1024_i32_497
  let c0_i32_499 : BitVec 32 := 0#32
  ![v622.toNat, v623.toNat, 0]
def k0_off21 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.addi v476 c1_i32_493
  let c7_i32_494 : BitVec 32 := 7#32
  let v619 : BitVec 32 := Scalar.divsi v618 c7_i32_494
  let c7_i32_495 : BitVec 32 := 7#32
  let v620 : BitVec 32 := Scalar.muli v619 c7_i32_495
  let v621 : BitVec 32 := Scalar.subi v618 v620
  let c1024_i32_497 : BitVec 32 := 1024#32
  let v623 : BitVec 32 := Scalar.muli v621 c1024_i32_497
  let c512_i32_498 : BitVec 32 := 512#32
  let v624 : BitVec 32 := Scalar.muli v619 c512_i32_498
  ![v623.toNat, v624.toNat]
def k0_cond2 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c2_i32_396 : BitVec 32 := 2#32
  let v484 : BitVec 1 := Scalar.cmpi .sge v477 c2_i32_396
  let v485 : BitVec 32 := Scalar.extui v484
  let c0_i32_397 : BitVec 32 := 0#32
  let v486 : BitVec 1 := Scalar.cmpi .ne v485 c0_i32_397
  v486

def k0_off22 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c2_i32_493 : BitVec 32 := 2#32
  let v618 : BitVec 32 := Scalar.subi v477 c2_i32_493
  let c2_i32_494 : BitVec 32 := 2#32
  let v619 : BitVec 32 := Scalar.remsi v618 c2_i32_494
  let c7_i32_393 : BitVec 32 := 7#32
  let v478 : BitVec 32 := Scalar.muli v477 c7_i32_393
  let v479 : BitVec 32 := Scalar.subi v476 v478
  ![v619.toNat, v479.toNat]
def k0_off23 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c7_i32_393 : BitVec 32 := 7#32
  let v478 : BitVec 32 := Scalar.muli v477 c7_i32_393
  let v479 : BitVec 32 := Scalar.subi v476 v478
  let c1024_i32_495 : BitVec 32 := 1024#32
  let v620 : BitVec 32 := Scalar.muli v479 c1024_i32_495
  let c2_i32_493 : BitVec 32 := 2#32
  let v618 : BitVec 32 := Scalar.subi v477 c2_i32_493
  let c512_i32_496 : BitVec 32 := 512#32
  let v621 : BitVec 32 := Scalar.muli v618 c512_i32_496
  ![v620.toNat, v621.toNat]
def k0_off24 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c2_i32_493 : BitVec 32 := 2#32
  let v618 : BitVec 32 := Scalar.subi v477 c2_i32_493
  let c2_i32_494 : BitVec 32 := 2#32
  let v619 : BitVec 32 := Scalar.remsi v618 c2_i32_494
  let c7_i32_393 : BitVec 32 := 7#32
  let v478 : BitVec 32 := Scalar.muli v477 c7_i32_393
  let v479 : BitVec 32 := Scalar.subi v476 v478
  let c1024_i32_495 : BitVec 32 := 1024#32
  let v620 : BitVec 32 := Scalar.muli v479 c1024_i32_495
  let c0_i32_497 : BitVec 32 := 0#32
  ![v619.toNat, v620.toNat, 0]
def k0_mult5 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_398 : BitVec 32 := 1#32
  let v487 : BitVec 32 := Scalar.subi v476 c1_i32_398
  let c0_i32_399 : BitVec 32 := 0#32
  let v488 : BitVec 32 := Scalar.maxsi v487 c0_i32_399
  let c7_i32_400 : BitVec 32 := 7#32
  let v489 : BitVec 32 := Scalar.divsi v488 c7_i32_400
  let c7_i32_401 : BitVec 32 := 7#32
  let v490 : BitVec 32 := Scalar.muli v489 c7_i32_401
  let v491 : BitVec 32 := Scalar.subi v488 v490
  let c1024_i32_402 : BitVec 32 := 1024#32
  let v492 : BitVec 32 := Scalar.muli v491 c1024_i32_402
  v492
def k0_off25 (k0_t4 : Fin k0_t4_loop.trips) (c0_i32_391 : BitVec 32) : Fin 2 → Nat :=
  let c0_403 : Index := 0#32
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let v476 : BitVec 32 := Scalar.addi v475 c0_i32_391
  let c1_i32_398 : BitVec 32 := 1#32
  let v487 : BitVec 32 := Scalar.subi v476 c1_i32_398
  let c0_i32_399 : BitVec 32 := 0#32
  let v488 : BitVec 32 := Scalar.maxsi v487 c0_i32_399
  let c7_i32_400 : BitVec 32 := 7#32
  let v489 : BitVec 32 := Scalar.divsi v488 c7_i32_400
  let c7_i32_401 : BitVec 32 := 7#32
  let v490 : BitVec 32 := Scalar.muli v489 c7_i32_401
  let v491 : BitVec 32 := Scalar.subi v488 v490
  let c1024_i32_402 : BitVec 32 := 1024#32
  let v492 : BitVec 32 := Scalar.muli v491 c1024_i32_402
  let v493 : BitVec 32 := v492
  let v494 : Index := Scalar.indexCast v493
  ![0, v494.toNat]
def k0_mult6 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_411 : BitVec 32 := 1#32
  let v503 : BitVec 32 := Scalar.addi v476 c1_i32_411
  let c7_i32_412 : BitVec 32 := 7#32
  let v504 : BitVec 32 := Scalar.divsi v503 c7_i32_412
  let c7_i32_413 : BitVec 32 := 7#32
  let v505 : BitVec 32 := Scalar.muli v504 c7_i32_413
  let v506 : BitVec 32 := Scalar.subi v503 v505
  let c8_i32_417 : BitVec 32 := 8#32
  let v510 : BitVec 32 := Scalar.muli v506 c8_i32_417
  v510
def k0_off26 (k0_t4 : Fin k0_t4_loop.trips) (c0_i32_391 : BitVec 32) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let v476 : BitVec 32 := Scalar.addi v475 c0_i32_391
  let c1_i32_411 : BitVec 32 := 1#32
  let v503 : BitVec 32 := Scalar.addi v476 c1_i32_411
  let c7_i32_412 : BitVec 32 := 7#32
  let v504 : BitVec 32 := Scalar.divsi v503 c7_i32_412
  let c32_i32_414 : BitVec 32 := 32#32
  let v507 : BitVec 32 := Scalar.divsi v504 c32_i32_414
  let v512 : Index := Scalar.indexCast v507
  let c7_i32_413 : BitVec 32 := 7#32
  let v505 : BitVec 32 := Scalar.muli v504 c7_i32_413
  let v506 : BitVec 32 := Scalar.subi v503 v505
  let c8_i32_417 : BitVec 32 := 8#32
  let v510 : BitVec 32 := Scalar.muli v506 c8_i32_417
  let v511 : BitVec 32 := v510
  let v513 : Index := Scalar.indexCast v511
  let c0_418 : Index := 0#32
  ![v512.toNat, v513.toNat, 0]
@[reducible] def k0_t5_loop : Scf.Loop 32 :=
  let c0_i32_419 : BitVec 32 := 0#32
  let c4_i32_420 : BitVec 32 := 4#32
  let v516 : BitVec 32 := Scalar.addi c0_i32_419 c4_i32_420
  let c1_i32_421 : BitVec 32 := 1#32
  ⟨c0_i32_419, v516, c1_i32_421⟩
@[reducible] def k0_t6_loop : Scf.Loop 32 :=
  let c0_i32_494 : BitVec 32 := 0#32
  let c8_i32_495 : BitVec 32 := 8#32
  let v619 : BitVec 32 := Scalar.addi c0_i32_494 c8_i32_495
  let c1_i32_496 : BitVec 32 := 1#32
  ⟨c0_i32_494, v619, c1_i32_496⟩
def k0_mult7 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_411 : BitVec 32 := 1#32
  let v503 : BitVec 32 := Scalar.addi v476 c1_i32_411
  let c7_i32_543 : BitVec 32 := 7#32
  let v746 : BitVec 32 := Scalar.divsi v503 c7_i32_543
  let c7_i32_544 : BitVec 32 := 7#32
  let v747 : BitVec 32 := Scalar.muli v746 c7_i32_544
  let v748 : BitVec 32 := Scalar.subi v503 v747
  let c1024_i32_545 : BitVec 32 := 1024#32
  let v749 : BitVec 32 := Scalar.muli v748 c1024_i32_545
  v749
def k0_mult8 (k0_t5 : Fin k0_t5_loop.trips) : BitVec 32 :=
  let c0_i32_419 : BitVec 32 := 0#32
  let c1_i32_421 : BitVec 32 := 1#32
  let arg33 : BitVec 32 := Scf.iv c0_i32_419 c1_i32_421 k0_t5
  let c128_i32_548 : BitVec 32 := 128#32
  let v754 : BitVec 32 := Scalar.muli arg33 c128_i32_548
  v754
def k0_off27 (k0_t4 : Fin k0_t4_loop.trips) (k0_t5 : Fin k0_t5_loop.trips) (k0_t6 : Fin k0_t6_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_411 : BitVec 32 := 1#32
  let v503 : BitVec 32 := Scalar.addi v476 c1_i32_411
  let c7_i32_543 : BitVec 32 := 7#32
  let v746 : BitVec 32 := Scalar.divsi v503 c7_i32_543
  let c2_i32_546 : BitVec 32 := 2#32
  let v751 : BitVec 32 := Scalar.remsi v746 c2_i32_546
  let v756 : Index := Scalar.indexCast v751
  let c7_i32_544 : BitVec 32 := 7#32
  let v747 : BitVec 32 := Scalar.muli v746 c7_i32_544
  let v748 : BitVec 32 := Scalar.subi v503 v747
  let c1024_i32_545 : BitVec 32 := 1024#32
  let v749 : BitVec 32 := Scalar.muli v748 c1024_i32_545
  let v750 : BitVec 32 := v749
  let c0_i32_494 : BitVec 32 := 0#32
  let c1_i32_496 : BitVec 32 := 1#32
  let arg35 : BitVec 32 := Scf.iv c0_i32_494 c1_i32_496 k0_t6
  let c128_i32_547 : BitVec 32 := 128#32
  let v752 : BitVec 32 := Scalar.muli arg35 c128_i32_547
  let v753 : BitVec 32 := Scalar.addi v750 v752
  let v757 : Index := Scalar.indexCast v753
  let c0_i32_419 : BitVec 32 := 0#32
  let c1_i32_421 : BitVec 32 := 1#32
  let arg33 : BitVec 32 := Scf.iv c0_i32_419 c1_i32_421 k0_t5
  let c128_i32_548 : BitVec 32 := 128#32
  let v754 : BitVec 32 := Scalar.muli arg33 c128_i32_548
  let v755 : BitVec 32 := v754
  let v758 : Index := Scalar.indexCast v755
  ![v756.toNat, v757.toNat, v758.toNat]
def k0_off28 (k0_t5 : Fin k0_t5_loop.trips) : Fin 3 → Nat :=
  let c0_i32_419 : BitVec 32 := 0#32
  let c1_i32_421 : BitVec 32 := 1#32
  let arg33 : BitVec 32 := Scf.iv c0_i32_419 c1_i32_421 k0_t5
  let v722 : Index := Scalar.indexCast arg33
  let c0_534 : Index := 0#32
  let c0_535 : Index := 0#32
  ![v722.toNat, 0, 0]
def k0_mult9 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_424 : BitVec 32 := 7#32
  let v523 : BitVec 32 := Scalar.divsi v476 c7_i32_424
  let c7_i32_425 : BitVec 32 := 7#32
  let v524 : BitVec 32 := Scalar.muli v523 c7_i32_425
  let v525 : BitVec 32 := Scalar.subi v476 v524
  let c1024_i32_427 : BitVec 32 := 1024#32
  let v527 : BitVec 32 := Scalar.muli v525 c1024_i32_427
  v527
@[reducible] def k0_t7_loop : Scf.Loop 32 :=
  let c0_i32_428 : BitVec 32 := 0#32
  let c8_i32_429 : BitVec 32 := 8#32
  let v529 : BitVec 32 := Scalar.addi c0_i32_428 c8_i32_429
  let c1_i32_430 : BitVec 32 := 1#32
  ⟨c0_i32_428, v529, c1_i32_430⟩
@[reducible] def k0_t8_loop : Scf.Loop 32 :=
  let c0_i32_493 : BitVec 32 := 0#32
  let c4_i32_494 : BitVec 32 := 4#32
  let v618 : BitVec 32 := Scalar.addi c0_i32_493 c4_i32_494
  let c1_i32_495 : BitVec 32 := 1#32
  ⟨c0_i32_493, v618, c1_i32_495⟩
def k0_mult10 (k0_t8 : Fin k0_t8_loop.trips) : BitVec 32 :=
  let c0_i32_493 : BitVec 32 := 0#32
  let c1_i32_495 : BitVec 32 := 1#32
  let arg34 : BitVec 32 := Scf.iv c0_i32_493 c1_i32_495 k0_t8
  let c128_i32_497 : BitVec 32 := 128#32
  let v619 : BitVec 32 := Scalar.muli arg34 c128_i32_497
  v619
def k0_off29 (k0_t7 : Fin k0_t7_loop.trips) (k0_t8 : Fin k0_t8_loop.trips) : Fin 3 → Nat :=
  let c0_i32_493 : BitVec 32 := 0#32
  let c1_i32_495 : BitVec 32 := 1#32
  let arg34 : BitVec 32 := Scf.iv c0_i32_493 c1_i32_495 k0_t8
  let v621 : Index := Scalar.indexCast arg34
  let c0_i32_428 : BitVec 32 := 0#32
  let c1_i32_430 : BitVec 32 := 1#32
  let arg33 : BitVec 32 := Scf.iv c0_i32_428 c1_i32_430 k0_t7
  let v622 : Index := Scalar.indexCast arg33
  let c0_498 : Index := 0#32
  ![v621.toNat, v622.toNat, 0]
def k0_mult11 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_500 : BitVec 32 := 7#32
  let v633 : BitVec 32 := Scalar.divsi v476 c7_i32_500
  let c7_i32_501 : BitVec 32 := 7#32
  let v634 : BitVec 32 := Scalar.muli v633 c7_i32_501
  let v635 : BitVec 32 := Scalar.subi v476 v634
  let c1024_i32_502 : BitVec 32 := 1024#32
  let v636 : BitVec 32 := Scalar.muli v635 c1024_i32_502
  v636
def k0_mult12 (k0_t8 : Fin k0_t8_loop.trips) : BitVec 32 :=
  let c0_i32_493 : BitVec 32 := 0#32
  let c1_i32_495 : BitVec 32 := 1#32
  let arg34 : BitVec 32 := Scf.iv c0_i32_493 c1_i32_495 k0_t8
  let c128_i32_505 : BitVec 32 := 128#32
  let v641 : BitVec 32 := Scalar.muli arg34 c128_i32_505
  v641
def k0_off30 (k0_t4 : Fin k0_t4_loop.trips) (k0_t7 : Fin k0_t7_loop.trips) (k0_t8 : Fin k0_t8_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_500 : BitVec 32 := 7#32
  let v633 : BitVec 32 := Scalar.divsi v476 c7_i32_500
  let c2_i32_503 : BitVec 32 := 2#32
  let v638 : BitVec 32 := Scalar.remsi v633 c2_i32_503
  let v643 : Index := Scalar.indexCast v638
  let c7_i32_501 : BitVec 32 := 7#32
  let v634 : BitVec 32 := Scalar.muli v633 c7_i32_501
  let v635 : BitVec 32 := Scalar.subi v476 v634
  let c1024_i32_502 : BitVec 32 := 1024#32
  let v636 : BitVec 32 := Scalar.muli v635 c1024_i32_502
  let v637 : BitVec 32 := v636
  let c0_i32_428 : BitVec 32 := 0#32
  let c1_i32_430 : BitVec 32 := 1#32
  let arg33 : BitVec 32 := Scf.iv c0_i32_428 c1_i32_430 k0_t7
  let c128_i32_504 : BitVec 32 := 128#32
  let v639 : BitVec 32 := Scalar.muli arg33 c128_i32_504
  let v640 : BitVec 32 := Scalar.addi v637 v639
  let v644 : Index := Scalar.indexCast v640
  let c0_i32_493 : BitVec 32 := 0#32
  let c1_i32_495 : BitVec 32 := 1#32
  let arg34 : BitVec 32 := Scf.iv c0_i32_493 c1_i32_495 k0_t8
  let c128_i32_505 : BitVec 32 := 128#32
  let v641 : BitVec 32 := Scalar.muli arg34 c128_i32_505
  let v642 : BitVec 32 := v641
  let v645 : Index := Scalar.indexCast v642
  ![v643.toNat, v644.toNat, v645.toNat]
def k0_off31 (k0_t7 : Fin k0_t7_loop.trips) (k0_t8 : Fin k0_t8_loop.trips) : Fin 2 → Nat :=
  let c0_i32_428 : BitVec 32 := 0#32
  let c1_i32_430 : BitVec 32 := 1#32
  let arg33 : BitVec 32 := Scf.iv c0_i32_428 c1_i32_430 k0_t7
  let c128_i32_509 : BitVec 32 := 128#32
  let v668 : BitVec 32 := Scalar.muli arg33 c128_i32_509
  let v669 : Index := Scalar.indexCast v668
  let c0_i32_493 : BitVec 32 := 0#32
  let c1_i32_495 : BitVec 32 := 1#32
  let arg34 : BitVec 32 := Scf.iv c0_i32_493 c1_i32_495 k0_t8
  let c128_i32_497 : BitVec 32 := 128#32
  let v619 : BitVec 32 := Scalar.muli arg34 c128_i32_497
  let v620 : BitVec 32 := v619
  let v670 : Index := Scalar.indexCast v620
  ![v669.toNat, v670.toNat]
def k0_off32 (k0_t4 : Fin k0_t4_loop.trips) (c0_i32_391 : BitVec 32) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let v476 : BitVec 32 := Scalar.addi v475 c0_i32_391
  let c7_i32_392 : BitVec 32 := 7#32
  let v477 : BitVec 32 := Scalar.divsi v476 c7_i32_392
  let c2_i32_432 : BitVec 32 := 2#32
  let v530 : BitVec 32 := Scalar.remsi v477 c2_i32_432
  let c7_i32_393 : BitVec 32 := 7#32
  let v478 : BitVec 32 := Scalar.muli v477 c7_i32_393
  let v479 : BitVec 32 := Scalar.subi v476 v478
  ![v530.toNat, v479.toNat]
def k0_off33 (k0_t4 : Fin k0_t4_loop.trips) (c0_i32_391 : BitVec 32) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let v476 : BitVec 32 := Scalar.addi v475 c0_i32_391
  let c7_i32_392 : BitVec 32 := 7#32
  let v477 : BitVec 32 := Scalar.divsi v476 c7_i32_392
  let c7_i32_393 : BitVec 32 := 7#32
  let v478 : BitVec 32 := Scalar.muli v477 c7_i32_393
  let v479 : BitVec 32 := Scalar.subi v476 v478
  let c1024_i32_433 : BitVec 32 := 1024#32
  let v531 : BitVec 32 := Scalar.muli v479 c1024_i32_433
  let c512_i32_434 : BitVec 32 := 512#32
  let v532 : BitVec 32 := Scalar.muli v477 c512_i32_434
  ![v531.toNat, v532.toNat]
def k0_off34 (k0_t4 : Fin k0_t4_loop.trips) (c0_i32_391 : BitVec 32) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let v476 : BitVec 32 := Scalar.addi v475 c0_i32_391
  let c7_i32_392 : BitVec 32 := 7#32
  let v477 : BitVec 32 := Scalar.divsi v476 c7_i32_392
  let c2_i32_432 : BitVec 32 := 2#32
  let v530 : BitVec 32 := Scalar.remsi v477 c2_i32_432
  let c7_i32_393 : BitVec 32 := 7#32
  let v478 : BitVec 32 := Scalar.muli v477 c7_i32_393
  let v479 : BitVec 32 := Scalar.subi v476 v478
  let c1024_i32_433 : BitVec 32 := 1024#32
  let v531 : BitVec 32 := Scalar.muli v479 c1024_i32_433
  let c0_i32_435 : BitVec 32 := 0#32
  ![v530.toNat, v531.toNat, 0]
def k0_cond3 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c2_i32_436 : BitVec 32 := 2#32
  let v538 : BitVec 32 := Scalar.addi v477 c2_i32_436
  let c36_i32 : BitVec 32 := 36#32
  let v539 : BitVec 1 := Scalar.cmpi .slt v538 c36_i32
  let v540 : BitVec 32 := Scalar.extui v539
  let c0_i32_437 : BitVec 32 := 0#32
  let v541 : BitVec 1 := Scalar.cmpi .ne v540 c0_i32_437
  v541

def k0_off35 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c2_i32_493 : BitVec 32 := 2#32
  let v618 : BitVec 32 := Scalar.addi v477 c2_i32_493
  let c2_i32_494 : BitVec 32 := 2#32
  let v619 : BitVec 32 := Scalar.remsi v618 c2_i32_494
  let c7_i32_393 : BitVec 32 := 7#32
  let v478 : BitVec 32 := Scalar.muli v477 c7_i32_393
  let v479 : BitVec 32 := Scalar.subi v476 v478
  ![v619.toNat, v479.toNat]
def k0_off36 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c2_i32_493 : BitVec 32 := 2#32
  let v618 : BitVec 32 := Scalar.addi v477 c2_i32_493
  let c2_i32_494 : BitVec 32 := 2#32
  let v619 : BitVec 32 := Scalar.remsi v618 c2_i32_494
  let c7_i32_393 : BitVec 32 := 7#32
  let v478 : BitVec 32 := Scalar.muli v477 c7_i32_393
  let v479 : BitVec 32 := Scalar.subi v476 v478
  let c1024_i32_495 : BitVec 32 := 1024#32
  let v620 : BitVec 32 := Scalar.muli v479 c1024_i32_495
  let c0_i32_497 : BitVec 32 := 0#32
  ![v619.toNat, v620.toNat, 0]
def k0_off37 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c7_i32_393 : BitVec 32 := 7#32
  let v478 : BitVec 32 := Scalar.muli v477 c7_i32_393
  let v479 : BitVec 32 := Scalar.subi v476 v478
  let c1024_i32_495 : BitVec 32 := 1024#32
  let v620 : BitVec 32 := Scalar.muli v479 c1024_i32_495
  let c2_i32_493 : BitVec 32 := 2#32
  let v618 : BitVec 32 := Scalar.addi v477 c2_i32_493
  let c512_i32_496 : BitVec 32 := 512#32
  let v621 : BitVec 32 := Scalar.muli v618 c512_i32_496
  ![v620.toNat, v621.toNat]
def k0_cond4 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c7_i32_392 : BitVec 32 := 7#32
  let v477 : BitVec 32 := Scalar.divsi v476 c7_i32_392
  let c7_i32_393 : BitVec 32 := 7#32
  let v478 : BitVec 32 := Scalar.muli v477 c7_i32_393
  let v479 : BitVec 32 := Scalar.subi v476 v478
  let c0_i32_438 : BitVec 32 := 0#32
  let v542 : BitVec 1 := Scalar.cmpi .eq v479 c0_i32_438
  let c0_i32_439 : BitVec 32 := 0#32
  let v543 : BitVec 1 := Scalar.cmpi .sgt v476 c0_i32_439
  let v544 : BitVec 1 := Scalar.andi v542 v543
  let v545 : BitVec 32 := Scalar.extui v544
  let c0_i32_440 : BitVec 32 := 0#32
  let v546 : BitVec 1 := Scalar.cmpi .ne v545 c0_i32_440
  v546

def k0_cond5 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_495 : BitVec 32 := 2#32
  let v620 : BitVec 1 := Scalar.cmpi .sge v619 c2_i32_495
  let v621 : BitVec 32 := Scalar.extui v620
  let c0_i32_496 : BitVec 32 := 0#32
  let v622 : BitVec 1 := Scalar.cmpi .ne v621 c0_i32_496
  v622

def k0_off38 (k0_t4 : Fin k0_t4_loop.trips) : Fin 1 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_510 : BitVec 32 := 2#32
  let v641 : BitVec 32 := Scalar.subi v619 c2_i32_510
  let c2_i32_511 : BitVec 32 := 2#32
  let v642 : BitVec 32 := Scalar.remsi v641 c2_i32_511
  ![v642.toNat]
def k0_off39 (k0_t4 : Fin k0_t4_loop.trips) : Fin 2 → Nat :=
  let c0_i32_513 : BitVec 32 := 0#32
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_510 : BitVec 32 := 2#32
  let v641 : BitVec 32 := Scalar.subi v619 c2_i32_510
  let c512_i32_512 : BitVec 32 := 512#32
  let v643 : BitVec 32 := Scalar.muli v641 c512_i32_512
  ![0, v643.toNat]
def k0_off40 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_510 : BitVec 32 := 2#32
  let v641 : BitVec 32 := Scalar.subi v619 c2_i32_510
  let c2_i32_511 : BitVec 32 := 2#32
  let v642 : BitVec 32 := Scalar.remsi v641 c2_i32_511
  let c0_i32_514 : BitVec 32 := 0#32
  let c0_i32_515 : BitVec 32 := 0#32
  ![v642.toNat, 0, 0]
def k0_off41 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_499 : BitVec 32 := 2#32
  let v625 : BitVec 32 := Scalar.remsi v619 c2_i32_499
  let v626 : Index := Scalar.indexCast v625
  let c0_500 : Index := 0#32
  let c0_501 : Index := 0#32
  ![v626.toNat, 0, 0]
def k0_off42 (k0_t4 : Fin k0_t4_loop.trips) : Fin 1 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_505 : BitVec 32 := 2#32
  let v634 : BitVec 32 := Scalar.remsi v619 c2_i32_505
  ![v634.toNat]
def k0_off43 (k0_t4 : Fin k0_t4_loop.trips) : Fin 2 → Nat :=
  let c0_i32_507 : BitVec 32 := 0#32
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c512_i32_506 : BitVec 32 := 512#32
  let v635 : BitVec 32 := Scalar.muli v619 c512_i32_506
  ![0, v635.toNat]
def k0_off44 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c0_i32_391 : BitVec 32 := 0#32
  let v476 : BitVec 32 := Scalar.addi v475 c0_i32_391
  let c1_i32_493 : BitVec 32 := 1#32
  let v618 : BitVec 32 := Scalar.subi v476 c1_i32_493
  let c7_i32_494 : BitVec 32 := 7#32
  let v619 : BitVec 32 := Scalar.divsi v618 c7_i32_494
  let c2_i32_505 : BitVec 32 := 2#32
  let v634 : BitVec 32 := Scalar.remsi v619 c2_i32_505
  let c0_i32_508 : BitVec 32 := 0#32
  let c0_i32_509 : BitVec 32 := 0#32
  ![v634.toNat, 0, 0]
def k0_cond6 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_444 : BitVec 32 := 1#32
  let v551 : BitVec 32 := Scalar.addi v547 c1_i32_444
  let c252_i32_445 : BitVec 32 := 252#32
  let v552 : BitVec 1 := Scalar.cmpi .slt v551 c252_i32_445
  let v553 : BitVec 32 := Scalar.extui v552
  let c0_i32_446 : BitVec 32 := 0#32
  let v554 : BitVec 1 := Scalar.cmpi .ne v553 c0_i32_446
  v554

def k0_off45 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.addi v547 c1_i32_493
  let c7_i32_494 : BitVec 32 := 7#32
  let v619 : BitVec 32 := Scalar.divsi v618 c7_i32_494
  let c2_i32_496 : BitVec 32 := 2#32
  let v622 : BitVec 32 := Scalar.remsi v619 c2_i32_496
  let c7_i32_495 : BitVec 32 := 7#32
  let v620 : BitVec 32 := Scalar.muli v619 c7_i32_495
  let v621 : BitVec 32 := Scalar.subi v618 v620
  ![v622.toNat, v621.toNat]
def k0_off46 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.addi v547 c1_i32_493
  let c7_i32_494 : BitVec 32 := 7#32
  let v619 : BitVec 32 := Scalar.divsi v618 c7_i32_494
  let c2_i32_496 : BitVec 32 := 2#32
  let v622 : BitVec 32 := Scalar.remsi v619 c2_i32_496
  let c7_i32_495 : BitVec 32 := 7#32
  let v620 : BitVec 32 := Scalar.muli v619 c7_i32_495
  let v621 : BitVec 32 := Scalar.subi v618 v620
  let c1024_i32_497 : BitVec 32 := 1024#32
  let v623 : BitVec 32 := Scalar.muli v621 c1024_i32_497
  let c0_i32_499 : BitVec 32 := 0#32
  ![v622.toNat, v623.toNat, 0]
def k0_off47 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.addi v547 c1_i32_493
  let c7_i32_494 : BitVec 32 := 7#32
  let v619 : BitVec 32 := Scalar.divsi v618 c7_i32_494
  let c7_i32_495 : BitVec 32 := 7#32
  let v620 : BitVec 32 := Scalar.muli v619 c7_i32_495
  let v621 : BitVec 32 := Scalar.subi v618 v620
  let c1024_i32_497 : BitVec 32 := 1024#32
  let v623 : BitVec 32 := Scalar.muli v621 c1024_i32_497
  let c512_i32_498 : BitVec 32 := 512#32
  let v624 : BitVec 32 := Scalar.muli v619 c512_i32_498
  ![v623.toNat, v624.toNat]
def k0_cond7 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c2_i32_447 : BitVec 32 := 2#32
  let v555 : BitVec 1 := Scalar.cmpi .sge v548 c2_i32_447
  let v556 : BitVec 32 := Scalar.extui v555
  let c0_i32_448 : BitVec 32 := 0#32
  let v557 : BitVec 1 := Scalar.cmpi .ne v556 c0_i32_448
  v557

def k0_off48 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c2_i32_493 : BitVec 32 := 2#32
  let v618 : BitVec 32 := Scalar.subi v548 c2_i32_493
  let c2_i32_494 : BitVec 32 := 2#32
  let v619 : BitVec 32 := Scalar.remsi v618 c2_i32_494
  let c7_i32_443 : BitVec 32 := 7#32
  let v549 : BitVec 32 := Scalar.muli v548 c7_i32_443
  let v550 : BitVec 32 := Scalar.subi v547 v549
  ![v619.toNat, v550.toNat]
def k0_off49 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c7_i32_443 : BitVec 32 := 7#32
  let v549 : BitVec 32 := Scalar.muli v548 c7_i32_443
  let v550 : BitVec 32 := Scalar.subi v547 v549
  let c1024_i32_495 : BitVec 32 := 1024#32
  let v620 : BitVec 32 := Scalar.muli v550 c1024_i32_495
  let c2_i32_493 : BitVec 32 := 2#32
  let v618 : BitVec 32 := Scalar.subi v548 c2_i32_493
  let c512_i32_496 : BitVec 32 := 512#32
  let v621 : BitVec 32 := Scalar.muli v618 c512_i32_496
  ![v620.toNat, v621.toNat]
def k0_off50 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c2_i32_493 : BitVec 32 := 2#32
  let v618 : BitVec 32 := Scalar.subi v548 c2_i32_493
  let c2_i32_494 : BitVec 32 := 2#32
  let v619 : BitVec 32 := Scalar.remsi v618 c2_i32_494
  let c7_i32_443 : BitVec 32 := 7#32
  let v549 : BitVec 32 := Scalar.muli v548 c7_i32_443
  let v550 : BitVec 32 := Scalar.subi v547 v549
  let c1024_i32_495 : BitVec 32 := 1024#32
  let v620 : BitVec 32 := Scalar.muli v550 c1024_i32_495
  let c0_i32_497 : BitVec 32 := 0#32
  ![v619.toNat, v620.toNat, 0]
def k0_mult13 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_449 : BitVec 32 := 1#32
  let v558 : BitVec 32 := Scalar.subi v547 c1_i32_449
  let c0_i32_450 : BitVec 32 := 0#32
  let v559 : BitVec 32 := Scalar.maxsi v558 c0_i32_450
  let c7_i32_451 : BitVec 32 := 7#32
  let v560 : BitVec 32 := Scalar.divsi v559 c7_i32_451
  let c7_i32_452 : BitVec 32 := 7#32
  let v561 : BitVec 32 := Scalar.muli v560 c7_i32_452
  let v562 : BitVec 32 := Scalar.subi v559 v561
  let c1024_i32_453 : BitVec 32 := 1024#32
  let v563 : BitVec 32 := Scalar.muli v562 c1024_i32_453
  v563
def k0_mult14 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_462 : BitVec 32 := 1#32
  let v574 : BitVec 32 := Scalar.addi v547 c1_i32_462
  let c7_i32_463 : BitVec 32 := 7#32
  let v575 : BitVec 32 := Scalar.divsi v574 c7_i32_463
  let c7_i32_464 : BitVec 32 := 7#32
  let v576 : BitVec 32 := Scalar.muli v575 c7_i32_464
  let v577 : BitVec 32 := Scalar.subi v574 v576
  let c8_i32_468 : BitVec 32 := 8#32
  let v581 : BitVec 32 := Scalar.muli v577 c8_i32_468
  v581
@[reducible] def k0_t9_loop : Scf.Loop 32 :=
  let c0_i32_470 : BitVec 32 := 0#32
  let c4_i32_471 : BitVec 32 := 4#32
  let v587 : BitVec 32 := Scalar.addi c0_i32_470 c4_i32_471
  let c1_i32_472 : BitVec 32 := 1#32
  ⟨c0_i32_470, v587, c1_i32_472⟩
@[reducible] def k0_t10_loop : Scf.Loop 32 :=
  let c0_i32_494 : BitVec 32 := 0#32
  let c8_i32_495 : BitVec 32 := 8#32
  let v619 : BitVec 32 := Scalar.addi c0_i32_494 c8_i32_495
  let c1_i32_496 : BitVec 32 := 1#32
  ⟨c0_i32_494, v619, c1_i32_496⟩
def k0_mult15 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_462 : BitVec 32 := 1#32
  let v574 : BitVec 32 := Scalar.addi v547 c1_i32_462
  let c7_i32_543 : BitVec 32 := 7#32
  let v746 : BitVec 32 := Scalar.divsi v574 c7_i32_543
  let c7_i32_544 : BitVec 32 := 7#32
  let v747 : BitVec 32 := Scalar.muli v746 c7_i32_544
  let v748 : BitVec 32 := Scalar.subi v574 v747
  let c1024_i32_545 : BitVec 32 := 1024#32
  let v749 : BitVec 32 := Scalar.muli v748 c1024_i32_545
  v749
def k0_mult16 (k0_t9 : Fin k0_t9_loop.trips) : BitVec 32 :=
  let c0_i32_470 : BitVec 32 := 0#32
  let c1_i32_472 : BitVec 32 := 1#32
  let arg33 : BitVec 32 := Scf.iv c0_i32_470 c1_i32_472 k0_t9
  let c128_i32_548 : BitVec 32 := 128#32
  let v754 : BitVec 32 := Scalar.muli arg33 c128_i32_548
  v754
def k0_off51 (k0_t4 : Fin k0_t4_loop.trips) (k0_t9 : Fin k0_t9_loop.trips) (k0_t10 : Fin k0_t10_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_462 : BitVec 32 := 1#32
  let v574 : BitVec 32 := Scalar.addi v547 c1_i32_462
  let c7_i32_543 : BitVec 32 := 7#32
  let v746 : BitVec 32 := Scalar.divsi v574 c7_i32_543
  let c2_i32_546 : BitVec 32 := 2#32
  let v751 : BitVec 32 := Scalar.remsi v746 c2_i32_546
  let v756 : Index := Scalar.indexCast v751
  let c7_i32_544 : BitVec 32 := 7#32
  let v747 : BitVec 32 := Scalar.muli v746 c7_i32_544
  let v748 : BitVec 32 := Scalar.subi v574 v747
  let c1024_i32_545 : BitVec 32 := 1024#32
  let v749 : BitVec 32 := Scalar.muli v748 c1024_i32_545
  let v750 : BitVec 32 := v749
  let c0_i32_494 : BitVec 32 := 0#32
  let c1_i32_496 : BitVec 32 := 1#32
  let arg35 : BitVec 32 := Scf.iv c0_i32_494 c1_i32_496 k0_t10
  let c128_i32_547 : BitVec 32 := 128#32
  let v752 : BitVec 32 := Scalar.muli arg35 c128_i32_547
  let v753 : BitVec 32 := Scalar.addi v750 v752
  let v757 : Index := Scalar.indexCast v753
  let c0_i32_470 : BitVec 32 := 0#32
  let c1_i32_472 : BitVec 32 := 1#32
  let arg33 : BitVec 32 := Scf.iv c0_i32_470 c1_i32_472 k0_t9
  let c128_i32_548 : BitVec 32 := 128#32
  let v754 : BitVec 32 := Scalar.muli arg33 c128_i32_548
  let v755 : BitVec 32 := v754
  let v758 : Index := Scalar.indexCast v755
  ![v756.toNat, v757.toNat, v758.toNat]
def k0_off52 (k0_t9 : Fin k0_t9_loop.trips) : Fin 3 → Nat :=
  let c0_i32_470 : BitVec 32 := 0#32
  let c1_i32_472 : BitVec 32 := 1#32
  let arg33 : BitVec 32 := Scf.iv c0_i32_470 c1_i32_472 k0_t9
  let v722 : Index := Scalar.indexCast arg33
  let c0_534 : Index := 0#32
  let c0_535 : Index := 0#32
  ![v722.toNat, 0, 0]
def k0_mult17 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_475 : BitVec 32 := 7#32
  let v594 : BitVec 32 := Scalar.divsi v547 c7_i32_475
  let c7_i32_476 : BitVec 32 := 7#32
  let v595 : BitVec 32 := Scalar.muli v594 c7_i32_476
  let v596 : BitVec 32 := Scalar.subi v547 v595
  let c1024_i32_478 : BitVec 32 := 1024#32
  let v598 : BitVec 32 := Scalar.muli v596 c1024_i32_478
  v598
@[reducible] def k0_t11_loop : Scf.Loop 32 :=
  let c0_i32_479 : BitVec 32 := 0#32
  let c8_i32_480 : BitVec 32 := 8#32
  let v600 : BitVec 32 := Scalar.addi c0_i32_479 c8_i32_480
  let c1_i32_481 : BitVec 32 := 1#32
  ⟨c0_i32_479, v600, c1_i32_481⟩
@[reducible] def k0_t12_loop : Scf.Loop 32 :=
  let c0_i32_493 : BitVec 32 := 0#32
  let c4_i32_494 : BitVec 32 := 4#32
  let v618 : BitVec 32 := Scalar.addi c0_i32_493 c4_i32_494
  let c1_i32_495 : BitVec 32 := 1#32
  ⟨c0_i32_493, v618, c1_i32_495⟩
def k0_mult18 (k0_t12 : Fin k0_t12_loop.trips) : BitVec 32 :=
  let c0_i32_493 : BitVec 32 := 0#32
  let c1_i32_495 : BitVec 32 := 1#32
  let arg34 : BitVec 32 := Scf.iv c0_i32_493 c1_i32_495 k0_t12
  let c128_i32_497 : BitVec 32 := 128#32
  let v619 : BitVec 32 := Scalar.muli arg34 c128_i32_497
  v619
def k0_off53 (k0_t11 : Fin k0_t11_loop.trips) (k0_t12 : Fin k0_t12_loop.trips) : Fin 3 → Nat :=
  let c0_i32_493 : BitVec 32 := 0#32
  let c1_i32_495 : BitVec 32 := 1#32
  let arg34 : BitVec 32 := Scf.iv c0_i32_493 c1_i32_495 k0_t12
  let v621 : Index := Scalar.indexCast arg34
  let c0_i32_479 : BitVec 32 := 0#32
  let c1_i32_481 : BitVec 32 := 1#32
  let arg33 : BitVec 32 := Scf.iv c0_i32_479 c1_i32_481 k0_t11
  let v622 : Index := Scalar.indexCast arg33
  let c0_498 : Index := 0#32
  ![v621.toNat, v622.toNat, 0]
def k0_mult19 (k0_t4 : Fin k0_t4_loop.trips) : BitVec 32 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_500 : BitVec 32 := 7#32
  let v633 : BitVec 32 := Scalar.divsi v547 c7_i32_500
  let c7_i32_501 : BitVec 32 := 7#32
  let v634 : BitVec 32 := Scalar.muli v633 c7_i32_501
  let v635 : BitVec 32 := Scalar.subi v547 v634
  let c1024_i32_502 : BitVec 32 := 1024#32
  let v636 : BitVec 32 := Scalar.muli v635 c1024_i32_502
  v636
def k0_mult20 (k0_t12 : Fin k0_t12_loop.trips) : BitVec 32 :=
  let c0_i32_493 : BitVec 32 := 0#32
  let c1_i32_495 : BitVec 32 := 1#32
  let arg34 : BitVec 32 := Scf.iv c0_i32_493 c1_i32_495 k0_t12
  let c128_i32_505 : BitVec 32 := 128#32
  let v641 : BitVec 32 := Scalar.muli arg34 c128_i32_505
  v641
def k0_off54 (k0_t4 : Fin k0_t4_loop.trips) (k0_t11 : Fin k0_t11_loop.trips) (k0_t12 : Fin k0_t12_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_500 : BitVec 32 := 7#32
  let v633 : BitVec 32 := Scalar.divsi v547 c7_i32_500
  let c2_i32_503 : BitVec 32 := 2#32
  let v638 : BitVec 32 := Scalar.remsi v633 c2_i32_503
  let v643 : Index := Scalar.indexCast v638
  let c7_i32_501 : BitVec 32 := 7#32
  let v634 : BitVec 32 := Scalar.muli v633 c7_i32_501
  let v635 : BitVec 32 := Scalar.subi v547 v634
  let c1024_i32_502 : BitVec 32 := 1024#32
  let v636 : BitVec 32 := Scalar.muli v635 c1024_i32_502
  let v637 : BitVec 32 := v636
  let c0_i32_479 : BitVec 32 := 0#32
  let c1_i32_481 : BitVec 32 := 1#32
  let arg33 : BitVec 32 := Scf.iv c0_i32_479 c1_i32_481 k0_t11
  let c128_i32_504 : BitVec 32 := 128#32
  let v639 : BitVec 32 := Scalar.muli arg33 c128_i32_504
  let v640 : BitVec 32 := Scalar.addi v637 v639
  let v644 : Index := Scalar.indexCast v640
  let c0_i32_493 : BitVec 32 := 0#32
  let c1_i32_495 : BitVec 32 := 1#32
  let arg34 : BitVec 32 := Scf.iv c0_i32_493 c1_i32_495 k0_t12
  let c128_i32_505 : BitVec 32 := 128#32
  let v641 : BitVec 32 := Scalar.muli arg34 c128_i32_505
  let v642 : BitVec 32 := v641
  let v645 : Index := Scalar.indexCast v642
  ![v643.toNat, v644.toNat, v645.toNat]
def k0_off55 (k0_t11 : Fin k0_t11_loop.trips) (k0_t12 : Fin k0_t12_loop.trips) : Fin 2 → Nat :=
  let c0_i32_479 : BitVec 32 := 0#32
  let c1_i32_481 : BitVec 32 := 1#32
  let arg33 : BitVec 32 := Scf.iv c0_i32_479 c1_i32_481 k0_t11
  let c128_i32_509 : BitVec 32 := 128#32
  let v668 : BitVec 32 := Scalar.muli arg33 c128_i32_509
  let v669 : Index := Scalar.indexCast v668
  let c0_i32_493 : BitVec 32 := 0#32
  let c1_i32_495 : BitVec 32 := 1#32
  let arg34 : BitVec 32 := Scf.iv c0_i32_493 c1_i32_495 k0_t12
  let c128_i32_497 : BitVec 32 := 128#32
  let v619 : BitVec 32 := Scalar.muli arg34 c128_i32_497
  let v620 : BitVec 32 := v619
  let v670 : Index := Scalar.indexCast v620
  ![v669.toNat, v670.toNat]
def k0_cond8 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c2_i32_487 : BitVec 32 := 2#32
  let v609 : BitVec 32 := Scalar.addi v548 c2_i32_487
  let c36_i32_488 : BitVec 32 := 36#32
  let v610 : BitVec 1 := Scalar.cmpi .slt v609 c36_i32_488
  let v611 : BitVec 32 := Scalar.extui v610
  let c0_i32_489 : BitVec 32 := 0#32
  let v612 : BitVec 1 := Scalar.cmpi .ne v611 c0_i32_489
  v612

def k0_off56 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c2_i32_493 : BitVec 32 := 2#32
  let v618 : BitVec 32 := Scalar.addi v548 c2_i32_493
  let c2_i32_494 : BitVec 32 := 2#32
  let v619 : BitVec 32 := Scalar.remsi v618 c2_i32_494
  let c7_i32_443 : BitVec 32 := 7#32
  let v549 : BitVec 32 := Scalar.muli v548 c7_i32_443
  let v550 : BitVec 32 := Scalar.subi v547 v549
  ![v619.toNat, v550.toNat]
def k0_off57 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c2_i32_493 : BitVec 32 := 2#32
  let v618 : BitVec 32 := Scalar.addi v548 c2_i32_493
  let c2_i32_494 : BitVec 32 := 2#32
  let v619 : BitVec 32 := Scalar.remsi v618 c2_i32_494
  let c7_i32_443 : BitVec 32 := 7#32
  let v549 : BitVec 32 := Scalar.muli v548 c7_i32_443
  let v550 : BitVec 32 := Scalar.subi v547 v549
  let c1024_i32_495 : BitVec 32 := 1024#32
  let v620 : BitVec 32 := Scalar.muli v550 c1024_i32_495
  let c0_i32_497 : BitVec 32 := 0#32
  ![v619.toNat, v620.toNat, 0]
def k0_off58 (k0_t4 : Fin k0_t4_loop.trips) : Fin 2 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c7_i32_443 : BitVec 32 := 7#32
  let v549 : BitVec 32 := Scalar.muli v548 c7_i32_443
  let v550 : BitVec 32 := Scalar.subi v547 v549
  let c1024_i32_495 : BitVec 32 := 1024#32
  let v620 : BitVec 32 := Scalar.muli v550 c1024_i32_495
  let c2_i32_493 : BitVec 32 := 2#32
  let v618 : BitVec 32 := Scalar.addi v548 c2_i32_493
  let c512_i32_496 : BitVec 32 := 512#32
  let v621 : BitVec 32 := Scalar.muli v618 c512_i32_496
  ![v620.toNat, v621.toNat]
def k0_cond9 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c7_i32_442 : BitVec 32 := 7#32
  let v548 : BitVec 32 := Scalar.divsi v547 c7_i32_442
  let c7_i32_443 : BitVec 32 := 7#32
  let v549 : BitVec 32 := Scalar.muli v548 c7_i32_443
  let v550 : BitVec 32 := Scalar.subi v547 v549
  let c0_i32_490 : BitVec 32 := 0#32
  let v613 : BitVec 1 := Scalar.cmpi .eq v550 c0_i32_490
  let c0_i32_491 : BitVec 32 := 0#32
  let v614 : BitVec 1 := Scalar.cmpi .sgt v547 c0_i32_491
  let v615 : BitVec 1 := Scalar.andi v613 v614
  let v616 : BitVec 32 := Scalar.extui v615
  let c0_i32_492 : BitVec 32 := 0#32
  let v617 : BitVec 1 := Scalar.cmpi .ne v616 c0_i32_492
  v617

def k0_cond10 (k0_t4 : Fin k0_t4_loop.trips) : BitVec 1 :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_495 : BitVec 32 := 2#32
  let v620 : BitVec 1 := Scalar.cmpi .sge v619 c2_i32_495
  let v621 : BitVec 32 := Scalar.extui v620
  let c0_i32_496 : BitVec 32 := 0#32
  let v622 : BitVec 1 := Scalar.cmpi .ne v621 c0_i32_496
  v622

def k0_off59 (k0_t4 : Fin k0_t4_loop.trips) : Fin 1 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_510 : BitVec 32 := 2#32
  let v641 : BitVec 32 := Scalar.subi v619 c2_i32_510
  let c2_i32_511 : BitVec 32 := 2#32
  let v642 : BitVec 32 := Scalar.remsi v641 c2_i32_511
  ![v642.toNat]
def k0_off60 (k0_t4 : Fin k0_t4_loop.trips) : Fin 2 → Nat :=
  let c0_i32_513 : BitVec 32 := 0#32
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_510 : BitVec 32 := 2#32
  let v641 : BitVec 32 := Scalar.subi v619 c2_i32_510
  let c512_i32_512 : BitVec 32 := 512#32
  let v643 : BitVec 32 := Scalar.muli v641 c512_i32_512
  ![0, v643.toNat]
def k0_off61 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_510 : BitVec 32 := 2#32
  let v641 : BitVec 32 := Scalar.subi v619 c2_i32_510
  let c2_i32_511 : BitVec 32 := 2#32
  let v642 : BitVec 32 := Scalar.remsi v641 c2_i32_511
  let c0_i32_514 : BitVec 32 := 0#32
  let c0_i32_515 : BitVec 32 := 0#32
  ![v642.toNat, 0, 0]
def k0_off62 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_499 : BitVec 32 := 2#32
  let v625 : BitVec 32 := Scalar.remsi v619 c2_i32_499
  let v626 : Index := Scalar.indexCast v625
  let c0_500 : Index := 0#32
  let c0_501 : Index := 0#32
  ![v626.toNat, 0, 0]
def k0_off63 (k0_t4 : Fin k0_t4_loop.trips) : Fin 1 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_505 : BitVec 32 := 2#32
  let v634 : BitVec 32 := Scalar.remsi v619 c2_i32_505
  ![v634.toNat]
def k0_off64 (k0_t4 : Fin k0_t4_loop.trips) : Fin 2 → Nat :=
  let c0_i32_507 : BitVec 32 := 0#32
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c512_i32_506 : BitVec 32 := 512#32
  let v635 : BitVec 32 := Scalar.muli v619 c512_i32_506
  ![0, v635.toNat]
def k0_off65 (k0_t4 : Fin k0_t4_loop.trips) : Fin 3 → Nat :=
  let c0_i32_390 : BitVec 32 := 0#32
  let c0_i32_236 : BitVec 32 := 0#32
  let c1_i32_238 : BitVec 32 := 1#32
  let arg32 : BitVec 32 := Scf.iv c0_i32_236 c1_i32_238 k0_t4
  let c2_i32_389 : BitVec 32 := 2#32
  let v474 : BitVec 32 := Scalar.muli arg32 c2_i32_389
  let v475 : BitVec 32 := Scalar.addi c0_i32_390 v474
  let c1_i32_441 : BitVec 32 := 1#32
  let v547 : BitVec 32 := Scalar.addi v475 c1_i32_441
  let c1_i32_493 : BitVec 32 := 1#32
  let v618 : BitVec 32 := Scalar.subi v547 c1_i32_493
  let c7_i32_494 : BitVec 32 := 7#32
  let v619 : BitVec 32 := Scalar.divsi v618 c7_i32_494
  let c2_i32_505 : BitVec 32 := 2#32
  let v634 : BitVec 32 := Scalar.remsi v619 c2_i32_505
  let c0_i32_508 : BitVec 32 := 0#32
  let c0_i32_509 : BitVec 32 := 0#32
  ![v634.toNat, 0, 0]
def k0_mult21 : BitVec 32 :=
  let c251_i32_242 : BitVec 32 := 251#32
  let c251_i32 : BitVec 32 := 251#32
  let c7_i32_240 : BitVec 32 := 7#32
  let v322 : BitVec 32 := Scalar.divsi c251_i32 c7_i32_240
  let c7_i32_241 : BitVec 32 := 7#32
  let v323 : BitVec 32 := Scalar.muli v322 c7_i32_241
  let v324 : BitVec 32 := Scalar.subi c251_i32_242 v323
  let c1024_i32_243 : BitVec 32 := 1024#32
  let v325 : BitVec 32 := Scalar.muli v324 c1024_i32_243
  v325
def k0_off66 : Fin 2 → Nat :=
  let c0_244 : Index := 0#32
  let c251_i32_242 : BitVec 32 := 251#32
  let c251_i32 : BitVec 32 := 251#32
  let c7_i32_240 : BitVec 32 := 7#32
  let v322 : BitVec 32 := Scalar.divsi c251_i32 c7_i32_240
  let c7_i32_241 : BitVec 32 := 7#32
  let v323 : BitVec 32 := Scalar.muli v322 c7_i32_241
  let v324 : BitVec 32 := Scalar.subi c251_i32_242 v323
  let c1024_i32_243 : BitVec 32 := 1024#32
  let v325 : BitVec 32 := Scalar.muli v324 c1024_i32_243
  let v326 : BitVec 32 := v325
  let v327 : Index := Scalar.indexCast v326
  ![0, v327.toNat]
def k0_cond11 : BitVec 1 :=
  let c251_i32_252 : BitVec 32 := 251#32
  let c7_i32_253 : BitVec 32 := 7#32
  let v336 : BitVec 32 := Scalar.divsi c251_i32_252 c7_i32_253
  let c2_i32_254 : BitVec 32 := 2#32
  let v337 : BitVec 1 := Scalar.cmpi .sge v336 c2_i32_254
  let v338 : BitVec 32 := Scalar.extui v337
  let c0_i32_255 : BitVec 32 := 0#32
  let v339 : BitVec 1 := Scalar.cmpi .ne v338 c0_i32_255
  v339

def k0_off67 : Fin 1 → Nat :=
  let c251_i32_252 : BitVec 32 := 251#32
  let c7_i32_253 : BitVec 32 := 7#32
  let v336 : BitVec 32 := Scalar.divsi c251_i32_252 c7_i32_253
  let c2_i32_389 : BitVec 32 := 2#32
  let v474 : BitVec 32 := Scalar.subi v336 c2_i32_389
  let c2_i32_390 : BitVec 32 := 2#32
  let v475 : BitVec 32 := Scalar.remsi v474 c2_i32_390
  ![v475.toNat]
def k0_off68 : Fin 2 → Nat :=
  let c0_i32_392 : BitVec 32 := 0#32
  let c251_i32_252 : BitVec 32 := 251#32
  let c7_i32_253 : BitVec 32 := 7#32
  let v336 : BitVec 32 := Scalar.divsi c251_i32_252 c7_i32_253
  let c2_i32_389 : BitVec 32 := 2#32
  let v474 : BitVec 32 := Scalar.subi v336 c2_i32_389
  let c512_i32_391 : BitVec 32 := 512#32
  let v476 : BitVec 32 := Scalar.muli v474 c512_i32_391
  ![0, v476.toNat]
def k0_off69 : Fin 3 → Nat :=
  let c251_i32_252 : BitVec 32 := 251#32
  let c7_i32_253 : BitVec 32 := 7#32
  let v336 : BitVec 32 := Scalar.divsi c251_i32_252 c7_i32_253
  let c2_i32_389 : BitVec 32 := 2#32
  let v474 : BitVec 32 := Scalar.subi v336 c2_i32_389
  let c2_i32_390 : BitVec 32 := 2#32
  let v475 : BitVec 32 := Scalar.remsi v474 c2_i32_390
  let c0_i32_393 : BitVec 32 := 0#32
  let c0_i32_394 : BitVec 32 := 0#32
  ![v475.toNat, 0, 0]
def k0_off70 : Fin 3 → Nat :=
  let c251_i32_252 : BitVec 32 := 251#32
  let c7_i32_253 : BitVec 32 := 7#32
  let v336 : BitVec 32 := Scalar.divsi c251_i32_252 c7_i32_253
  let c2_i32_258 : BitVec 32 := 2#32
  let v342 : BitVec 32 := Scalar.remsi v336 c2_i32_258
  let v343 : Index := Scalar.indexCast v342
  let c0_259 : Index := 0#32
  let c0_260 : Index := 0#32
  ![v343.toNat, 0, 0]
def k0_off71 : Fin 1 → Nat :=
  let c251_i32_252 : BitVec 32 := 251#32
  let c7_i32_253 : BitVec 32 := 7#32
  let v336 : BitVec 32 := Scalar.divsi c251_i32_252 c7_i32_253
  let c2_i32_264 : BitVec 32 := 2#32
  let v351 : BitVec 32 := Scalar.remsi v336 c2_i32_264
  ![v351.toNat]
def k0_off72 : Fin 2 → Nat :=
  let c0_i32_266 : BitVec 32 := 0#32
  let c251_i32_252 : BitVec 32 := 251#32
  let c7_i32_253 : BitVec 32 := 7#32
  let v336 : BitVec 32 := Scalar.divsi c251_i32_252 c7_i32_253
  let c512_i32_265 : BitVec 32 := 512#32
  let v352 : BitVec 32 := Scalar.muli v336 c512_i32_265
  ![0, v352.toNat]
def k0_off73 : Fin 3 → Nat :=
  let c251_i32_252 : BitVec 32 := 251#32
  let c7_i32_253 : BitVec 32 := 7#32
  let v336 : BitVec 32 := Scalar.divsi c251_i32_252 c7_i32_253
  let c2_i32_264 : BitVec 32 := 2#32
  let v351 : BitVec 32 := Scalar.remsi v336 c2_i32_264
  let c0_i32_267 : BitVec 32 := 0#32
  let c0_i32_268 : BitVec 32 := 0#32
  ![v351.toNat, 0, 0]
def k0_off74 (c34_i32_373 : BitVec 32) : Fin 1 → Nat :=
  let c2_i32_374 : BitVec 32 := 2#32
  let v454 : BitVec 32 := Scalar.remsi c34_i32_373 c2_i32_374
  ![v454.toNat]
def k0_off75 (c34_i32_373 : BitVec 32) : Fin 3 → Nat :=
  let c2_i32_374 : BitVec 32 := 2#32
  let v454 : BitVec 32 := Scalar.remsi c34_i32_373 c2_i32_374
  let c0_i32_377 : BitVec 32 := 0#32
  let c0_i32_378 : BitVec 32 := 0#32
  ![v454.toNat, 0, 0]
-- ==== ReferenceIdeal.lean ====
abbrev S256x1x7168 : Shape := ⟨3, ![256, 1, 7168]⟩
abbrev S16 : Shape := ⟨1, ![16]⟩
abbrev S7168x18432 : Shape := ⟨2, ![7168, 18432]⟩
abbrev S256x7168 : Shape := ⟨2, ![256, 7168]⟩
abbrev S_ : Shape := ⟨0, ![]⟩
abbrev S252 : Shape := ⟨1, ![252]⟩
abbrev S1 : Shape := ⟨1, ![1]⟩
abbrev S15 : Shape := ⟨1, ![15]⟩
abbrev S1x16 : Shape := ⟨2, ![1, 16]⟩
abbrev S1x1 : Shape := ⟨2, ![1, 1]⟩
abbrev S56x128x144x128 : Shape := ⟨4, ![56, 128, 144, 128]⟩
abbrev S56x144 : Shape := ⟨2, ![56, 144]⟩
abbrev S56x144x1 : Shape := ⟨3, ![56, 144, 1]⟩
abbrev S1x1x252 : Shape := ⟨3, ![1, 1, 252]⟩
abbrev S56x144x252 : Shape := ⟨3, ![56, 144, 252]⟩
abbrev S56x1x144x1 : Shape := ⟨4, ![56, 1, 144, 1]⟩
abbrev S256x18432 : Shape := ⟨2, ![256, 18432]⟩

abbrev nBuf : Space → Nat
  | .hbm => 99
  | .vmem => 9
  | .smem => 0
  | _ => 0

abbrev bufTy : (tb : Table) → Fin (tcTables nBuf tb) → BufTy
  | .hbm, ⟨0, _⟩ => ⟨S256x1x7168, .bf16⟩
  | .hbm, ⟨1, _⟩ => ⟨S16, .f32⟩
  | .hbm, ⟨2, _⟩ => ⟨S7168x18432, .bf16⟩
  | .hbm, ⟨3, _⟩ => ⟨S256x7168, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S252, .i32⟩
  | .hbm, ⟨10, _⟩ => ⟨S_, .i32⟩
  | .hbm, ⟨11, _⟩ => ⟨S252, .i32⟩
  | .hbm, ⟨12, _⟩ => ⟨S252, .i32⟩
  | .hbm, ⟨13, _⟩ => ⟨S252, .f32⟩
  | .hbm, ⟨14, _⟩ => ⟨S_, .f32⟩
  | .hbm, ⟨15, _⟩ => ⟨S252, .f32⟩
  | .hbm, ⟨16, _⟩ => ⟨S252, .f32⟩
  | .hbm, ⟨17, _⟩ => ⟨S1, .f32⟩
  | .hbm, ⟨18, _⟩ => ⟨S252, .f32⟩
  | .hbm, ⟨19, _⟩ => ⟨S252, .i1⟩
  | .hbm, ⟨20, _⟩ => ⟨S_, .f32⟩
  | .hbm, ⟨21, _⟩ => ⟨S_, .f32⟩
  | .hbm, ⟨22, _⟩ => ⟨S252, .f32⟩
  | .hbm, ⟨23, _⟩ => ⟨S252, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .i1⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x7168, .bf16⟩
  | .hbm, ⟨35, _⟩ => ⟨S_, .bf16⟩
  | .hbm, ⟨36, _⟩ => ⟨S_, .bf16⟩
  | .hbm, ⟨37, _⟩ => ⟨S_, .f32⟩
  | .hbm, ⟨38, _⟩ => ⟨S1, .f32⟩
  | .hbm, ⟨39, _⟩ => ⟨S15, .f32⟩
  | .hbm, ⟨40, _⟩ => ⟨S16, .f32⟩
  | .hbm, ⟨41, _⟩ => ⟨S1x16, .f32⟩
  | .hbm, ⟨42, _⟩ => ⟨S1x1, .f32⟩
  | .hbm, ⟨43, _⟩ => ⟨S56x128x144x128, .bf16⟩
  | .hbm, ⟨44, _⟩ => ⟨S56x128x144x128, .bf16⟩
  | .hbm, ⟨45, _⟩ => ⟨S_, .bf16⟩
  | .hbm, ⟨46, _⟩ => ⟨S56x144, .bf16⟩
  | .hbm, ⟨47, _⟩ => ⟨S56x144, .f32⟩
  | .hbm, ⟨48, _⟩ => ⟨S_, .f32⟩
  | .hbm, ⟨49, _⟩ => ⟨S56x144, .f32⟩
  | .hbm, ⟨50, _⟩ => ⟨S56x144, .f32⟩
  | .hbm, ⟨51, _⟩ => ⟨S56x144, .f32⟩
  | .hbm, ⟨52, _⟩ => ⟨S252, .i32⟩
  | .hbm, ⟨53, _⟩ => ⟨S_, .i32⟩
  | .hbm, ⟨54, _⟩ => ⟨S252, .i32⟩
  | .hbm, ⟨55, _⟩ => ⟨S252, .i32⟩
  | .hbm, ⟨56, _⟩ => ⟨S252, .f32⟩
  | .hbm, ⟨57, _⟩ => ⟨S_, .f32⟩
  | .hbm, ⟨58, _⟩ => ⟨S252, .f32⟩
  | .hbm, ⟨59, _⟩ => ⟨S252, .f32⟩
  | .hbm, ⟨60, _⟩ => ⟨S56x144x1, .f32⟩
  | .hbm, ⟨61, _⟩ => ⟨S1x1x252, .f32⟩
  | .hbm, ⟨62, _⟩ => ⟨S56x144x252, .f32⟩
  | .hbm, ⟨63, _⟩ => ⟨S56x144x252, .f32⟩
  | .hbm, ⟨64, _⟩ => ⟨S56x144x252, .i1⟩
  | .hbm, ⟨65, _⟩ => ⟨S_, .f32⟩
  | .hbm, ⟨66, _⟩ => ⟨S_, .f32⟩
  | .hbm, ⟨67, _⟩ => ⟨S56x144x252, .f32⟩
  | .hbm, ⟨68, _⟩ => ⟨S56x144x252, .f32⟩
  | .hbm, ⟨69, _⟩ => ⟨S56x144x252, .f32⟩
  | .hbm, ⟨70, _⟩ => ⟨S_, .f32⟩
  | .hbm, ⟨71, _⟩ => ⟨S56x144, .f32⟩
  | .hbm, ⟨72, _⟩ => ⟨S_, .f32⟩
  | .hbm, ⟨73, _⟩ => ⟨S56x144, .f32⟩
  | .hbm, ⟨74, _⟩ => ⟨S56x144, .i1⟩
  | .hbm, ⟨75, _⟩ => ⟨S_, .f32⟩
  | .hbm, ⟨76, _⟩ => ⟨S56x144, .f32⟩
  | .hbm, ⟨77, _⟩ => ⟨S56x144, .i1⟩
  | .hbm, ⟨78, _⟩ => ⟨S56x144, .i1⟩
  | .hbm, ⟨79, _⟩ => ⟨S_, .f32⟩
  | .hbm, ⟨80, _⟩ => ⟨S_, .f32⟩
  | .hbm, ⟨81, _⟩ => ⟨S56x144, .f32⟩
  | .hbm, ⟨82, _⟩ => ⟨S56x144, .f32⟩
  | .hbm, ⟨83, _⟩ => ⟨S_, .f32⟩
  | .hbm, ⟨84, _⟩ => ⟨S_, .f32⟩
  | .hbm, ⟨85, _⟩ => ⟨S256x7168, .f32⟩
  | .hbm, ⟨86, _⟩ => ⟨S256x7168, .f32⟩
  | .hbm, ⟨87, _⟩ => ⟨S_, .f32⟩
  | .hbm, ⟨88, _⟩ => ⟨S56x144, .f32⟩
  | .hbm, ⟨89, _⟩ => ⟨S56x144, .f32⟩
  | .hbm, ⟨90, _⟩ => ⟨S56x1x144x1, .f32⟩
  | .hbm, ⟨91, _⟩ => ⟨S56x128x144x128, .f32⟩
  | .hbm, ⟨92, _⟩ => ⟨S7168x18432, .f32⟩
  | .hbm, ⟨93, _⟩ => ⟨S56x1x144x1, .f32⟩
  | .hbm, ⟨94, _⟩ => ⟨S56x128x144x128, .f32⟩
  | .hbm, ⟨95, _⟩ => ⟨S7168x18432, .f32⟩
  | .hbm, ⟨96, _⟩ => ⟨S256x18432, .bf16⟩
  | .hbm, ⟨97, _⟩ => ⟨S256x7168, .fp8e4m3⟩
  | .hbm, ⟨98, _⟩ => ⟨S7168x18432, .fp8e4m3⟩
  | .local _ .vmem, ⟨0, _⟩ => ⟨S256x7168, .bf16⟩
  | .local _ .vmem, ⟨1, _⟩ => ⟨S256x7168, .f32⟩
  | .local _ .vmem, ⟨2, _⟩ => ⟨S256x7168, .f32⟩
  | .local _ .vmem, ⟨3, _⟩ => ⟨S7168x18432, .bf16⟩
  | .local _ .vmem, ⟨4, _⟩ => ⟨S7168x18432, .f32⟩
  | .local _ .vmem, ⟨5, _⟩ => ⟨S7168x18432, .f32⟩
  | .local _ .vmem, ⟨6, _⟩ => ⟨S256x18432, .bf16⟩
  | .local _ .vmem, ⟨7, _⟩ => ⟨S256x7168, .fp8e4m3⟩
  | .local _ .vmem, ⟨8, _⟩ => ⟨S7168x18432, .fp8e4m3⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_call3_v0 : Ref sig .tc := ⟨.hbm, 80, rfl⟩
abbrev main_call3_v1 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64_0 : Ref sig .tc := ⟨.hbm, 96, rfl⟩
abbrev main_v64_1 : Ref sig .tc := ⟨.hbm, 97, rfl⟩
abbrev main_v64_2 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x18432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x18432 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Base.lean ====
/-
  What every module of the kernel's proof shares: how one block of a whole buffer is read and written, and the
  bookkeeping of a queue of transfers (`pipe`).
-/
module

public import proofs.«01_k».proof.KernelIdeal
public import Idealize.ShloMosaic.PureOps.BitExact
public import Idealize.ShloMosaic.PureOps.Ideal
public import Idealize.ShloMosaic.PureOps.IdealRules
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Ring
public import Idealize.ShloMosaic.Lib.Transfers
public import Idealize.ShloMosaic.Lib.Pipeline.Routed
public import Idealize.ShloMosaic.Lib.Pipeline.ValueKit
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra the proof runs in. -/
abbrev UU (nD : Nat) (τ : Topo) : Type := Pipeline.UC sig nD τ
local notation "𝕄" => MT nD τ sig Unit (Elt F) ℕ (UU nD τ) ℕ
/-- No loop of the kernel needs a variant. -/
abbrev 𝒱₀ : Variants := Variants.none

/-- The weakest precondition of a piece of the kernel's body on core `c`. -/
abbrev WP {α : Type} (c : Dev nD) (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- What a transfer's counters are embedded by. -/
abbrev EC : UEmb Counters 𝕄 := countersEmb

/-! ## Blocks of whole buffers -/

section Geo
variable {Val : EltTy → Type}

/-- A write of a block, at an element of the block. -/
theorem write_in (b : Ref sig .tc) (off size : Fin b.ty.shape.rank → Nat) (inb)
    (f : b.ty.Contents Val) (w : (Rect.unit (s := b.ty.shape) off size inb).shape.Idx → Val b.ty.elt) (i : b.ty.shape.Idx)
    (x : (Rect.unit (s := b.ty.shape) off size inb).shape.Idx) (hx : ∀ a, (i a : ℕ) = off a + x a) :
    ((View.whole b).slice (Rect.unit off size inb)).write Val f w Finset.univ i = w x := by
  have e : i = ((View.whole b).slice (Rect.unit off size inb)).emb x := by
    funext a; apply Fin.ext; rw [hx a]; exact (ValueKit.view_emb_slice_whole_unit_val b off size inb x a).symm
  rw [e]; exact View.write_emb_of_mem _ _ (Finset.mem_univ _)

/-- A write of a block leaves an element outside it. -/
theorem write_out (b : Ref sig .tc) (off size : Fin b.ty.shape.rank → Nat) (inb)
    (f : b.ty.Contents Val) (w : (Rect.unit (s := b.ty.shape) off size inb).shape.Idx → Val b.ty.elt) (i : b.ty.shape.Idx)
    (a : Fin b.ty.shape.rank) (ha : (i a : ℕ) < off a ∨ off a + size a ≤ i a) :
    ((View.whole b).slice (Rect.unit off size inb)).write Val f w Finset.univ i = f i := by
  refine View.write_of_not_mem _ _ _ fun hm => ?_
  rw [View.setOn_univ, View.set_slice_whole] at hm
  have := (Rect.mem_set_unit.1 hm) a
  omega

/-- A read of a block, at an element of it. -/
theorem read_at (b : Ref sig .tc) (off size : Fin b.ty.shape.rank → Nat) (inb)
    (f : b.ty.Contents Val) (x : (Rect.unit (s := b.ty.shape) off size inb).shape.Idx) (i : b.ty.shape.Idx) (hx : ∀ a, (i a : ℕ) = off a + x a) :
    ((View.whole b).slice (Rect.unit off size inb)).read Val f x = f i := by
  have e : ((View.whole b).slice (Rect.unit off size inb)).emb x = i := by
    funext a; apply Fin.ext; rw [hx a]; exact (ValueKit.view_emb_slice_whole_unit_val b off size inb x a)
  rw [View.read_apply, e]; rfl

end Geo

/-! ## A queue of transfers

`pipe N a b D Fl I`: of the transfers `0 … N-1`, those below `a` are waited for (`D`), those from `a` below `b` are
in flight (`Fl`), those from `b` on are not yet started (`I`). -/

/-- The state of a queue of `N` transfers. -/
def pipe (N a b : ℕ) (D Fl I : ℕ → sProp 𝕄) : sProp 𝕄 :=
  bigSep (Finset.range N) fun v => if v < a then D v else if v < b then Fl v else I v

omit [FloatOps F] in
/-- The transfer `v` taken out of a product over `0 … N-1`. -/
theorem bigSep_take {N v : ℕ} (hv : v < N) (P : ℕ → sProp 𝕄) :
    bigSep (Finset.range N) P = iprop(P v ∗ bigSep ((Finset.range N).erase v) P) := by
  conv_lhs => rw [← Finset.insert_erase (Finset.mem_range.2 hv)]
  exact BI.bigSep_insert (Finset.notMem_erase _ _)

omit [FloatOps F] in
/-- The oldest transfer in flight is waited for. -/
theorem pipe_wait {N a b : ℕ} (hab : a < b) (hN : a < N) (D Fl I : ℕ → sProp 𝕄) :
    pipe N a b D Fl I ⊢ iprop(Fl a ∗ (D a -∗ pipe N (a + 1) b D Fl I)) := by
  unfold pipe
  rw [bigSep_take hN, bigSep_take hN (fun v => if v < a + 1 then D v else if v < b then Fl v else I v)]
  have e : bigSep ((Finset.range N).erase a) (fun v => if v < a then D v else if v < b then Fl v else I v)
      = bigSep ((Finset.range N).erase a) (fun v => if v < a + 1 then D v else if v < b then Fl v else I v) := by
    refine BI.bigSep_congr fun v hv => ?_
    have : v ≠ a := Finset.ne_of_mem_erase hv
    by_cases h : v < a
    · rw [if_pos h, if_pos (by omega)]
    · rw [if_neg h, if_neg (show ¬ v < a + 1 by omega)]
  rw [e]
  simp only [lt_irrefl, if_false, if_pos hab, if_pos (Nat.lt_succ_self a)]
  iintro ⟨Hf, Hr⟩
  isplitl [Hf]; · iexact Hf
  iintro Hd
  isplitl [Hd]; · iexact Hd
  iexact Hr

omit [FloatOps F] in
/-- The next transfer is started. -/
theorem pipe_issue {N a b : ℕ} (hab : a ≤ b) (hN : b < N) (D Fl I : ℕ → sProp 𝕄) :
    pipe N a b D Fl I ⊢ iprop(I b ∗ (Fl b -∗ pipe N a (b + 1) D Fl I)) := by
  unfold pipe
  rw [bigSep_take hN, bigSep_take hN (fun v => if v < a then D v else if v < b + 1 then Fl v else I v)]
  have e : bigSep ((Finset.range N).erase b) (fun v => if v < a then D v else if v < b then Fl v else I v)
      = bigSep ((Finset.range N).erase b) (fun v => if v < a then D v else if v < b + 1 then Fl v else I v) := by
    refine BI.bigSep_congr fun v hv => ?_
    have : v ≠ b := Finset.ne_of_mem_erase hv
    by_cases h : v < a
    · rw [if_pos h, if_pos h]
    · rw [if_neg h, if_neg h]
      by_cases h' : v < b
      · rw [if_pos h', if_pos (by omega)]
      · rw [if_neg h', if_neg (show ¬ v < b + 1 by omega)]
  rw [e]
  simp only [lt_irrefl, if_false, if_neg (show ¬ b < a by omega), if_pos (Nat.lt_succ_self b)]
  iintro ⟨Hf, Hr⟩
  isplitl [Hf]; · iexact Hf
  iintro Hd
  isplitl [Hd]; · iexact Hd
  iexact Hr

omit [FloatOps F] in
/-- Before the first transfer. -/
theorem pipe_start {N : ℕ} (D Fl I : ℕ → sProp 𝕄) : pipe N 0 0 D Fl I = bigSep (Finset.range N) I := by
  unfold pipe; exact BI.bigSep_congr fun v _ => by simp

omit [FloatOps F] in
/-- After the last transfer. -/
theorem pipe_done {N : ℕ} (b : ℕ) (D Fl I : ℕ → sProp 𝕄) : pipe N N b D Fl I = bigSep (Finset.range N) D := by
  unfold pipe; exact BI.bigSep_congr fun v hv => by rw [if_pos (Finset.mem_range.1 hv)]

end Cert.KernelIdeal.Hand
-- ==== Proof.Ops.lean ====
/-
  One operation of the kernel at a time: what a load, a store, a copy's start and a copy's wait do to the memory they
  touch. Each is stated for the operation alone; a program is read as a chain of them.
-/
module

public import proofs.«01_k».proof.Proof.Base

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A load of a block of a buffer, from the part `S` of it that is held. -/
theorem ld (c : Dev nD) {cs : CoreSpace} {s : Shape} {e : EltTy} {m : Memref sig .tc cs s e} {r : Rect s}
    {hl : m.view.LoadsAt r.toLoadRect} {S : Finset (Idx ((m.access r).loc (c : Thread nD τ)))} {q : PosShare TreeShare}
    {f : Buf (Elt F) ((m.access r).loc (c : Thread nD τ))} {Q : (r.shape.Idx → Elt F e) → sProp 𝕄}
    (hS : (m.access r).set ⊆ S) :
    ((m.access r).loc (c : Thread nD τ) ↦[S]{q} f) ⊢ iprop((((m.access r).loc (c : Thread nD τ) ↦[S]{q} f)
      -∗ Q ((m.access r).read (Elt F) f)) -∗ WP c (Prog.lift (.load m r.toLoadRect hl)) Q) := by
  iintro H HQ
  unfold WP
  iapply (wp_load_rect 𝒱₀ (c : Thread nD τ) none Set.univ (k := Prog.ret) hS) $$ H
  iintro H
  rw [wp_ret]
  imodintro
  iapply HQ; iexact H

/-- A store to a block of a buffer. -/
theorem st (c : Dev nD) {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {S : Finset (Idx ((m.access r).loc (c : Thread nD τ)))}
    {f : Buf (Elt F) ((m.access r).loc (c : Thread nD τ))} {Q : PUnit → sProp 𝕄}
    (hS : (m.access r).set ⊆ S) :
    ((m.access r).loc (c : Thread nD τ) ↦[S]{fullShare} f) ⊢ iprop((((m.access r).loc (c : Thread nD τ) ↦[S]{fullShare} ((m.access r).write (Elt F) f w Finset.univ))
      -∗ Q ⟨⟩) -∗ WP c (Prog.lift (.store m r w Finset.univ hx hm)) Q) := by
  iintro H HQ
  unfold WP
  iapply (wp_store 𝒱₀ (c : Thread nD τ) none Set.univ (k := Prog.ret) (S := S) (by rw [View.setOn_univ]; exact hS)) $$ H
  iintro H
  rw [wp_ret]
  imodintro
  iapply HQ; iexact H

/-- A load of a word of scalar memory. -/
theorem sld (c : Dev nD) {s : Shape} {e : EltTy} {m : Memref sig .tc .smem s e} {r : Rect s}
    {h1 : r.shape.numel = 1} {hp : e.packing = 1} {S : Finset (Idx ((m.access r).loc (c : Thread nD τ)))} {q : PosShare TreeShare}
    {f : Buf (Elt F) ((m.access r).loc (c : Thread nD τ))} {Q : Elt F e → sProp 𝕄}
    (hS : (m.access r).set ⊆ S) :
    ((m.access r).loc (c : Thread nD τ) ↦[S]{q} f) ⊢ iprop((((m.access r).loc (c : Thread nD τ) ↦[S]{q} f)
      -∗ Q ((m.access r).read (Elt F) f (Shape.Idx.first (h1.symm ▸ Nat.one_pos)))) -∗ WP c (smemLoad m r h1 hp) Q) := by
  iintro H HQ
  unfold WP smemLoad
  iapply (wp_smemLoadElt 𝒱₀ (c : Thread nD τ) none Set.univ (k := Prog.ret) hS) $$ H
  iintro H
  rw [wp_ret]
  imodintro
  iapply HQ; iexact H

/-- A copy on this core is started: the source's and the destination's parts and the copy's counter are handed over. -/
theorem start (c : Dev nD) {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) sp sm (DmaTarget.here (p := Proc.tc) (τ := τ) dst)}
    {Q : PUnit → sProp 𝕄} {q : PosShare TreeShare} {fs : Buf (Elt F) (src.view.loc (c : Thread nD τ))}
    {Sd : Finset (Idx (dst.view.loc (c : Thread nD τ)))} {fd : Buf (Elt F) (dst.view.loc (c : Thread nD τ))}
    (N : ℕ) (hN : dst.view.amount sm = N) (hN0 : 0 < N) (hSd : dst.view.set ⊆ Sd) (D : sProp 𝕄)
    (hD : iprop((dst.view.loc (c : Thread nD τ) ↦[Sd]{fullShare} (dst.view.write (Elt F) fd (src.view.read (Elt F) fs) Finset.univ))
        ∗ (src.view.loc (c : Thread nD τ) ↦[src.view.set]{q} fs)) ⊢ D) :
    iprop((src.view.loc (c : Thread nD τ) ↦[src.view.set]{q} fs) ∗ (dst.view.loc (c : Thread nD τ) ↦[Sd]{fullShare} fd) ∗ semVal ((c : Thread nD τ), sm) 0)
      ⊢ iprop((Transfers.Flight EC (c : Thread nD τ) sm () N D -∗ Q ⟨⟩) -∗ WP c (Prog.lift (TpuEff.enqueueDma (p := Proc.tc) src (.here dst) sm hsrc hdst hsem)) Q) := by
  iintro H HQ
  unfold WP
  iapply (Transfers.wp_dmaLocal EC 𝒱₀ (c : Thread nD τ) none (k := Prog.ret) () N hN hN0 hSd) $$ H
  iintro H
  rw [wp_ret]
  imodintro
  iapply HQ
  iapply (Transfers.Flight_mono EC (c : Thread nD τ) hD); iexact H

/-- A copy is waited for: what it delivers comes back, with its counter at zero. -/
theorem wait (c : Dev nD) {sp sp' : Space} {s s' : Shape} {e e' : EltTy} {srcw : Memref sig .tc sp' s' e'} {dstw : Memref sig .tc sp s e} {sem : DmaSem sig}
    {hsrc : srcw.view.WordExact} {hdst : dstw.view.WordExact}
    {Q : PUnit → sProp 𝕄} (N : ℕ) (hN : dstw.view.dmaCredit = N) {D : sProp 𝕄} :
    iprop(Transfers.Flight EC (c : Thread nD τ) (.dma sem) () N D ∗ (∃ W, owes (c : Thread nD τ) 0 W))
      ⊢ iprop((iprop(D ∗ semVal ((c : Thread nD τ), .dma sem) 0 ∗ (∃ W, owes (c : Thread nD τ) 0 W)) -∗ Q ⟨⟩)
        -∗ WP c (Prog.lift (TpuEff.waitDma2 (p := Proc.tc) sem srcw dstw hsrc hdst)) Q) := by
  iintro ⟨H, ⟨%W, HW⟩⟩ HQ
  unfold WP
  iapply (Transfers.wp_waitLocal EC 𝒱₀ (c : Thread nD τ) none (k := Prog.ret) () hN) $$ [H HW]
  · isplitl [H]; · iexact H
    iexact HW
  iintro ⟨HD, Hs, HW⟩
  rw [wp_ret]
  imodintro
  iapply HQ
  isplitl [HD]; · iexact HD
  isplitl [Hs]; · iexact Hs
  iexists _; iexact HW

end Cert.KernelIdeal.Hand
-- ==== Proof.Spec.lean ====
/-
  The values the kernel computes, as functions of its three arguments, for any reading of the floats. Unit `v` of the
  weight is the tile of strip `v / 7` (512 columns) and chunk `v % 7` (1024 rows); its block `(r, g)` is the 128 × 128
  block at rows `128 r`, columns `128 g` of the tile.
-/
module

public import proofs.«01_k».proof.Proof.Base
public import Idealize.ShloMosaic.Lib.ValueIdxCore

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI

variable {F : FTy → Type} [FloatOps F]

/-! ## Indices -/

/-- The weight's index at row `a`, column `b`. -/
def mkW (a b : ℕ) : S7168x18432.Idx := ValueIdx.ix2 (Fin.ofNat 7168 a) (Fin.ofNat 18432 b)
/-- The ring buffer's index. -/
def mkR (a b d : ℕ) : S2x7168x512.Idx := ValueIdx.ix3 (Fin.ofNat 2 a) (Fin.ofNat 7168 b) (Fin.ofNat 512 d)
/-- The activation's index. -/
def mkX (a b : ℕ) : S256x7168.Idx := ValueIdx.ix2 (Fin.ofNat 256 a) (Fin.ofNat 7168 b)
/-- The product's index. -/
def mkY (a b : ℕ) : S256x18432.Idx := ValueIdx.ix2 (Fin.ofNat 256 a) (Fin.ofNat 18432 b)
/-- An index of an accumulator. -/
def mkA (a b : ℕ) : S256x512.Idx := ValueIdx.ix2 (Fin.ofNat 256 a) (Fin.ofNat 512 b)

theorem ofNat_val {n : ℕ} [NeZero n] {a : ℕ} (h : a < n) : ((Fin.ofNat n a : Fin n) : ℕ) = a := Nat.mod_eq_of_lt h

/-! ## The scales of a block -/

/-- The lanes' numbers. -/
abbrev lanes : IVec S8x128 32 := iota .tc S8x128 32 [1] iota_S8x128_d1_w32
/-- The sublanes' numbers. -/
abbrev subs : IVec S8x128 32 := iota .tc S8x128 32 [0] iota_S8x128_d0_w32

/-- The largest absolute values of the row blocks of a column of blocks `B`, after `n` of its eight blocks. -/
def amN (B : ℕ → Vec F S1x128x128 .bf16) : ℕ → FVec F S8x128 .f32
  | 0 => k0_pay7 (F := F)
  | n + 1 => if h : n < k0_t3_loop.trips then k0_pay8 subs ⟨n, h⟩ (amN B n) (B n) else amN B n

/-- The bits of the scales' inverses from the largest absolute values. -/
def scI (am : FVec F S8x128 .f32) : IVec S1x8x128 32 :=
  k0_pay16 (k0_pay9 am) (k0_pay13 (k0_pay10 am) (k0_pay11 am) (k0_pay12 am) 253#32)
    (k0_pay14 (k0_pay10 am) (k0_pay11 am) (k0_pay12 am) 253#32) 255#32
/-- The bits of the scales as a pair of bfloat16. -/
def scS (am : FVec F S8x128 .f32) : IVec S1x8x128 32 :=
  k0_pay17 (k0_pay9 am) (k0_pay13 (k0_pay10 am) (k0_pay11 am) (k0_pay12 am) 253#32)
    (k0_pay14 (k0_pay10 am) (k0_pay11 am) (k0_pay12 am) 253#32) 255#32
/-- The scales. -/
def scF (am : FVec F S8x128 .f32) : FVec F S8x128 .f32 :=
  k0_pay19 (k0_pay9 am) (k0_pay13 (k0_pay10 am) (k0_pay11 am) (k0_pay12 am) 253#32)
    (k0_pay14 (k0_pay10 am) (k0_pay11 am) (k0_pay12 am) 253#32) 255#32

/-- The inverse scales of a unit whose block `(r, g)` is `B g r`. -/
def INV (B : ℕ → ℕ → Vec F S1x128x128 .bf16) : S4x8x128.Idx → Elt F .i32 :=
  fun i => scI (amN (B (i 0).val) 8) (ValueIdx.ix3 0 (i 1) (i 2))
/-- Its scales, as pairs of bfloat16. -/
def SCL (B : ℕ → ℕ → Vec F S1x128x128 .bf16) : S4x8x128.Idx → Elt F .i32 :=
  fun i => scS (amN (B (i 0).val) 8) (ValueIdx.ix3 0 (i 1) (i 2))

/-- The rows of the table of scales a unit writes, after `n` of its column groups; `base` is the lane of the first. -/
def scRow (base : BitVec 32) (B : ℕ → ℕ → Vec F S1x128x128 .bf16) (old : FVec F S8x128 .f32) : ℕ → FVec F S8x128 .f32
  | 0 => old
  | n + 1 => if h : n < k0_t2_loop.trips then
      k0_pay86 (scRow base B old n) (k0_pay18 lanes base (Scf.iv 0#32 1#32 (⟨n, h⟩ : Fin k0_t2_loop.trips))) (scF (amN (B n) 8))
    else scRow base B old n

/-! ## The weight's codes and the rescaled weight -/

section W
variable (w : S7168x18432.Idx → Elt F .bf16)

/-- Block `(r, g)` of unit `v`. -/
def blkW (v g r : ℕ) : Vec F S1x128x128 .bf16 :=
  fun x => w (mkW (1024 * (v % 7) + 128 * r + (x 1).val) (512 * (v / 7) + 128 * g + (x 2).val))

/-- One row of a table of a unit, as the block `(r, g)` reads it. -/
def rowAt (T : S4x8x128.Idx → Elt F .i32) (r g : ℕ) : Vec F S1x1x128 .i32 :=
  fun x => T (ValueIdx.ix3 (Fin.ofNat 4 g) (Fin.ofNat 8 r) (x 2))

/-- The code at row `a`, column `b` of unit `v`. -/
def codeU (v a b : ℕ) : Elt F .fp8e4m3 :=
  k0_pay34 (rowAt (INV (blkW w v)) (a / 128) (b / 128)) (blkW w v (b / 128) (a / 128)) (ValueIdx.ix3 0 (Fin.ofNat 128 a) (Fin.ofNat 128 b))

/-- The rescaled weight of unit `v`. -/
def WD (v : ℕ) : S1024x512.Idx → Elt F .bf16 := fun i =>
  k0_pay56 (k0_pay33 (rowAt (INV (blkW w v)) ((i 0).val / 128) ((i 1).val / 128)) (blkW w v ((i 1).val / 128) ((i 0).val / 128)))
    (k0_pay35 (rowAt (SCL (blkW w v)) ((i 0).val / 128) ((i 1).val / 128))) (ValueIdx.ix2 (Fin.ofNat 128 (i 0).val) (Fin.ofNat 128 (i 1).val))

/-- The weight's codes. -/
def WC : S7168x18432.Idx → Elt F .fp8e4m3 := fun i =>
  codeU w (7 * ((i 1).val / 512) + (i 0).val / 1024) ((i 0).val % 1024) ((i 1).val % 512)

/-- The scale of the row block `r` and column block `j` of the weight. -/
def WS (r j : ℕ) : Elt F .f32 :=
  scF (amN (blkW w (7 * (j / 4) + r / 8) (j % 4)) 8) (ValueIdx.ix2 (Fin.ofNat 8 r) (Fin.ofNat 128 j))

/-- The weight's scales. -/
def WSout : S56x144.Idx → Elt F .f32 := fun i => WS w (i 0).val (i 1).val

/-- What the ring of the weight's tiles holds in unit `v`'s slot. -/
def wbuf (v : ℕ) : S2x7168x512.Idx → Elt F .bf16 := fun i => w (mkW (i 1).val (512 * (v / 7) + (i 2).val))
/-- What the ring of the codes' tiles holds in unit `v`'s slot. -/
def cbuf (v : ℕ) : S2x7168x512.Idx → Elt F .fp8e4m3 := fun i => WC w (mkW (i 1).val (512 * (v / 7) + (i 2).val))

/-! ## The product -/

variable (xd : S256x7168.Idx → Elt F .bf16)

/-- The chunk `k` of the rescaled activation. -/
def xchunk (k : ℕ) : Vec F S256x1024 .bf16 := fun x => xd (mkX (x 0).val (1024 * k + (x 1).val))

/-- The second factor of the product that precedes unit `u`: the unit before it, or zero before the first. -/
def WDprev (u : ℕ) : S1024x512.Idx → Elt F .bf16 := if u = 0 then k0_pay84 (F := F) else WD w (u - 1)

/-- The accumulator at the start of unit `u`. -/
def accE : ℕ → FVec F S256x512 .f32
  | 0 => k0_pay82 (F := F)
  | u + 1 => if u % 7 = 0 ∧ 0 < u then k0_pay58 (F := F) else k0_pay52 (xchunk xd ((u - 1) % 7)) (accE u) (WDprev w u)
/-- The accumulator after the product of unit `u`. -/
def accM (u : ℕ) : FVec F S256x512 .f32 := k0_pay52 (xchunk xd ((u - 1) % 7)) (accE w xd u) (WDprev w u)

theorem accE_zero : accE w xd 0 = k0_pay82 (F := F) := rfl
theorem accE_succ_reset {u : ℕ} (h : u % 7 = 0 ∧ 0 < u) : accE w xd (u + 1) = k0_pay58 (F := F) := by
  rw [accE, if_pos h]
theorem accE_succ {u : ℕ} (h : ¬ (u % 7 = 0 ∧ 0 < u)) : accE w xd (u + 1) = accM w xd u := by
  rw [accE, if_neg h]; rfl

/-- The product's strip `s`. -/
def ystrip (s : ℕ) : FVec F S1x256x512 .bf16 := k0_pay57 (accM w xd (7 * (s + 1)))
/-- What the ring of the product's strips holds in strip `s`'s slot. -/
def ybuf (s : ℕ) : S2x256x512.Idx → Elt F .bf16 := fun i => ystrip w xd s (ValueIdx.ix3 0 (i 1) (i 2))
/-- The product. -/
def Yout : S256x18432.Idx → Elt F .bf16 := fun i =>
  ystrip w xd ((i 1).val / 512) (ValueIdx.ix3 0 (i 0) (Fin.ofNat 512 (i 1).val))

end W

/-! ## The activation -/

section X
variable (x : S256x7168.Idx → Elt F .bf16) (h : S1x16.Idx → Elt F .f32)

/-- Word `k` of the history. -/
def hw (k : Fin 16) : Elt F .f32 := h (ValueIdx.ix2 0 k)
/-- The largest of the first eight words. -/
def h8 : F .f32 := k0_pay65 (hw h 0) (hw h 1) (hw h 2) (hw h 3) (hw h 4) (hw h 5) (hw h 6) (hw h 7)
/-- A value of the history's largest word. -/
abbrev onHist {α : Type} (k : F .f32 → Elt F .f32 → Elt F .f32 → Elt F .f32 → Elt F .f32 → Elt F .f32 → Elt F .f32 → Elt F .f32 → Elt F .f32 → α) : α :=
  k (h8 h) (hw h 8) (hw h 9) (hw h 10) (hw h 11) (hw h 12) (hw h 13) (hw h 14) (hw h 15)
def xv121 : FVec F S8x128 .f32 := onHist h k0_pay66
def xv124 : FVec F S8x128 .f32 := onHist h k0_pay67
def xv134 : IVec S8x128 32 := onHist h k0_pay68
def xv136 : IVec S8x128 32 := onHist h k0_pay69
def xv141 : FVec F S8x128 .f32 := onHist h k0_pay70
def xv179 : IVec S8x128 32 := k0_pay71 (xv124 h) (xv134 h) (xv136 h) (xv141 h)
def xv181 : IVec S8x128 32 := k0_pay72 (xv124 h) (xv134 h) (xv136 h) (xv141 h)
def xv186 : FVec F S8x128 .f32 := k0_pay73 (xv124 h) (xv134 h) (xv136 h) (xv141 h)
/-- The bits of the activation's inverse scale. -/
def xInv : IVec S8x128 32 := k0_pay75 (xv121 h) (xv124 h) (xv179 h) (xv181 h) (xv186 h)
/-- The activation's scale as a pair of bfloat16. -/
def xScl : IVec S8x128 32 := k0_pay76 (xv121 h) (xv124 h) (xv179 h) (xv181 h) (xv186 h)
/-- The bits of the activation's scale. -/
def xBits : IVec S8x128 32 := k0_pay77 (xv121 h) (xv124 h) (xv179 h) (xv181 h) (xv186 h)
/-- The activation's scale. -/
def XSout : S1x1.Idx → Elt F .f32 := fun _ => k0_pay78 (xBits h)

/-- The columns `128 k …` of the activation. -/
def xblk (k : ℕ) : Vec F S256x128 .bf16 := fun y => x (mkX (y 0).val (128 * k + (y 1).val))
/-- The activation's codes. -/
def XC : S256x7168.Idx → Elt F .fp8e4m3 := fun i =>
  k0_pay2 (xInv h) (xblk x ((i 1).val / 128)) (ValueIdx.ix2 (i 0) (Fin.ofNat 128 (i 1).val))
/-- The rescaled activation. -/
def XD : S256x7168.Idx → Elt F .bf16 := fun i =>
  k0_pay3 (xInv h) (xScl h) (xblk x ((i 1).val / 128)) (ValueIdx.ix2 (i 0) (Fin.ofNat 128 (i 1).val))
/-- The largest absolute values of the activation, after `n` of its column blocks. -/
def xam : ℕ → FVec F S8x128 .f32
  | 0 => k0_pay79 (F := F)
  | n + 1 => k0_pay80 (xam n) (xblk x n) (k0_pay5 (xblk x n)) (k0_pay6 (xblk x n))
/-- The new history. -/
def Hout : S1x16.Idx → Elt F .f32 := fun i =>
  if (i 1).val = 0 then k0_pay81 (xam x 56) else h (ValueIdx.ix2 0 (Fin.ofNat 16 ((i 1).val - 1)))

end X

end Cert.KernelIdeal.Hand
-- ==== Proof.Off.lean ====
/-
  The offsets and conditions of the kernel's main loop in closed form. Trip `t` runs the units `2t` and `2t + 1`;
  unit `u` is the tile of the weight in strip `u / 7` (512 columns) and chunk `u % 7` (1024 rows). Each fact is
  decided over the trips.
-/
module

public import proofs.«01_k».proof.Proof.Gen.KernelIdeal.Frame
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- The cell of unit `v` in a ring of semaphores. -/
abbrev semOff (v : ℕ) : Fin 2 → ℕ := ![v / 7 % 2, v % 7]
/-- The slot of unit `v` in a ring of two strips of seven chunks. -/
abbrev slotOff (v : ℕ) : Fin 3 → ℕ := ![v / 7 % 2, 1024 * (v % 7), 0]
/-- The tile of unit `v` in the weight. -/
abbrev tileOff (v : ℕ) : Fin 2 → ℕ := ![1024 * (v % 7), 512 * (v / 7)]
/-- The block of unit `v` in row `r` and column `g` of blocks, in the ring. -/
abbrev blkOff (v r g : ℕ) : Fin 3 → ℕ := ![v / 7 % 2, 1024 * (v % 7) + 128 * r, 128 * g]

theorem off19_eq : ∀ t : Fin k0_t4_loop.trips, k0_off19 t = semOff (2 * t.val + 1) := by decide +kernel
theorem off20_eq : ∀ t : Fin k0_t4_loop.trips, k0_off20 t = slotOff (2 * t.val + 1) := by decide +kernel
theorem off21_eq : ∀ t : Fin k0_t4_loop.trips, k0_off21 t = tileOff (2 * t.val + 1) := by decide +kernel
theorem off45_eq : ∀ t : Fin k0_t4_loop.trips, k0_off45 t = semOff (2 * t.val + 2) := by decide +kernel
theorem off46_eq : ∀ t : Fin k0_t4_loop.trips, k0_off46 t = slotOff (2 * t.val + 2) := by decide +kernel
theorem off47_eq : ∀ t : Fin k0_t4_loop.trips, k0_off47 t = tileOff (2 * t.val + 2) := by decide +kernel
theorem off22_eq : ∀ t : Fin k0_t4_loop.trips, 14 ≤ 2 * t.val → k0_off22 t = semOff (2 * t.val - 14) := by decide +kernel
theorem off23_eq : ∀ t : Fin k0_t4_loop.trips, 14 ≤ 2 * t.val → k0_off23 t = tileOff (2 * t.val - 14) := by decide +kernel
theorem off24_eq : ∀ t : Fin k0_t4_loop.trips, 14 ≤ 2 * t.val → k0_off24 t = slotOff (2 * t.val - 14) := by decide +kernel
theorem off48_eq : ∀ t : Fin k0_t4_loop.trips, 14 ≤ 2 * t.val + 1 → k0_off48 t = semOff (2 * t.val + 1 - 14) := by decide +kernel
theorem off49_eq : ∀ t : Fin k0_t4_loop.trips, 14 ≤ 2 * t.val + 1 → k0_off49 t = tileOff (2 * t.val + 1 - 14) := by decide +kernel
theorem off50_eq : ∀ t : Fin k0_t4_loop.trips, 14 ≤ 2 * t.val + 1 → k0_off50 t = slotOff (2 * t.val + 1 - 14) := by decide +kernel
theorem off25_eq0 : ∀ t : Fin k0_t4_loop.trips, k0_off25 t 0#32 = ![0, 1024 * ((2 * t.val - 1) % 7)] := by decide +kernel
theorem off25_eq1 : ∀ t : Fin k0_t4_loop.trips, k0_off25 t 1#32 = ![0, 1024 * ((2 * t.val + 1 - 1) % 7)] := by decide +kernel
theorem off26_eq0 : ∀ t : Fin k0_t4_loop.trips, k0_off26 t 0#32 = ![(2 * t.val + 1) / 7 / 32, 8 * ((2 * t.val + 1) % 7), 0] := by decide +kernel
theorem off26_eq1 : ∀ t : Fin k0_t4_loop.trips, k0_off26 t 1#32 = ![(2 * t.val + 2) / 7 / 32, 8 * ((2 * t.val + 2) % 7), 0] := by decide +kernel
theorem off27_eq : ∀ (t : Fin k0_t4_loop.trips) (g : Fin k0_t5_loop.trips) (r : Fin k0_t6_loop.trips), k0_off27 t g r = blkOff (2 * t.val + 1) r.val g.val := by decide +kernel
theorem off51_eq : ∀ (t : Fin k0_t4_loop.trips) (g : Fin k0_t9_loop.trips) (r : Fin k0_t10_loop.trips), k0_off51 t g r = blkOff (2 * t.val + 2) r.val g.val := by decide +kernel
theorem off28_eq : ∀ g : Fin k0_t5_loop.trips, k0_off28 g = ![g.val, 0, 0] := by decide +kernel
theorem off52_eq : ∀ g : Fin k0_t9_loop.trips, k0_off52 g = ![g.val, 0, 0] := by decide +kernel
theorem off29_eq : ∀ (r : Fin k0_t7_loop.trips) (g : Fin k0_t8_loop.trips), k0_off29 r g = ![g.val, r.val, 0] := by decide +kernel
theorem off53_eq : ∀ (r : Fin k0_t11_loop.trips) (g : Fin k0_t12_loop.trips), k0_off53 r g = ![g.val, r.val, 0] := by decide +kernel
theorem off30_eq : ∀ (t : Fin k0_t4_loop.trips) (r : Fin k0_t7_loop.trips) (g : Fin k0_t8_loop.trips), k0_off30 t r g = blkOff (2 * t.val) r.val g.val := by decide +kernel
theorem off54_eq : ∀ (t : Fin k0_t4_loop.trips) (r : Fin k0_t11_loop.trips) (g : Fin k0_t12_loop.trips), k0_off54 t r g = blkOff (2 * t.val + 1) r.val g.val := by decide +kernel
theorem off31_eq : ∀ (r : Fin k0_t7_loop.trips) (g : Fin k0_t8_loop.trips), k0_off31 r g = ![128 * r.val, 128 * g.val] := by decide +kernel
theorem off55_eq : ∀ (r : Fin k0_t11_loop.trips) (g : Fin k0_t12_loop.trips), k0_off55 r g = ![128 * r.val, 128 * g.val] := by decide +kernel
theorem off32_eq0 : ∀ t : Fin k0_t4_loop.trips, k0_off32 t 0#32 = semOff (2 * t.val) := by decide +kernel
theorem off33_eq0 : ∀ t : Fin k0_t4_loop.trips, k0_off33 t 0#32 = tileOff (2 * t.val) := by decide +kernel
theorem off34_eq0 : ∀ t : Fin k0_t4_loop.trips, k0_off34 t 0#32 = slotOff (2 * t.val) := by decide +kernel
theorem off32_eq1 : ∀ t : Fin k0_t4_loop.trips, k0_off32 t 1#32 = semOff (2 * t.val + 1) := by decide +kernel
theorem off33_eq1 : ∀ t : Fin k0_t4_loop.trips, k0_off33 t 1#32 = tileOff (2 * t.val + 1) := by decide +kernel
theorem off34_eq1 : ∀ t : Fin k0_t4_loop.trips, k0_off34 t 1#32 = slotOff (2 * t.val + 1) := by decide +kernel
theorem off35_eq : ∀ t : Fin k0_t4_loop.trips, k0_off35 t = semOff (2 * t.val + 14) := by decide +kernel
theorem off36_eq : ∀ t : Fin k0_t4_loop.trips, k0_off36 t = slotOff (2 * t.val + 14) := by decide +kernel
theorem off37_eq : ∀ t : Fin k0_t4_loop.trips, k0_off37 t = tileOff (2 * t.val + 14) := by decide +kernel
theorem off56_eq : ∀ t : Fin k0_t4_loop.trips, k0_off56 t = semOff (2 * t.val + 1 + 14) := by decide +kernel
theorem off57_eq : ∀ t : Fin k0_t4_loop.trips, k0_off57 t = slotOff (2 * t.val + 1 + 14) := by decide +kernel
theorem off58_eq : ∀ t : Fin k0_t4_loop.trips, k0_off58 t = tileOff (2 * t.val + 1 + 14) := by decide +kernel
theorem off38_eq : ∀ t : Fin k0_t4_loop.trips, 15 ≤ 2 * t.val → k0_off38 t = ![((2 * t.val - 1) / 7 - 2) % 2] := by decide +kernel
theorem off39_eq : ∀ t : Fin k0_t4_loop.trips, 15 ≤ 2 * t.val → k0_off39 t = ![0, 512 * ((2 * t.val - 1) / 7 - 2)] := by decide +kernel
theorem off40_eq : ∀ t : Fin k0_t4_loop.trips, 15 ≤ 2 * t.val → k0_off40 t = ![((2 * t.val - 1) / 7 - 2) % 2, 0, 0] := by decide +kernel
theorem off41_eq : ∀ t : Fin k0_t4_loop.trips, 1 ≤ 2 * t.val → k0_off41 t = ![(2 * t.val - 1) / 7 % 2, 0, 0] := by decide +kernel
theorem off42_eq : ∀ t : Fin k0_t4_loop.trips, 1 ≤ 2 * t.val → k0_off42 t = ![(2 * t.val - 1) / 7 % 2] := by decide +kernel
theorem off43_eq : ∀ t : Fin k0_t4_loop.trips, 1 ≤ 2 * t.val → k0_off43 t = ![0, 512 * ((2 * t.val - 1) / 7)] := by decide +kernel
theorem off44_eq : ∀ t : Fin k0_t4_loop.trips, 1 ≤ 2 * t.val → k0_off44 t = ![(2 * t.val - 1) / 7 % 2, 0, 0] := by decide +kernel
theorem off59_eq : ∀ t : Fin k0_t4_loop.trips, 15 ≤ 2 * t.val + 1 → k0_off59 t = ![((2 * t.val + 1 - 1) / 7 - 2) % 2] := by decide +kernel
theorem off60_eq : ∀ t : Fin k0_t4_loop.trips, 15 ≤ 2 * t.val + 1 → k0_off60 t = ![0, 512 * ((2 * t.val + 1 - 1) / 7 - 2)] := by decide +kernel
theorem off61_eq : ∀ t : Fin k0_t4_loop.trips, 15 ≤ 2 * t.val + 1 → k0_off61 t = ![((2 * t.val + 1 - 1) / 7 - 2) % 2, 0, 0] := by decide +kernel
theorem off62_eq : ∀ t : Fin k0_t4_loop.trips, k0_off62 t = ![(2 * t.val + 1 - 1) / 7 % 2, 0, 0] := by decide +kernel
theorem off63_eq : ∀ t : Fin k0_t4_loop.trips, k0_off63 t = ![(2 * t.val + 1 - 1) / 7 % 2] := by decide +kernel
theorem off64_eq : ∀ t : Fin k0_t4_loop.trips, k0_off64 t = ![0, 512 * ((2 * t.val + 1 - 1) / 7)] := by decide +kernel
theorem off65_eq : ∀ t : Fin k0_t4_loop.trips, k0_off65 t = ![(2 * t.val + 1 - 1) / 7 % 2, 0, 0] := by decide +kernel

theorem cond1_iff : ∀ t : Fin k0_t4_loop.trips, k0_cond1 t = 1#1 ↔ 2 * t.val + 1 < 252 := by decide +kernel
theorem cond6_iff : ∀ t : Fin k0_t4_loop.trips, k0_cond6 t = 1#1 ↔ 2 * t.val + 2 < 252 := by decide +kernel
theorem cond2_iff : ∀ t : Fin k0_t4_loop.trips, k0_cond2 t = 1#1 ↔ 14 ≤ 2 * t.val := by decide +kernel
theorem cond7_iff : ∀ t : Fin k0_t4_loop.trips, k0_cond7 t = 1#1 ↔ 14 ≤ 2 * t.val + 1 := by decide +kernel
theorem cond3_iff : ∀ t : Fin k0_t4_loop.trips, k0_cond3 t = 1#1 ↔ 2 * t.val + 14 < 252 := by decide +kernel
theorem cond8_iff : ∀ t : Fin k0_t4_loop.trips, k0_cond8 t = 1#1 ↔ 2 * t.val + 1 + 14 < 252 := by decide +kernel
theorem cond4_iff : ∀ t : Fin k0_t4_loop.trips, k0_cond4 t = 1#1 ↔ (2 * t.val % 7 = 0 ∧ 0 < 2 * t.val) := by decide +kernel
theorem cond9_iff : ∀ t : Fin k0_t4_loop.trips, k0_cond9 t = 1#1 ↔ ((2 * t.val + 1) % 7 = 0 ∧ 0 < 2 * t.val + 1) := by decide +kernel
theorem cond5_iff : ∀ t : Fin k0_t4_loop.trips, (2 * t.val % 7 = 0 ∧ 0 < 2 * t.val) → (k0_cond5 t = 1#1 ↔ 15 ≤ 2 * t.val) := by decide +kernel
theorem cond10_iff : ∀ t : Fin k0_t4_loop.trips, ((2 * t.val + 1) % 7 = 0 ∧ 0 < 2 * t.val + 1) → (k0_cond10 t = 1#1 ↔ 15 ≤ 2 * t.val + 1) := by decide +kernel

theorem off15_eq : ∀ t : Fin k0_t1_loop.trips, k0_off15 t = ![0, 128 * t.val] := by decide +kernel
theorem off17_eq : ∀ (g : Fin k0_t2_loop.trips) (r : Fin k0_t3_loop.trips), k0_off17 g r = blkOff 0 r.val g.val := by decide +kernel
theorem off18_eq : ∀ g : Fin k0_t2_loop.trips, k0_off18 g = ![g.val, 0, 0] := by decide +kernel

end Cert.KernelIdeal.Hand

end
-- ==== Proof.Off2.lean ====
/-
  The offsets of the kernel's first and last transfers in closed form: those of the units of the strips 0, 1, 34 and
  35, and those of the last strip of the product.
-/
module

public import proofs.«01_k».proof.Proof.Off

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

/-- The strips whose transfers the kernel starts before its loop or waits for after it. -/
def endStrip (r : Fin 4) : ℕ := if r.val < 2 then r.val else r.val + 32

theorem off1_eq : ∀ r : Fin 4, k0_off1 (k0_off1_at r) = semOff (7 * endStrip r + 0) := by decide +kernel
theorem off2_eq : ∀ r : Fin 4, k0_off2 (k0_off2_at r) = slotOff (7 * endStrip r + 0) := by decide +kernel
theorem off3_eq : ∀ r : Fin 4, k0_off3 (k0_off3_at r) = semOff (7 * endStrip r + 1) := by decide +kernel
theorem off4_eq : ∀ r : Fin 4, k0_off4 (k0_off4_at r) = slotOff (7 * endStrip r + 1) := by decide +kernel
theorem off5_eq : ∀ r : Fin 4, k0_off5 (k0_off5_at r) = semOff (7 * endStrip r + 2) := by decide +kernel
theorem off6_eq : ∀ r : Fin 4, k0_off6 (k0_off6_at r) = slotOff (7 * endStrip r + 2) := by decide +kernel
theorem off7_eq : ∀ r : Fin 4, k0_off7 (k0_off7_at r) = semOff (7 * endStrip r + 3) := by decide +kernel
theorem off8_eq : ∀ r : Fin 4, k0_off8 (k0_off8_at r) = slotOff (7 * endStrip r + 3) := by decide +kernel
theorem off9_eq : ∀ r : Fin 4, k0_off9 (k0_off9_at r) = semOff (7 * endStrip r + 4) := by decide +kernel
theorem off10_eq : ∀ r : Fin 4, k0_off10 (k0_off10_at r) = slotOff (7 * endStrip r + 4) := by decide +kernel
theorem off11_eq : ∀ r : Fin 4, k0_off11 (k0_off11_at r) = semOff (7 * endStrip r + 5) := by decide +kernel
theorem off12_eq : ∀ r : Fin 4, k0_off12 (k0_off12_at r) = slotOff (7 * endStrip r + 5) := by decide +kernel
theorem off13_eq : ∀ r : Fin 4, k0_off13 (k0_off13_at r) = semOff (7 * endStrip r + 6) := by decide +kernel
theorem off14_eq : ∀ r : Fin 4, k0_off14 (k0_off14_at r) = slotOff (7 * endStrip r + 6) := by decide +kernel
theorem off16_eq : k0_off16 = ![0, 0, 0] := by decide +kernel
theorem off66_eq : k0_off66 = ![0, 6144] := by decide +kernel
theorem off67_eq : k0_off67 = ![1] := by decide +kernel
theorem off68_eq : k0_off68 = ![0, 512 * 33] := by decide +kernel
theorem off69_eq : k0_off69 = ![1, 0, 0] := by decide +kernel
theorem off70_eq : k0_off70 = ![1, 0, 0] := by decide +kernel
theorem off71_eq : k0_off71 = ![1] := by decide +kernel
theorem off72_eq : k0_off72 = ![0, 512 * 35] := by decide +kernel
theorem off73_eq : k0_off73 = ![1, 0, 0] := by decide +kernel
theorem off74_eq : ∀ r : Fin 2, k0_off74 (BitVec.ofNat 32 (34 + r.val)) = ![r.val] := by decide +kernel
theorem off75_eq : ∀ r : Fin 2, k0_off75 (BitVec.ofNat 32 (34 + r.val)) = ![r.val, 0, 0] := by decide +kernel
theorem cond11_eq : k0_cond11 = 1#1 := by decide +kernel

end Cert.KernelIdeal.Hand
-- ==== Proof.Rings.lean ====
/-
  The three queues of the kernel's transfers — the weight's tiles coming in, the codes' tiles going out, the product's
  strips going out —: each transfer's two ends and counter under one name per unit (or strip), and what starting and
  waiting for one does.
-/
module

public import proofs.«01_k».proof.Proof.Ops
public import proofs.«01_k».proof.Proof.Spec
public import proofs.«01_k».proof.Proof.Off2

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Names -/

theorem slotOff_inb (v : ℕ) : ∀ a, slotOff v a + S1x1024x512.size a ≤ S2x7168x512.size a := fun a =>
  match a with
  | ⟨0, _⟩ => by show v / 7 % 2 + 1 ≤ 2; omega
  | ⟨1, _⟩ => by show 1024 * (v % 7) + 1024 ≤ 7168; omega
  | ⟨2, _⟩ => by show 0 + 512 ≤ 512; omega

theorem semOff_inb (v : ℕ) : ∀ a, semOff v a + S1x1.size a ≤ S2x7.size a := fun a =>
  match a with
  | ⟨0, _⟩ => by show v / 7 % 2 + 1 ≤ 2; omega
  | ⟨1, _⟩ => by show v % 7 + 1 ≤ 7; omega

/-- The tile of unit `v` (of the 252 there are). -/
def tOff (v : ℕ) : Fin 2 → ℕ := tileOff (v % 252)
theorem tOff_inb (v : ℕ) : ∀ a, tOff v a + S1024x512.size a ≤ S7168x18432.size a := fun a =>
  match a with
  | ⟨0, _⟩ => by show 1024 * (v % 252 % 7) + 1024 ≤ 7168; omega
  | ⟨1, _⟩ => by show 512 * (v % 252 / 7) + 512 ≤ 18432; omega
theorem tOff_eq {v : ℕ} (h : v < 252) : tileOff v = tOff v := by unfold tOff; rw [Nat.mod_eq_of_lt h]

/-- The slot of a strip of the product. -/
def yslotOff (s : ℕ) : Fin 3 → ℕ := ![s % 2, 0, 0]
theorem yslotOff_inb (s : ℕ) : ∀ a, yslotOff s a + S1x256x512.size a ≤ S2x256x512.size a := fun a =>
  match a with
  | ⟨0, _⟩ => by show s % 2 + 1 ≤ 2; omega
  | ⟨1, _⟩ => by show 0 + 256 ≤ 256; omega
  | ⟨2, _⟩ => by show 0 + 512 ≤ 512; omega
/-- The strip's place in the product. -/
def ytOff (s : ℕ) : Fin 2 → ℕ := ![0, 512 * (s % 36)]
theorem ytOff_inb (s : ℕ) : ∀ a, ytOff s a + S256x512.size a ≤ S256x18432.size a := fun a =>
  match a with
  | ⟨0, _⟩ => by show 0 + 256 ≤ 256; omega
  | ⟨1, _⟩ => by show 512 * (s % 36) + 512 ≤ 18432; omega
theorem ytOff_eq {s : ℕ} (h : s < 36) : (![0, 512 * s] : Fin 2 → ℕ) = ytOff s := by unfold ytOff; rw [Nat.mod_eq_of_lt h]
/-- The strip's counter. -/
def ysemOff (s : ℕ) : Fin 1 → ℕ := ![s % 2]
theorem ysemOff_inb (s : ℕ) : ∀ a, ysemOff s a + S1.size a ≤ S2.size a := fun a =>
  match a with
  | ⟨0, _⟩ => by show s % 2 + 1 ≤ 2; omega

/-- Unit `v`'s slot in the ring of the weight's tiles, -/
def wslot (v : ℕ) : Memref sig .tc .vmem S1024x512 .bf16 :=
  ((Memref.whole cc0_scratch3).slice (Rect.unit (s := S2x7168x512) (slotOff v) S1x1024x512.size (slotOff_inb v)) (fun _ => rfl)).squeeze
    S1024x512 squeezes_S1x1024x512_S1024x512
/-- in the ring of the codes' tiles, -/
def cslot (v : ℕ) : Memref sig .tc .vmem S1024x512 .fp8e4m3 :=
  ((Memref.whole cc0_scratch4).slice (Rect.unit (s := S2x7168x512) (slotOff v) S1x1024x512.size (slotOff_inb v)) (fun _ => rfl)).squeeze
    S1024x512 squeezes_S1x1024x512_S1024x512
/-- its tile of the weight, -/
def wtile (v : ℕ) : Memref sig .tc .hbm S1024x512 .bf16 :=
  (Memref.whole main_arg2).slice (Rect.unit (s := S7168x18432) (tOff v) S1024x512.size (tOff_inb v)) (fun _ => rfl)
/-- its tile of the codes, -/
def ctile (v : ℕ) : Memref sig .tc .hbm S1024x512 .fp8e4m3 :=
  (Memref.whole main_v2_4).slice (Rect.unit (s := S7168x18432) (tOff v) S1024x512.size (tOff_inb v)) (fun _ => rfl)
/-- and its counters of the two rings. -/
def wcell (v : ℕ) : DmaSem sig :=
  ((cc0_scratch18.slice (Rect.unit (s := S2x7) (semOff v) S1x1.size (semOff_inb v))).squeeze S_ squeezes_S1x1_S_).sem
def ccell (v : ℕ) : DmaSem sig :=
  ((cc0_scratch19.slice (Rect.unit (s := S2x7) (semOff v) S1x1.size (semOff_inb v))).squeeze S_ squeezes_S1x1_S_).sem
/-- Strip `s`'s slot in the ring of the product's strips, its place in the product, its counter. -/
def yslot (s : ℕ) : Memref sig .tc .vmem S256x512 .bf16 :=
  ((Memref.whole cc0_scratch8).slice (Rect.unit (s := S2x256x512) (yslotOff s) S1x256x512.size (yslotOff_inb s)) (fun _ => rfl)).squeeze
    S256x512 squeezes_S1x256x512_S256x512
def ytile (s : ℕ) : Memref sig .tc .hbm S256x512 .bf16 :=
  (Memref.whole main_v2_0).slice (Rect.unit (s := S256x18432) (ytOff s) S256x512.size (ytOff_inb s)) (fun _ => rfl)
def ycell (s : ℕ) : DmaSem sig :=
  ((cc0_scratch20.slice (Rect.unit (s := S2) (ysemOff s) S1.size (ysemOff_inb s))).squeeze S_ squeezes_S1_S_).sem

/-- The ends' sets of elements. -/
abbrev wS (v : ℕ) : Finset S2x7168x512.Idx := (wslot v).view.set
abbrev cS (v : ℕ) : Finset S2x7168x512.Idx := (cslot v).view.set
abbrev wT (v : ℕ) : Finset S7168x18432.Idx := (wtile v).view.set
abbrev cT (v : ℕ) : Finset S7168x18432.Idx := (ctile v).view.set
abbrev yS (s : ℕ) : Finset S2x256x512.Idx := (yslot s).view.set
abbrev yT (s : ℕ) : Finset S256x18432.Idx := (ytile s).view.set

theorem slotOff_add (v : ℕ) : slotOff (v + 14) = slotOff v := by
  unfold slotOff; congr 1; · omega
  congr 2; omega
theorem semOff_add (v : ℕ) : semOff (v + 14) = semOff v := by
  unfold semOff; congr 1; · omega
  congr 1; omega

/-! ## The elements of the ends -/

theorem wslot_emb (v : ℕ) (x : S1024x512.Idx) (a : Fin 3) :
    ((wslot v).view.emb x a : ℕ) = slotOff v a + (Fin.cons ⟨0, Nat.one_pos⟩ x : S1x1024x512.Idx) a := by
  show ((((View.whole cc0_scratch3).slice (Rect.unit (s := S2x7168x512) (slotOff v) S1x1024x512.size (slotOff_inb v))).emb
    (Shape.reshapeEquiv _ x) a : Fin _) : ℕ) = _
  rw [ValueKit.view_emb_slice_whole_unit_val]
  congr 2
  exact congrFun (Shape.reshapeEquiv_cons_one _ x) a

theorem cslot_emb (v : ℕ) (x : S1024x512.Idx) (a : Fin 3) :
    ((cslot v).view.emb x a : ℕ) = slotOff v a + (Fin.cons ⟨0, Nat.one_pos⟩ x : S1x1024x512.Idx) a := by
  show ((((View.whole cc0_scratch4).slice (Rect.unit (s := S2x7168x512) (slotOff v) S1x1024x512.size (slotOff_inb v))).emb
    (Shape.reshapeEquiv _ x) a : Fin _) : ℕ) = _
  rw [ValueKit.view_emb_slice_whole_unit_val]
  congr 2
  exact congrFun (Shape.reshapeEquiv_cons_one _ x) a

theorem yslot_emb (s : ℕ) (x : S256x512.Idx) (a : Fin 3) :
    ((yslot s).view.emb x a : ℕ) = yslotOff s a + (Fin.cons ⟨0, Nat.one_pos⟩ x : S1x256x512.Idx) a := by
  show ((((View.whole cc0_scratch8).slice (Rect.unit (s := S2x256x512) (yslotOff s) S1x256x512.size (yslotOff_inb s))).emb
    (Shape.reshapeEquiv _ x) a : Fin _) : ℕ) = _
  rw [ValueKit.view_emb_slice_whole_unit_val]
  congr 2
  exact congrFun (Shape.reshapeEquiv_cons_one _ x) a

theorem wtile_emb (v : ℕ) (x : S1024x512.Idx) (a : Fin 2) : ((wtile v).view.emb x a : ℕ) = tOff v a + x a :=
  ValueKit.view_emb_slice_whole_unit_val main_arg2 _ _ _ x a
theorem ctile_emb (v : ℕ) (x : S1024x512.Idx) (a : Fin 2) : ((ctile v).view.emb x a : ℕ) = tOff v a + x a :=
  ValueKit.view_emb_slice_whole_unit_val main_v2_4 _ _ _ x a
theorem ytile_emb (s : ℕ) (x : S256x512.Idx) (a : Fin 2) : ((ytile s).view.emb x a : ℕ) = ytOff s a + x a :=
  ValueKit.view_emb_slice_whole_unit_val main_v2_0 _ _ _ x a

theorem wS_eq (v : ℕ) : wS v = (Rect.unit (s := S2x7168x512) (slotOff v) S1x1024x512.size (slotOff_inb v)).set := by
  unfold wS wslot
  exact (View.set_reshape _ _).trans (View.set_slice_whole _ _)
theorem cS_eq (v : ℕ) : cS v = (Rect.unit (s := S2x7168x512) (slotOff v) S1x1024x512.size (slotOff_inb v)).set := by
  unfold cS cslot
  exact (View.set_reshape _ _).trans (View.set_slice_whole _ _)
theorem yS_eq (s : ℕ) : yS s = (Rect.unit (s := S2x256x512) (yslotOff s) S1x256x512.size (yslotOff_inb s)).set := by
  unfold yS yslot
  exact (View.set_reshape _ _).trans (View.set_slice_whole _ _)
theorem wT_eq (v : ℕ) : wT v = (Rect.unit (s := S7168x18432) (tOff v) S1024x512.size (tOff_inb v)).set := by
  unfold wT wtile; exact View.set_slice_whole _ _
theorem cT_eq (v : ℕ) : cT v = (Rect.unit (s := S7168x18432) (tOff v) S1024x512.size (tOff_inb v)).set := by
  unfold cT ctile; exact View.set_slice_whole _ _
theorem yT_eq (s : ℕ) : yT s = (Rect.unit (s := S256x18432) (ytOff s) S256x512.size (ytOff_inb s)).set := by
  unfold yT ytile; exact View.set_slice_whole _ _

/-- The ends' elements as indices of the buffers. -/
def wE (v : ℕ) (x : S1024x512.Idx) : S2x7168x512.Idx := (wslot v).view.emb x
def cE (v : ℕ) (x : S1024x512.Idx) : S2x7168x512.Idx := (cslot v).view.emb x
def yE (s : ℕ) (x : S256x512.Idx) : S2x256x512.Idx := (yslot s).view.emb x
def wtE (v : ℕ) (x : S1024x512.Idx) : S7168x18432.Idx := (wtile v).view.emb x
def ctE (v : ℕ) (x : S1024x512.Idx) : S7168x18432.Idx := (ctile v).view.emb x
def ytE (s : ℕ) (x : S256x512.Idx) : S256x18432.Idx := (ytile s).view.emb x

/-! ## What a transfer delivers -/

/-- The weight's tile in its slot. -/
theorem w_landed (w : S7168x18432.Idx → Elt F .bf16) {v : ℕ} (hv : v < 252) (fd : S2x7168x512.Idx → Elt F .bf16)
    (i : S2x7168x512.Idx) (hi : i ∈ wS v) :
    (wslot v).view.write (Elt F) fd ((wtile v).view.read (Elt F) w) Finset.univ i = wbuf w v i := by
  obtain ⟨x, -, rfl⟩ := Finset.mem_map.1 hi
  refine (View.write_emb_of_mem (v := (wslot v).view) fd _ (Finset.mem_univ x)).trans ?_
  show w (wtE v x) = w (mkW ((wE v x) 1).val (512 * (v / 7) + ((wE v x) 2).val))
  congr 1
  have e1 : ((wE v x) 1 : ℕ) = 1024 * (v % 7) + (x 0).val := wslot_emb v x 1
  have e2 : ((wE v x) 2 : ℕ) = 0 + (x 1).val := wslot_emb v x 2
  have h0 : (x 0).val < 1024 := (x 0).isLt
  have h1 : (x 1).val < 512 := (x 1).isLt
  funext a
  match a with
  | ⟨0, _⟩ =>
    apply Fin.ext
    refine (wtile_emb v x 0).trans ?_
    show 1024 * (v % 252 % 7) + (x 0).val = ((wE v x) 1 : ℕ) % 7168
    rw [e1]; omega
  | ⟨1, _⟩ =>
    apply Fin.ext
    refine (wtile_emb v x 1).trans ?_
    show 512 * (v % 252 / 7) + (x 1).val = (512 * (v / 7) + ((wE v x) 2 : ℕ)) % 18432
    rw [e2]; omega

/-- The codes' tile at its place, from its slot. -/
theorem c_landed (w : S7168x18432.Idx → Elt F .bf16) {v : ℕ} (hv : v < 252) (fd : S7168x18432.Idx → Elt F .fp8e4m3)
    (i : S7168x18432.Idx) (hi : i ∈ cT v) :
    (ctile v).view.write (Elt F) fd ((cslot v).view.read (Elt F) (cbuf w v)) Finset.univ i = WC w i := by
  obtain ⟨x, -, rfl⟩ := Finset.mem_map.1 hi
  refine (View.write_emb_of_mem (v := (ctile v).view) fd _ (Finset.mem_univ x)).trans ?_
  show WC w (mkW ((cE v x) 1).val (512 * (v / 7) + ((cE v x) 2).val)) = WC w (ctE v x)
  congr 1
  have e1 : ((cE v x) 1 : ℕ) = 1024 * (v % 7) + (x 0).val := cslot_emb v x 1
  have e2 : ((cE v x) 2 : ℕ) = 0 + (x 1).val := cslot_emb v x 2
  have h0 : (x 0).val < 1024 := (x 0).isLt
  have h1 : (x 1).val < 512 := (x 1).isLt
  funext a
  match a with
  | ⟨0, _⟩ =>
    apply Fin.ext
    refine Eq.trans ?_ (ctile_emb v x 0).symm
    show ((cE v x) 1 : ℕ) % 7168 = 1024 * (v % 252 % 7) + (x 0).val
    rw [e1]; omega
  | ⟨1, _⟩ =>
    apply Fin.ext
    refine Eq.trans ?_ (ctile_emb v x 1).symm
    show (512 * (v / 7) + ((cE v x) 2 : ℕ)) % 18432 = 512 * (v % 252 / 7) + (x 1).val
    rw [e2]; omega

/-- The product's strip at its place, from its slot. -/
theorem y_landed (w : S7168x18432.Idx → Elt F .bf16) (xd : S256x7168.Idx → Elt F .bf16) {s : ℕ} (hs : s < 36)
    (fd : S256x18432.Idx → Elt F .bf16) (i : S256x18432.Idx) (hi : i ∈ yT s) :
    (ytile s).view.write (Elt F) fd ((yslot s).view.read (Elt F) (ybuf w xd s)) Finset.univ i = Yout w xd i := by
  obtain ⟨x, -, rfl⟩ := Finset.mem_map.1 hi
  refine (View.write_emb_of_mem (v := (ytile s).view) fd _ (Finset.mem_univ x)).trans ?_
  have h0 : (x 0).val < 256 := (x 0).isLt
  have h1 : (x 1).val < 512 := (x 1).isLt
  have e1 : ((yE s x) 1 : ℕ) = 0 + (x 0).val := yslot_emb s x 1
  have e2 : ((yE s x) 2 : ℕ) = 0 + (x 1).val := yslot_emb s x 2
  have t0 : ((ytE s x) 0 : ℕ) = 0 + (x 0).val := ytile_emb s x 0
  have t1 : ((ytE s x) 1 : ℕ) = 512 * (s % 36) + (x 1).val := ytile_emb s x 1
  show ystrip w xd s (ValueIdx.ix3 0 ((yE s x) 1) ((yE s x) 2))
    = ystrip w xd (((ytE s x) 1).val / 512) (ValueIdx.ix3 0 ((ytE s x) 0) (Fin.ofNat 512 ((ytE s x) 1).val))
  have es : ((ytE s x) 1).val / 512 = s := by rw [t1]; omega
  rw [es]
  congr 1
  funext a
  match a with
  | ⟨0, _⟩ => rfl
  | ⟨1, _⟩ => exact Fin.ext (e1.trans t0.symm)
  | ⟨2, _⟩ =>
    apply Fin.ext
    show ((yE s x) 2 : ℕ) = ((ytE s x) 1 : ℕ) % 512
    rw [e2, t1]; omega

end Cert.KernelIdeal.Hand
-- ==== Proof.Queues.lean ====
/-
  The three queues: what is in flight, what has landed, and the rules for starting and waiting for a transfer.
-/
module

public import proofs.«01_k».proof.Proof.Rings

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The core owes no other counter anything. -/
abbrev Ow (c : Dev nD) : sProp 𝕄 := iprop(∃ W, owes (c : Thread nD τ) 0 W)

/-- The credits of a transfer of each queue. -/
abbrev NW : ℕ := (wslot 0).view.dmaCredit
abbrev NC : ℕ := (ctile 0).view.dmaCredit
abbrev NY : ℕ := (ytile 0).view.dmaCredit

/-! ## The weight's tiles -/

section W
variable (c : Dev nD) (w : S7168x18432.Idx → Elt F .bf16)

/-- The tile of the weight, -/
def wD (v : ℕ) : sProp 𝕄 := iprop((c : Thread nD τ).loc main_arg2 ↦[wT v]{fullShare} w)
/-- its slot with the tile in it, -/
def wB (v : ℕ) : sProp 𝕄 := iprop((c : Thread nD τ).loc cc0_scratch3 ↦[wS v]{fullShare} wbuf w v)
/-- the transfer in flight, -/
def wF (v : ℕ) : sProp 𝕄 := Transfers.Flight EC (c : Thread nD τ) (.dma (wcell v)) () NW iprop(wB c w v ∗ wD c w v)
/-- the slot free, with its counter at zero, -/
def wI (v : ℕ) : sProp 𝕄 := iprop((∃ f : S2x7168x512.Idx → Elt F .bf16, (c : Thread nD τ).loc cc0_scratch3 ↦[wS v]{fullShare} f)
  ∗ semVal ((c : Thread nD τ), .dma (wcell v)) 0)
/-- and the queue: the tiles before `a` have landed, those from `b` on wait. -/
def WQ (a b : ℕ) : sProp 𝕄 := pipe 252 a b (wD c w) (wF c w) (wD c w)

theorem wI_add (v : ℕ) : wI c (F := F) (v + 14) = wI c v := by
  have key : ∀ (oB : Fin 3 → ℕ) (hB : oB = slotOff v) (iB : ∀ a, oB a + S1x1024x512.size a ≤ S2x7168x512.size a)
      (oS : Fin 2 → ℕ) (hS : oS = semOff v) (iS : ∀ a, oS a + S1x1.size a ≤ S2x7.size a),
      iprop((∃ f : S2x7168x512.Idx → Elt F .bf16, (c : Thread nD τ).loc cc0_scratch3 ↦[(((Memref.whole cc0_scratch3).slice
        (Rect.unit (s := S2x7168x512) oB S1x1024x512.size iB) (fun _ => rfl)).squeeze S1024x512 squeezes_S1x1024x512_S1024x512).view.set]{fullShare} f)
        ∗ semVal ((c : Thread nD τ), .dma ((cc0_scratch18.slice (Rect.unit (s := S2x7) oS S1x1.size iS)).squeeze S_ squeezes_S1x1_S_).sem) 0)
        = (wI c v : sProp 𝕄) := by
    intro oB hB iB oS hS iS; subst hB; subst hS; rfl
  exact key _ (slotOff_add v) (slotOff_inb (v + 14)) _ (semOff_add v) (semOff_inb (v + 14))

/-- Waiting for the tile of unit `v`. -/
theorem w_wait {v b : ℕ} (hv : v < 252) (hb : v < b) {offS offB offT} {iS iB iT} (hS : offS = semOff v) (hB : offB = slotOff v) (hT : offT = tOff v)
    {hsrc hdst} {Q : PUnit → sProp 𝕄} :
    iprop(WQ c w v b ∗ Ow c) ⊢ iprop((iprop(wB c w v ∗ semVal ((c : Thread nD τ), .dma (wcell v)) 0 ∗ WQ c w (v + 1) b ∗ Ow c) -∗ Q ⟨⟩)
      -∗ WP c (Prog.lift (TpuEff.waitDma2 (p := Proc.tc)
        ((cc0_scratch18.slice (Rect.unit (s := S2x7) offS S1x1.size iS)).squeeze S_ squeezes_S1x1_S_).sem
        ((Memref.whole main_arg2).slice (Rect.unit (s := S7168x18432) offT S1024x512.size iT) (fun _ => rfl))
        (((Memref.whole cc0_scratch3).slice (Rect.unit (s := S2x7168x512) offB S1x1024x512.size iB) (fun _ => rfl)).squeeze
          S1024x512 squeezes_S1x1024x512_S1024x512) hsrc hdst)) Q) := by
  subst hS; subst hB; subst hT
  iintro ⟨H, HO⟩ HQ
  unfold WQ
  icases (pipe_wait hb hv (wD c w) (wF c w) (wD c w)) $$ H with ⟨HF, HD⟩
  unfold wF
  iapply (wait c (hsrc := hsrc) (hdst := hdst) NW rfl) $$ [HF HO]
  · isplitl [HF]; · iexact HF
    iexact HO
  iintro ⟨⟨HB, Ht⟩, Hs, HO⟩
  iapply HQ
  isplitl [HB]; · iexact HB
  isplitl [Hs]; · iexact Hs
  isplitl [HD Ht]; · iapply HD; iexact Ht
  iexact HO

/-- Starting the copy of the tile of unit `v` into its free slot. -/
theorem w_start {a v : ℕ} (hv : v < 252) (ha : a ≤ v) {offS offB offT} {iS iB iT} (hS : offS = semOff v) (hB : offB = slotOff v) (hT : offT = tOff v)
    {hsrc hdst hsem} {Q : PUnit → sProp 𝕄} :
    iprop(wI c v ∗ WQ c w a v) ⊢ iprop((WQ c w a (v + 1) -∗ Q ⟨⟩)
      -∗ WP c (Prog.lift (TpuEff.enqueueDma (p := Proc.tc)
        ((Memref.whole main_arg2).slice (Rect.unit (s := S7168x18432) offT S1024x512.size iT) (fun _ => rfl))
        (.here (((Memref.whole cc0_scratch3).slice (Rect.unit (s := S2x7168x512) offB S1x1024x512.size iB) (fun _ => rfl)).squeeze
          S1024x512 squeezes_S1x1024x512_S1024x512))
        (.dma ((cc0_scratch18.slice (Rect.unit (s := S2x7) offS S1x1.size iS)).squeeze S_ squeezes_S1x1_S_).sem) hsrc hdst hsem)) Q) := by
  subst hS; subst hB; subst hT
  unfold WQ wI
  iintro ⟨⟨⟨%f, HB⟩, Hs⟩, H⟩ HQ
  icases (pipe_issue ha hv (wD c w) (wF c w) (wD c w)) $$ H with ⟨HD, HF⟩
  unfold wD
  iapply (start c (hsrc := hsrc) (hdst := hdst) (hsem := hsem) (q := fullShare) (fs := w) (Sd := wS v) (fd := f) NW rfl (by decide) (Finset.Subset.refl _) iprop(wB c w v ∗ wD c w v) ?_) $$ [HD HB Hs]
  · unfold wB wD
    exact BI.sep_mono (le_of_eq (pointsTo_congr (fun i hi => w_landed w hv f i hi))) (le_of_eq (pointsTo_congr (fun _ _ => rfl)))
  · isplitl [HD]; · iexact HD
    isplitl [HB]; · iexact HB
    iexact Hs
  iintro HFl
  iapply HQ
  iapply HF
  unfold wF; iexact HFl

end W

/-! ## The codes' tiles -/

section C
variable (c : Dev nD) (w : S7168x18432.Idx → Elt F .bf16) (C0 : S7168x18432.Idx → Elt F .fp8e4m3)

/-- The tile's place with the codes in it, -/
def cD (v : ℕ) : sProp 𝕄 := iprop((c : Thread nD τ).loc main_v2_4 ↦[cT v]{fullShare} WC w)
/-- as it was before, -/
def cP (v : ℕ) : sProp 𝕄 := iprop((c : Thread nD τ).loc main_v2_4 ↦[cT v]{fullShare} C0)
/-- its slot with the codes in it, -/
def cB (v : ℕ) : sProp 𝕄 := iprop((c : Thread nD τ).loc cc0_scratch4 ↦[cS v]{fullShare} cbuf w v)
/-- the transfer in flight, -/
def cF (v : ℕ) : sProp 𝕄 := Transfers.Flight EC (c : Thread nD τ) (.dma (ccell v)) () NC iprop(cD c w v ∗ cB c w v)
/-- the slot free, with its counter at zero, -/
def cI (v : ℕ) : sProp 𝕄 := iprop((∃ f : S2x7168x512.Idx → Elt F .fp8e4m3, (c : Thread nD τ).loc cc0_scratch4 ↦[cS v]{fullShare} f)
  ∗ semVal ((c : Thread nD τ), .dma (ccell v)) 0)
/-- and the queue. -/
def CQ (a b : ℕ) : sProp 𝕄 := pipe 252 a b (cD c w) (cF c w) (cP c C0)

theorem cI_add (v : ℕ) : cI c (F := F) (v + 14) = cI c v := by
  have key : ∀ (oB : Fin 3 → ℕ) (hB : oB = slotOff v) (iB : ∀ a, oB a + S1x1024x512.size a ≤ S2x7168x512.size a)
      (oS : Fin 2 → ℕ) (hS : oS = semOff v) (iS : ∀ a, oS a + S1x1.size a ≤ S2x7.size a),
      iprop((∃ f : S2x7168x512.Idx → Elt F .fp8e4m3, (c : Thread nD τ).loc cc0_scratch4 ↦[(((Memref.whole cc0_scratch4).slice
        (Rect.unit (s := S2x7168x512) oB S1x1024x512.size iB) (fun _ => rfl)).squeeze S1024x512 squeezes_S1x1024x512_S1024x512).view.set]{fullShare} f)
        ∗ semVal ((c : Thread nD τ), .dma ((cc0_scratch19.slice (Rect.unit (s := S2x7) oS S1x1.size iS)).squeeze S_ squeezes_S1x1_S_).sem) 0)
        = (cI c v : sProp 𝕄) := by
    intro oB hB iB oS hS iS; subst hB; subst hS; rfl
  exact key _ (slotOff_add v) (slotOff_inb (v + 14)) _ (semOff_add v) (semOff_inb (v + 14))

/-- Waiting for the copy of the codes of unit `v`. -/
theorem c_wait {v b : ℕ} (hv : v < 252) (hb : v < b) {offS offB offT} {iS iB iT} (hS : offS = semOff v) (hB : offB = slotOff v) (hT : offT = tOff v)
    {hsrc hdst} {Q : PUnit → sProp 𝕄} :
    iprop(CQ c w C0 v b ∗ Ow c) ⊢ iprop((iprop(cI c v ∗ CQ c w C0 (v + 1) b ∗ Ow c) -∗ Q ⟨⟩)
      -∗ WP c (Prog.lift (TpuEff.waitDma2 (p := Proc.tc)
        ((cc0_scratch19.slice (Rect.unit (s := S2x7) offS S1x1.size iS)).squeeze S_ squeezes_S1x1_S_).sem
        (((Memref.whole cc0_scratch4).slice (Rect.unit (s := S2x7168x512) offB S1x1024x512.size iB) (fun _ => rfl)).squeeze
          S1024x512 squeezes_S1x1024x512_S1024x512)
        ((Memref.whole main_v2_4).slice (Rect.unit (s := S7168x18432) offT S1024x512.size iT) (fun _ => rfl)) hsrc hdst)) Q) := by
  subst hS; subst hB; subst hT
  iintro ⟨H, HO⟩ HQ
  unfold CQ
  icases (pipe_wait hb hv (cD c w) (cF c w) (cP c C0)) $$ H with ⟨HF, HD⟩
  unfold cF
  iapply (wait c (hsrc := hsrc) (hdst := hdst) NC rfl) $$ [HF HO]
  · isplitl [HF]; · iexact HF
    iexact HO
  iintro ⟨⟨Ht, HB⟩, Hs, HO⟩
  iapply HQ
  isplitl [HB Hs]
  · unfold cI cB
    isplitl [HB]; · iexists _; iexact HB
    iexact Hs
  isplitl [HD Ht]; · iapply HD; iexact Ht
  iexact HO

/-- Starting the copy of the codes of unit `v`. -/
theorem c_start {a v : ℕ} (hv : v < 252) (ha : a ≤ v) {offS offB offT} {iS iB iT} (hS : offS = semOff v) (hB : offB = slotOff v) (hT : offT = tOff v)
    {hsrc hdst hsem} {Q : PUnit → sProp 𝕄} :
    iprop(cB c w v ∗ semVal ((c : Thread nD τ), .dma (ccell v)) 0 ∗ CQ c w C0 a v) ⊢ iprop((CQ c w C0 a (v + 1) -∗ Q ⟨⟩)
      -∗ WP c (Prog.lift (TpuEff.enqueueDma (p := Proc.tc)
        (((Memref.whole cc0_scratch4).slice (Rect.unit (s := S2x7168x512) offB S1x1024x512.size iB) (fun _ => rfl)).squeeze
          S1024x512 squeezes_S1x1024x512_S1024x512)
        (.here ((Memref.whole main_v2_4).slice (Rect.unit (s := S7168x18432) offT S1024x512.size iT) (fun _ => rfl)))
        (.dma ((cc0_scratch19.slice (Rect.unit (s := S2x7) offS S1x1.size iS)).squeeze S_ squeezes_S1x1_S_).sem) hsrc hdst hsem)) Q) := by
  subst hS; subst hB; subst hT
  unfold CQ cB
  iintro ⟨HB, Hs, H⟩ HQ
  icases (pipe_issue ha hv (cD c w) (cF c w) (cP c C0)) $$ H with ⟨HD, HF⟩
  unfold cP
  iapply (start c (hsrc := hsrc) (hdst := hdst) (hsem := hsem) (q := fullShare) (fs := cbuf w v) (Sd := cT v) (fd := C0) NC rfl (by decide)
    (Finset.Subset.refl _) iprop(cD c w v ∗ cB c w v) ?_) $$ [HD HB Hs]
  · unfold cB cD
    exact BI.sep_mono (le_of_eq (pointsTo_congr (fun i hi => c_landed w hv C0 i hi))) (le_of_eq (pointsTo_congr (fun _ _ => rfl)))
  · isplitl [HB]; · iexact HB
    isplitl [HD]; · iexact HD
    iexact Hs
  iintro HFl
  iapply HQ
  iapply HF
  unfold cF; iexact HFl

end C

/-! ## The product's strips -/

section Y
variable (c : Dev nD) (w : S7168x18432.Idx → Elt F .bf16) (xd : S256x7168.Idx → Elt F .bf16) (Y0 : S256x18432.Idx → Elt F .bf16)

/-- The strip's place with the product in it, -/
def yD (s : ℕ) : sProp 𝕄 := iprop((c : Thread nD τ).loc main_v2_0 ↦[yT s]{fullShare} Yout w xd)
/-- as it was before, -/
def yP (s : ℕ) : sProp 𝕄 := iprop((c : Thread nD τ).loc main_v2_0 ↦[yT s]{fullShare} Y0)
/-- its slot with the strip in it, -/
def yB (s : ℕ) : sProp 𝕄 := iprop((c : Thread nD τ).loc cc0_scratch8 ↦[yS s]{fullShare} ybuf w xd s)
/-- the transfer in flight, -/
def yF (s : ℕ) : sProp 𝕄 := Transfers.Flight EC (c : Thread nD τ) (.dma (ycell s)) () NY iprop(yD c w xd s ∗ yB c w xd s)
/-- the slot free, with its counter at zero, -/
def yI (s : ℕ) : sProp 𝕄 := iprop((∃ f : S2x256x512.Idx → Elt F .bf16, (c : Thread nD τ).loc cc0_scratch8 ↦[yS s]{fullShare} f)
  ∗ semVal ((c : Thread nD τ), .dma (ycell s)) 0)
/-- and the queue. -/
def YQ (a b : ℕ) : sProp 𝕄 := pipe 36 a b (yD c w xd) (yF c w xd) (yP c Y0)

theorem yslotOff_add (s : ℕ) : yslotOff (s + 2) = yslotOff s := by unfold yslotOff; congr 1; omega
theorem ysemOff_add (s : ℕ) : ysemOff (s + 2) = ysemOff s := by unfold ysemOff; congr 1; omega

theorem yI_add (s : ℕ) : yI c (F := F) (s + 2) = yI c s := by
  have key : ∀ (oB : Fin 3 → ℕ) (hB : oB = yslotOff s) (iB : ∀ a, oB a + S1x256x512.size a ≤ S2x256x512.size a)
      (oS : Fin 1 → ℕ) (hS : oS = ysemOff s) (iS : ∀ a, oS a + S1.size a ≤ S2.size a),
      iprop((∃ f : S2x256x512.Idx → Elt F .bf16, (c : Thread nD τ).loc cc0_scratch8 ↦[(((Memref.whole cc0_scratch8).slice
        (Rect.unit (s := S2x256x512) oB S1x256x512.size iB) (fun _ => rfl)).squeeze S256x512 squeezes_S1x256x512_S256x512).view.set]{fullShare} f)
        ∗ semVal ((c : Thread nD τ), .dma ((cc0_scratch20.slice (Rect.unit (s := S2) oS S1.size iS)).squeeze S_ squeezes_S1_S_).sem) 0)
        = (yI c s : sProp 𝕄) := by
    intro oB hB iB oS hS iS; subst hB; subst hS; rfl
  exact key _ (yslotOff_add s) (yslotOff_inb (s + 2)) _ (ysemOff_add s) (ysemOff_inb (s + 2))

/-- Waiting for the copy of strip `s`. -/
theorem y_wait {s b : ℕ} (hv : s < 36) (hb : s < b) {offS offB offT} {iS iB iT} (hS : offS = ysemOff s) (hB : offB = yslotOff s) (hT : offT = ytOff s)
    {hsrc hdst} {Q : PUnit → sProp 𝕄} :
    iprop(YQ c w xd Y0 s b ∗ Ow c) ⊢ iprop((iprop(yI c s ∗ YQ c w xd Y0 (s + 1) b ∗ Ow c) -∗ Q ⟨⟩)
      -∗ WP c (Prog.lift (TpuEff.waitDma2 (p := Proc.tc)
        ((cc0_scratch20.slice (Rect.unit (s := S2) offS S1.size iS)).squeeze S_ squeezes_S1_S_).sem
        (((Memref.whole cc0_scratch8).slice (Rect.unit (s := S2x256x512) offB S1x256x512.size iB) (fun _ => rfl)).squeeze
          S256x512 squeezes_S1x256x512_S256x512)
        ((Memref.whole main_v2_0).slice (Rect.unit (s := S256x18432) offT S256x512.size iT) (fun _ => rfl)) hsrc hdst)) Q) := by
  subst hS; subst hB; subst hT
  iintro ⟨H, HO⟩ HQ
  unfold YQ
  icases (pipe_wait hb hv (yD c w xd) (yF c w xd) (yP c Y0)) $$ H with ⟨HF, HD⟩
  unfold yF
  iapply (wait c (hsrc := hsrc) (hdst := hdst) NY rfl) $$ [HF HO]
  · isplitl [HF]; · iexact HF
    iexact HO
  iintro ⟨⟨Ht, HB⟩, Hs, HO⟩
  iapply HQ
  isplitl [HB Hs]
  · unfold yI yB
    isplitl [HB]; · iexists _; iexact HB
    iexact Hs
  isplitl [HD Ht]; · iapply HD; iexact Ht
  iexact HO

/-- Starting the copy of strip `s`. -/
theorem y_start {a s : ℕ} (hv : s < 36) (ha : a ≤ s) {offS offB offT} {iS iB iT} (hS : offS = ysemOff s) (hB : offB = yslotOff s) (hT : offT = ytOff s)
    {hsrc hdst hsem} {Q : PUnit → sProp 𝕄} :
    iprop(yB c w xd s ∗ semVal ((c : Thread nD τ), .dma (ycell s)) 0 ∗ YQ c w xd Y0 a s) ⊢ iprop((YQ c w xd Y0 a (s + 1) -∗ Q ⟨⟩)
      -∗ WP c (Prog.lift (TpuEff.enqueueDma (p := Proc.tc)
        (((Memref.whole cc0_scratch8).slice (Rect.unit (s := S2x256x512) offB S1x256x512.size iB) (fun _ => rfl)).squeeze
          S256x512 squeezes_S1x256x512_S256x512)
        (.here ((Memref.whole main_v2_0).slice (Rect.unit (s := S256x18432) offT S256x512.size iT) (fun _ => rfl)))
        (.dma ((cc0_scratch20.slice (Rect.unit (s := S2) offS S1.size iS)).squeeze S_ squeezes_S1_S_).sem) hsrc hdst hsem)) Q) := by
  subst hS; subst hB; subst hT
  unfold YQ yB
  iintro ⟨HB, Hs, H⟩ HQ
  icases (pipe_issue ha hv (yD c w xd) (yF c w xd) (yP c Y0)) $$ H with ⟨HD, HF⟩
  unfold yP
  iapply (start c (hsrc := hsrc) (hdst := hdst) (hsem := hsem) (q := fullShare) (fs := ybuf w xd s) (Sd := yT s) (fd := Y0) NY rfl (by decide)
    (Finset.Subset.refl _) iprop(yD c w xd s ∗ yB c w xd s) ?_) $$ [HD HB Hs]
  · unfold yB yD
    exact BI.sep_mono (le_of_eq (pointsTo_congr (fun i hi => y_landed w xd hv Y0 i hi))) (le_of_eq (pointsTo_congr (fun _ _ => rfl)))
  · isplitl [HB]; · iexact HB
    isplitl [HD]; · iexact HD
    iexact Hs
  iintro HFl
  iapply HQ
  iapply HF
  unfold yF; iexact HFl

end Y

end Cert.KernelIdeal.Hand
-- ==== Proof.Args.lean ====
/-
  The kernel's parts at the buffers the launch passes, and the rules for taking a program apart.
-/
module

public import proofs.«01_k».proof.Proof.Queues

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A part of the kernel at the buffers and counters of the launch. -/
abbrev atArgs {α : Sort _} (f : (arg0 : Memref sig .tc .hbm S256x7168 .bf16) → (harg0 : arg0.IsWhole) → (arg1 : Memref sig .tc .hbm S1x16 .f32) → (harg1 : arg1.IsWhole) → (arg2 : Memref sig .tc .hbm S7168x18432 .bf16) → (harg2 : arg2.IsWhole) → (arg3 : Memref sig .tc .hbm S256x18432 .bf16) → (harg3 : arg3.IsWhole) → (arg4 : Memref sig .tc .hbm S1x16 .f32) → (harg4 : arg4.IsWhole) → (arg5 : Memref sig .tc .hbm S256x7168 .fp8e4m3) → (harg5 : arg5.IsWhole) → (arg6 : Memref sig .tc .hbm S1x1 .f32) → (harg6 : arg6.IsWhole) → (arg7 : Memref sig .tc .hbm S7168x18432 .fp8e4m3) → (harg7 : arg7.IsWhole) → (arg8 : Memref sig .tc .hbm S56x144 .f32) → (harg8 : arg8.IsWhole) → (arg9 : Memref sig .tc .vmem S256x7168 .bf16) → (harg9 : arg9.IsWhole) → (arg10 : Memref sig .tc .vmem S256x7168 .bf16) → (harg10 : arg10.IsWhole) → (arg11 : Memref sig .tc .vmem S256x7168 .fp8e4m3) → (harg11 : arg11.IsWhole) → (arg12 : Memref sig .tc .vmem S2x7168x512 .bf16) → (harg12 : arg12.IsWhole) → (arg13 : Memref sig .tc .vmem S2x7168x512 .fp8e4m3) → (harg13 : arg13.IsWhole) → (arg14 : Memref sig .tc .vmem S1024x512 .bf16) → (harg14 : arg14.IsWhole) → (arg15 : Memref sig .tc .vmem S1024x512 .bf16) → (harg15 : arg15.IsWhole) → (arg16 : Memref sig .tc .vmem S256x512 .f32) → (harg16 : arg16.IsWhole) → (arg17 : Memref sig .tc .vmem S2x256x512 .bf16) → (harg17 : arg17.IsWhole) → (arg18 : Memref sig .tc .vmem S2x56x128 .f32) → (harg18 : arg18.IsWhole) → (arg19 : Memref sig .tc .vmem S56x144 .f32) → (harg19 : arg19.IsWhole) → (arg20 : Memref sig .tc .smem S1x16 .f32) → (harg20 : arg20.IsWhole) → (arg21 : Memref sig .tc .smem S1x16 .f32) → (harg21 : arg21.IsWhole) → (arg22 : Memref sig .tc .smem S1x1 .f32) → (harg22 : arg22.IsWhole) → (arg23 : Memref sig .tc .vmem S4x8x128 .i32) → (harg23 : arg23.IsWhole) → (arg24 : Memref sig .tc .vmem S4x8x128 .i32) → (harg24 : arg24.IsWhole) → (arg25 : Memref sig .tc .vmem S4x8x128 .i32) → (harg25 : arg25.IsWhole) → (arg26 : Memref sig .tc .vmem S4x8x128 .i32) → (harg26 : arg26.IsWhole) → (arg27 : DmaSems sig S2x7) → (arg28 : DmaSems sig S2x7) → (arg29 : DmaSems sig S2) → (arg30 : DmaSems sig S2) → (arg31 : DmaSems sig S4) → α) : α :=
  f (Memref.whole main_v0) (Memref.isWhole_whole _) (Memref.whole main_v1) (Memref.isWhole_whole _) (Memref.whole main_arg2) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole main_v2_4) (Memref.isWhole_whole _) (Memref.whole main_v2_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22

/-- A program followed by another. -/
theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := wp_bind _ _ _ _ _ _

/-- A program that only returns. -/
theorem WP_pure (c : Dev nD) {α : Type} (a : α) (Q : α → sProp 𝕄) : Q a ⊢ WP c (pure a) Q := by
  unfold WP; rw [wp_pure]; iintro H; imodintro; iexact H

/-- A loop, by what holds before each of its trips. -/
theorem WP_for (c : Dev nD) {σ : Type} (l : Scf.Loop 32) (hok : l.OK) (init : σ)
    (body : Fin l.trips → σ → Prog (TpuEff nD τ sig (Elt F) Λ₀ .tc) σ) (I : ℕ → σ → sProp 𝕄)
    (hbody : ∀ (k : Fin l.trips) (acc : σ), I k acc ⊢ WP c (body k acc) (I (k.val + 1))) {Q : σ → sProp 𝕄} :
    I 0 init ⊢ iprop((∀ acc, I l.trips acc -∗ Q acc) -∗ WP c (Scf.Loop.for l hok init body) Q) := by
  iintro H HQ
  iapply (Scf.wp_for _ _ _ l.lb l.ub l.st hok init body I hbody)
  isplitl [H]; · iexact H
  iexact HQ

/-- A branch on a condition that is decided. -/
theorem WP_dite (c : Dev nD) {α : Type} {p : Prop} [Decidable p] {A : p → Prog (TpuEff nD τ sig (Elt F) Λ₀ .tc) α}
    {B : ¬ p → Prog (TpuEff nD τ sig (Elt F) Λ₀ .tc) α} {Q : α → sProp 𝕄} {P : sProp 𝕄}
    (hA : ∀ h, P ⊢ WP c (A h) Q) (hB : ∀ h, P ⊢ WP c (B h) Q) : P ⊢ WP c (dite p A B) Q := by
  by_cases h : p
  · rw [dif_pos h]; exact hA h
  · rw [dif_neg h]; exact hB h

/-- A load, with what follows it. -/
theorem rd (c : Dev nD) {cs : CoreSpace} {s : Shape} {e : EltTy} {m : Memref sig .tc cs s e} {r : Rect s}
    {hl : m.view.LoadsAt r.toLoadRect} {S : Finset (Idx ((m.access r).loc (c : Thread nD τ)))} {q : PosShare TreeShare}
    {f : Buf (Elt F) ((m.access r).loc (c : Thread nD τ))} {Q : (r.shape.Idx → Elt F e) → sProp 𝕄}
    (hS : (m.access r).set ⊆ S) :
    iprop(((m.access r).loc (c : Thread nD τ) ↦[S]{q} f) ∗ (((m.access r).loc (c : Thread nD τ) ↦[S]{q} f)
      -∗ Q ((m.access r).read (Elt F) f))) ⊢ WP c (Prog.lift (.load m r.toLoadRect hl)) Q := by
  iintro ⟨H, HQ⟩
  iapply (ld c (m := m) (r := r) (hl := hl) hS) $$ H HQ

/-- A store, with what follows it. -/
theorem wr (c : Dev nD) {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {S : Finset (Idx ((m.access r).loc (c : Thread nD τ)))}
    {f : Buf (Elt F) ((m.access r).loc (c : Thread nD τ))} {Q : PUnit → sProp 𝕄}
    (hS : (m.access r).set ⊆ S) :
    iprop(((m.access r).loc (c : Thread nD τ) ↦[S]{fullShare} f) ∗ (((m.access r).loc (c : Thread nD τ) ↦[S]{fullShare} ((m.access r).write (Elt F) f w Finset.univ))
      -∗ Q ⟨⟩)) ⊢ WP c (Prog.lift (.store m r w Finset.univ hx hm)) Q := by
  iintro ⟨H, HQ⟩
  iapply (st c (m := m) (r := r) (w := w) (hx := hx) (hm := hm) hS) $$ H HQ

end Cert.KernelIdeal.Hand
-- ==== Proof.Find.lean ====
/-
  Finding a unit's scales: the largest absolute value of each of its 128 × 128 blocks, the scale from it.
-/
module

public import proofs.«01_k».proof.Proof.Args

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Blocks of a slot -/

/-- Block `(r, g)` of what the ring holds in unit `v`'s slot. -/
def blkF (f : S2x7168x512.Idx → Elt F .bf16) (v g r : ℕ) : Vec F S1x128x128 .bf16 :=
  fun x => f (mkR (v / 7 % 2) (1024 * (v % 7) + 128 * r + (x 1).val) (128 * g + (x 2).val))

theorem blkF_wbuf (w : S7168x18432.Idx → Elt F .bf16) (v : ℕ) {g r : ℕ} (hr : r < 8) (hg : g < 4) :
    blkF (wbuf w v) v g r = blkW w v g r := by
  funext x
  have h1 : (x 1).val < 128 := (x 1).isLt
  have h2 : (x 2).val < 128 := (x 2).isLt
  show w (mkW ((1024 * (v % 7) + 128 * r + (x 1).val) % 7168) (512 * (v / 7) + (128 * g + (x 2).val) % 512)) = _
  unfold blkW
  congr 2
  · omega
  · omega

/-- A block of a slot lies in the slot. -/
theorem blk_sub (v : ℕ) {r g : ℕ} (hr : r < 8) (hg : g < 4) (inb : ∀ a, blkOff v r g a + S1x128x128.size a ≤ S2x7168x512.size a) :
    ((Memref.whole cc0_scratch3).access (Rect.unit (s := S2x7168x512) (blkOff v r g) S1x128x128.size inb)).set ⊆ wS v := by
  intro i hi
  rw [wS_eq]
  have hi' := hi
  rw [View.set_slice_whole] at hi'
  rw [Rect.mem_set_unit] at hi' ⊢
  intro a
  have := hi' a
  match a with
  | ⟨0, _⟩ => exact this
  | ⟨1, _⟩ =>
    have h1 : 1024 * (v % 7) + 128 * r ≤ (i 1).val ∧ (i 1).val < 1024 * (v % 7) + 128 * r + 128 := this
    show 1024 * (v % 7) ≤ (i 1).val ∧ (i 1).val < 1024 * (v % 7) + 1024
    omega
  | ⟨2, _⟩ =>
    have h1 : 128 * g ≤ (i 2).val ∧ (i 2).val < 128 * g + 128 := this
    show 0 ≤ (i 2).val ∧ (i 2).val < 0 + 512
    omega

theorem blk_read (f : S2x7168x512.Idx → Elt F .bf16) (v : ℕ) {r g : ℕ} (hr : r < 8) (hg : g < 4)
    (inb : ∀ a, blkOff v r g a + S1x128x128.size a ≤ S2x7168x512.size a) :
    ((Memref.whole cc0_scratch3).access (Rect.unit (s := S2x7168x512) (blkOff v r g) S1x128x128.size inb)).read (Elt F) f = blkF f v g r := by
  funext x
  have h0 : (x 0).val < 1 := (x 0).isLt
  have h1 : (x 1).val < 128 := (x 1).isLt
  have h2 : (x 2).val < 128 := (x 2).isLt
  refine read_at cc0_scratch3 (blkOff v r g) S1x128x128.size inb f x (mkR (v / 7 % 2) (1024 * (v % 7) + 128 * r + (x 1).val) (128 * g + (x 2).val)) ?_
  intro a
  match a with
  | ⟨0, _⟩ => show v / 7 % 2 % 2 = v / 7 % 2 + (x 0).val; omega
  | ⟨1, _⟩ => show (1024 * (v % 7) + 128 * r + (x 1).val) % 7168 = 1024 * (v % 7) + 128 * r + (x 1).val; omega
  | ⟨2, _⟩ => show (128 * g + (x 2).val) % 512 = 128 * g + (x 2).val; omega

/-- A block of a slot is read. -/
theorem ld_blk (c : Dev nD) (f : S2x7168x512.Idx → Elt F .bf16) (v : ℕ) {r g : ℕ} (hr : r < 8) (hg : g < 4) {off}
    {inb : ∀ a, off a + S1x128x128.size a ≤ S2x7168x512.size a} {hl} (hoff : off = blkOff v r g) {Q : (S1x128x128.Idx → Elt F .bf16) → sProp 𝕄} :
    ((c : Thread nD τ).loc cc0_scratch3 ↦[wS v]{fullShare} f) ⊢ iprop((((c : Thread nD τ).loc cc0_scratch3 ↦[wS v]{fullShare} f) -∗ Q (blkF f v g r))
      -∗ WP c (Prog.lift (.load (Memref.whole cc0_scratch3) (Rect.unit (s := S2x7168x512) off S1x128x128.size inb).toLoadRect hl)) Q) := by
  subst hoff
  have h := ld c (m := Memref.whole cc0_scratch3) (r := Rect.unit (s := S2x7168x512) (blkOff v r g) S1x128x128.size inb) (hl := hl)
    (S := wS v) (q := fullShare) (f := f) (Q := Q) (blk_sub v hr hg inb)
  rw [blk_read f v hr hg inb] at h
  exact h

/-! ## The largest absolute values -/

theorem t3_trips : k0_t3_loop.trips = 8 := by decide
theorem t2_trips : k0_t2_loop.trips = 4 := by decide
/-- A trip of one loop as a trip of another with as many. -/
theorem trans_lt {n m k : ℕ} (t : Fin n) (h : n = k) (h' : m = k) : t.val < m := lt_of_lt_of_eq t.isLt (h.trans h'.symm)

/-- The loop over a column group's eight blocks: `body` reads block `(k, g)` and takes it in. -/
theorem am_loop (c : Dev nD) (f : S2x7168x512.Idx → Elt F .bf16) (v : ℕ) {g : ℕ} (hg : g < 4) (l : Scf.Loop 32) (hok : l.OK) (ht : l.trips = 8)
    (body : Fin l.trips → FVec F S8x128 .f32 → Prog (TpuEff nD τ sig (Elt F) Λ₀ .tc) (FVec F S8x128 .f32))
    (off : Fin l.trips → Fin 3 → ℕ) (inb : ∀ k a, off k a + S1x128x128.size a ≤ S2x7168x512.size a)
    (hl : ∀ k, (Memref.whole cc0_scratch3).view.LoadsAt (Rect.unit (s := S2x7168x512) (off k) S1x128x128.size (inb k)).toLoadRect)
    (hoff : ∀ k, off k = blkOff v k.val g)
    (hb : ∀ k a, body k a = (Prog.lift (.load (Memref.whole cc0_scratch3) (Rect.unit (s := S2x7168x512) (off k) S1x128x128.size (inb k)).toLoadRect (hl k))
      >>= fun b => pure (k0_pay8 subs (⟨k.val, trans_lt k ht t3_trips⟩ : Fin k0_t3_loop.trips) a b)))
    {Q : FVec F S8x128 .f32 → sProp 𝕄} :
    ((c : Thread nD τ).loc cc0_scratch3 ↦[wS v]{fullShare} f) ⊢ iprop((((c : Thread nD τ).loc cc0_scratch3 ↦[wS v]{fullShare} f)
        -∗ Q (amN (fun r => blkF f v g r) 8))
      -∗ WP c (Scf.Loop.for l hok (k0_pay7 (F := F)) body) Q) := by
  iintro H HQ
  iapply (WP_for c l hok _ _ (fun n a => iprop(⌜a = amN (fun r => blkF f v g r) n⌝ ∗ ((c : Thread nD τ).loc cc0_scratch3 ↦[wS v]{fullShare} f))) ?_) $$ [H]
  · intro k a
    have hk : k.val < 8 := lt_of_lt_of_eq k.isLt ht
    iintro ⟨%ha, H⟩
    subst ha
    rw [hb, WP_bind]
    iapply (ld_blk c f v hk hg (hoff k)) $$ H
    iintro H
    iapply WP_pure
    isplitr
    · ipureintro
      rw [amN, dif_pos (trans_lt k ht t3_trips)]
    iexact H
  · isplitr
    · ipureintro; rfl
    iexact H
  iintro %a ⟨%ha, H⟩
  subst ha
  rw [ht]
  iapply HQ $$ H

/-! ## The scales -/

/-- `T'` is `T` with the block at `off` overwritten by `w`. -/
def Wrote {s : Shape} {α : Type} (off : Fin s.rank → ℕ) (t : Shape) (hr : t.rank = s.rank) (T : s.Idx → α) (w : t.Idx → α) (T' : s.Idx → α) : Prop :=
  (∀ (i : s.Idx) (x : t.Idx), (∀ a, (i (Fin.cast hr a) : ℕ) = off (Fin.cast hr a) + x a) → T' i = w x)
  ∧ ∀ (i : s.Idx) (a : Fin t.rank), ((i (Fin.cast hr a) : ℕ) < off (Fin.cast hr a) ∨ off (Fin.cast hr a) + t.size a ≤ i (Fin.cast hr a)) → T' i = T i

/-- The loop over a unit's four column groups: each one's largest absolute values, then its scales into the two
    tables and into the row of all scales. -/
theorem find_loop (c : Dev nD) (f : S2x7168x512.Idx → Elt F .bf16) (v : ℕ) (base : BitVec 32) (old : FVec F S8x128 .f32)
    (PI PS : (S4x8x128.Idx → Elt F .i32) → sProp 𝕄) (T S : S4x8x128.Idx → Elt F .i32) (l : Scf.Loop 32) (hok : l.OK) (ht : l.trips = 4)
    (body : Fin l.trips → FVec F S8x128 .f32 → Prog (TpuEff nD τ sig (Elt F) Λ₀ .tc) (FVec F S8x128 .f32))
    (am : Fin l.trips → Prog (TpuEff nD τ sig (Elt F) Λ₀ .tc) (FVec F S8x128 .f32))
    (ldI ldS : Fin l.trips → Prog (TpuEff nD τ sig (Elt F) Λ₀ .tc) (Vec F S1x8x128 .i32))
    (stI stS : Fin l.trips → IVec S1x8x128 32 → Prog (TpuEff nD τ sig (Elt F) Λ₀ .tc) PUnit)
    (hb : ∀ g a, body g a = (am g >>= fun x => ldI g >>= fun _ => stI g (scI x) >>= fun _ => ldS g >>= fun _ => stS g (scS x) >>= fun _ =>
      pure (k0_pay86 a (k0_pay18 lanes base (Scf.iv 0#32 1#32 (⟨g.val, trans_lt g ht t2_trips⟩ : Fin k0_t2_loop.trips))) (scF x))))
    (ham : ∀ g (Q : FVec F S8x128 .f32 → sProp 𝕄), ((c : Thread nD τ).loc cc0_scratch3 ↦[wS v]{fullShare} f) ⊢
      iprop((((c : Thread nD τ).loc cc0_scratch3 ↦[wS v]{fullShare} f) -∗ Q (amN (fun r => blkF f v g.val r) 8)) -∗ WP c (am g) Q))
    (hldI : ∀ g T (Q : Vec F S1x8x128 .i32 → sProp 𝕄), PI T ⊢ iprop((∀ x, PI T -∗ Q x) -∗ WP c (ldI g) Q))
    (hldS : ∀ g T (Q : Vec F S1x8x128 .i32 → sProp 𝕄), PS T ⊢ iprop((∀ x, PS T -∗ Q x) -∗ WP c (ldS g) Q))
    (hstI : ∀ g T w (Q : PUnit → sProp 𝕄), PI T ⊢ iprop((∀ T', ⌜Wrote (s := S4x8x128) ![g.val, 0, 0] S1x8x128 rfl T w T'⌝ -∗ PI T' -∗ Q ⟨⟩) -∗ WP c (stI g w) Q))
    (hstS : ∀ g T w (Q : PUnit → sProp 𝕄), PS T ⊢ iprop((∀ T', ⌜Wrote (s := S4x8x128) ![g.val, 0, 0] S1x8x128 rfl T w T'⌝ -∗ PS T' -∗ Q ⟨⟩) -∗ WP c (stS g w) Q))
    {Q : FVec F S8x128 .f32 → sProp 𝕄} :
    iprop(((c : Thread nD τ).loc cc0_scratch3 ↦[wS v]{fullShare} f) ∗ PI T ∗ PS S) ⊢ iprop((iprop(((c : Thread nD τ).loc cc0_scratch3 ↦[wS v]{fullShare} f)
        ∗ PI (INV (blkF f v)) ∗ PS (SCL (blkF f v))) -∗ Q (scRow base (blkF f v) old 4))
      -∗ WP c (Scf.Loop.for l hok old body) Q) := by
  have hstep : ∀ (R : (ℕ → ℕ → Vec F S1x128x128 .bf16) → S4x8x128.Idx → Elt F .i32) (n : ℕ) (w : IVec S1x8x128 32) (T T' : S4x8x128.Idx → Elt F .i32)
      (hR : ∀ i, (i 0).val = n → R (blkF f v) i = w (ValueIdx.ix3 0 (i 1) (i 2)))
      (hT : ∀ i, (i 0).val < n → T i = R (blkF f v) i)
      (hw : Wrote (s := S4x8x128) ![n, 0, 0] S1x8x128 rfl T w T'), ∀ i, (i 0).val < n + 1 → T' i = R (blkF f v) i := by
    intro R n w T T' hR hT hw i hi
    by_cases h : (i 0).val = n
    · rw [hR i h]
      refine hw.1 i (ValueIdx.ix3 0 (i 1) (i 2)) ?_
      intro a
      match a with
      | ⟨0, _⟩ => show (i 0).val = n + 0; omega
      | ⟨1, _⟩ => show (i 1).val = 0 + (i 1).val; omega
      | ⟨2, _⟩ => show (i 2).val = 0 + (i 2).val; omega
    · rw [← hT i (by omega)]
      exact hw.2 i 0 (Or.inl (show (i 0).val < n by omega))
  iintro ⟨H, HI, HS⟩ HQ
  iapply (WP_for c l hok _ _ (fun n a => iprop(⌜a = scRow base (blkF f v) old n⌝ ∗ ((c : Thread nD τ).loc cc0_scratch3 ↦[wS v]{fullShare} f)
    ∗ (∃ T, ⌜∀ i, (i 0).val < n → T i = INV (blkF f v) i⌝ ∗ PI T) ∗ (∃ T, ⌜∀ i, (i 0).val < n → T i = SCL (blkF f v) i⌝ ∗ PS T))) ?_) $$ [H HI HS]
  · intro k a
    have hk : k.val < 4 := lt_of_lt_of_eq k.isLt ht
    iintro ⟨%ha, H, ⟨%T, %hT, HI⟩, ⟨%S, %hS, HS⟩⟩
    subst ha
    rw [hb]
    simp only [WP_bind]
    iapply (ham k) $$ H
    iintro H
    iapply (hldI k) $$ HI
    iintro %x HI
    iapply (hstI k) $$ HI
    iintro %T' %hT' HI
    iapply (hldS k) $$ HS
    iintro %x HS
    iapply (hstS k) $$ HS
    iintro %S' %hS' HS
    iapply WP_pure
    isplitr
    · ipureintro
      rw [scRow, dif_pos (trans_lt k ht t2_trips)]
    isplitl [H]; · iexact H
    isplitl [HI]
    · iexists T'
      isplitr
      · ipureintro
        exact hstep INV k.val _ T T' (fun i hi => by unfold INV; rw [hi]) hT hT'
      iexact HI
    iexists S'
    isplitr
    · ipureintro
      exact hstep SCL k.val _ S S' (fun i hi => by unfold SCL; rw [hi]) hS hS'
    iexact HS
  · isplitr
    · ipureintro; rfl
    isplitl [H]; · iexact H
    isplitl [HI]
    · iexists T
      isplitr
      · ipureintro; intro i hi; exact absurd hi (Nat.not_lt_zero _)
      iexact HI
    iexists S
    isplitr
    · ipureintro; intro i hi; exact absurd hi (Nat.not_lt_zero _)
    iexact HS
  iintro %a ⟨%ha, H, ⟨%T, %hT, HI⟩, ⟨%S, %hS, HS⟩⟩
  subst ha
  rw [ht] at hT hS ⊢
  have e1 : T = INV (blkF f v) := funext fun i => hT i (i 0).isLt
  have e2 : S = SCL (blkF f v) := funext fun i => hS i (i 0).isLt
  subst e1; subst e2
  iapply HQ
  isplitl [H]; · iexact H
  isplitl [HI]; · iexact HI
  iexact HS

end Cert.KernelIdeal.Hand
-- ==== Proof.FindUse.lean ====
/-
  The kernel's three copies of the search for a unit's scales.
-/
module

public import proofs.«01_k».proof.Proof.Find

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A load of a block of a whole buffer, whatever it reads. -/
theorem ld_any (c : Dev nD) {cs : CoreSpace} {s : Shape} {e : EltTy} {m : Memref sig .tc cs s e} {r : Rect s}
    {hl : m.view.LoadsAt r.toLoadRect} {f : Buf (Elt F) ((m.access r).loc (c : Thread nD τ))} {Q : (r.shape.Idx → Elt F e) → sProp 𝕄} :
    ((m.access r).loc (c : Thread nD τ) ↦[Finset.univ]{fullShare} f) ⊢ iprop((∀ x, ((m.access r).loc (c : Thread nD τ) ↦[Finset.univ]{fullShare} f) -∗ Q x)
      -∗ WP c (Prog.lift (.load m r.toLoadRect hl)) Q) := by
  iintro H HQ
  iapply (ld c (Finset.subset_univ _)) $$ H
  iintro H
  iapply HQ; iexact H

/-- The loop over the column groups of unit 0. -/
theorem findA (c : Dev nD) (f : S2x7168x512.Idx → Elt F .bf16) (base : BitVec 32) (old : FVec F S8x128 .f32) (T S : S4x8x128.Idx → Elt F .i32)
    {Q : FVec F S8x128 .f32 → sProp 𝕄} :
    iprop(((c : Thread nD τ).loc cc0_scratch3 ↦[wS 0]{fullShare} f) ∗ ((c : Thread nD τ).loc cc0_scratch14 ↦[Finset.univ]{fullShare} T)
        ∗ ((c : Thread nD τ).loc cc0_scratch16 ↦[Finset.univ]{fullShare} S)) ⊢ iprop((iprop(((c : Thread nD τ).loc cc0_scratch3 ↦[wS 0]{fullShare} f)
        ∗ ((c : Thread nD τ).loc cc0_scratch14 ↦[Finset.univ]{fullShare} INV (blkF f 0)) ∗ ((c : Thread nD τ).loc cc0_scratch16 ↦[Finset.univ]{fullShare} SCL (blkF f 0)))
        -∗ Q (scRow base (blkF f 0) old 4))
      -∗ WP c (Scf.Loop.for k0_t2_loop k0_t2_ok old (atArgs (k0_t2_body (F := F)) lanes subs base)) Q) := by
  refine find_loop c f 0 base old (fun T => iprop((c : Thread nD τ).loc cc0_scratch14 ↦[Finset.univ]{fullShare} T))
    (fun T => iprop((c : Thread nD τ).loc cc0_scratch16 ↦[Finset.univ]{fullShare} T)) T S k0_t2_loop k0_t2_ok t2_trips _
    (fun g => Scf.Loop.for k0_t3_loop k0_t3_ok (k0_pay7 (F := F)) (atArgs (k0_t3_body (F := F)) subs 0#32 1#32 g))
    (fun g => Prog.lift (.load (Memref.whole cc0_scratch14) (Rect.unit (s := S4x8x128) (k0_off18 g) S1x8x128.size (k0_off18_inb g)).toLoadRect (View.loadsAt_vmem h_S1x8x128)))
    (fun g => Prog.lift (.load (Memref.whole cc0_scratch16) (Rect.unit (s := S4x8x128) (k0_off18 g) S1x8x128.size (k0_off18_inb g)).toLoadRect (View.loadsAt_vmem h_S1x8x128)))
    (fun g w => Prog.lift (.store (Memref.whole cc0_scratch14) (Rect.unit (s := S4x8x128) (k0_off18 g) S1x8x128.size (k0_off18_inb g)) w Finset.univ (View.stores_vmem_bits_univ h_S1x8x128 rfl) (.inl rfl)))
    (fun g w => Prog.lift (.store (Memref.whole cc0_scratch16) (Rect.unit (s := S4x8x128) (k0_off18 g) S1x8x128.size (k0_off18_inb g)) w Finset.univ (View.stores_vmem_bits_univ h_S1x8x128 rfl) (.inl rfl)))
    ?_ ?_ ?_ ?_ ?_ ?_
  · intro g a
    unfold k0_t2_body
    rw [k0_part2_eq_skeleton, k0_part3_eq_skeleton, k0_part4_eq_skeleton]
    unfold k0_part2_skel k0_part3_skel k0_part4_skel
    simp only [bind_assoc, pure_bind]
    rfl
  · intro g Q
    exact am_loop c f 0 (lt_of_lt_of_eq g.isLt t2_trips) k0_t3_loop k0_t3_ok t3_trips _ (fun k => k0_off17 g k) (fun k => k0_off17_inb g k) _ (fun k => off17_eq g k) (fun k a => rfl)
  · intro g T Q
    exact ld_any c (m := Memref.whole cc0_scratch14) (r := Rect.unit (s := S4x8x128) (k0_off18 g) S1x8x128.size (k0_off18_inb g)) (hl := View.loadsAt_vmem h_S1x8x128) (f := T) (Q := Q)
  · intro g T Q
    exact ld_any c (m := Memref.whole cc0_scratch16) (r := Rect.unit (s := S4x8x128) (k0_off18 g) S1x8x128.size (k0_off18_inb g)) (hl := View.loadsAt_vmem h_S1x8x128) (f := T) (Q := Q)
  · intro g T w Q
    iintro H HQ
    iapply (wr c (Finset.subset_univ _))
    isplitl [H]; · iexact H
    iintro H
    iapply HQ $$ %_ %_ H
    rw [← off18_eq g]
    exact ⟨fun i x h => write_in cc0_scratch14 _ _ _ _ _ i x h, fun i a h => write_out cc0_scratch14 _ _ _ _ _ i a h⟩
  · intro g T w Q
    iintro H HQ
    iapply (wr c (Finset.subset_univ _))
    isplitl [H]; · iexact H
    iintro H
    iapply HQ $$ %_ %_ H
    rw [← off18_eq g]
    exact ⟨fun i x h => write_in cc0_scratch16 _ _ _ _ _ i x h, fun i a h => write_out cc0_scratch16 _ _ _ _ _ i a h⟩

/-- The loop over the column groups of the odd unit `2 t + 1`. -/
theorem findB (c : Dev nD) (f : S2x7168x512.Idx → Elt F .bf16) (t : Fin k0_t4_loop.trips) (a476 a477 a479 a503 a504 : BitVec 32) (base : BitVec 32) (old : FVec F S8x128 .f32) (T S : S4x8x128.Idx → Elt F .i32)
    {Q : FVec F S8x128 .f32 → sProp 𝕄} :
    iprop(((c : Thread nD τ).loc cc0_scratch3 ↦[wS (2 * t.val + 1)]{fullShare} f) ∗ ((c : Thread nD τ).loc cc0_scratch15 ↦[Finset.univ]{fullShare} T)
        ∗ ((c : Thread nD τ).loc cc0_scratch17 ↦[Finset.univ]{fullShare} S)) ⊢ iprop((iprop(((c : Thread nD τ).loc cc0_scratch3 ↦[wS (2 * t.val + 1)]{fullShare} f)
        ∗ ((c : Thread nD τ).loc cc0_scratch15 ↦[Finset.univ]{fullShare} INV (blkF f (2 * t.val + 1))) ∗ ((c : Thread nD τ).loc cc0_scratch17 ↦[Finset.univ]{fullShare} SCL (blkF f (2 * t.val + 1))))
        -∗ Q (scRow base (blkF f (2 * t.val + 1)) old 4))
      -∗ WP c (Scf.Loop.for k0_t5_loop k0_t5_ok old (atArgs (k0_t5_body (F := F)) lanes subs t a476 a477 a479 a503 a504 base)) Q) := by
  refine find_loop c f (2 * t.val + 1) base old (fun T => iprop((c : Thread nD τ).loc cc0_scratch15 ↦[Finset.univ]{fullShare} T))
    (fun T => iprop((c : Thread nD τ).loc cc0_scratch17 ↦[Finset.univ]{fullShare} T)) T S k0_t5_loop k0_t5_ok (by decide) _
    (fun g => Scf.Loop.for k0_t6_loop k0_t6_ok (k0_pay7 (F := F)) (atArgs (k0_t6_body (F := F)) subs t a503 0#32 1#32 g))
    (fun g => Prog.lift (.load (Memref.whole cc0_scratch15) (Rect.unit (s := S4x8x128) (k0_off28 g) S1x8x128.size (k0_off28_inb g)).toLoadRect (View.loadsAt_vmem h_S1x8x128)))
    (fun g => Prog.lift (.load (Memref.whole cc0_scratch17) (Rect.unit (s := S4x8x128) (k0_off28 g) S1x8x128.size (k0_off28_inb g)).toLoadRect (View.loadsAt_vmem h_S1x8x128)))
    (fun g w => Prog.lift (.store (Memref.whole cc0_scratch15) (Rect.unit (s := S4x8x128) (k0_off28 g) S1x8x128.size (k0_off28_inb g)) w Finset.univ (View.stores_vmem_bits_univ h_S1x8x128 rfl) (.inl rfl)))
    (fun g w => Prog.lift (.store (Memref.whole cc0_scratch17) (Rect.unit (s := S4x8x128) (k0_off28 g) S1x8x128.size (k0_off28_inb g)) w Finset.univ (View.stores_vmem_bits_univ h_S1x8x128 rfl) (.inl rfl)))
    ?_ ?_ ?_ ?_ ?_ ?_
  · intro g a
    unfold k0_t5_body
    rw [k0_part5_eq_skeleton, k0_part6_eq_skeleton, k0_part7_eq_skeleton]
    unfold k0_part5_skel k0_part6_skel k0_part7_skel
    simp only [bind_assoc, pure_bind]
    rfl
  · intro g Q
    exact am_loop c f (2 * t.val + 1) (lt_of_lt_of_eq g.isLt (show k0_t5_loop.trips = 4 by decide)) k0_t6_loop k0_t6_ok (by decide) _ (fun k => k0_off27 t g k) (fun k => k0_off27_inb t g k) _ (fun k => off27_eq t g k) (fun k a => rfl)
  · intro g T Q
    exact ld_any c (m := Memref.whole cc0_scratch15) (r := Rect.unit (s := S4x8x128) (k0_off28 g) S1x8x128.size (k0_off28_inb g)) (hl := View.loadsAt_vmem h_S1x8x128) (f := T) (Q := Q)
  · intro g T Q
    exact ld_any c (m := Memref.whole cc0_scratch17) (r := Rect.unit (s := S4x8x128) (k0_off28 g) S1x8x128.size (k0_off28_inb g)) (hl := View.loadsAt_vmem h_S1x8x128) (f := T) (Q := Q)
  · intro g T w Q
    iintro H HQ
    iapply (wr c (Finset.subset_univ _))
    isplitl [H]; · iexact H
    iintro H
    iapply HQ $$ %_ %_ H
    rw [← off28_eq g]
    exact ⟨fun i x h => write_in cc0_scratch15 _ _ _ _ _ i x h, fun i a h => write_out cc0_scratch15 _ _ _ _ _ i a h⟩
  · intro g T w Q
    iintro H HQ
    iapply (wr c (Finset.subset_univ _))
    isplitl [H]; · iexact H
    iintro H
    iapply HQ $$ %_ %_ H
    rw [← off28_eq g]
    exact ⟨fun i x h => write_in cc0_scratch17 _ _ _ _ _ i x h, fun i a h => write_out cc0_scratch17 _ _ _ _ _ i a h⟩

/-- The loop over the column groups of the even unit `2 t + 2`. -/
theorem findC (c : Dev nD) (f : S2x7168x512.Idx → Elt F .bf16) (t : Fin k0_t4_loop.trips) (a547 a548 : BitVec 32) (a567 : Vec F S256x512 .f32) (a569 : FVec F S256x512 .f32) (a574 : BitVec 32) (base : BitVec 32) (old : FVec F S8x128 .f32) (T S : S4x8x128.Idx → Elt F .i32)
    {Q : FVec F S8x128 .f32 → sProp 𝕄} :
    iprop(((c : Thread nD τ).loc cc0_scratch3 ↦[wS (2 * t.val + 2)]{fullShare} f) ∗ ((c : Thread nD τ).loc cc0_scratch14 ↦[Finset.univ]{fullShare} T)
        ∗ ((c : Thread nD τ).loc cc0_scratch16 ↦[Finset.univ]{fullShare} S)) ⊢ iprop((iprop(((c : Thread nD τ).loc cc0_scratch3 ↦[wS (2 * t.val + 2)]{fullShare} f)
        ∗ ((c : Thread nD τ).loc cc0_scratch14 ↦[Finset.univ]{fullShare} INV (blkF f (2 * t.val + 2))) ∗ ((c : Thread nD τ).loc cc0_scratch16 ↦[Finset.univ]{fullShare} SCL (blkF f (2 * t.val + 2))))
        -∗ Q (scRow base (blkF f (2 * t.val + 2)) old 4))
      -∗ WP c (Scf.Loop.for k0_t9_loop k0_t9_ok old (atArgs (k0_t9_body (F := F)) lanes subs t a547 a548 a567 a569 a574 base)) Q) := by
  refine find_loop c f (2 * t.val + 2) base old (fun T => iprop((c : Thread nD τ).loc cc0_scratch14 ↦[Finset.univ]{fullShare} T))
    (fun T => iprop((c : Thread nD τ).loc cc0_scratch16 ↦[Finset.univ]{fullShare} T)) T S k0_t9_loop k0_t9_ok (by decide) _
    (fun g => Scf.Loop.for k0_t10_loop k0_t10_ok (k0_pay7 (F := F)) (atArgs (k0_t10_body (F := F)) subs t a574 0#32 1#32 g))
    (fun g => Prog.lift (.load (Memref.whole cc0_scratch14) (Rect.unit (s := S4x8x128) (k0_off52 g) S1x8x128.size (k0_off52_inb g)).toLoadRect (View.loadsAt_vmem h_S1x8x128)))
    (fun g => Prog.lift (.load (Memref.whole cc0_scratch16) (Rect.unit (s := S4x8x128) (k0_off52 g) S1x8x128.size (k0_off52_inb g)).toLoadRect (View.loadsAt_vmem h_S1x8x128)))
    (fun g w => Prog.lift (.store (Memref.whole cc0_scratch14) (Rect.unit (s := S4x8x128) (k0_off52 g) S1x8x128.size (k0_off52_inb g)) w Finset.univ (View.stores_vmem_bits_univ h_S1x8x128 rfl) (.inl rfl)))
    (fun g w => Prog.lift (.store (Memref.whole cc0_scratch16) (Rect.unit (s := S4x8x128) (k0_off52 g) S1x8x128.size (k0_off52_inb g)) w Finset.univ (View.stores_vmem_bits_univ h_S1x8x128 rfl) (.inl rfl)))
    ?_ ?_ ?_ ?_ ?_ ?_
  · intro g a
    unfold k0_t9_body
    rw [k0_part9_eq_skeleton, k0_part10_eq_skeleton, k0_part11_eq_skeleton]
    unfold k0_part9_skel k0_part10_skel k0_part11_skel
    simp only [bind_assoc, pure_bind]
    rfl
  · intro g Q
    exact am_loop c f (2 * t.val + 2) (lt_of_lt_of_eq g.isLt (show k0_t9_loop.trips = 4 by decide)) k0_t10_loop k0_t10_ok (by decide) _ (fun k => k0_off51 t g k) (fun k => k0_off51_inb t g k) _ (fun k => off51_eq t g k) (fun k a => rfl)
  · intro g T Q
    exact ld_any c (m := Memref.whole cc0_scratch14) (r := Rect.unit (s := S4x8x128) (k0_off52 g) S1x8x128.size (k0_off52_inb g)) (hl := View.loadsAt_vmem h_S1x8x128) (f := T) (Q := Q)
  · intro g T Q
    exact ld_any c (m := Memref.whole cc0_scratch16) (r := Rect.unit (s := S4x8x128) (k0_off52 g) S1x8x128.size (k0_off52_inb g)) (hl := View.loadsAt_vmem h_S1x8x128) (f := T) (Q := Q)
  · intro g T w Q
    iintro H HQ
    iapply (wr c (Finset.subset_univ _))
    isplitl [H]; · iexact H
    iintro H
    iapply HQ $$ %_ %_ H
    rw [← off52_eq g]
    exact ⟨fun i x h => write_in cc0_scratch14 _ _ _ _ _ i x h, fun i a h => write_out cc0_scratch14 _ _ _ _ _ i a h⟩
  · intro g T w Q
    iintro H HQ
    iapply (wr c (Finset.subset_univ _))
    isplitl [H]; · iexact H
    iintro H
    iapply HQ $$ %_ %_ H
    rw [← off52_eq g]
    exact ⟨fun i x h => write_in cc0_scratch16 _ _ _ _ _ i x h, fun i a h => write_out cc0_scratch16 _ _ _ _ _ i a h⟩

end Cert.KernelIdeal.Hand
-- ==== Proof.Quant.lean ====
/-
  Quantising a unit: block by block, the codes into the ring and the rescaled weight into its buffer.
-/
module

public import proofs.«01_k».proof.Proof.FindUse

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The elements of block `(r, g)` of unit `v`'s slot, -/
def InB (v r g : ℕ) (i : S2x7168x512.Idx) : Prop :=
  (i 0).val = v / 7 % 2 ∧ (1024 * (v % 7) + 128 * r ≤ (i 1).val ∧ (i 1).val < 1024 * (v % 7) + 128 * r + 128) ∧ (128 * g ≤ (i 2).val ∧ (i 2).val < 128 * g + 128)
/-- and of block `(r, g)` of a rescaled unit. -/
def InD (r g : ℕ) (i : S1024x512.Idx) : Prop :=
  (128 * r ≤ (i 0).val ∧ (i 0).val < 128 * r + 128) ∧ (128 * g ≤ (i 1).val ∧ (i 1).val < 128 * g + 128)

/-- The rows of the tables read as the blocks' rows. -/
theorem row_val (T : S4x8x128.Idx → Elt F .i32) {r g : ℕ} (hr : r < 8) (hg : g < 4) (x : S1x1x128.Idx) (i : S4x8x128.Idx)
    (h : ∀ a, (i a : ℕ) = (![g, r, 0] : Fin 3 → ℕ) a + x a) : T i = rowAt T r g x := by
  unfold rowAt
  congr 1
  have x0 : (x 0).val < 1 := (x 0).isLt
  have x1 : (x 1).val < 1 := (x 1).isLt
  funext a
  apply Fin.ext
  match a with
  | ⟨0, _⟩ => have := h 0; show (i 0).val = g % 4; have : (i 0).val = g + (x 0).val := this; omega
  | ⟨1, _⟩ => have := h 1; show (i 1).val = r % 8; have : (i 1).val = r + (x 1).val := this; omega
  | ⟨2, _⟩ => have := h 2; show (i 2).val = (x 2).val; have : (i 2).val = 0 + (x 2).val := this; omega

/-- What a block's codes are, in the ring. -/
theorem code_val (w : S7168x18432.Idx → Elt F .bf16) {v r g : ℕ} (hv : v < 252) (hr : r < 8) (hg : g < 4) (i : S2x7168x512.Idx) (hi : InB v r g i)
    (x : S1x128x128.Idx) (hx : ∀ a, (i a : ℕ) = blkOff v r g a + x a) :
    k0_pay34 (rowAt (INV (blkW w v)) r g) (blkW w v g r) x = cbuf w v i := by
  have x0 : (x 0).val < 1 := (x 0).isLt
  have x1 : (x 1).val < 128 := (x 1).isLt
  have x2 : (x 2).val < 128 := (x 2).isLt
  have e1 : (i 1).val = 1024 * (v % 7) + 128 * r + (x 1).val := hx 1
  have e2 : (i 2).val = 128 * g + (x 2).val := hx 2
  show _ = WC w (mkW (i 1).val (512 * (v / 7) + (i 2).val))
  unfold WC codeU
  have m0 : ((mkW (i 1).val (512 * (v / 7) + (i 2).val)) 0 : ℕ) = (i 1).val % 7168 := rfl
  have m1 : ((mkW (i 1).val (512 * (v / 7) + (i 2).val)) 1 : ℕ) = (512 * (v / 7) + (i 2).val) % 18432 := rfl
  rw [m0, m1]
  have u1 : 7 * ((512 * (v / 7) + (i 2).val) % 18432 / 512) + (i 1).val % 7168 / 1024 = v := by omega
  have u2 : (i 1).val % 7168 % 1024 / 128 = r := by omega
  have u3 : (512 * (v / 7) + (i 2).val) % 18432 % 512 / 128 = g := by omega
  rw [u1, u2, u3]
  congr 1
  funext a
  apply Fin.ext
  match a with
  | ⟨0, _⟩ => show (x 0).val = 0; omega
  | ⟨1, _⟩ => show (x 1).val = (i 1).val % 7168 % 1024 % 128; omega
  | ⟨2, _⟩ => show (x 2).val = (512 * (v / 7) + (i 2).val) % 18432 % 512 % 128; omega

/-- What a block's rescaled values are. -/
theorem wd_val (w : S7168x18432.Idx → Elt F .bf16) {v r g : ℕ} (hr : r < 8) (hg : g < 4) (i : S1024x512.Idx)
    (x : S128x128.Idx) (hx : ∀ a, (i a : ℕ) = (![128 * r, 128 * g] : Fin 2 → ℕ) a + x a) :
    k0_pay56 (k0_pay33 (rowAt (INV (blkW w v)) r g) (blkW w v g r)) (k0_pay35 (rowAt (SCL (blkW w v)) r g)) x = WD w v i := by
  have x0 : (x 0).val < 128 := (x 0).isLt
  have x1 : (x 1).val < 128 := (x 1).isLt
  have e0 : (i 0).val = 128 * r + (x 0).val := hx 0
  have e1 : (i 1).val = 128 * g + (x 1).val := hx 1
  unfold WD
  have u2 : (i 0).val / 128 = r := by omega
  have u3 : (i 1).val / 128 = g := by omega
  rw [u2, u3]
  congr 1
  funext a
  apply Fin.ext
  match a with
  | ⟨0, _⟩ => show (x 0).val = (i 0).val % 128; omega
  | ⟨1, _⟩ => show (x 1).val = (i 1).val % 128; omega

section Loop
variable (c : Dev nD) (w : S7168x18432.Idx → Elt F .bf16) (v : ℕ)

/-- The state of a unit whose blocks `(r, g)` with `D r g` are done. -/
def QS (PI PS : sProp 𝕄) (PW : (S1024x512.Idx → Elt F .bf16) → sProp 𝕄) (D : ℕ → ℕ → Prop) : sProp 𝕄 :=
  iprop(((c : Thread nD τ).loc cc0_scratch3 ↦[wS v]{fullShare} wbuf w v) ∗ PI ∗ PS
    ∗ (∃ T : S2x7168x512.Idx → Elt F .fp8e4m3, ⌜∀ i r g, D r g → InB v r g i → T i = cbuf w v i⌝ ∗ ((c : Thread nD τ).loc cc0_scratch4 ↦[cS v]{fullShare} T))
    ∗ (∃ T : S1024x512.Idx → Elt F .bf16, ⌜∀ i r g, D r g → InD r g i → T i = WD w v i⌝ ∗ PW T))

theorem QS_mono (PI PS : sProp 𝕄) (PW : (S1024x512.Idx → Elt F .bf16) → sProp 𝕄) {D D' : ℕ → ℕ → Prop} (h : ∀ r g, D' r g → D r g) : (QS c w v PI PS PW D : sProp 𝕄) ⊢ (QS c w v PI PS PW D' : sProp 𝕄) := by
  unfold QS
  iintro ⟨H, HI, HS, ⟨%T, %hT, HC⟩, ⟨%U, %hU, HD⟩⟩
  isplitl [H]; · iexact H
  isplitl [HI]; · iexact HI
  isplitl [HS]; · iexact HS
  isplitl [HC]
  · iexists T
    isplitr; · ipureintro; exact fun i r g hd hi => hT i r g (h r g hd) hi
    iexact HC
  iexists U
  isplitr; · ipureintro; exact fun i r g hd hi => hU i r g (h r g hd) hi
  iexact HD

theorem cblk_sub {r g : ℕ} (hr : r < 8) (hg : g < 4) (inb : ∀ a, blkOff v r g a + S1x128x128.size a ≤ S2x7168x512.size a) :
    ((Memref.whole cc0_scratch4).access (Rect.unit (s := S2x7168x512) (blkOff v r g) S1x128x128.size inb)).set ⊆ cS v := by
  have h := blk_sub v hr hg inb
  rw [wS_eq] at h
  rw [cS_eq]
  have e1 : ((Memref.whole cc0_scratch3).access (Rect.unit (s := S2x7168x512) (blkOff v r g) S1x128x128.size inb)).set
    = (Rect.unit (s := S2x7168x512) (blkOff v r g) S1x128x128.size inb).set := View.set_slice_whole _ _
  have e2 : ((Memref.whole cc0_scratch4).access (Rect.unit (s := S2x7168x512) (blkOff v r g) S1x128x128.size inb)).set
    = (Rect.unit (s := S2x7168x512) (blkOff v r g) S1x128x128.size inb).set := View.set_slice_whole _ _
  rw [e1] at h
  rw [e2]
  exact h

/-- One block. -/
theorem q_block (PI PS : sProp 𝕄) (PW : (S1024x512.Idx → Elt F .bf16) → sProp 𝕄) (hv : v < 252) {r g : ℕ} (hr : r < 8) (hg : g < 4) (D : ℕ → ℕ → Prop)
    (body : Prog (TpuEff nD τ sig (Elt F) Λ₀ .tc) Unit) (ldI ldS : Prog (TpuEff nD τ sig (Elt F) Λ₀ .tc) (Vec F S1x1x128 .i32))
    (ldD : Prog (TpuEff nD τ sig (Elt F) Λ₀ .tc) (Vec F S128x128 .bf16)) (stD : (S128x128.Idx → Elt F .bf16) → Prog (TpuEff nD τ sig (Elt F) Λ₀ .tc) PUnit)
    (off : Fin 3 → ℕ) (hoff : off = blkOff v r g) (inb : ∀ a, off a + S1x128x128.size a ≤ S2x7168x512.size a)
    (h3 : (Memref.whole cc0_scratch3).view.LoadsAt (Rect.unit (s := S2x7168x512) off S1x128x128.size inb).toLoadRect)
    (h4 : (Memref.whole cc0_scratch4).view.LoadsAt (Rect.unit (s := S2x7168x512) off S1x128x128.size inb).toLoadRect)
    (hx : ((Memref.whole cc0_scratch4).access (Rect.unit (s := S2x7168x512) off S1x128x128.size inb)).Stores Finset.univ) (hm)
    (hb : body = (ldI >>= fun a => ldS >>= fun b =>
      Prog.lift (.load (Memref.whole cc0_scratch3) (Rect.unit (s := S2x7168x512) off S1x128x128.size inb).toLoadRect h3) >>= fun B =>
      Prog.lift (.load (Memref.whole cc0_scratch4) (Rect.unit (s := S2x7168x512) off S1x128x128.size inb).toLoadRect h4) >>= fun _ =>
      Prog.lift (.store (Memref.whole cc0_scratch4) (Rect.unit (s := S2x7168x512) off S1x128x128.size inb) (k0_pay34 a B) Finset.univ hx hm) >>= fun _ =>
      ldD >>= fun _ => stD (k0_pay56 (k0_pay33 a B) (k0_pay35 b)) >>= fun _ => pure ⟨⟩))
    (hI : ∀ Q : Vec F S1x1x128 .i32 → sProp 𝕄, PI ⊢ iprop((PI -∗ Q (rowAt (INV (blkW w v)) r g)) -∗ WP c ldI Q))
    (hS : ∀ Q : Vec F S1x1x128 .i32 → sProp 𝕄, PS ⊢ iprop((PS -∗ Q (rowAt (SCL (blkW w v)) r g)) -∗ WP c ldS Q))
    (hD : ∀ T (Q : Vec F S128x128 .bf16 → sProp 𝕄), PW T ⊢ iprop((∀ x, PW T -∗ Q x) -∗ WP c ldD Q))
    (hW : ∀ T x (Q : PUnit → sProp 𝕄), PW T ⊢ iprop((∀ T', ⌜Wrote (s := S1024x512) ![128 * r, 128 * g] S128x128 rfl T x T'⌝ -∗ PW T' -∗ Q ⟨⟩) -∗ WP c (stD x) Q))
    {Q : Unit → sProp 𝕄} :
    QS c w v PI PS PW D ⊢ iprop((QS c w v PI PS PW (fun r' g' => D r' g' ∨ (r' = r ∧ g' = g)) -∗ Q ⟨⟩) -∗ WP c body Q) := by
  subst hoff
  unfold QS
  rw [hb]
  simp only [WP_bind]
  iintro ⟨H, HI, HS, ⟨%T, %hT, HC⟩, ⟨%U, %hU, HD⟩⟩ HQ
  iapply hI $$ HI
  iintro HI
  iapply hS $$ HS
  iintro HS
  iapply (ld_blk c (wbuf w v) v hr hg rfl) $$ H
  iintro H
  rw [blkF_wbuf w v hr hg]
  iapply (rd c (cblk_sub v hr hg inb))
  isplitl [HC]; · iexact HC
  iintro HC
  iapply (wr c (cblk_sub v hr hg inb))
  isplitl [HC]; · iexact HC
  iintro HC
  iapply hD $$ HD
  iintro %_ HD
  iapply hW $$ HD
  iintro %U' %hU' HD
  iapply WP_pure
  iapply HQ
  isplitl [H]; · iexact H
  isplitl [HI]; · iexact HI
  isplitl [HS]; · iexact HS
  isplitl [HC]
  · iexists _
    isplitr
    rotate_left
    · iexact HC
    · ipureintro
      intro i r' g' hd hi
      by_cases hin : InB v r g i
      · have hx : ∀ a, ((i a : Fin _) : ℕ) = blkOff v r g a
            + ((ValueIdx.ix3 0 (Fin.ofNat 128 ((i 1).val - (1024 * (v % 7) + 128 * r))) (Fin.ofNat 128 ((i 2).val - 128 * g)) : S1x128x128.Idx) a : ℕ) := by
          obtain ⟨h0, h1, h2⟩ := hin
          intro a
          match a with
          | ⟨0, _⟩ => show (i 0).val = v / 7 % 2 + 0; omega
          | ⟨1, _⟩ => show (i 1).val = 1024 * (v % 7) + 128 * r + ((i 1).val - (1024 * (v % 7) + 128 * r)) % 128; omega
          | ⟨2, _⟩ => show (i 2).val = 128 * g + ((i 2).val - 128 * g) % 128; omega
        refine (write_in cc0_scratch4 _ _ inb T _ i _ hx).trans ?_
        exact code_val w hv hr hg i hin _ hx
      · have hT' : T i = cbuf w v i := by
          rcases hd with hd | ⟨rfl, rfl⟩
          · exact hT i r' g' hd hi
          · exact absurd hi hin
        rw [← hT']
        obtain ⟨h0, -, -⟩ := hi
        by_cases h1 : 1024 * (v % 7) + 128 * r ≤ (i 1).val ∧ (i 1).val < 1024 * (v % 7) + 128 * r + 128
        · refine write_out cc0_scratch4 _ _ inb T _ i 2 ?_
          show (i 2).val < 128 * g ∨ 128 * g + 128 ≤ (i 2).val
          by_contra hc
          exact hin ⟨h0, h1, by omega⟩
        · refine write_out cc0_scratch4 _ _ inb T _ i 1 ?_
          show (i 1).val < 1024 * (v % 7) + 128 * r ∨ 1024 * (v % 7) + 128 * r + 128 ≤ (i 1).val
          omega
  iexists U'
  isplitr
  · ipureintro
    intro i r' g' hd hi
    by_cases hin : InD r g i
    · have hx : ∀ a, ((i a : Fin _) : ℕ) = (![128 * r, 128 * g] : Fin 2 → ℕ) a
          + ((ValueIdx.ix2 (Fin.ofNat 128 ((i 0).val - 128 * r)) (Fin.ofNat 128 ((i 1).val - 128 * g)) : S128x128.Idx) a : ℕ) := by
        obtain ⟨h0, h1⟩ := hin
        intro a
        match a with
        | ⟨0, _⟩ => show (i 0).val = 128 * r + ((i 0).val - 128 * r) % 128; omega
        | ⟨1, _⟩ => show (i 1).val = 128 * g + ((i 1).val - 128 * g) % 128; omega
      refine (hU'.1 i _ hx).trans ?_
      exact wd_val w hr hg i _ hx
    · have hT' : U i = WD w v i := by
        rcases hd with hd | ⟨rfl, rfl⟩
        · exact hU i r' g' hd hi
        · exact absurd hi hin
      rw [← hT']
      by_cases h1 : 128 * r ≤ (i 0).val ∧ (i 0).val < 128 * r + 128
      · refine hU'.2 i 1 ?_
        show (i 1).val < 128 * g ∨ 128 * g + 128 ≤ (i 1).val
        by_contra hc
        exact hin ⟨h1, by omega⟩
      · refine hU'.2 i 0 ?_
        show (i 0).val < 128 * r ∨ 128 * r + 128 ≤ (i 0).val
        omega
  iexact HD

/-- All blocks, row by row. -/
theorem q_loops (PI PS : sProp 𝕄) (PW : (S1024x512.Idx → Elt F .bf16) → sProp 𝕄) (l : Scf.Loop 32) (hok : l.OK) (ht : l.trips = 8) (l' : Scf.Loop 32) (hok' : l'.OK) (ht' : l'.trips = 4)
    (body : Fin l.trips → Unit → Prog (TpuEff nD τ sig (Elt F) Λ₀ .tc) Unit)
    (body' : Fin l.trips → Fin l'.trips → Unit → Prog (TpuEff nD τ sig (Elt F) Λ₀ .tc) Unit)
    (hb : ∀ k u, body k u = (Scf.Loop.for l' hok' ⟨⟩ (body' k) >>= fun _ => pure ⟨⟩))
    (hblk : ∀ k j u D (Q : Unit → sProp 𝕄), QS c w v PI PS PW D
      ⊢ iprop((QS c w v PI PS PW (fun r' g' => D r' g' ∨ (r' = k.val ∧ g' = j.val)) -∗ Q ⟨⟩) -∗ WP c (body' k j u) Q))
    (T : S2x7168x512.Idx → Elt F .fp8e4m3) (U : S1024x512.Idx → Elt F .bf16)
    {Q : Unit → sProp 𝕄} :
    iprop(((c : Thread nD τ).loc cc0_scratch3 ↦[wS v]{fullShare} wbuf w v) ∗ PI ∗ PS ∗ ((c : Thread nD τ).loc cc0_scratch4 ↦[cS v]{fullShare} T) ∗ PW U)
      ⊢ iprop((iprop(((c : Thread nD τ).loc cc0_scratch3 ↦[wS v]{fullShare} wbuf w v) ∗ PI ∗ PS ∗ cB c w v ∗ PW (WD w v)) -∗ Q ⟨⟩)
      -∗ WP c (Scf.Loop.for l hok ⟨⟩ body) Q) := by
  iintro ⟨H, HI, HS, HC, HD⟩ HQ
  iapply (WP_for c l hok _ _ (fun n _ => QS c w v PI PS PW (fun r g => r < n ∧ g < 4)) ?_) $$ [H HI HS HC HD]
  · intro k u
    rw [hb, WP_bind]
    iintro HQS
    iapply (WP_for c l' hok' _ _ (fun n _ => QS c w v PI PS PW (fun r g => (r < k.val ∧ g < 4) ∨ (r = k.val ∧ g < n))) ?_) $$ [HQS]
    · intro j u
      iintro HQS
      iapply (hblk k j u) $$ HQS
      iintro HQS
      iapply (QS_mono c w v PI PS PW ?_) $$ HQS
      intro r g h
      omega
    · iapply (QS_mono c w v PI PS PW ?_) $$ HQS
      intro r g h
      omega
    iintro %_ HQS
    iapply WP_pure
    rw [ht']
    iapply (QS_mono c w v PI PS PW ?_) $$ HQS
    intro r g h
    omega
  · unfold QS
    isplitl [H]; · iexact H
    isplitl [HI]; · iexact HI
    isplitl [HS]; · iexact HS
    isplitl [HC]
    · iexists T
      isplitr; · ipureintro; intro i r g h; exact absurd h.1 (Nat.not_lt_zero _)
      iexact HC
    iexists U
    isplitr; · ipureintro; intro i r g h; exact absurd h.1 (Nat.not_lt_zero _)
    iexact HD
  iintro %_ HQS
  rw [ht]
  unfold QS
  icases HQS with ⟨H, HI, HS, ⟨%T', %hT, HC⟩, ⟨%U', %hU, HD⟩⟩
  iapply HQ
  isplitl [H]; · iexact H
  isplitl [HI]; · iexact HI
  isplitl [HS]; · iexact HS
  isplitl [HC]
  · unfold cB
    have e : ((c : Thread nD τ).loc cc0_scratch4 ↦[cS v]{fullShare} T') = (iprop((c : Thread nD τ).loc cc0_scratch4 ↦[cS v]{fullShare} cbuf w v) : sProp 𝕄) := by
      refine pointsTo_congr fun i hi => ?_
      have hi' : i ∈ cS v := hi
      rw [cS_eq, Rect.mem_set_unit] at hi'
      have h0 : v / 7 % 2 ≤ ((i : S2x7168x512.Idx) 0).val ∧ ((i : S2x7168x512.Idx) 0).val < v / 7 % 2 + 1 := hi' 0
      have h1 : 1024 * (v % 7) ≤ ((i : S2x7168x512.Idx) 1).val ∧ ((i : S2x7168x512.Idx) 1).val < 1024 * (v % 7) + 1024 := hi' 1
      have h2 : ((i : S2x7168x512.Idx) 2).val < 512 := ((i : S2x7168x512.Idx) 2).isLt
      refine hT i ((((i : S2x7168x512.Idx) 1).val - 1024 * (v % 7)) / 128) (((i : S2x7168x512.Idx) 2).val / 128) ⟨by omega, by omega⟩ ⟨?_, ?_, ?_⟩ <;> omega
    rw [← e]
    iexact HC
  have e : U' = WD w v := by
    funext i
    have h0 : (i 0).val < 1024 := (i 0).isLt
    have h1 : (i 1).val < 512 := (i 1).isLt
    refine hU i ((i 0).val / 128) ((i 1).val / 128) ⟨by omega, by omega⟩ ⟨?_, ?_⟩ <;> omega
  subst e
  iexact HD

end Loop

end Cert.KernelIdeal.Hand
-- ==== Proof.QuantUse.lean ====
/-
  The kernel's two copies of the quantisation of a unit.
-/
module

public import proofs.«01_k».proof.Proof.Quant

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A row of a table read through a block of one row. -/
theorem rowAt_of (R : S1x1x128.Idx → Elt F .i32) (T : S4x8x128.Idx → Elt F .i32) {r g : ℕ} (hr : r < 8) (hg : g < 4) (off : Fin 3 → ℕ)
    (hoff : off = ![g, r, 0]) (h : ∀ (x : S1x1x128.Idx) (i : S4x8x128.Idx), (∀ a, (i a : ℕ) = off a + x a) → R x = T i) : R = rowAt T r g := by
  subst hoff
  funext x
  have x0 : (x 0).val < 1 := (x 0).isLt
  have x1 : (x 1).val < 1 := (x 1).isLt
  refine h x (ValueIdx.ix3 (Fin.ofNat 4 g) (Fin.ofNat 8 r) (x 2)) fun a => ?_
  match a with
  | ⟨0, _⟩ => show g % 4 = g + (x 0).val; omega
  | ⟨1, _⟩ => show r % 8 = r + (x 1).val; omega
  | ⟨2, _⟩ => show (x 2).val = 0 + (x 2).val; omega

/-- The even unit `2 t`. -/
theorem quantA (c : Dev nD) (w : S7168x18432.Idx → Elt F .bf16) (t : Fin k0_t4_loop.trips) (a476 a477 a479 a503 a504 a526 a528 : BitVec 32)
    (T : S2x7168x512.Idx → Elt F .fp8e4m3) (U : S1024x512.Idx → Elt F .bf16) {Q : Unit → sProp 𝕄} :
    iprop(((c : Thread nD τ).loc cc0_scratch3 ↦[wS (2 * t.val)]{fullShare} wbuf w (2 * t.val))
        ∗ ((c : Thread nD τ).loc cc0_scratch14 ↦[Finset.univ]{fullShare} INV (blkW w (2 * t.val)))
        ∗ ((c : Thread nD τ).loc cc0_scratch16 ↦[Finset.univ]{fullShare} SCL (blkW w (2 * t.val)))
        ∗ ((c : Thread nD τ).loc cc0_scratch4 ↦[cS (2 * t.val)]{fullShare} T) ∗ ((c : Thread nD τ).loc cc0_scratch5 ↦[Finset.univ]{fullShare} U))
      ⊢ iprop((iprop(((c : Thread nD τ).loc cc0_scratch3 ↦[wS (2 * t.val)]{fullShare} wbuf w (2 * t.val))
        ∗ ((c : Thread nD τ).loc cc0_scratch14 ↦[Finset.univ]{fullShare} INV (blkW w (2 * t.val)))
        ∗ ((c : Thread nD τ).loc cc0_scratch16 ↦[Finset.univ]{fullShare} SCL (blkW w (2 * t.val)))
        ∗ cB c w (2 * t.val) ∗ ((c : Thread nD τ).loc cc0_scratch5 ↦[Finset.univ]{fullShare} WD w (2 * t.val))) -∗ Q ⟨⟩)
      -∗ WP c (Scf.Loop.for k0_t7_loop k0_t7_ok ⟨⟩ (atArgs (k0_t7_body (F := F)) lanes subs t a476 a477 a479 a503 a504 a526 a528)) Q) := by
  have ht : t.val < 126 := lt_of_lt_of_eq t.isLt (by decide)
  have h7 : k0_t7_loop.trips = 8 := by decide
  have h8 : k0_t8_loop.trips = 4 := by decide
  refine q_loops c w (2 * t.val) _ _ (fun U => iprop((c : Thread nD τ).loc cc0_scratch5 ↦[Finset.univ]{fullShare} U)) k0_t7_loop k0_t7_ok h7 k0_t8_loop k0_t8_ok h8 _
    (fun k => atArgs (k0_t8_body (F := F)) lanes subs t a476 a477 a479 a503 a504 a526 a528 k (Scf.iv 0#32 1#32 k)) (fun k u => rfl) ?_ T U
  intro k j u D Q
  have hk : k.val < 8 := lt_of_lt_of_eq k.isLt h7
  have hj : j.val < 4 := lt_of_lt_of_eq j.isLt h8
  refine q_block c w (2 * t.val) _ _ _ (by omega) hk hj D _
    (Prog.lift (.load (Memref.whole cc0_scratch14) (Rect.unit (s := S4x8x128) (k0_off29 k j) S1x1x128.size (k0_off29_inb k j)).toLoadRect (View.loadsAt_vmem h_S1x1x128)))
    (Prog.lift (.load (Memref.whole cc0_scratch16) (Rect.unit (s := S4x8x128) (k0_off29 k j) S1x1x128.size (k0_off29_inb k j)).toLoadRect (View.loadsAt_vmem h_S1x1x128)))
    (Prog.lift (.load (Memref.whole cc0_scratch5) (Rect.unit (s := S1024x512) (k0_off31 k j) S128x128.size (k0_off31_inb k j)).toLoadRect (View.loadsAt_vmem h_S128x128)))
    (fun x => Prog.lift (.store (Memref.whole cc0_scratch5) (Rect.unit (s := S1024x512) (k0_off31 k j) S128x128.size (k0_off31_inb k j)) x Finset.univ
      (View.stores_vmem h_S128x128 ((Memref.isWhole_whole cc0_scratch5).storeExact_slice rfl _ (k0_off31_packedbf16 k j)) (fun _ => rfl)) (.inl rfl)))
    (k0_off30 t k j) (off30_eq t k j) (k0_off30_inb t k j)
    (View.loadsAt_vmem h_S1x128x128) (View.loadsAt_vmem h_S1x128x128)
    (View.stores_vmem h_S1x128x128 ((Memref.isWhole_whole cc0_scratch4).storeExact_slice rfl _ (k0_off30_packedfp8e4m3 t k j)) (fun _ => rfl)) (.inl rfl) ?_ ?_ ?_ ?_ ?_
  · unfold k0_t8_body
    rw [k0_part8_eq_skeleton]
    unfold k0_part8_skel
    simp only [bind_assoc, pure_bind]
    rfl
  · intro Q
    iintro H HQ
    iapply (rd c (Finset.subset_univ _))
    isplitl [H]; · iexact H
    iintro H
    have e : ((Memref.whole cc0_scratch14).access (Rect.unit (s := S4x8x128) (k0_off29 k j) S1x1x128.size (k0_off29_inb k j))).read (Elt F) (INV (blkW w (2 * t.val)))
        = rowAt (INV (blkW w (2 * t.val))) k.val j.val := by
      exact rowAt_of _ _ hk hj _ (off29_eq k j) fun x i h => read_at cc0_scratch14 _ _ _ _ x i h
    rw [← e]
    iapply HQ $$ H
  · intro Q
    iintro H HQ
    iapply (rd c (Finset.subset_univ _))
    isplitl [H]; · iexact H
    iintro H
    have e : ((Memref.whole cc0_scratch16).access (Rect.unit (s := S4x8x128) (k0_off29 k j) S1x1x128.size (k0_off29_inb k j))).read (Elt F) (SCL (blkW w (2 * t.val)))
        = rowAt (SCL (blkW w (2 * t.val))) k.val j.val := by
      exact rowAt_of _ _ hk hj _ (off29_eq k j) fun x i h => read_at cc0_scratch16 _ _ _ _ x i h
    rw [← e]
    iapply HQ $$ H
  · intro T Q
    exact ld_any c (m := Memref.whole cc0_scratch5) (r := Rect.unit (s := S1024x512) (k0_off31 k j) S128x128.size (k0_off31_inb k j)) (hl := View.loadsAt_vmem h_S128x128) (f := T) (Q := Q)
  · intro T x Q
    iintro H HQ
    iapply (wr c (Finset.subset_univ _))
    isplitl [H]; · iexact H
    iintro H
    iapply HQ $$ %_ %_ H
    rw [← off31_eq k j]
    exact ⟨fun i x h => write_in cc0_scratch5 _ _ _ _ _ i x h, fun i a h => write_out cc0_scratch5 _ _ _ _ _ i a h⟩

/-- The odd unit `2 t + 1`. -/
theorem quantB (c : Dev nD) (w : S7168x18432.Idx → Elt F .bf16) (t : Fin k0_t4_loop.trips) (a547 a548 : BitVec 32) (a567 : Vec F S256x512 .f32) (a569 : FVec F S256x512 .f32) (a597 a599 : BitVec 32)
    (T : S2x7168x512.Idx → Elt F .fp8e4m3) (U : S1024x512.Idx → Elt F .bf16) {Q : Unit → sProp 𝕄} :
    iprop(((c : Thread nD τ).loc cc0_scratch3 ↦[wS (2 * t.val + 1)]{fullShare} wbuf w (2 * t.val + 1))
        ∗ ((c : Thread nD τ).loc cc0_scratch15 ↦[Finset.univ]{fullShare} INV (blkW w (2 * t.val + 1)))
        ∗ ((c : Thread nD τ).loc cc0_scratch17 ↦[Finset.univ]{fullShare} SCL (blkW w (2 * t.val + 1)))
        ∗ ((c : Thread nD τ).loc cc0_scratch4 ↦[cS (2 * t.val + 1)]{fullShare} T) ∗ ((c : Thread nD τ).loc cc0_scratch6 ↦[Finset.univ]{fullShare} U))
      ⊢ iprop((iprop(((c : Thread nD τ).loc cc0_scratch3 ↦[wS (2 * t.val + 1)]{fullShare} wbuf w (2 * t.val + 1))
        ∗ ((c : Thread nD τ).loc cc0_scratch15 ↦[Finset.univ]{fullShare} INV (blkW w (2 * t.val + 1)))
        ∗ ((c : Thread nD τ).loc cc0_scratch17 ↦[Finset.univ]{fullShare} SCL (blkW w (2 * t.val + 1)))
        ∗ cB c w (2 * t.val + 1) ∗ ((c : Thread nD τ).loc cc0_scratch6 ↦[Finset.univ]{fullShare} WD w (2 * t.val + 1))) -∗ Q ⟨⟩)
      -∗ WP c (Scf.Loop.for k0_t11_loop k0_t11_ok ⟨⟩ (atArgs (k0_t11_body (F := F)) lanes subs t a547 a548 a567 a569 a597 a599)) Q) := by
  have ht : t.val < 126 := lt_of_lt_of_eq t.isLt (by decide)
  have h7 : k0_t11_loop.trips = 8 := by decide
  have h8 : k0_t12_loop.trips = 4 := by decide
  refine q_loops c w (2 * t.val + 1) _ _ (fun U => iprop((c : Thread nD τ).loc cc0_scratch6 ↦[Finset.univ]{fullShare} U)) k0_t11_loop k0_t11_ok h7 k0_t12_loop k0_t12_ok h8 _
    (fun k => atArgs (k0_t12_body (F := F)) lanes subs t a547 a548 a567 a569 a597 a599 k (Scf.iv 0#32 1#32 k)) (fun k u => rfl) ?_ T U
  intro k j u D Q
  have hk : k.val < 8 := lt_of_lt_of_eq k.isLt h7
  have hj : j.val < 4 := lt_of_lt_of_eq j.isLt h8
  refine q_block c w (2 * t.val + 1) _ _ _ (by omega) hk hj D _
    (Prog.lift (.load (Memref.whole cc0_scratch15) (Rect.unit (s := S4x8x128) (k0_off53 k j) S1x1x128.size (k0_off53_inb k j)).toLoadRect (View.loadsAt_vmem h_S1x1x128)))
    (Prog.lift (.load (Memref.whole cc0_scratch17) (Rect.unit (s := S4x8x128) (k0_off53 k j) S1x1x128.size (k0_off53_inb k j)).toLoadRect (View.loadsAt_vmem h_S1x1x128)))
    (Prog.lift (.load (Memref.whole cc0_scratch6) (Rect.unit (s := S1024x512) (k0_off55 k j) S128x128.size (k0_off55_inb k j)).toLoadRect (View.loadsAt_vmem h_S128x128)))
    (fun x => Prog.lift (.store (Memref.whole cc0_scratch6) (Rect.unit (s := S1024x512) (k0_off55 k j) S128x128.size (k0_off55_inb k j)) x Finset.univ
      (View.stores_vmem h_S128x128 ((Memref.isWhole_whole cc0_scratch6).storeExact_slice rfl _ (k0_off55_packedbf16 k j)) (fun _ => rfl)) (.inl rfl)))
    (k0_off54 t k j) (off54_eq t k j) (k0_off54_inb t k j)
    (View.loadsAt_vmem h_S1x128x128) (View.loadsAt_vmem h_S1x128x128)
    (View.stores_vmem h_S1x128x128 ((Memref.isWhole_whole cc0_scratch4).storeExact_slice rfl _ (k0_off54_packedfp8e4m3 t k j)) (fun _ => rfl)) (.inl rfl) ?_ ?_ ?_ ?_ ?_
  · unfold k0_t12_body
    rw [k0_part12_eq_skeleton]
    unfold k0_part12_skel
    simp only [bind_assoc, pure_bind]
    rfl
  · intro Q
    iintro H HQ
    iapply (rd c (Finset.subset_univ _))
    isplitl [H]; · iexact H
    iintro H
    have e : ((Memref.whole cc0_scratch15).access (Rect.unit (s := S4x8x128) (k0_off53 k j) S1x1x128.size (k0_off53_inb k j))).read (Elt F) (INV (blkW w (2 * t.val + 1)))
        = rowAt (INV (blkW w (2 * t.val + 1))) k.val j.val := by
      exact rowAt_of _ _ hk hj _ (off53_eq k j) fun x i h => read_at cc0_scratch15 _ _ _ _ x i h
    rw [← e]
    iapply HQ $$ H
  · intro Q
    iintro H HQ
    iapply (rd c (Finset.subset_univ _))
    isplitl [H]; · iexact H
    iintro H
    have e : ((Memref.whole cc0_scratch17).access (Rect.unit (s := S4x8x128) (k0_off53 k j) S1x1x128.size (k0_off53_inb k j))).read (Elt F) (SCL (blkW w (2 * t.val + 1)))
        = rowAt (SCL (blkW w (2 * t.val + 1))) k.val j.val := by
      exact rowAt_of _ _ hk hj _ (off53_eq k j) fun x i h => read_at cc0_scratch17 _ _ _ _ x i h
    rw [← e]
    iapply HQ $$ H
  · intro T Q
    exact ld_any c (m := Memref.whole cc0_scratch6) (r := Rect.unit (s := S1024x512) (k0_off55 k j) S128x128.size (k0_off55_inb k j)) (hl := View.loadsAt_vmem h_S128x128) (f := T) (Q := Q)
  · intro T x Q
    iintro H HQ
    iapply (wr c (Finset.subset_univ _))
    isplitl [H]; · iexact H
    iintro H
    iapply HQ $$ %_ %_ H
    rw [← off55_eq k j]
    exact ⟨fun i x h => write_in cc0_scratch6 _ _ _ _ _ i x h, fun i a h => write_out cc0_scratch6 _ _ _ _ _ i a h⟩

end Cert.KernelIdeal.Hand
-- ==== Proof.Table.lean ====
/-
  The table of scales: what a unit adds to it.
-/
module

public import proofs.«01_k».proof.Proof.QuantUse
public import Idealize.ShloMosaic.Lib.ValueLayout
public import Idealize.ShloMosaic.Lib.WordCmp

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem amN_congr {B B' : ℕ → Vec F S1x128x128 .bf16} (h : ∀ r, r < 8 → B r = B' r) : amN B 8 = amN B' 8 := by
  have key : ∀ n, n ≤ 8 → amN B n = amN B' n := by
    intro n
    induction n with
    | zero => intro _; rfl
    | succ n ih =>
      intro hn
      rw [amN, amN, ih (by omega), h n (by omega)]
  exact key 8 (le_refl 8)

theorem INV_congr {B B' : ℕ → ℕ → Vec F S1x128x128 .bf16} (h : ∀ g r, g < 4 → r < 8 → B g r = B' g r) : INV B = INV B' := by
  funext i
  unfold INV
  rw [amN_congr fun r hr => h _ r (i 0).isLt hr]

theorem SCL_congr {B B' : ℕ → ℕ → Vec F S1x128x128 .bf16} (h : ∀ g r, g < 4 → r < 8 → B g r = B' g r) : SCL B = SCL B' := by
  funext i
  unfold SCL
  rw [amN_congr fun r hr => h _ r (i 0).isLt hr]

/-- Which lane a column group's scale goes to. -/
theorem lane_eq (s : ℕ) (hs : s < 32) (n : ℕ) (hn : n < 4) (hn' : n < k0_t2_loop.trips) (x : S8x128.Idx) :
    k0_pay18 lanes (BitVec.ofNat 32 (4 * s)) (Scf.iv 0#32 1#32 (⟨n, hn'⟩ : Fin k0_t2_loop.trips)) x = 1#1 ↔ (x 1).val = 4 * s + n := by
  have x1 : (x 1).val < 128 := (x 1).isLt
  show BitVec.ofBool (lanes x == (BitVec.ofNat 32 (4 * s) + Scf.iv 0#32 1#32 n)) = 1#1 ↔ _
  have e1 : lanes x = BitVec.ofNat 32 (x 1).val := by
    show BitVec.ofNat 32 (0 * 128 + (x 1).val) = _
    rw [Nat.zero_mul, Nat.zero_add]
  have e2 : Scf.iv 0#32 1#32 n = BitVec.ofNat 32 n := by
    rcases n with _ | _ | _ | _ | n <;> first | rfl | omega
  rw [e1, e2]
  have e3 : (BitVec.ofNat 32 (x 1).val == (BitVec.ofNat 32 (4 * s) + BitVec.ofNat 32 n) : Bool) = true ↔ (x 1).val = 4 * s + n := by
    rw [beq_iff_eq, ← BitVec.toNat_inj, BitVec.toNat_add, BitVec.toNat_ofNat, BitVec.toNat_ofNat, BitVec.toNat_ofNat]
    omega
  rw [← e3]
  cases (BitVec.ofNat 32 (x 1).val == (BitVec.ofNat 32 (4 * s) + BitVec.ofNat 32 n) : Bool) <;> decide

/-! ## The table of scales -/

/-- The table holds the scales of the units up to `u`. -/
def ScOk (w : S7168x18432.Idx → Elt F .bf16) (u : ℕ) (f : S2x56x128.Idx → Elt F .f32) : Prop :=
  ∀ i : S2x56x128.Idx, 128 * (i 0).val + (i 2).val < 144 → 7 * ((128 * (i 0).val + (i 2).val) / 4) + (i 1).val / 8 ≤ u →
    f i = WS w (i 1).val (128 * (i 0).val + (i 2).val)

/-- A lane keeps what it held until its column group comes, -/
theorem scRow_out (s : ℕ) (hs : s < 32) (B : ℕ → ℕ → Vec F S1x128x128 .bf16) (old : FVec F S8x128 .f32) (n : ℕ) (hn : n ≤ 4) (x : S8x128.Idx)
    (h : (x 1).val < 4 * s ∨ 4 * s + n ≤ (x 1).val) : scRow (BitVec.ofNat 32 (4 * s)) B old n x = old x := by
  induction n with
  | zero => rfl
  | succ n ih =>
    have hn' : n < k0_t2_loop.trips := by rw [t2_trips]; omega
    have x1 : (x 1).val < 128 := (x 1).isLt
    rw [scRow, dif_pos hn']
    show (if k0_pay18 lanes (BitVec.ofNat 32 (4 * s)) (Scf.iv 0#32 1#32 (⟨n, hn'⟩ : Fin k0_t2_loop.trips)) x = 1#1 then _ else _) = _
    rw [if_neg]
    · exact ih (by omega) (by omega)
    · rw [lane_eq s hs n (by omega) hn' x]
      omega

/-- and holds the group's scale from then on. -/
theorem scRow_in (s : ℕ) (hs : s < 32) (B : ℕ → ℕ → Vec F S1x128x128 .bf16) (old : FVec F S8x128 .f32) (n : ℕ) (hn : n ≤ 4) (x : S8x128.Idx) (g : ℕ)
    (hg : g < n) (h : (x 1).val = 4 * s + g) : scRow (BitVec.ofNat 32 (4 * s)) B old n x = scF (amN (B g) 8) x := by
  induction n with
  | zero => omega
  | succ n ih =>
    have hn' : n < k0_t2_loop.trips := by rw [t2_trips]; omega
    rw [scRow, dif_pos hn']
    show (if k0_pay18 lanes (BitVec.ofNat 32 (4 * s)) (Scf.iv 0#32 1#32 (⟨n, hn'⟩ : Fin k0_t2_loop.trips)) x = 1#1 then _ else _) = _
    by_cases hgn : g = n
    · subst hgn
      rw [if_pos ((lane_eq s hs g (by omega) hn' x).2 h)]
    · rw [if_neg]
      · exact ih (by omega) (by omega)
      · rw [lane_eq s hs n (by omega) hn' x]
        omega

theorem scRow_congr (base : BitVec 32) {B B' : ℕ → ℕ → Vec F S1x128x128 .bf16} (old : FVec F S8x128 .f32) (n : ℕ)
    (h : ∀ g r, g < 4 → r < 8 → B g r = B' g r) : scRow base B old n = scRow base B' old n := by
  induction n with
  | zero => rfl
  | succ n ih =>
    rw [scRow, scRow, ih]
    by_cases hn : n < k0_t2_loop.trips
    · rw [dif_pos hn, dif_pos hn, amN_congr fun r hr => h n r (lt_of_lt_of_eq hn t2_trips) hr]
    · rw [dif_neg hn, dif_neg hn]

/-- The table after a unit's rows are written. -/
theorem ScOk_step (w : S7168x18432.Idx → Elt F .bf16) {v : ℕ} (hv : v ≤ 252) {f : S2x56x128.Idx → Elt F .f32} (hf : v = 0 ∨ ScOk w (v - 1) f)
    (B : ℕ → ℕ → Vec F S1x128x128 .bf16) (hB : v < 252 → ∀ g r, g < 4 → r < 8 → B g r = blkW w v g r)
    (p : Vec F S1x8x128 .f32 → FVec F S8x128 .f32) (hp : ∀ a, p a = k0_pay85 a)
    (off : Fin 3 → ℕ) (hoff : off = ![v / 7 / 32, 8 * (v % 7), 0]) (inb) (base : BitVec 32) (hbase : base = BitVec.ofNat 32 (4 * (v / 7 % 32)))
    (q : FVec F S8x128 .f32 → FVec F S1x8x128 .f32) (hq : ∀ a, q a = k0_pay87 a) :
    ScOk w v (((Memref.whole cc0_scratch9).access (Rect.unit (s := S2x56x128) off S1x8x128.size inb)).write (Elt F) f
      (q (scRow base B (p (((Memref.whole cc0_scratch9).access (Rect.unit (s := S2x56x128) off S1x8x128.size inb)).read (Elt F) f)) 4)) Finset.univ) := by
  subst hoff; subst hbase
  rw [hp, hq]
  intro i hi hu
  have i0 : (i 0).val < 2 := (i 0).isLt
  have i1 : (i 1).val < 56 := (i 1).isLt
  have i2 : (i 2).val < 128 := (i 2).isLt
  have hold : ¬ ((i 0).val = v / 7 / 32 ∧ (i 1).val / 8 = v % 7 ∧ (i 2).val / 4 = v / 7 % 32) →
      f i = WS w (i 1).val (128 * (i 0).val + (i 2).val) := by
    intro hne
    rcases hf with rfl | hf
    · exfalso; omega
    · exact hf i hi (by omega)
  by_cases hin : (i 0).val = v / 7 / 32 ∧ (i 1).val / 8 = v % 7
  · have hx : ∀ a, ((i a : Fin _) : ℕ) = (![v / 7 / 32, 8 * (v % 7), 0] : Fin 3 → ℕ) a
        + ((ValueIdx.ix3 0 (Fin.ofNat 8 (i 1).val) (i 2) : S1x8x128.Idx) a : ℕ) := by
      intro a
      match a with
      | ⟨0, _⟩ => show (i 0).val = v / 7 / 32 + 0; omega
      | ⟨1, _⟩ => show (i 1).val = 8 * (v % 7) + (i 1).val % 8; omega
      | ⟨2, _⟩ => show (i 2).val = 0 + (i 2).val; omega
    refine (write_in cc0_scratch9 _ _ inb f _ i _ hx).trans ?_
    have e : ∀ (R : FVec F S8x128 .f32), k0_pay87 R (ValueIdx.ix3 0 (Fin.ofNat 8 (i 1).val) (i 2)) = R (ValueIdx.ix2 (Fin.ofNat 8 (i 1).val) (i 2)) :=
      fun R => ValueIdx.shapeCast_ab_1ab_apply R _ _ _ _
    rw [e]
    by_cases hl : (i 2).val / 4 = v / 7 % 32
    · rw [scRow_in (v / 7 % 32) (by omega) _ _ 4 (le_refl 4) _ ((i 2).val % 4) (by omega) (by show (i 2).val = _; omega)]
      unfold WS
      have hv' : v < 252 := by omega
      have u1 : 7 * ((128 * (i 0).val + (i 2).val) / 4) + (i 1).val / 8 = v := by omega
      have u2 : (128 * (i 0).val + (i 2).val) % 4 = (i 2).val % 4 := by omega
      rw [u1, u2, amN_congr fun r hr => hB hv' _ r (by omega) hr]
      congr 1
      funext a
      apply Fin.ext
      match a with
      | ⟨0, _⟩ => rfl
      | ⟨1, _⟩ => show (i 2).val = (128 * (i 0).val + (i 2).val) % 128; omega
    · rw [scRow_out (v / 7 % 32) (by omega) _ _ 4 (le_refl 4) _ (by show (i 2).val < _ ∨ _ ≤ (i 2).val; omega)]
      refine Eq.trans (?_ : _ = f i) (hold fun h => hl h.2.2)
      have e2 : ∀ (R : Vec F S1x8x128 .f32), k0_pay85 R (ValueIdx.ix2 (Fin.ofNat 8 (i 1).val) (i 2)) = R (ValueIdx.ix3 0 (Fin.ofNat 8 (i 1).val) (i 2)) :=
        fun R => ValueIdx.shapeCast_1ab_ab_apply R _ _ _
      rw [e2]
      exact read_at cc0_scratch9 _ _ inb f _ i hx
  · rw [← hold fun h => hin ⟨h.1, h.2.1⟩]
    by_cases h0 : (i 0).val = v / 7 / 32
    · refine write_out cc0_scratch9 _ _ inb f _ i 1 ?_
      show (i 1).val < 8 * (v % 7) ∨ 8 * (v % 7) + 8 ≤ (i 1).val
      omega
    · refine write_out cc0_scratch9 _ _ inb f _ i 0 ?_
      show (i 0).val < v / 7 / 32 ∨ v / 7 / 32 + 1 ≤ (i 0).val
      omega

end Cert.KernelIdeal.Hand
-- ==== Proof.XLoop.lean ====
/-
  Quantising the activation, column block by column block.
-/
module

public import proofs.«01_k».proof.Proof.QuantUse

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The elements of a column block of the activation. -/
def InX (k : ℕ) (i : S256x7168.Idx) : Prop := 128 * k ≤ (i 1).val ∧ (i 1).val < 128 * k + 128

/-- The place of an element in its column block. -/
def inX (k : ℕ) (i : S256x7168.Idx) : S256x128.Idx := ValueIdx.ix2 (i 0) (Fin.ofNat 128 ((i 1).val - 128 * k))

theorem inX_eq {k : ℕ} {i : S256x7168.Idx} (h : InX k i) (a : Fin 2) : (i a : ℕ) = (![0, 128 * k] : Fin 2 → ℕ) a + (inX k i a : ℕ) := by
  obtain ⟨h1, h2⟩ := h
  match a with
  | ⟨0, _⟩ => show (i 0).val = 0 + (i 0).val; omega
  | ⟨1, _⟩ => show (i 1).val = 128 * k + ((i 1).val - 128 * k) % 128; omega

theorem inX_ix {k : ℕ} {i : S256x7168.Idx} (h : InX k i) : (i 1).val / 128 = k ∧ inX k i = ValueIdx.ix2 (i 0) (Fin.ofNat 128 (i 1).val) := by
  obtain ⟨h1, h2⟩ := h
  refine ⟨by omega, ?_⟩
  funext a
  apply Fin.ext
  match a with
  | ⟨0, _⟩ => rfl
  | ⟨1, _⟩ => show ((i 1).val - 128 * k) % 128 = (i 1).val % 128; omega

/-- A column block of the activation, read. -/
theorem xblk_read (x : S256x7168.Idx → Elt F .bf16) {k : ℕ} (hk : k < 56) (off : Fin 2 → ℕ) (hoff : off = ![0, 128 * k]) (inb) :
    ((Memref.whole cc0_scratch0).access (Rect.unit (s := S256x7168) off S256x128.size inb)).read (Elt F) x = xblk x k := by
  subst hoff
  funext y
  refine read_at cc0_scratch0 _ _ _ x y _ fun a => ?_
  have y0 : (y 0).val < 256 := (y 0).isLt
  have y1 : (y 1).val < 128 := (y 1).isLt
  match a with
  | ⟨0, _⟩ => show (y 0).val % 256 = 0 + (y 0).val; omega
  | ⟨1, _⟩ => show (128 * k + (y 1).val) % 7168 = 128 * k + (y 1).val; omega

theorem t1_trips : k0_t1_loop.trips = 56 := by decide

/-- The loop over the column blocks of the activation. -/
theorem x_loop (c : Dev nD) (x : S256x7168.Idx → Elt F .bf16) (h : S1x16.Idx → Elt F .f32) (U : S256x7168.Idx → Elt F .bf16)
    (T : S256x7168.Idx → Elt F .fp8e4m3) (b : IVec S8x128 32) {Q : FVec F S8x128 .f32 → sProp 𝕄} :
    iprop(((c : Thread nD τ).loc cc0_scratch0 ↦[Finset.univ]{fullShare} x) ∗ ((c : Thread nD τ).loc cc0_scratch1 ↦[Finset.univ]{fullShare} U)
        ∗ ((c : Thread nD τ).loc cc0_scratch2 ↦[Finset.univ]{fullShare} T))
      ⊢ iprop((iprop(((c : Thread nD τ).loc cc0_scratch0 ↦[Finset.univ]{fullShare} x) ∗ ((c : Thread nD τ).loc cc0_scratch1 ↦[Finset.univ]{fullShare} XD x h)
        ∗ ((c : Thread nD τ).loc cc0_scratch2 ↦[Finset.univ]{fullShare} XC x h)) -∗ Q (xam x 56))
      -∗ WP c (Scf.Loop.for k0_t1_loop k0_t1_ok (k0_pay79 (F := F)) (atArgs (k0_t1_body (F := F)) (xInv h) (xScl h) b)) Q) := by
  iintro ⟨H, HU, HT⟩ HQ
  iapply (WP_for c k0_t1_loop k0_t1_ok _ _ (fun n a => iprop(⌜a = xam x n⌝ ∗ ((c : Thread nD τ).loc cc0_scratch0 ↦[Finset.univ]{fullShare} x)
    ∗ (∃ U : S256x7168.Idx → Elt F .bf16, ⌜∀ i, (i 1).val < 128 * n → U i = XD x h i⌝ ∗ ((c : Thread nD τ).loc cc0_scratch1 ↦[Finset.univ]{fullShare} U))
    ∗ (∃ T : S256x7168.Idx → Elt F .fp8e4m3, ⌜∀ i, (i 1).val < 128 * n → T i = XC x h i⌝ ∗ ((c : Thread nD τ).loc cc0_scratch2 ↦[Finset.univ]{fullShare} T)))) ?_) $$ [H HU HT]
  · intro k a
    unfold k0_t1_body
    rw [k0_part1_eq_skeleton]
    unfold k0_part1_skel
    simp -zeta only [atArgs, bind_assoc, pure_bind]
    have hk : k.val < 56 := lt_of_lt_of_eq k.isLt t1_trips
    have hr := fun inb => xblk_read x hk (k0_off15 k) (off15_eq k) inb
    iintro ⟨%ha, H, ⟨%U, %hU, HU⟩, ⟨%T, %hT, HT⟩⟩
    rw [WP_bind]
    iapply (rd c (Finset.subset_univ _))
    isplitl [H]; · iexact H
    iintro H
    rw [hr]
    rw [WP_bind]
    iapply (rd c (Finset.subset_univ _))
    isplitl [HT]; · iexact HT
    iintro HT
    rw [WP_bind]
    iapply (wr c (Finset.subset_univ _))
    isplitl [HT]; · iexact HT
    iintro HT
    rw [WP_bind]
    iapply (rd c (Finset.subset_univ _))
    isplitl [HU]; · iexact HU
    iintro HU
    rw [WP_bind]
    iapply (wr c (Finset.subset_univ _))
    isplitl [HU]; · iexact HU
    iintro HU
    iapply WP_pure
    isplitr
    · ipureintro; rw [ha]; rfl
    isplitl [H]; · iexact H
    isplitl [HU]
    · iexists _
      isplitr
      rotate_left
      · iexact HU
      · ipureintro
        intro i hi
        by_cases hin : InX k.val i
        · have hx : ∀ a : Fin 2, (i a : ℕ) = k0_off15 k a + (inX k.val i a : ℕ) := fun a => by rw [off15_eq]; exact inX_eq hin a
          refine (write_in cc0_scratch1 _ _ _ U _ i (inX k.val i) hx).trans ?_
          rw [(inX_ix hin).2]; unfold XD; rw [(inX_ix hin).1]; rfl
        · unfold InX at hin
          rw [← hU i (by omega)]
          have hy : (i 1).val < k0_off15 k 1 ∨ k0_off15 k 1 + 128 ≤ (i 1).val := by
            rw [off15_eq]
            show (i 1).val < 128 * k.val ∨ 128 * k.val + 128 ≤ (i 1).val
            omega
          exact write_out cc0_scratch1 _ _ _ U _ i 1 hy
    · iexists _
      isplitr
      rotate_left
      · iexact HT
      · ipureintro
        intro i hi
        by_cases hin : InX k.val i
        · have hx : ∀ a : Fin 2, (i a : ℕ) = k0_off15 k a + (inX k.val i a : ℕ) := fun a => by rw [off15_eq]; exact inX_eq hin a
          refine (write_in cc0_scratch2 _ _ _ T _ i (inX k.val i) hx).trans ?_
          rw [(inX_ix hin).2]; unfold XC; rw [(inX_ix hin).1]; rfl
        · unfold InX at hin
          rw [← hT i (by omega)]
          have hy : (i 1).val < k0_off15 k 1 ∨ k0_off15 k 1 + 128 ≤ (i 1).val := by
            rw [off15_eq]
            show (i 1).val < 128 * k.val ∨ 128 * k.val + 128 ≤ (i 1).val
            omega
          exact write_out cc0_scratch2 _ _ _ T _ i 1 hy
  · isplitr; · ipureintro; rfl
    isplitl [H]; · iexact H
    isplitl [HU]
    · iexists U; isplitr; · ipureintro; intro i hi; omega
      iexact HU
    · iexists T; isplitr; · ipureintro; intro i hi; omega
      iexact HT
  iintro %a ⟨%ha, H, ⟨%U', %hU, HU⟩, ⟨%T', %hT, HT⟩⟩
  rw [t1_trips] at ha hU hT
  subst ha
  have e1 : U' = XD x h := funext fun i => hU i (i 1).isLt
  have e2 : T' = XC x h := funext fun i => hT i (i 1).isLt
  subst e1; subst e2
  iapply HQ
  isplitl [H]; · iexact H
  isplitl [HU]; · iexact HU
  iexact HT

end Cert.KernelIdeal.Hand
-- ==== Proof.Step.lean ====
/-
  What one unit does to the queues: the rules for its conditional waits and copies.
-/
module

public import proofs.«01_k».proof.Proof.Table
public import proofs.«01_k».proof.Proof.XLoop

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Taking the first operation of a program -/

/-- A load followed by the rest. -/
theorem rdk (c : Dev nD) {α : Type} {cs : CoreSpace} {s : Shape} {e : EltTy} {m : Memref sig .tc cs s e} {r : Rect s}
    {hl : m.view.LoadsAt r.toLoadRect} {S : Finset (Idx ((m.access r).loc (c : Thread nD τ)))} {q : PosShare TreeShare}
    {f : Buf (Elt F) ((m.access r).loc (c : Thread nD τ))} {K : (r.shape.Idx → Elt F e) → Prog (TpuEff nD τ sig (Elt F) Λ₀ .tc) α} {Q : α → sProp 𝕄}
    (hS : (m.access r).set ⊆ S) :
    iprop(((m.access r).loc (c : Thread nD τ) ↦[S]{q} f) ∗ (((m.access r).loc (c : Thread nD τ) ↦[S]{q} f)
      -∗ WP c (K ((m.access r).read (Elt F) f)) Q)) ⊢ WP c (Prog.lift (.load m r.toLoadRect hl) >>= K) Q := by
  rw [WP_bind]
  exact rd (F := F) c (m := m) (r := r) (hl := hl) (q := q) (f := f) (Q := fun x => WP c (K x) Q) hS

/-- A store followed by the rest. -/
theorem wrk (c : Dev nD) {α : Type} {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {S : Finset (Idx ((m.access r).loc (c : Thread nD τ)))}
    {f : Buf (Elt F) ((m.access r).loc (c : Thread nD τ))} {K : PUnit → Prog (TpuEff nD τ sig (Elt F) Λ₀ .tc) α} {Q : α → sProp 𝕄}
    (hS : (m.access r).set ⊆ S) :
    iprop(((m.access r).loc (c : Thread nD τ) ↦[S]{fullShare} f) ∗ (((m.access r).loc (c : Thread nD τ) ↦[S]{fullShare} ((m.access r).write (Elt F) f w Finset.univ))
      -∗ WP c (K ⟨⟩) Q)) ⊢ WP c (Prog.lift (.store m r w Finset.univ hx hm) >>= K) Q := by
  rw [WP_bind]
  exact wr (F := F) c (m := m) (r := r) (w := w) (hx := hx) (hm := hm) (f := f) (Q := fun x => WP c (K x) Q) hS

/-- An operation known by its rule, followed by the rest. -/
theorem opk (c : Dev nD) {α β : Type} {p : Prog (TpuEff nD τ sig (Elt F) Λ₀ .tc) β} {K : β → Prog (TpuEff nD τ sig (Elt F) Λ₀ .tc) α} {Q : α → sProp 𝕄}
    {P R : sProp 𝕄} {b : β} (h : P ⊢ iprop((R -∗ WP c (K b) Q) -∗ WP c p (fun x => WP c (K x) Q))) :
    P ⊢ iprop((R -∗ WP c (K b) Q) -∗ WP c (p >>= K) Q) := by
  rw [WP_bind]; exact h

/-- An operation done on a condition, followed by the rest. -/
theorem ifk (c : Dev nD) {α : Type} {p : Prop} [Decidable p] {A : p → Prog (TpuEff nD τ sig (Elt F) Λ₀ .tc) PUnit} {K : Prog (TpuEff nD τ sig (Elt F) Λ₀ .tc) α}
    {Q : α → sProp 𝕄} {P R : sProp 𝕄}
    (hA : ∀ (h : p) (Q' : PUnit → sProp 𝕄), P ⊢ iprop((R -∗ Q' ⟨⟩) -∗ WP c (A h) Q')) (hB : ¬ p → P ⊢ R) :
    P ⊢ iprop((R -∗ WP c K Q) -∗ WP c (dite p (fun h => A h >>= fun _ => K) (fun _ => K)) Q) := by
  by_cases h : p
  · rw [dif_pos h, WP_bind]
    exact hA h fun _ => WP c K Q
  · rw [dif_neg h]
    iintro HP HQ
    iapply HQ
    iapply (hB h); iexact HP

/-! ## Whole buffers -/

theorem acc_read (f : S256x512.Idx → Elt F .f32) (inb) :
    ((Memref.whole cc0_scratch7).access (Rect.unit (s := S256x512) ![0, 0] S256x512.size inb)).read (Elt F) f = f := by
  funext x
  exact read_at cc0_scratch7 _ _ inb f x x fun a => match a with
    | ⟨0, _⟩ => (Nat.zero_add _).symm
    | ⟨1, _⟩ => (Nat.zero_add _).symm

theorem acc_write (f p : S256x512.Idx → Elt F .f32) (inb) :
    ((Memref.whole cc0_scratch7).access (Rect.unit (s := S256x512) ![0, 0] S256x512.size inb)).write (Elt F) f p Finset.univ = p := by
  funext x
  exact write_in cc0_scratch7 _ _ inb f p x x fun a => match a with
    | ⟨0, _⟩ => (Nat.zero_add _).symm
    | ⟨1, _⟩ => (Nat.zero_add _).symm

theorem wd0_read (f : S1024x512.Idx → Elt F .bf16) (inb) :
    ((Memref.whole cc0_scratch5).access (Rect.unit (s := S1024x512) ![0, 0] S1024x512.size inb)).read (Elt F) f = f := by
  funext x
  exact read_at cc0_scratch5 _ _ inb f x x fun a => match a with
    | ⟨0, _⟩ => (Nat.zero_add _).symm
    | ⟨1, _⟩ => (Nat.zero_add _).symm

theorem wd1_read (f : S1024x512.Idx → Elt F .bf16) (inb) :
    ((Memref.whole cc0_scratch6).access (Rect.unit (s := S1024x512) ![0, 0] S1024x512.size inb)).read (Elt F) f = f := by
  funext x
  exact read_at cc0_scratch6 _ _ inb f x x fun a => match a with
    | ⟨0, _⟩ => (Nat.zero_add _).symm
    | ⟨1, _⟩ => (Nat.zero_add _).symm

theorem xchunk_read (f : S256x7168.Idx → Elt F .bf16) {k : ℕ} (hk : k < 7) (off : Fin 2 → ℕ) (hoff : off = ![0, 1024 * k]) (inb) :
    ((Memref.whole cc0_scratch1).access (Rect.unit (s := S256x7168) off S256x1024.size inb)).read (Elt F) f = xchunk f k := by
  subst hoff
  funext x
  refine read_at cc0_scratch1 _ _ inb f x _ fun a => ?_
  have x0 : (x 0).val < 256 := (x 0).isLt
  have x1 : (x 1).val < 1024 := (x 1).isLt
  match a with
  | ⟨0, _⟩ => show (x 0).val % 256 = 0 + (x 0).val; omega
  | ⟨1, _⟩ => show (1024 * k + (x 1).val) % 7168 = 1024 * k + (x 1).val; omega

/-! ## The queues around one unit -/

section Q
variable (c : Dev nD) (w : S7168x18432.Idx → Elt F .bf16) (C0 : S7168x18432.Idx → Elt F .fp8e4m3)
  (xd : S256x7168.Idx → Elt F .bf16) (Y0 : S256x18432.Idx → Elt F .bf16)

/-- Unit `u`'s slot with its tile landed, or a free slot past the last unit. -/
def WL (u : ℕ) : sProp 𝕄 := iprop(∃ f : S2x7168x512.Idx → Elt F .bf16, ⌜u < 252 → f = wbuf w u⌝
  ∗ ((c : Thread nD τ).loc cc0_scratch3 ↦[wS u]{fullShare} f) ∗ semVal ((c : Thread nD τ), .dma (wcell u)) 0)

/-- The slots of the weight's ring that no copy will use again. -/
def WE (m b : ℕ) : sProp 𝕄 := bigSep (Finset.Ico (max 252 m) b) (wI c (F := F))
/-- The slots of the codes' ring not used yet. -/
def CE (u : ℕ) : sProp 𝕄 := bigSep (Finset.Ico u 14) (cI c (F := F))
/-- The slots of the strips' ring not used yet. -/
def YE (n : ℕ) : sProp 𝕄 := bigSep (Finset.Ico n 2) (yI c (F := F))

theorem WL_idle (u : ℕ) : (WL c w u : sProp 𝕄) ⊢ (wI c u : sProp 𝕄) := by
  unfold WL wI
  iintro ⟨%f, %hf, H, Hs⟩
  isplitl [H]; · iexists f; iexact H
  iexact Hs

theorem WL_of (u : ℕ) (h : ¬ u < 252) : (wI c u : sProp 𝕄) ⊢ (WL c w u : sProp 𝕄) := by
  unfold WL wI
  iintro ⟨⟨%f, H⟩, Hs⟩
  iexists f
  isplitr; · ipureintro; exact fun h' => absurd h' h
  isplitl [H]; · iexact H
  iexact Hs

theorem WL_landed (u : ℕ) : iprop(wB c w u ∗ semVal ((c : Thread nD τ), .dma (wcell u)) 0 : sProp 𝕄) ⊢ (WL c w u : sProp 𝕄) := by
  unfold WL wB
  iintro ⟨H, Hs⟩
  iexists _
  isplitr; · ipureintro; exact fun _ => rfl
  isplitl [H]; · iexact H
  iexact Hs

omit [FloatOps F] in
theorem Ico_take {a b : ℕ} (h : a < b) (P : ℕ → sProp 𝕄) : bigSep (Finset.Ico a b) P = iprop(P a ∗ bigSep (Finset.Ico (a + 1) b) P) := by
  rw [← Finset.insert_Ico_add_one_left_eq_Ico h]
  exact BI.bigSep_insert (by simp)

omit [FloatOps F] in
theorem Ico_put {a b : ℕ} (h : a ≤ b) (P : ℕ → sProp 𝕄) : bigSep (Finset.Ico a (b + 1)) P = iprop(P b ∗ bigSep (Finset.Ico a b) P) := by
  rw [← Finset.insert_Ico_right_eq_Ico_add_one h]
  exact BI.bigSep_insert (by simp)

/-- The wait for the next unit's tile. -/
theorem w_next {u : ℕ} (hu : u < 252) {p : Prop} [Decidable p] (hp : p ↔ u + 1 < 252) {α : Type} {A : p → Prog (TpuEff nD τ sig (Elt F) Λ₀ .tc) PUnit}
    {K : Prog (TpuEff nD τ sig (Elt F) Λ₀ .tc) α} {Q : α → sProp 𝕄}
    (hA : ∀ (h : p) (h1 : u + 1 < 252) (h2 : u + 1 < min (u + 14) 252) (Q' : PUnit → sProp 𝕄), iprop(WQ c w (u + 1) (min (u + 14) 252) ∗ Ow c)
      ⊢ iprop((iprop(wB c w (u + 1) ∗ semVal ((c : Thread nD τ), .dma (wcell (u + 1))) 0 ∗ WQ c w (u + 1 + 1) (min (u + 14) 252) ∗ Ow c) -∗ Q' ⟨⟩) -∗ WP c (A h) Q')) :
    iprop(WQ c w (min (u + 1) 252) (min (u + 14) 252) ∗ WE c (u + 1) (u + 14) ∗ Ow c)
      ⊢ iprop((iprop(WL c w (u + 1) ∗ WQ c w (min (u + 2) 252) (min (u + 14) 252) ∗ WE c (u + 2) (u + 14) ∗ Ow c) -∗ WP c K Q)
        -∗ WP c (dite p (fun h => A h >>= fun _ => K) (fun _ => K)) Q) := by
  refine ifk c (fun h Q' => ?_) (fun h => ?_)
  · have h1 := hp.1 h
    have e1 : min (u + 1) 252 = u + 1 := by omega
    have e2 : min (u + 2) 252 = u + 1 + 1 := by omega
    rw [e1, e2]
    have e3 : (WE c (u + 1) (u + 14) : sProp 𝕄) = WE c (u + 2) (u + 14) := by unfold WE; congr 2; omega
    rw [e3]
    iintro ⟨HW, HE, HO⟩ HQ
    iapply (hA h h1 (by omega) Q') $$ [HW HO]
    · isplitl [HW]; · iexact HW
      iexact HO
    iintro ⟨HB, Hs, HW, HO⟩
    iapply HQ
    isplitl [HB Hs]
    · iapply WL_landed
      isplitl [HB]; · iexact HB
      iexact Hs
    isplitl [HW]; · iexact HW
    isplitl [HE]; · iexact HE
    iexact HO
  · have h1 : u = 251 := by have := mt hp.2 h; omega
    subst h1
    have e3 : (WE c 252 265 : sProp 𝕄) = iprop(wI c 252 ∗ WE c 253 265) := by
      unfold WE
      exact Ico_take (by omega) _
    rw [show (251 + 1) = 252 from rfl, show 251 + 14 = 265 from rfl, show 251 + 2 = 253 from rfl, e3]
    iintro ⟨HW, ⟨HI, HE⟩, HO⟩
    isplitl [HI]; · iapply (WL_of c w 252 (by omega)); iexact HI
    isplitl [HW]; · iexact HW
    isplitl [HE]; · iexact HE
    iexact HO

/-- The start of the copy of the tile that takes unit `u`'s slot. -/
theorem w_more {u a : ℕ} (hu : u < 252) (ha : a ≤ min (u + 14) 252) {p : Prop} [Decidable p] (hp : p ↔ u + 14 < 252) {α : Type} {A : p → Prog (TpuEff nD τ sig (Elt F) Λ₀ .tc) PUnit}
    {K : Prog (TpuEff nD τ sig (Elt F) Λ₀ .tc) α} {Q : α → sProp 𝕄}
    (hA : ∀ (h : p) (h1 : u + 14 < 252) (h2 : a ≤ u + 14) (Q' : PUnit → sProp 𝕄), iprop(wI c (u + 14) ∗ WQ c w a (u + 14))
      ⊢ iprop((WQ c w a (u + 14 + 1) -∗ Q' ⟨⟩) -∗ WP c (A h) Q')) :
    iprop(WL c w u ∗ WQ c w a (min (u + 14) 252) ∗ WE c (u + 2) (u + 14))
      ⊢ iprop((iprop(WQ c w a (min (u + 15) 252) ∗ WE c (u + 2) (u + 15)) -∗ WP c K Q)
        -∗ WP c (dite p (fun h => A h >>= fun _ => K) (fun _ => K)) Q) := by
  refine ifk c (fun h Q' => ?_) (fun h => ?_)
  · have h1 := hp.1 h
    have e1 : min (u + 14) 252 = u + 14 := by omega
    have e2 : min (u + 15) 252 = u + 14 + 1 := by omega
    rw [e1, e2]
    have e3 : (WE c (u + 2) (u + 15) : sProp 𝕄) = WE c (u + 2) (u + 14) := by
      unfold WE; rw [Finset.Ico_eq_empty (by omega), Finset.Ico_eq_empty (by omega)]
    rw [e3]
    iintro ⟨HL, HW, HE⟩ HQ
    iapply (hA h h1 (by omega) Q') $$ [HL HW]
    · isplitl [HL]
      · rw [wI_add]; iapply WL_idle; iexact HL
      iexact HW
    iintro HW
    iapply HQ
    isplitl [HW]; · iexact HW
    iexact HE
  · have h1 := mt hp.2 h
    have e1 : min (u + 14) 252 = min (u + 15) 252 := by omega
    rw [e1]
    iintro ⟨HL, HW, HE⟩
    isplitl [HW]; · iexact HW
    have e3 : (WE c (u + 2) (u + 15) : sProp 𝕄) = iprop(wI c (u + 14) ∗ WE c (u + 2) (u + 14)) := by
      unfold WE
      exact Ico_put (by omega) _
    rw [e3, wI_add]
    isplitl [HL]; · iapply WL_idle; iexact HL
    iexact HE

/-- The wait for the codes' slot that unit `u` takes. -/
theorem c_free {u : ℕ} (hu : u < 252) {p : Prop} [Decidable p] (hp : p ↔ 14 ≤ u) {α : Type} {A : p → Prog (TpuEff nD τ sig (Elt F) Λ₀ .tc) PUnit}
    {K : Prog (TpuEff nD τ sig (Elt F) Λ₀ .tc) α} {Q : α → sProp 𝕄}
    (hA : ∀ (h : p) (h1 : 14 ≤ u) (h2 : u - 14 < u) (Q' : PUnit → sProp 𝕄), iprop(CQ c w C0 (u - 14) u ∗ Ow c)
      ⊢ iprop((iprop(cI c (u - 14) ∗ CQ c w C0 (u - 14 + 1) u ∗ Ow c) -∗ Q' ⟨⟩) -∗ WP c (A h) Q')) :
    iprop(CQ c w C0 (u - 14) u ∗ CE c u ∗ Ow c)
      ⊢ iprop((iprop(cI c u ∗ CQ c w C0 (u + 1 - 14) u ∗ CE c (u + 1) ∗ Ow c) -∗ WP c K Q)
        -∗ WP c (dite p (fun h => A h >>= fun _ => K) (fun _ => K)) Q) := by
  refine ifk c (fun h Q' => ?_) (fun h => ?_)
  · have h1 := hp.1 h
    have e1 : u + 1 - 14 = u - 14 + 1 := by omega
    rw [e1]
    have e3 : (CE c (u + 1) : sProp 𝕄) = CE c u := by
      unfold CE; rw [Finset.Ico_eq_empty (by omega), Finset.Ico_eq_empty (by omega)]
    rw [e3]
    have e4 : (cI c u : sProp 𝕄) = cI c (u - 14) := by
      conv_lhs => rw [show u = u - 14 + 14 by omega]
      exact cI_add c (u - 14)
    rw [e4]
    iintro ⟨HC, HE, HO⟩ HQ
    iapply (hA h h1 (by omega) Q') $$ [HC HO]
    · isplitl [HC]; · iexact HC
      iexact HO
    iintro ⟨HI, HC, HO⟩
    iapply HQ
    isplitl [HI]; · iexact HI
    isplitl [HC]; · iexact HC
    isplitl [HE]; · iexact HE
    iexact HO
  · have h1 := mt hp.2 h
    have e1 : u + 1 - 14 = u - 14 := by omega
    rw [e1]
    have e3 : (CE c u : sProp 𝕄) = iprop(cI c u ∗ CE c (u + 1)) := by
      unfold CE; exact Ico_take (by omega) _
    rw [e3]
    iintro ⟨HC, ⟨HI, HE⟩, HO⟩
    isplitl [HI]; · iexact HI
    isplitl [HC]; · iexact HC
    isplitl [HE]; · iexact HE
    iexact HO

/-- The wait for the strips' slot that strip `s` takes. -/
theorem y_free {s : ℕ} (hs : s < 36) {p : Prop} [Decidable p] (hp : p ↔ 2 ≤ s) {α : Type} {A : p → Prog (TpuEff nD τ sig (Elt F) Λ₀ .tc) PUnit}
    {K : Prog (TpuEff nD τ sig (Elt F) Λ₀ .tc) α} {Q : α → sProp 𝕄}
    (hA : ∀ (h : p) (h1 : 2 ≤ s) (h2 : s - 2 < s) (Q' : PUnit → sProp 𝕄), iprop(YQ c w xd Y0 (s - 2) s ∗ Ow c)
      ⊢ iprop((iprop(yI c (s - 2) ∗ YQ c w xd Y0 (s - 2 + 1) s ∗ Ow c) -∗ Q' ⟨⟩) -∗ WP c (A h) Q')) :
    iprop(YQ c w xd Y0 (s - 2) s ∗ YE c s ∗ Ow c)
      ⊢ iprop((iprop(yI c s ∗ YQ c w xd Y0 (s + 1 - 2) s ∗ YE c (s + 1) ∗ Ow c) -∗ WP c K Q)
        -∗ WP c (dite p (fun h => A h >>= fun _ => K) (fun _ => K)) Q) := by
  refine ifk c (fun h Q' => ?_) (fun h => ?_)
  · have h1 := hp.1 h
    have e1 : s + 1 - 2 = s - 2 + 1 := by omega
    rw [e1]
    have e3 : (YE c (s + 1) : sProp 𝕄) = YE c s := by
      unfold YE; rw [Finset.Ico_eq_empty (by omega), Finset.Ico_eq_empty (by omega)]
    rw [e3]
    have e4 : (yI c s : sProp 𝕄) = yI c (s - 2) := by
      conv_lhs => rw [show s = s - 2 + 2 by omega]
      exact yI_add c (s - 2)
    rw [e4]
    iintro ⟨HC, HE, HO⟩ HQ
    iapply (hA h h1 (by omega) Q') $$ [HC HO]
    · isplitl [HC]; · iexact HC
      iexact HO
    iintro ⟨HI, HC, HO⟩
    iapply HQ
    isplitl [HI]; · iexact HI
    isplitl [HC]; · iexact HC
    isplitl [HE]; · iexact HE
    iexact HO
  · have h1 := mt hp.2 h
    have e1 : s + 1 - 2 = s - 2 := by omega
    rw [e1]
    have e3 : (YE c s : sProp 𝕄) = iprop(yI c s ∗ YE c (s + 1)) := by
      unfold YE; exact Ico_take (by omega) _
    rw [e3]
    iintro ⟨HC, ⟨HI, HE⟩, HO⟩
    isplitl [HI]; · iexact HI
    isplitl [HC]; · iexact HC
    isplitl [HE]; · iexact HE
    iexact HO

end Q

end Cert.KernelIdeal.Hand
-- ==== Proof.Finish.lean ====
/-
  Finishing a strip of the product.
-/
module

public import proofs.«01_k».proof.Proof.Step

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Fin
variable (c : Dev nD) (w : S7168x18432.Idx → Elt F .bf16) (xd : S256x7168.Idx → Elt F .bf16) (Y0 : S256x18432.Idx → Elt F .bf16)

/-- A strip's slot, as a block of the ring. -/
theorem yslot_sub (s : ℕ) (inb : ∀ a, yslotOff s a + S1x256x512.size a ≤ S2x256x512.size a) :
    ((Memref.whole cc0_scratch8).access (Rect.unit (s := S2x256x512) (yslotOff s) S1x256x512.size inb)).set ⊆ yS s := by
  have e : ((Memref.whole cc0_scratch8).access (Rect.unit (s := S2x256x512) (yslotOff s) S1x256x512.size inb)).set
    = (Rect.unit (s := S2x256x512) (yslotOff s) S1x256x512.size inb).set := View.set_slice_whole _ _
  rw [e, yS_eq]

/-- What a strip leaves in its slot. -/
theorem yslot_write (s : ℕ) (f : S2x256x512.Idx → Elt F .bf16) (inb) (p : FVec F S1x256x512 .bf16) (hp : p = ystrip w xd s) (i : S2x256x512.Idx) (hi : i ∈ yS s) :
    ((Memref.whole cc0_scratch8).access (Rect.unit (s := S2x256x512) (yslotOff s) S1x256x512.size inb)).write (Elt F) f p Finset.univ i = ybuf w xd s i := by
  subst hp
  rw [yS_eq, Rect.mem_set_unit] at hi
  have h0 : s % 2 ≤ (i 0).val ∧ (i 0).val < s % 2 + 1 := hi 0
  refine write_in cc0_scratch8 _ _ inb f _ i (ValueIdx.ix3 0 (i 1) (i 2)) fun a => ?_
  match a with
  | ⟨0, _⟩ => show (i 0).val = s % 2 + 0; omega
  | ⟨1, _⟩ => exact (Nat.zero_add _).symm
  | ⟨2, _⟩ => exact (Nat.zero_add _).symm

/-- A finished strip is rounded, put in its slot and sent; the accumulator starts again. -/
theorem finish_body {s a : ℕ} (hs : s < 36) (ha : a ≤ s) {α : Type} {offL offB : Fin 3 → ℕ} {offS : Fin 1 → ℕ} {offT : Fin 2 → ℕ} {iL iS iB iT}
    (hL : offL = yslotOff s) (hS : offS = ysemOff s) (hB : offB = yslotOff s) (hT : offT = ytOff s)
    {p57 : Vec F S256x512 .f32 → FVec F S1x256x512 .bf16} (hp57 : ∀ v, p57 v = k0_pay57 v) {p58 : FVec F S256x512 .f32} (hp58 : p58 = k0_pay58)
    {i1 i2 i3 hl1 hl2 hl3 hx hm hx2 hm2 hsrc hdst hsem} {K : Prog (TpuEff nD τ sig (Elt F) Λ₀ .tc) α} {Q : α → sProp 𝕄} :
    iprop(((c : Thread nD τ).loc cc0_scratch7 ↦[Finset.univ]{fullShare} accM w xd (7 * (s + 1))) ∗ yI c s ∗ YQ c w xd Y0 a s)
      ⊢ iprop((iprop(((c : Thread nD τ).loc cc0_scratch7 ↦[Finset.univ]{fullShare} k0_pay58 (F := F)) ∗ YQ c w xd Y0 a (s + 1)) -∗ WP c K Q)
        -∗ WP c (Prog.lift (.load (Memref.whole cc0_scratch7) (Rect.unit (s := S256x512) ![0, 0] S256x512.size i1).toLoadRect hl1) >>= fun v =>
          Prog.lift (.load (Memref.whole cc0_scratch8) (Rect.unit (s := S2x256x512) offL S1x256x512.size iL).toLoadRect hl2) >>= fun _ =>
          Prog.lift (.store (Memref.whole cc0_scratch8) (Rect.unit (s := S2x256x512) offL S1x256x512.size iL) (p57 v) Finset.univ hx hm) >>= fun _ =>
          Prog.lift (.load (Memref.whole cc0_scratch7) (Rect.unit (s := S256x512) ![0, 0] S256x512.size i2).toLoadRect hl3) >>= fun _ =>
          Prog.lift (.store (Memref.whole cc0_scratch7) (Rect.unit (s := S256x512) ![0, 0] S256x512.size i3) p58 Finset.univ hx2 hm2) >>= fun _ =>
          Prog.lift (TpuEff.enqueueDma (p := Proc.tc)
            (((Memref.whole cc0_scratch8).slice (Rect.unit (s := S2x256x512) offB S1x256x512.size iB) (fun _ => rfl)).squeeze
              S256x512 squeezes_S1x256x512_S256x512)
            (.here ((Memref.whole main_v2_0).slice (Rect.unit (s := S256x18432) offT S256x512.size iT) (fun _ => rfl)))
            (.dma ((cc0_scratch20.slice (Rect.unit (s := S2) offS S1.size iS)).squeeze S_ squeezes_S1_S_).sem) hsrc hdst hsem) >>= fun _ => K) Q) := by
  subst hL; subst hp58
  unfold yI
  iintro ⟨HA, ⟨⟨%f, HY⟩, Hs⟩, HQ⟩ HK
  iapply (rdk c (Finset.subset_univ _))
  isplitl [HA]; · iexact HA
  iintro HA
  rw [acc_read]
  iapply (rdk c (yslot_sub s iL))
  isplitl [HY]; · iexact HY
  iintro HY
  iapply (wrk c (yslot_sub s iL))
  isplitl [HY]; · iexact HY
  iintro HY
  iapply (rdk c (Finset.subset_univ _))
  isplitl [HA]; · iexact HA
  iintro HA
  iapply (wrk c (Finset.subset_univ _))
  isplitl [HA]; · iexact HA
  iintro HA
  rw [acc_write]
  rw [WP_bind]
  iapply (y_start c w xd Y0 hs ha hS hB hT) $$ [HY Hs HQ]
  · isplitl [HY]
    · unfold yB
      have e : (iprop((c : Thread nD τ).loc cc0_scratch8 ↦[yS s]{fullShare} ((Memref.whole cc0_scratch8).access (Rect.unit (s := S2x256x512) (yslotOff s) S1x256x512.size iL)).write (Elt F) f
          (p57 (accM w xd (7 * (s + 1)))) Finset.univ) : sProp 𝕄) = ((c : Thread nD τ).loc cc0_scratch8 ↦[yS s]{fullShare} ybuf w xd s) :=
        pointsTo_congr fun i hi => yslot_write w xd s f iL _ (hp57 _) i hi
      rw [← e]
      iexact HY
    isplitl [Hs]; · iexact Hs
    iexact HQ
  iintro HQ
  iapply HK
  isplitl [HA]; · iexact HA
  iexact HQ

/-- The strip is finished where a unit begins a new one. -/
theorem finish_if {u : ℕ} (hu : u < 252) {p : Prop} [Decidable p] (hp : p ↔ (u % 7 = 0 ∧ 0 < u)) {α : Type}
    {B : p → Prog (TpuEff nD τ sig (Elt F) Λ₀ .tc) α} {K : Prog (TpuEff nD τ sig (Elt F) Λ₀ .tc) α} {Q : α → sProp 𝕄}
    (hB : ∀ (h : p) (h1 : u % 7 = 0 ∧ 0 < u) (hs : (u - 1) / 7 < 36) (hu7 : u = 7 * ((u - 1) / 7 + 1)), iprop(((c : Thread nD τ).loc cc0_scratch7 ↦[Finset.univ]{fullShare} accM w xd (7 * ((u - 1) / 7 + 1)))
        ∗ YQ c w xd Y0 ((u - 1) / 7 - 2) ((u - 1) / 7) ∗ YE c ((u - 1) / 7) ∗ Ow c)
      ⊢ iprop((iprop(((c : Thread nD τ).loc cc0_scratch7 ↦[Finset.univ]{fullShare} k0_pay58 (F := F))
        ∗ YQ c w xd Y0 ((u - 1) / 7 + 1 - 2) ((u - 1) / 7 + 1) ∗ YE c ((u - 1) / 7 + 1) ∗ Ow c) -∗ WP c K Q) -∗ WP c (B h) Q)) :
    iprop(((c : Thread nD τ).loc cc0_scratch7 ↦[Finset.univ]{fullShare} accM w xd u)
        ∗ YQ c w xd Y0 ((u - 1) / 7 - 2) ((u - 1) / 7) ∗ YE c ((u - 1) / 7) ∗ Ow c)
      ⊢ iprop((iprop(((c : Thread nD τ).loc cc0_scratch7 ↦[Finset.univ]{fullShare} accE w xd (u + 1))
        ∗ YQ c w xd Y0 ((u + 1 - 1) / 7 - 2) ((u + 1 - 1) / 7) ∗ YE c ((u + 1 - 1) / 7) ∗ Ow c) -∗ WP c K Q)
        -∗ WP c (dite p B (fun _ => K)) Q) := by
  by_cases h : p
  · have h1 := hp.1 h
    have hu7 : u = 7 * ((u - 1) / 7 + 1) := by omega
    rw [dif_pos h, accE_succ_reset w xd h1]
    have e : (u + 1 - 1) / 7 = (u - 1) / 7 + 1 := by omega
    rw [e]
    have e2 : accM w xd u = accM w xd (7 * ((u - 1) / 7 + 1)) := congrArg _ hu7
    rw [e2]
    exact hB h h1 (by omega) hu7
  · have h1 := mt hp.2 h
    rw [dif_neg h, accE_succ w xd h1]
    have e : (u + 1 - 1) / 7 = (u - 1) / 7 := by omega
    rw [e]
    iintro H HQ
    iapply HQ; iexact H

end Fin

end Cert.KernelIdeal.Hand
-- ==== Proof.Whole.lean ====
/-
  Copies of whole buffers, words of scalar memory, the first transfers.
-/
module

public import proofs.«01_k».proof.Proof.Finish

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Words of scalar memory -/

/-- A load of a word of scalar memory followed by the rest. -/
theorem sldk (c : Dev nD) {α : Type} {s : Shape} {e : EltTy} {m : Memref sig .tc .smem s e} {r : Rect s}
    {h1 : r.shape.numel = 1} {hp : e.packing = 1} {S : Finset (Idx ((m.access r).loc (c : Thread nD τ)))} {q : PosShare TreeShare}
    {f : Buf (Elt F) ((m.access r).loc (c : Thread nD τ))} {K : Elt F e → Prog (TpuEff nD τ sig (Elt F) Λ₀ .tc) α} {Q : α → sProp 𝕄}
    (hS : (m.access r).set ⊆ S) :
    iprop(((m.access r).loc (c : Thread nD τ) ↦[S]{q} f) ∗ (((m.access r).loc (c : Thread nD τ) ↦[S]{q} f)
      -∗ WP c (K ((m.access r).read (Elt F) f (Shape.Idx.first (h1.symm ▸ Nat.one_pos)))) Q)) ⊢ WP c (smemLoad m r h1 hp >>= K) Q := by
  rw [WP_bind]
  iintro ⟨H, HK⟩
  iapply (sld (F := F) c (m := m) (r := r) (h1 := h1) (hp := hp) (q := q) (f := f) (Q := fun x => WP c (K x) Q) hS) $$ H
  iexact HK

variable (c : Dev nD) (x : S256x7168.Idx → Elt F .bf16) (h : S1x16.Idx → Elt F .f32)

/-- A word of the history is read. -/
theorem hist_ld {α : Type} {k : ℕ} {inb : ∀ a, (![0, k] : Fin 2 → ℕ) a + S1x1.size a ≤ S1x16.size a} {h1 hp}
    {K : Elt F .f32 → Prog (TpuEff nD τ sig (Elt F) Λ₀ .tc) α} {Q : α → sProp 𝕄} :
    ((c : Thread nD τ).loc cc0_scratch11 ↦[Finset.univ]{fullShare} h) ⊢ iprop((((c : Thread nD τ).loc cc0_scratch11 ↦[Finset.univ]{fullShare} h) -∗ WP c (K (hw h (Fin.ofNat 16 k))) Q)
      -∗ WP c (smemLoad (Memref.whole cc0_scratch11) (Rect.unit (s := S1x16) ![0, k] S1x1.size inb) h1 hp >>= K) Q) := by
  have hk : k + 1 ≤ 16 := inb 1
  have e : ∀ y, ((Memref.whole cc0_scratch11).access (Rect.unit (s := S1x16) ![0, k] S1x1.size inb)).read (Elt F) h y = hw h (Fin.ofNat 16 k) := fun y =>
    read_at cc0_scratch11 _ _ inb h y _ fun a => match a with
      | ⟨0, _⟩ => by
          have y0 : (y 0).val < 1 := (y 0).isLt
          show (0 : ℕ) = 0 + (y 0).val
          omega
      | ⟨1, _⟩ => by
          have y1 : (y 1).val < 1 := (y 1).isLt
          show k % 16 = k + (y 1).val
          rw [Nat.mod_eq_of_lt (by omega)]
          omega
  iintro H HK
  iapply (sldk c (Finset.subset_univ _))
  isplitl [H]; · iexact H
  iintro H
  rw [e]
  iapply HK; iexact H

/-- The new history, its first `n` words written. -/
def Hn (n : ℕ) : sProp 𝕄 := iprop(∃ f : S1x16.Idx → Elt F .f32, ⌜∀ i : S1x16.Idx, (i 1).val < n → f i = Hout x h i⌝ ∗ ((c : Thread nD τ).loc cc0_scratch12 ↦[Finset.univ]{fullShare} f))

/-- A word of the new history is written. -/
theorem hn_put {α : Type} {k : ℕ} {inb : ∀ a, (![0, k] : Fin 2 → ℕ) a + S1x1.size a ≤ S1x16.size a} {inb' : ∀ a, (![0, k] : Fin 2 → ℕ) a + S1x1.size a ≤ S1x16.size a} {v : F .f32} {h1 hp hx hm}
    (hv : v = Hout x h (ValueIdx.ix2 0 (Fin.ofNat 16 k)))
    {K : Prog (TpuEff nD τ sig (Elt F) Λ₀ .tc) α} {Q : α → sProp 𝕄} :
    Hn c x h k ⊢ iprop((Hn c x h (k + 1) -∗ WP c K Q)
      -∗ WP c (smemLoad (Memref.whole cc0_scratch12) (Rect.unit (s := S1x16) ![0, k] S1x1.size inb) h1 hp >>= fun _ =>
        Prog.lift (.store (Memref.whole cc0_scratch12) (Rect.unit (s := S1x16) ![0, k] S1x1.size inb') (fun _ => v) Finset.univ hx hm) >>= fun _ => K) Q) := by
  have hk : k + 1 ≤ 16 := inb 1
  unfold Hn
  iintro ⟨%f, %hf, H⟩ HK
  iapply (sldk c (Finset.subset_univ _))
  isplitl [H]; · iexact H
  iintro H
  iapply (wrk c (Finset.subset_univ _))
  isplitl [H]; · iexact H
  iintro H
  iapply HK
  iexists _
  isplitr
  rotate_left
  · iexact H
  ipureintro
  intro i hi
  by_cases hik : (i 1).val = k
  · have e1 : i = ValueIdx.ix2 0 (Fin.ofNat 16 k) := by
      funext a; apply Fin.ext
      match a with
      | ⟨0, _⟩ =>
          have : (i 0).val < 1 := (i 0).isLt
          show (i 0).val = 0
          omega
      | ⟨1, _⟩ =>
          show (i 1).val = k % 16
          rw [Nat.mod_eq_of_lt (by omega)]; exact hik
    rw [e1, ← hv]
    refine write_in cc0_scratch12 _ _ inb' f (fun _ => v) _ (ValueIdx.ix2 0 0) fun a => ?_
    match a with
    | ⟨0, _⟩ => rfl
    | ⟨1, _⟩ =>
        show k % 16 = k + 0
        rw [Nat.mod_eq_of_lt (by omega)]; rfl
  · have hlt : (i 1).val < k := by omega
    rw [← hf i hlt]
    refine write_out cc0_scratch12 _ _ inb' f (fun _ => v) i 1 (.inl hlt)

theorem Hout_succ {k : ℕ} (hk : k + 1 < 16) : hw h (Fin.ofNat 16 k) = Hout x h (ValueIdx.ix2 0 (Fin.ofNat 16 (k + 1))) := by
  have e : ((ValueIdx.ix2 0 (Fin.ofNat 16 (k + 1)) : S1x16.Idx) 1).val = k + 1 := Nat.mod_eq_of_lt hk
  unfold Hout hw
  rw [if_neg (by omega), e]
  rfl

/-! ## Copies of whole buffers -/

/-- A copy of a whole buffer is started. -/
theorem startW {α : Type} {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) sp sm (DmaTarget.here (p := Proc.tc) (τ := τ) dst)}
    {K : PUnit → Prog (TpuEff nD τ sig (Elt F) Λ₀ .tc) α} {Q : α → sProp 𝕄} {fs : Buf (Elt F) (src.view.loc (c : Thread nD τ))}
    {fd g : Buf (Elt F) (dst.view.loc (c : Thread nD τ))} (hs : src.view.set = Finset.univ)
    (hg : dst.view.write (Elt F) fd (src.view.read (Elt F) fs) Finset.univ = g)
    (N : ℕ) (hN : dst.view.amount sm = N) (hN0 : 0 < N) :
    iprop((src.view.loc (c : Thread nD τ) ↦[Finset.univ]{fullShare} fs) ∗ (dst.view.loc (c : Thread nD τ) ↦[Finset.univ]{fullShare} fd) ∗ semVal ((c : Thread nD τ), sm) 0)
      ⊢ iprop((Transfers.Flight EC (c : Thread nD τ) sm () N iprop((dst.view.loc (c : Thread nD τ) ↦[Finset.univ]{fullShare} g) ∗ (src.view.loc (c : Thread nD τ) ↦[Finset.univ]{fullShare} fs)) -∗ WP c (K ⟨⟩) Q)
        -∗ WP c (Prog.lift (TpuEff.enqueueDma (p := Proc.tc) src (.here dst) sm hsrc hdst hsem) >>= K) Q) := by
  subst hg
  rw [WP_bind]
  have := start (F := F) c (src := src) (dst := dst) (sm := sm) (hsrc := hsrc) (hdst := hdst) (hsem := hsem) (q := fullShare) (fs := fs) (fd := fd)
    (Q := fun y => WP c (K y) Q) N hN hN0 (Finset.subset_univ _) _ .rfl
  rw [hs] at this
  exact this

/-- A copy is waited for, followed by the rest. -/
theorem waitK {α : Type} {sp sp' : Space} {s s' : Shape} {e e' : EltTy} {srcw : Memref sig .tc sp' s' e'} {dstw : Memref sig .tc sp s e} {sem : DmaSem sig}
    {hsrc : srcw.view.WordExact} {hdst : dstw.view.WordExact} {K : PUnit → Prog (TpuEff nD τ sig (Elt F) Λ₀ .tc) α}
    {Q : α → sProp 𝕄} (N : ℕ) (hN : dstw.view.dmaCredit = N) {D : sProp 𝕄} :
    iprop(Transfers.Flight EC (c : Thread nD τ) (.dma sem) () N D ∗ Ow c)
      ⊢ iprop((iprop(D ∗ semVal ((c : Thread nD τ), .dma sem) 0 ∗ Ow c) -∗ WP c (K ⟨⟩) Q)
        -∗ WP c (Prog.lift (TpuEff.waitDma2 (p := Proc.tc) sem srcw dstw hsrc hdst) >>= K) Q) := by
  rw [WP_bind]
  exact wait (F := F) c (hsrc := hsrc) (hdst := hdst) (Q := fun y => WP c (K y) Q) N hN (D := D)

/-- The counters of the whole copies. -/
abbrev xcell0 : DmaSem sig := ((cc0_scratch21.slice (Rect.unit (s := S2) ![0] S1.size inb_S2_S1_0)).squeeze S_ squeezes_S1_S_).sem
abbrev xcell1 : DmaSem sig := ((cc0_scratch21.slice (Rect.unit (s := S2) ![1] S1.size inb_S2_S1_1)).squeeze S_ squeezes_S1_S_).sem
abbrev mcell0 : DmaSem sig := ((cc0_scratch22.slice (Rect.unit (s := S4) ![0] S1.size inb_S4_S1_0)).squeeze S_ squeezes_S1_S_).sem
abbrev mcell1 : DmaSem sig := ((cc0_scratch22.slice (Rect.unit (s := S4) ![1] S1.size inb_S4_S1_1)).squeeze S_ squeezes_S1_S_).sem
abbrev mcell2 : DmaSem sig := ((cc0_scratch22.slice (Rect.unit (s := S4) ![2] S1.size inb_S4_S1_2)).squeeze S_ squeezes_S1_S_).sem
abbrev mcell3 : DmaSem sig := ((cc0_scratch22.slice (Rect.unit (s := S4) ![3] S1.size inb_S4_S1_3)).squeeze S_ squeezes_S1_S_).sem

abbrev N11 : ℕ := (Memref.whole cc0_scratch11).view.dmaCredit
abbrev N0 : ℕ := (Memref.whole cc0_scratch0).view.dmaCredit
abbrev N13 : ℕ := (Memref.whole main_v2_3).view.dmaCredit
abbrev N2 : ℕ := (Memref.whole main_v2_2).view.dmaCredit
abbrev N12 : ℕ := (Memref.whole main_v2_1).view.dmaCredit
abbrev N10 : ℕ := (Memref.whole main_v2_5).view.dmaCredit

/-- The copies in flight: the history and the activation inwards, -/
def FH : sProp 𝕄 := Transfers.Flight EC (c : Thread nD τ) (.dma mcell0) () N11 iprop(((c : Thread nD τ).loc cc0_scratch11 ↦[Finset.univ]{fullShare} h) ∗ ((c : Thread nD τ).loc main_v1 ↦[Finset.univ]{fullShare} h))
def FX : sProp 𝕄 := Transfers.Flight EC (c : Thread nD τ) (.dma xcell0) () N0 iprop(((c : Thread nD τ).loc cc0_scratch0 ↦[Finset.univ]{fullShare} x) ∗ ((c : Thread nD τ).loc main_v0 ↦[Finset.univ]{fullShare} x))
/-- the activation's scale and codes and the new history outwards. -/
def FXS : sProp 𝕄 := Transfers.Flight EC (c : Thread nD τ) (.dma mcell2) () N13 iprop(((c : Thread nD τ).loc main_v2_3 ↦[Finset.univ]{fullShare} XSout h) ∗ ((c : Thread nD τ).loc cc0_scratch13 ↦[Finset.univ]{fullShare} XSout h))
def FXC : sProp 𝕄 := Transfers.Flight EC (c : Thread nD τ) (.dma xcell1) () N2 iprop(((c : Thread nD τ).loc main_v2_2 ↦[Finset.univ]{fullShare} XC x h) ∗ ((c : Thread nD τ).loc cc0_scratch2 ↦[Finset.univ]{fullShare} XC x h))
def FHN : sProp 𝕄 := Transfers.Flight EC (c : Thread nD τ) (.dma mcell1) () N12 iprop(((c : Thread nD τ).loc main_v2_1 ↦[Finset.univ]{fullShare} Hout x h) ∗ ((c : Thread nD τ).loc cc0_scratch12 ↦[Finset.univ]{fullShare} Hout x h))

variable (w : S7168x18432.Idx → Elt F .bf16)

/-- The first fourteen transfers of the weights, `v` of them started. -/
def Fill (v : ℕ) : sProp 𝕄 := iprop(bigSep (Finset.Ico v 14) (wI c (F := F)) ∗ WQ c w 0 v)

/-- One of the first fourteen transfers. -/
theorem w_fill {v : ℕ} (hv : v < 14) {offS offB offT} {iS iB iT} (hS : offS = semOff v) (hB : offB = slotOff v) (hT : offT = tOff v)
    {α : Type} {hsrc hdst hsem} {K : PUnit → Prog (TpuEff nD τ sig (Elt F) Λ₀ .tc) α} {Q : α → sProp 𝕄} :
    Fill c w v ⊢ iprop((Fill c w (v + 1) -∗ WP c (K ⟨⟩) Q)
      -∗ WP c (Prog.lift (TpuEff.enqueueDma (p := Proc.tc)
        ((Memref.whole main_arg2).slice (Rect.unit (s := S7168x18432) offT S1024x512.size iT) (fun _ => rfl))
        (.here (((Memref.whole cc0_scratch3).slice (Rect.unit (s := S2x7168x512) offB S1x1024x512.size iB) (fun _ => rfl)).squeeze
          S1024x512 squeezes_S1x1024x512_S1024x512))
        (.dma ((cc0_scratch18.slice (Rect.unit (s := S2x7) offS S1x1.size iS)).squeeze S_ squeezes_S1x1_S_).sem) hsrc hdst hsem) >>= K) Q) := by
  unfold Fill
  rw [Ico_take hv, WP_bind]
  iintro ⟨⟨HI, HR⟩, HW⟩ HK
  iapply (w_start c w (v := v) (a := 0) (by omega) (by omega) hS hB hT) $$ [HI HW]
  · isplitl [HI]; · iexact HI
    iexact HW
  iintro HW
  iapply HK
  isplitl [HR]; · iexact HR
  iexact HW

end Cert.KernelIdeal.Hand
-- ==== Proof.Start.lean ====
/-
  The kernel before its main loop.
-/
module

public import proofs.«01_k».proof.Proof.Whole

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (x : S256x7168.Idx → Elt F .bf16) (h : S1x16.Idx → Elt F .f32) (w : S7168x18432.Idx → Elt F .bf16)

/-- Equal results. -/
theorem Q_eq {β : Type} {a b : β} (e : a = b) (Q : β → sProp 𝕄) : Q a ⊢ Q b := by subst e; exact .rfl

/-- The first copies start: the history, the activation and three tiles of the weights. -/
theorem part17_rule {Q : PUnit → sProp 𝕄} :
    iprop(((c : Thread nD τ).loc main_v1 ↦[Finset.univ]{fullShare} h) ∗ (∃ f : S1x16.Idx → Elt F .f32, ((c : Thread nD τ).loc cc0_scratch11 ↦[Finset.univ]{fullShare} f)) ∗ semVal ((c : Thread nD τ), .dma mcell0) 0 ∗ ((c : Thread nD τ).loc main_v0 ↦[Finset.univ]{fullShare} x) ∗ (∃ f : S256x7168.Idx → Elt F .bf16, ((c : Thread nD τ).loc cc0_scratch0 ↦[Finset.univ]{fullShare} f)) ∗ semVal ((c : Thread nD τ), .dma xcell0) 0 ∗ Fill c w 0)
      ⊢ iprop((iprop(FH c h ∗ FX c x ∗ Fill c w 3) -∗ Q ⟨⟩) -∗ WP c (atArgs (k0_part17 (F := F))) Q) := by
  rw [k0_part17_eq_skeleton]
  unfold k0_part17_skel
  simp -zeta only [atArgs, bind_assoc, pure_bind]
  iintro ⟨HV, ⟨%f1, HS⟩, Hm, HX, ⟨%f2, HB⟩, Hx, HW⟩ HQ
  iapply (startW c (View.set_whole _) (View.write_whole_univ _ _ _) N11 rfl (by decide)) $$ [HV HS Hm]
  · isplitl [HV]; · iexact HV
    isplitl [HS]; · iexact HS
    iexact Hm
  iintro HFH
  iapply (startW c (View.set_whole _) (View.write_whole_univ _ _ _) N0 rfl (by decide)) $$ [HX HB Hx]
  · isplitl [HX]; · iexact HX
    isplitl [HB]; · iexact HB
    iexact Hx
  iintro HFX
  iapply (w_fill c w (v := 0) (by decide) (off1_eq 0) (off2_eq 0) rfl) $$ HW; iintro HW
  iapply (w_fill c w (v := 1) (by decide) (off3_eq 0) (off4_eq 0) rfl) $$ HW; iintro HW
  iapply (w_fill c w (v := 2) (by decide) (off5_eq 0) (off6_eq 0) rfl) $$ HW; iintro HW
  iapply WP_pure
  iapply HQ
  unfold FH FX
  isplitl [HFH]; · iexact HFH
  isplitl [HFX]; · iexact HFX
  iexact HW

theorem part18_rule {Q : PUnit → sProp 𝕄} :
    Fill c w 3 ⊢ iprop((Fill c w 8 -∗ Q ⟨⟩) -∗ WP c (atArgs (k0_part18 (F := F))) Q) := by
  rw [k0_part18_eq_skeleton]
  unfold k0_part18_skel
  simp -zeta only [atArgs, bind_assoc, pure_bind]
  iintro HW HQ
  iapply (w_fill c w (v := 3) (by decide) (off7_eq 0) (off8_eq 0) rfl) $$ HW; iintro HW
  iapply (w_fill c w (v := 4) (by decide) (off9_eq 0) (off10_eq 0) rfl) $$ HW; iintro HW
  iapply (w_fill c w (v := 5) (by decide) (off11_eq 0) (off12_eq 0) rfl) $$ HW; iintro HW
  iapply (w_fill c w (v := 6) (by decide) (off13_eq 0) (off14_eq 0) rfl) $$ HW; iintro HW
  iapply (w_fill c w (v := 7) (by decide) (off1_eq 1) (off2_eq 1) rfl) $$ HW; iintro HW
  iapply WP_pure
  iapply HQ; iexact HW

theorem part19_rule {Q : PUnit → sProp 𝕄} :
    Fill c w 8 ⊢ iprop((Fill c w 12 -∗ Q ⟨⟩) -∗ WP c (atArgs (k0_part19 (F := F))) Q) := by
  rw [k0_part19_eq_skeleton]
  unfold k0_part19_skel
  simp -zeta only [atArgs, bind_assoc, pure_bind]
  iintro HW HQ
  iapply (w_fill c w (v := 8) (by decide) (off3_eq 1) (off4_eq 1) rfl) $$ HW; iintro HW
  iapply (w_fill c w (v := 9) (by decide) (off5_eq 1) (off6_eq 1) rfl) $$ HW; iintro HW
  iapply (w_fill c w (v := 10) (by decide) (off7_eq 1) (off8_eq 1) rfl) $$ HW; iintro HW
  iapply (w_fill c w (v := 11) (by decide) (off9_eq 1) (off10_eq 1) rfl) $$ HW; iintro HW
  iapply WP_pure
  iapply HQ; iexact HW

/-- The last two transfers; the history arrives and its first half is read. -/
theorem part20_rule {Q : F .f32 → sProp 𝕄} :
    iprop(Fill c w 12 ∗ FH c h ∗ Ow c)
      ⊢ iprop((iprop(Fill c w 14 ∗ ((c : Thread nD τ).loc cc0_scratch11 ↦[Finset.univ]{fullShare} h) ∗ ((c : Thread nD τ).loc main_v1 ↦[Finset.univ]{fullShare} h) ∗ semVal ((c : Thread nD τ), .dma mcell0) 0 ∗ Ow c) -∗ Q (h8 h)) -∗ WP c (atArgs (k0_part20 (F := F))) Q) := by
  rw [k0_part20_eq_skeleton]
  unfold k0_part20_skel
  simp -zeta only [atArgs, bind_assoc, pure_bind]
  iintro ⟨HW, HF, HO⟩ HQ
  iapply (w_fill c w (v := 12) (by decide) (off11_eq 1) (off12_eq 1) rfl) $$ HW; iintro HW
  iapply (w_fill c w (v := 13) (by decide) (off13_eq 1) (off14_eq 1) rfl) $$ HW; iintro HW
  unfold FH
  iapply (waitK c N11 rfl) $$ [HF HO]
  · isplitl [HF]; · iexact HF
    iexact HO
  iintro ⟨⟨HS, HV⟩, Hm, HO⟩
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply WP_pure
  iapply (Q_eq (a := h8 h) ?e Q)
  case e => rfl
  iapply HQ
  isplitl [HW]; · iexact HW
  isplitl [HS]; · iexact HS
  isplitl [HV]; · iexact HV
  isplitl [Hm]; · iexact Hm
  iexact HO

/-- The second half of the history is read. -/
theorem part21_rule {Q : (Σ' (v121 : FVec F S8x128 .f32) (v124 : FVec F S8x128 .f32) (v134 : IVec S8x128 32) (v136 : IVec S8x128 32), FVec F S8x128 .f32) → sProp 𝕄} :
    ((c : Thread nD τ).loc cc0_scratch11 ↦[Finset.univ]{fullShare} h) ⊢ iprop((((c : Thread nD τ).loc cc0_scratch11 ↦[Finset.univ]{fullShare} h) -∗ Q ⟨xv121 h, xv124 h, xv134 h, xv136 h, xv141 h⟩) -∗ WP c (atArgs (k0_part21 (F := F)) (h8 h)) Q) := by
  rw [k0_part21_eq_skeleton]
  unfold k0_part21_skel
  simp -zeta only [atArgs, bind_assoc, pure_bind]
  iintro HS HQ
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply (hist_ld c h) $$ HS; iintro HS
  iapply WP_pure
  iapply (Q_eq (a := ⟨xv121 h, xv124 h, xv134 h, xv136 h, xv141 h⟩) ?e Q)
  case e => rfl
  iapply HQ; iexact HS

theorem part22_rule {Q : (Σ' (v179 : IVec S8x128 32) (v181 : IVec S8x128 32), FVec F S8x128 .f32) → sProp 𝕄} :
    Q ⟨xv179 h, xv181 h, xv186 h⟩ ⊢ WP c (atArgs (k0_part22 (F := F)) (xv124 h) (xv134 h) (xv136 h) (xv141 h)) Q := by
  rw [k0_part22_eq_skeleton]
  unfold k0_part22_skel
  simp -zeta only [atArgs, bind_assoc, pure_bind]
  iintro HQ
  iapply WP_pure
  iapply (Q_eq (a := ⟨xv179 h, xv181 h, xv186 h⟩) ?e Q)
  case e => rfl
  iexact HQ

theorem part23_rule {Q : (Σ' (v218 : IVec S8x128 32) (v225 : IVec S8x128 32), IVec S8x128 32) → sProp 𝕄} :
    Q ⟨xInv h, xScl h, xBits h⟩ ⊢ WP c (atArgs (k0_part23 (F := F)) (xv121 h) (xv124 h) (xv179 h) (xv181 h) (xv186 h)) Q := by
  rw [k0_part23_eq_skeleton]
  unfold k0_part23_skel
  simp -zeta only [atArgs, bind_assoc, pure_bind]
  iintro HQ
  iapply WP_pure
  iapply (Q_eq (a := ⟨xInv h, xScl h, xBits h⟩) ?e Q)
  case e => rfl
  iexact HQ

theorem xs_write (f : S1x1.Idx → Elt F .f32) (inb) :
    ((Memref.whole cc0_scratch13).access (Rect.unit (s := S1x1) ![0, 0] S1x1.size inb)).write (Elt F) f (fun _ => k0_pay78 (F := F) (xBits h)) Finset.univ = XSout h := by
  funext i
  exact write_in cc0_scratch13 _ _ inb f (fun _ => k0_pay78 (F := F) (xBits h)) i i fun a => match a with
    | ⟨0, _⟩ => (Nat.zero_add _).symm
    | ⟨1, _⟩ => (Nat.zero_add _).symm

theorem xs_write' (f : S1x1.Idx → Elt F .f32) (inb) :
    ((c : Thread nD τ).loc cc0_scratch13 ↦[Finset.univ]{fullShare} ((Memref.whole cc0_scratch13).access (Rect.unit (s := S1x1) ![0, 0] S1x1.size inb)).write (Elt F) f (fun _ => k0_pay78 (F := F) (xBits h)) Finset.univ)
      ⊢ (((c : Thread nD τ).loc cc0_scratch13 ↦[Finset.univ]{fullShare} XSout h) : sProp 𝕄) := by rw [xs_write h f inb]

set_option maxHeartbeats 4000000 in
/-- The activation is quantised; its scale and codes leave; the new history begins. -/
theorem part24_rule {Q : PUnit → sProp 𝕄} :
    iprop(((c : Thread nD τ).loc cc0_scratch11 ↦[Finset.univ]{fullShare} h) ∗ (∃ f : S1x1.Idx → Elt F .f32, ((c : Thread nD τ).loc cc0_scratch13 ↦[Finset.univ]{fullShare} f)) ∗ (∃ f : S1x1.Idx → Elt F .f32, ((c : Thread nD τ).loc main_v2_3 ↦[Finset.univ]{fullShare} f)) ∗ semVal ((c : Thread nD τ), .dma mcell2) 0 ∗ FX c x ∗ (∃ f : S256x7168.Idx → Elt F .bf16, ((c : Thread nD τ).loc cc0_scratch1 ↦[Finset.univ]{fullShare} f)) ∗ (∃ f : S256x7168.Idx → Elt F .fp8e4m3, ((c : Thread nD τ).loc cc0_scratch2 ↦[Finset.univ]{fullShare} f)) ∗ (∃ f : S256x7168.Idx → Elt F .fp8e4m3, ((c : Thread nD τ).loc main_v2_2 ↦[Finset.univ]{fullShare} f)) ∗ semVal ((c : Thread nD τ), .dma xcell1) 0 ∗ (∃ f : S1x16.Idx → Elt F .f32, ((c : Thread nD τ).loc cc0_scratch12 ↦[Finset.univ]{fullShare} f)) ∗ Ow c)
      ⊢ iprop((iprop(((c : Thread nD τ).loc cc0_scratch11 ↦[Finset.univ]{fullShare} h) ∗ FXS c h ∗ ((c : Thread nD τ).loc cc0_scratch0 ↦[Finset.univ]{fullShare} x) ∗ ((c : Thread nD τ).loc main_v0 ↦[Finset.univ]{fullShare} x) ∗ semVal ((c : Thread nD τ), .dma xcell0) 0 ∗ ((c : Thread nD τ).loc cc0_scratch1 ↦[Finset.univ]{fullShare} XD x h) ∗ FXC c x h ∗ Hn c x h 4 ∗ Ow c) -∗ Q ⟨⟩)
        -∗ WP c (atArgs (k0_part24 (F := F)) (xInv h) (xScl h) (xBits h)) Q) := by
  rw [k0_part24_eq_skeleton]
  unfold k0_part24_skel
  simp -zeta only [atArgs, bind_assoc, pure_bind]
  iintro ⟨HS, ⟨%f1, H13⟩, ⟨%f2, Ho3⟩, Hm2, HF, ⟨%f3, H1⟩, ⟨%f4, H2⟩, ⟨%f5, Ho2⟩, Hx1, ⟨%f6, H12⟩, HO⟩ HQ
  iapply (sldk c (Finset.subset_univ _))
  isplitl [H13]; · iexact H13
  iintro H13
  iapply (wrk c (Finset.subset_univ _))
  isplitl [H13]; · iexact H13
  iintro H13
  ihave H13 := (xs_write' c h f1 _) $$ H13
  iapply (startW c (View.set_whole _) (View.write_whole_univ _ _ _) N13 rfl (by decide)) $$ [H13 Ho3 Hm2]
  · isplitl [H13]; · iexact H13
    isplitl [Ho3]; · iexact Ho3
    iexact Hm2
  iintro HFXS
  unfold FX
  iapply (waitK c N0 rfl) $$ [HF HO]
  · isplitl [HF]; · iexact HF
    iexact HO
  iintro ⟨⟨H0, HV⟩, Hx0, HO⟩
  rw [WP_bind]
  iapply (x_loop c x h f3 f4 (xBits h)) $$ [H0 H1 H2]
  · isplitl [H0]; · iexact H0
    isplitl [H1]; · iexact H1
    iexact H2
  iintro ⟨H0, H1, H2⟩
  iapply (startW c (View.set_whole _) (View.write_whole_univ _ _ _) N2 rfl (by decide)) $$ [H2 Ho2 Hx1]
  · isplitl [H2]; · iexact H2
    isplitl [Ho2]; · iexact Ho2
    iexact Hx1
  iintro HFXC
  ihave HN := (show ((c : Thread nD τ).loc cc0_scratch12 ↦[Finset.univ]{fullShare} f6) ⊢ Hn c x h 0 from by
    unfold Hn
    iintro H
    iexists f6
    isplitr; · ipureintro; exact fun i hi => absurd hi (Nat.not_lt_zero _)
    iexact H) $$ H12
  iapply (hn_put c x h (k := 0) (v := k0_pay81 (xam x 56)) rfl) $$ HN; iintro HN
  iapply (hist_ld c h) $$ HS; iintro HS
  iapply (hn_put c x h (Hout_succ x h (k := 0) (by decide))) $$ HN; iintro HN
  iapply (hist_ld c h) $$ HS; iintro HS
  iapply (hn_put c x h (Hout_succ x h (k := 1) (by decide))) $$ HN; iintro HN
  iapply (hist_ld c h) $$ HS; iintro HS
  iapply (hn_put c x h (Hout_succ x h (k := 2) (by decide))) $$ HN; iintro HN
  iapply WP_pure
  iapply HQ
  unfold FXS FXC
  isplitl [HS]; · iexact HS
  isplitl [HFXS]; · iexact HFXS
  isplitl [H0]; · iexact H0
  isplitl [HV]; · iexact HV
  isplitl [Hx0]; · iexact Hx0
  isplitl [H1]; · iexact H1
  isplitl [HFXC]; · iexact HFXC
  isplitl [HN]; · iexact HN
  iexact HO

theorem part25_rule {Q : Elt F .f32 → sProp 𝕄} :
    iprop(((c : Thread nD τ).loc cc0_scratch11 ↦[Finset.univ]{fullShare} h) ∗ Hn c x h 4) ⊢ iprop((iprop(((c : Thread nD τ).loc cc0_scratch11 ↦[Finset.univ]{fullShare} h) ∗ Hn c x h 12) -∗ Q (hw h (Fin.ofNat 16 11))) -∗ WP c (atArgs (k0_part25 (F := F))) Q) := by
  rw [k0_part25_eq_skeleton]
  unfold k0_part25_skel
  simp -zeta only [atArgs, bind_assoc, pure_bind]
  iintro ⟨HS, HN⟩ HQ
  iapply (hist_ld c h) $$ HS; iintro HS
  iapply (hn_put c x h (Hout_succ x h (k := 3) (by decide))) $$ HN; iintro HN
  iapply (hist_ld c h) $$ HS; iintro HS
  iapply (hn_put c x h (Hout_succ x h (k := 4) (by decide))) $$ HN; iintro HN
  iapply (hist_ld c h) $$ HS; iintro HS
  iapply (hn_put c x h (Hout_succ x h (k := 5) (by decide))) $$ HN; iintro HN
  iapply (hist_ld c h) $$ HS; iintro HS
  iapply (hn_put c x h (Hout_succ x h (k := 6) (by decide))) $$ HN; iintro HN
  iapply (hist_ld c h) $$ HS; iintro HS
  iapply (hn_put c x h (Hout_succ x h (k := 7) (by decide))) $$ HN; iintro HN
  iapply (hist_ld c h) $$ HS; iintro HS
  iapply (hn_put c x h (Hout_succ x h (k := 8) (by decide))) $$ HN; iintro HN
  iapply (hist_ld c h) $$ HS; iintro HS
  iapply (hn_put c x h (Hout_succ x h (k := 9) (by decide))) $$ HN; iintro HN
  iapply (hist_ld c h) $$ HS; iintro HS
  iapply (hn_put c x h (Hout_succ x h (k := 10) (by decide))) $$ HN; iintro HN
  iapply (hist_ld c h) $$ HS; iintro HS
  iapply WP_pure
  iapply HQ
  isplitl [HS]; · iexact HS
  iexact HN

theorem hn_done : Hn c x h 16 ⊢ ((c : Thread nD τ).loc cc0_scratch12 ↦[Finset.univ]{fullShare} Hout x h) := by
  unfold Hn
  iintro ⟨%f, %hf, H⟩
  have e : f = Hout x h := funext fun i => hf i (i 1).isLt
  subst e
  iexact H

theorem tab_write (f p : S2x56x128.Idx → Elt F .f32) (inb) :
    ((Memref.whole cc0_scratch9).access (Rect.unit (s := S2x56x128) ![0, 0, 0] S2x56x128.size inb)).write (Elt F) f p Finset.univ = p := by
  funext x
  exact write_in cc0_scratch9 _ _ inb f p x x fun a => match a with
    | ⟨0, _⟩ => (Nat.zero_add _).symm
    | ⟨1, _⟩ => (Nat.zero_add _).symm
    | ⟨2, _⟩ => (Nat.zero_add _).symm

theorem wd1_write (f p : S1024x512.Idx → Elt F .bf16) (inb) :
    ((Memref.whole cc0_scratch6).access (Rect.unit (s := S1024x512) ![0, 0] S1024x512.size inb)).write (Elt F) f p Finset.univ = p := by
  funext x
  exact write_in cc0_scratch6 _ _ inb f p x x fun a => match a with
    | ⟨0, _⟩ => (Nat.zero_add _).symm
    | ⟨1, _⟩ => (Nat.zero_add _).symm

theorem wd1_write' (f p : S1024x512.Idx → Elt F .bf16) (inb) :
    ((c : Thread nD τ).loc cc0_scratch6 ↦[Finset.univ]{fullShare} ((Memref.whole cc0_scratch6).access (Rect.unit (s := S1024x512) ![0, 0] S1024x512.size inb)).write (Elt F) f p Finset.univ)
      ⊢ (((c : Thread nD τ).loc cc0_scratch6 ↦[Finset.univ]{fullShare} p) : sProp 𝕄) := by rw [wd1_write f p inb]

theorem acc_write' (f p : S256x512.Idx → Elt F .f32) (inb) :
    ((c : Thread nD τ).loc cc0_scratch7 ↦[Finset.univ]{fullShare} ((Memref.whole cc0_scratch7).access (Rect.unit (s := S256x512) ![0, 0] S256x512.size inb)).write (Elt F) f p Finset.univ)
      ⊢ (((c : Thread nD τ).loc cc0_scratch7 ↦[Finset.univ]{fullShare} p) : sProp 𝕄) := by rw [acc_write f p inb]

/-- The new history leaves; the accumulator and the buffers are cleared. -/
theorem part26_rule {Q : (Σ' (v282 : IVec S8x128 32), IVec S8x128 32) → sProp 𝕄} :
    iprop(((c : Thread nD τ).loc cc0_scratch11 ↦[Finset.univ]{fullShare} h) ∗ Hn c x h 12 ∗ (∃ f : S1x16.Idx → Elt F .f32, ((c : Thread nD τ).loc main_v2_1 ↦[Finset.univ]{fullShare} f)) ∗ semVal ((c : Thread nD τ), .dma mcell1) 0 ∗ (∃ f : S256x512.Idx → Elt F .f32, ((c : Thread nD τ).loc cc0_scratch7 ↦[Finset.univ]{fullShare} f)) ∗ (∃ f : S2x56x128.Idx → Elt F .f32, ((c : Thread nD τ).loc cc0_scratch9 ↦[Finset.univ]{fullShare} f)) ∗ (∃ f : S1024x512.Idx → Elt F .bf16, ((c : Thread nD τ).loc cc0_scratch6 ↦[Finset.univ]{fullShare} f)))
      ⊢ iprop((iprop(((c : Thread nD τ).loc cc0_scratch11 ↦[Finset.univ]{fullShare} h) ∗ FHN c x h ∗ ((c : Thread nD τ).loc cc0_scratch7 ↦[Finset.univ]{fullShare} k0_pay82 (F := F)) ∗ (∃ f : S2x56x128.Idx → Elt F .f32, ((c : Thread nD τ).loc cc0_scratch9 ↦[Finset.univ]{fullShare} f)) ∗ ((c : Thread nD τ).loc cc0_scratch6 ↦[Finset.univ]{fullShare} k0_pay84 (F := F))) -∗ Q ⟨lanes, subs⟩)
        -∗ WP c (atArgs (k0_part26 (F := F)) (hw h (Fin.ofNat 16 11))) Q) := by
  rw [k0_part26_eq_skeleton]
  unfold k0_part26_skel
  simp -zeta only [atArgs, bind_assoc, pure_bind]
  iintro ⟨HS, HN, ⟨%f1, Ho⟩, Hm, ⟨%f2, H7⟩, ⟨%f3, H9⟩, ⟨%f4, H6⟩⟩ HQ
  iapply (hn_put c x h (Hout_succ x h (k := 11) (by decide))) $$ HN; iintro HN
  iapply (hist_ld c h) $$ HS; iintro HS
  iapply (hn_put c x h (Hout_succ x h (k := 12) (by decide))) $$ HN; iintro HN
  iapply (hist_ld c h) $$ HS; iintro HS
  iapply (hn_put c x h (Hout_succ x h (k := 13) (by decide))) $$ HN; iintro HN
  iapply (hist_ld c h) $$ HS; iintro HS
  iapply (hn_put c x h (Hout_succ x h (k := 14) (by decide))) $$ HN; iintro HN
  ihave H12 := (hn_done c x h) $$ HN
  iapply (startW c (View.set_whole _) (View.write_whole_univ _ _ _) N12 rfl (by decide)) $$ [H12 Ho Hm]
  · isplitl [H12]; · iexact H12
    isplitl [Ho]; · iexact Ho
    iexact Hm
  iintro HF
  iapply (rdk c (Finset.subset_univ _))
  isplitl [H7]; · iexact H7
  iintro H7
  iapply (wrk c (Finset.subset_univ _))
  isplitl [H7]; · iexact H7
  iintro H7
  ihave H7 := (acc_write' c f2 _ _) $$ H7
  iapply (rdk c (Finset.subset_univ _))
  isplitl [H9]; · iexact H9
  iintro H9
  iapply (wrk c (Finset.subset_univ _))
  isplitl [H9]; · iexact H9
  iintro H9
  iapply (rdk c (Finset.subset_univ _))
  isplitl [H6]; · iexact H6
  iintro H6
  iapply (wrk c (Finset.subset_univ _))
  isplitl [H6]; · iexact H6
  iintro H6
  ihave H6 := (wd1_write' c f4 _ _) $$ H6
  iapply WP_pure
  iapply HQ
  unfold FHN
  isplitl [HS]; · iexact HS
  isplitl [HF]; · iexact HF
  isplitl [H7]; · iexact H7
  isplitl [H9]; · iexists _; iexact H9
  iexact H6

end Cert.KernelIdeal.Hand
-- ==== Proof.End.lean ====
/-
  The epilogue.
-/
module

public import proofs.«01_k».proof.Proof.Start
public import proofs.«01_k».proof.Proof.Table

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (w : S7168x18432.Idx → Elt F .bf16) (C0 : S7168x18432.Idx → Elt F .fp8e4m3)
  (xd : S256x7168.Idx → Elt F .bf16) (Y0 : S256x18432.Idx → Elt F .bf16)

/-- The copies of the codes before `v` waited for, their slots free again. -/
def Ending (v : ℕ) : sProp 𝕄 := iprop(CQ c w C0 v 252 ∗ bigSep (Finset.Ico 238 v) (cI c (F := F)) ∗ Ow c)

/-- One of the last waits. -/
theorem c_drain {v : ℕ} (hv : v < 252) (hl : 238 ≤ v) {offS offB offT} {iS iB iT} (hS : offS = semOff v) (hB : offB = slotOff v) (hT : offT = tOff v)
    {α : Type} {hsrc hdst} {K : PUnit → Prog (TpuEff nD τ sig (Elt F) Λ₀ .tc) α} {Q : α → sProp 𝕄} :
    Ending c w C0 v ⊢ iprop((Ending c w C0 (v + 1) -∗ WP c (K ⟨⟩) Q)
      -∗ WP c (Prog.lift (TpuEff.waitDma2 (p := Proc.tc)
        ((cc0_scratch19.slice (Rect.unit (s := S2x7) offS S1x1.size iS)).squeeze S_ squeezes_S1x1_S_).sem
        (((Memref.whole cc0_scratch4).slice (Rect.unit (s := S2x7168x512) offB S1x1024x512.size iB) (fun _ => rfl)).squeeze
          S1024x512 squeezes_S1x1024x512_S1024x512)
        ((Memref.whole main_v2_4).slice (Rect.unit (s := S7168x18432) offT S1024x512.size iT) (fun _ => rfl)) hsrc hdst) >>= K) Q) := by
  unfold Ending
  rw [Ico_put hl, WP_bind]
  iintro ⟨HC, HI, HO⟩ HK
  iapply (c_wait c w C0 (v := v) (b := 252) hv hv hS hB hT) $$ [HC HO]
  · isplitl [HC]; · iexact HC
    iexact HO
  iintro ⟨HJ, HC, HO⟩
  iapply HK
  isplitl [HC]; · iexact HC
  isplitl [HJ HI]
  · isplitl [HJ]; · iexact HJ
    iexact HI
  iexact HO

set_option maxHeartbeats 4000000 in
/-- The last unit's product and the last strip. -/
theorem part28_rule {Q : PUnit → sProp 𝕄} (v : BitVec 32) :
    iprop(((c : Thread nD τ).loc cc0_scratch7 ↦[Finset.univ]{fullShare} accE w xd 252) ∗ ((c : Thread nD τ).loc cc0_scratch1 ↦[Finset.univ]{fullShare} xd) ∗ ((c : Thread nD τ).loc cc0_scratch6 ↦[Finset.univ]{fullShare} WDprev w 252) ∗ YQ c w xd Y0 33 35 ∗ YE c 35 ∗ Ow c)
      ⊢ iprop((iprop((∃ f : S256x512.Idx → Elt F .f32, ((c : Thread nD τ).loc cc0_scratch7 ↦[Finset.univ]{fullShare} f)) ∗ ((c : Thread nD τ).loc cc0_scratch1 ↦[Finset.univ]{fullShare} xd) ∗ ((c : Thread nD τ).loc cc0_scratch6 ↦[Finset.univ]{fullShare} WDprev w 252) ∗ YQ c w xd Y0 34 36 ∗ YE c 36 ∗ Ow c) -∗ Q ⟨⟩)
        -∗ WP c (atArgs (k0_part28 (F := F)) v) Q) := by
  rw [k0_part28_eq_skeleton]
  unfold k0_part28_skel
  simp -zeta only [atArgs, bind_assoc, pure_bind]
  iintro ⟨HA, HX, H6, HY, HYE, HO⟩ HQ
  iapply (rdk c (Finset.subset_univ _))
  isplitl [HX]; · iexact HX
  iintro HX
  rw [xchunk_read xd (k := 6) (by omega) k0_off66 off66_eq k0_off66_inb]
  iapply (rdk c (Finset.subset_univ _))
  isplitl [HA]; · iexact HA
  iintro HA
  rw [acc_read]
  iapply (rdk c (Finset.subset_univ _))
  isplitl [H6]; · iexact H6
  iintro H6
  rw [wd1_read]
  iapply (rdk c (Finset.subset_univ _))
  isplitl [HA]; · iexact HA
  iintro HA
  iapply (wrk c (Finset.subset_univ _))
  isplitl [HA]; · iexact HA
  iintro HA
  ihave HA := (acc_write' c _ _ _) $$ HA
  iapply (y_free c w xd Y0 (s := 35) (by omega) (⟨fun _ => by omega, fun _ => cond11_eq⟩)
    (fun h' h2 h3 Q' => y_wait c w xd Y0 (s := 33) (by omega) h3 (off67_eq) (off69_eq) (off68_eq))) $$ [HY HYE HO]
  · isplitl [HY]; · iexact HY
    isplitl [HYE]; · iexact HYE
    iexact HO
  iintro ⟨HI, HY, HYE, HO⟩
  iapply (finish_body c w xd Y0 (s := 35) (a := 34) (by omega) (by omega) off70_eq off71_eq off73_eq off72_eq
    (p57 := k0_pay91) (fun _ => rfl) (p58 := k0_pay92) rfl) $$ [HA HI HY]
  · isplitl [HA]; · iexact HA
    isplitl [HI]; · iexact HI
    iexact HY
  iintro ⟨HA, HY⟩
  iapply WP_pure
  iapply HQ
  isplitl [HA]; · iexists _; iexact HA
  isplitl [HX]; · iexact HX
  isplitl [H6]; · iexact H6
  isplitl [HY]; · iexact HY
  isplitl [HYE]; · iexact HYE
  iexact HO

/-- The two halves of the table of scales side by side. -/
theorem table_out {f : S2x56x128.Idx → Elt F .f32} (hf : ScOk w 252 f) (g : S56x144.Idx → Elt F .f32) (i1 i2 i3 i4) :
    ((Memref.whole cc0_scratch10).access (Rect.unit (s := S56x144) ![0, 128] S56x16.size i4)).write (Elt F)
      (((Memref.whole cc0_scratch10).access (Rect.unit (s := S56x144) ![0, 0] S56x128.size i3)).write (Elt F) g
        (k0_pay93 (((Memref.whole cc0_scratch9).access (Rect.unit (s := S2x56x128) ![0, 0, 0] S1x56x128.size i1)).read (Elt F) f)) Finset.univ)
      (k0_pay94 (((Memref.whole cc0_scratch9).access (Rect.unit (s := S2x56x128) ![1, 0, 0] S1x56x16.size i2)).read (Elt F) f)) Finset.univ = WSout w := by
  funext i
  have h0 : (i 0).val < 56 := (i 0).isLt
  have h1 : (i 1).val < 144 := (i 1).isLt
  by_cases hi : (i 1).val < 128
  · refine (write_out cc0_scratch10 _ _ i4 _ _ i 1 (.inl hi)).trans ?_
    refine (write_in cc0_scratch10 _ _ i3 g _ i (ValueIdx.ix2 ⟨(i 0).val, h0⟩ ⟨(i 1).val, hi⟩) fun a => match a with
      | ⟨0, _⟩ => (Nat.zero_add _).symm
      | ⟨1, _⟩ => (Nat.zero_add _).symm).trans ?_
    unfold k0_pay93
    refine (congrFun (shapeCast_id _ _) _).trans ?_
    refine (ValueIdx.shapeCast_1ab_ab_apply _ _ _ _).trans ?_
    refine (read_at cc0_scratch9 _ _ i1 f _ (ValueIdx.ix3 0 ⟨(i 0).val, h0⟩ ⟨(i 1).val, hi⟩) fun a => match a with
      | ⟨0, _⟩ => rfl
      | ⟨1, _⟩ => (Nat.zero_add _).symm
      | ⟨2, _⟩ => (Nat.zero_add _).symm).trans ?_
    refine (hf _ ?_ ?_).trans ?_
    · show 128 * 0 + (i 1).val < 144
      omega
    · show 7 * ((128 * 0 + (i 1).val) / 4) + (i 0).val / 8 ≤ 252
      omega
    · show WS w (i 0).val (128 * 0 + (i 1).val) = WS w (i 0).val (i 1).val
      congr 1; omega
  · have hj : (i 1).val - 128 < 16 := by omega
    refine (write_in cc0_scratch10 _ _ i4 _ _ i (ValueIdx.ix2 ⟨(i 0).val, h0⟩ ⟨(i 1).val - 128, hj⟩) fun a => match a with
      | ⟨0, _⟩ => (Nat.zero_add _).symm
      | ⟨1, _⟩ => show (i 1).val = 128 + ((i 1).val - 128) by omega).trans ?_
    unfold k0_pay94
    refine (congrFun (shapeCast_id _ _) _).trans ?_
    refine (ValueIdx.shapeCast_1ab_ab_apply _ _ _ _).trans ?_
    refine (read_at cc0_scratch9 _ _ i2 f _ (ValueIdx.ix3 1 ⟨(i 0).val, h0⟩ ⟨(i 1).val - 128, by omega⟩) fun a => match a with
      | ⟨0, _⟩ => rfl
      | ⟨1, _⟩ => (Nat.zero_add _).symm
      | ⟨2, _⟩ => (Nat.zero_add _).symm).trans ?_
    refine (hf _ ?_ ?_).trans ?_
    · show 128 * 1 + ((i 1).val - 128) < 144
      omega
    · show 7 * ((128 * 1 + ((i 1).val - 128)) / 4) + (i 0).val / 8 ≤ 252
      omega
    · show WS w (i 0).val (128 * 1 + ((i 1).val - 128)) = WS w (i 0).val (i 1).val
      congr 1; omega

theorem table_out' {f : S2x56x128.Idx → Elt F .f32} (hf : ScOk w 252 f) (g : S56x144.Idx → Elt F .f32) (i1 i2 i3 i4) :
    ((c : Thread nD τ).loc cc0_scratch10 ↦[Finset.univ]{fullShare} ((Memref.whole cc0_scratch10).access (Rect.unit (s := S56x144) ![0, 128] S56x16.size i4)).write (Elt F)
      (((Memref.whole cc0_scratch10).access (Rect.unit (s := S56x144) ![0, 0] S56x128.size i3)).write (Elt F) g
        (k0_pay93 (((Memref.whole cc0_scratch9).access (Rect.unit (s := S2x56x128) ![0, 0, 0] S1x56x128.size i1)).read (Elt F) f)) Finset.univ)
      (k0_pay94 (((Memref.whole cc0_scratch9).access (Rect.unit (s := S2x56x128) ![1, 0, 0] S1x56x16.size i2)).read (Elt F) f)) Finset.univ)
      ⊢ (((c : Thread nD τ).loc cc0_scratch10 ↦[Finset.univ]{fullShare} WSout w) : sProp 𝕄) := by rw [table_out w hf g i1 i2 i3 i4]

/-- The copy of the weight's scales in flight. -/
def FWS : sProp 𝕄 := Transfers.Flight EC (c : Thread nD τ) (.dma mcell3) () N10 iprop(((c : Thread nD τ).loc main_v2_5 ↦[Finset.univ]{fullShare} WSout w) ∗ ((c : Thread nD τ).loc cc0_scratch10 ↦[Finset.univ]{fullShare} WSout w))

set_option maxHeartbeats 4000000 in
/-- The weight's scales leave and the first codes are waited for. -/
theorem part29_rule {Q : PUnit → sProp 𝕄} :
    iprop((∃ f, ⌜ScOk w 252 f⌝ ∗ ((c : Thread nD τ).loc cc0_scratch9 ↦[Finset.univ]{fullShare} f)) ∗ (∃ f : S56x144.Idx → Elt F .f32, ((c : Thread nD τ).loc cc0_scratch10 ↦[Finset.univ]{fullShare} f)) ∗ (∃ f : S56x144.Idx → Elt F .f32, ((c : Thread nD τ).loc main_v2_5 ↦[Finset.univ]{fullShare} f)) ∗ semVal ((c : Thread nD τ), .dma mcell3) 0 ∗ Ending c w C0 238)
      ⊢ iprop((iprop((∃ f : S2x56x128.Idx → Elt F .f32, ((c : Thread nD τ).loc cc0_scratch9 ↦[Finset.univ]{fullShare} f)) ∗ FWS c w ∗ Ending c w C0 240) -∗ Q ⟨⟩) -∗ WP c (atArgs (k0_part29 (F := F))) Q) := by
  rw [k0_part29_eq_skeleton]
  unfold k0_part29_skel
  simp -zeta only [atArgs, bind_assoc, pure_bind]
  iintro ⟨⟨%f, %hf, H9⟩, ⟨%g, H10⟩, ⟨%f5, H5⟩, Hm, HC⟩ HQ
  iapply (rdk c (Finset.subset_univ _))
  isplitl [H9]; · iexact H9
  iintro H9
  iapply (rdk c (Finset.subset_univ _))
  isplitl [H10]; · iexact H10
  iintro H10
  iapply (wrk c (Finset.subset_univ _))
  isplitl [H10]; · iexact H10
  iintro H10
  iapply (rdk c (Finset.subset_univ _))
  isplitl [H9]; · iexact H9
  iintro H9
  iapply (rdk c (Finset.subset_univ _))
  isplitl [H10]; · iexact H10
  iintro H10
  iapply (wrk c (Finset.subset_univ _))
  isplitl [H10]; · iexact H10
  iintro H10
  ihave H10 := (table_out' c w hf g _ _ _ _) $$ H10
  iapply (startW c (View.set_whole _) (View.write_whole_univ _ _ _) N10 rfl (by decide)) $$ [H10 H5 Hm]
  · isplitl [H10]; · iexact H10
    isplitl [H5]; · iexact H5
    iexact Hm
  iintro HF
  iapply (c_drain c w C0 (v := 238) (by omega) (by omega) (off1_eq 2) (off2_eq 2) (rfl : _ = tOff 238)) $$ HC; iintro HC
  iapply (c_drain c w C0 (v := 239) (by omega) (by omega) (off3_eq 2) (off4_eq 2) (rfl : _ = tOff 239)) $$ HC; iintro HC
  iapply WP_pure
  iapply HQ
  unfold FWS
  isplitl [H9]; · iexists _; iexact H9
  isplitl [HF]; · iexact HF
  iexact HC

/-- Waits for the last copies of the weight's codes. -/
theorem part30_rule {Q : PUnit → sProp 𝕄} :
    Ending c w C0 240 ⊢ iprop((Ending c w C0 244 -∗ Q ⟨⟩) -∗ WP c (atArgs (k0_part30 (F := F))) Q) := by
  rw [k0_part30_eq_skeleton]
  unfold k0_part30_skel
  simp -zeta only [atArgs, bind_assoc, pure_bind]
  iintro HC HQ
  iapply (c_drain c w C0 (v := 240) (by omega) (by omega) (off5_eq 2) (off6_eq 2) (rfl : _ = tOff 240)) $$ HC; iintro HC
  iapply (c_drain c w C0 (v := 241) (by omega) (by omega) (off7_eq 2) (off8_eq 2) (rfl : _ = tOff 241)) $$ HC; iintro HC
  iapply (c_drain c w C0 (v := 242) (by omega) (by omega) (off9_eq 2) (off10_eq 2) (rfl : _ = tOff 242)) $$ HC; iintro HC
  iapply (c_drain c w C0 (v := 243) (by omega) (by omega) (off11_eq 2) (off12_eq 2) (rfl : _ = tOff 243)) $$ HC; iintro HC
  iapply WP_pure
  iapply HQ; iexact HC

/-- Waits for the last copies of the weight's codes. -/
theorem part31_rule {Q : PUnit → sProp 𝕄} :
    Ending c w C0 244 ⊢ iprop((Ending c w C0 249 -∗ Q ⟨⟩) -∗ WP c (atArgs (k0_part31 (F := F))) Q) := by
  rw [k0_part31_eq_skeleton]
  unfold k0_part31_skel
  simp -zeta only [atArgs, bind_assoc, pure_bind]
  iintro HC HQ
  iapply (c_drain c w C0 (v := 244) (by omega) (by omega) (off13_eq 2) (off14_eq 2) (rfl : _ = tOff 244)) $$ HC; iintro HC
  iapply (c_drain c w C0 (v := 245) (by omega) (by omega) (off1_eq 3) (off2_eq 3) (rfl : _ = tOff 245)) $$ HC; iintro HC
  iapply (c_drain c w C0 (v := 246) (by omega) (by omega) (off3_eq 3) (off4_eq 3) (rfl : _ = tOff 246)) $$ HC; iintro HC
  iapply (c_drain c w C0 (v := 247) (by omega) (by omega) (off5_eq 3) (off6_eq 3) (rfl : _ = tOff 247)) $$ HC; iintro HC
  iapply (c_drain c w C0 (v := 248) (by omega) (by omega) (off7_eq 3) (off8_eq 3) (rfl : _ = tOff 248)) $$ HC; iintro HC
  iapply WP_pure
  iapply HQ; iexact HC

set_option maxHeartbeats 4000000 in
/-- The last codes and the strip before the last are waited for. -/
theorem part32_rule {Q : PUnit → sProp 𝕄} :
    iprop(Ending c w C0 249 ∗ YQ c w xd Y0 34 36)
      ⊢ iprop((iprop(Ending c w C0 252 ∗ yI c 34 ∗ YQ c w xd Y0 35 36) -∗ Q ⟨⟩) -∗ WP c (atArgs (k0_part32 (F := F))) Q) := by
  rw [k0_part32_eq_skeleton]
  unfold k0_part32_skel
  simp -zeta only [atArgs, bind_assoc, pure_bind]
  iintro ⟨HC, HY⟩ HQ
  iapply (c_drain c w C0 (v := 249) (by omega) (by omega) (off9_eq 3) (off10_eq 3) (rfl : _ = tOff 249)) $$ HC; iintro HC
  iapply (c_drain c w C0 (v := 250) (by omega) (by omega) (off11_eq 3) (off12_eq 3) (rfl : _ = tOff 250)) $$ HC; iintro HC
  iapply (c_drain c w C0 (v := 251) (by omega) (by omega) (off13_eq 3) (off14_eq 3) (rfl : _ = tOff 251)) $$ HC; iintro HC
  unfold Ending
  icases HC with ⟨HC, HI, HO⟩
  rw [WP_bind]
  iapply (y_wait c w xd Y0 (s := 34) (b := 36) (by omega) (by omega) (off74_eq 0) (off75_eq 0) (rfl : _ = ytOff 34)) $$ [HY HO]
  · isplitl [HY]; · iexact HY
    iexact HO
  iintro ⟨HJ, HY, HO⟩
  iapply WP_pure
  iapply HQ
  isplitl [HC HI HO]
  · isplitl [HC]; · iexact HC
    isplitl [HI]; · iexact HI
    iexact HO
  isplitl [HJ]; · iexact HJ
  iexact HY

end Cert.KernelIdeal.Hand
-- ==== Proof.Even.lean ====
/-
  The even unit of a trip.
-/
module

public import proofs.«01_k».proof.Proof.Finish

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The loop's counters -/

/-- The number of the even unit of a trip, as the kernel computes it, and what it computes from it. -/
abbrev i475 (t : Fin k0_t4_loop.trips) : BitVec 32 := Scalar.addi 0#32 (Scalar.muli (Scf.iv 0#32 1#32 t) 2#32)
abbrev i476 (t : Fin k0_t4_loop.trips) : BitVec 32 := Scalar.addi (i475 t) 0#32
abbrev i477 (t : Fin k0_t4_loop.trips) : BitVec 32 := Scalar.divsi (i476 t) 7#32
abbrev i479 (t : Fin k0_t4_loop.trips) : BitVec 32 := Scalar.subi (i476 t) (Scalar.muli (i477 t) 7#32)
abbrev i503 (t : Fin k0_t4_loop.trips) : BitVec 32 := Scalar.addi (i476 t) 1#32
abbrev i504 (t : Fin k0_t4_loop.trips) : BitVec 32 := Scalar.divsi (i503 t) 7#32
abbrev i547 (t : Fin k0_t4_loop.trips) : BitVec 32 := Scalar.addi (i475 t) 1#32
abbrev i548 (t : Fin k0_t4_loop.trips) : BitVec 32 := Scalar.divsi (i547 t) 7#32
abbrev i550 (t : Fin k0_t4_loop.trips) : BitVec 32 := Scalar.subi (i547 t) (Scalar.muli (i548 t) 7#32)

theorem base0 : ∀ t : Fin k0_t4_loop.trips, Scalar.muli (Scalar.remsi (i504 t) 32#32) 4#32 = BitVec.ofNat 32 (4 * ((2 * t.val + 1) / 7 % 32)) := by decide +kernel
theorem base1 : ∀ t : Fin k0_t4_loop.trips, Scalar.muli (Scalar.remsi (Scalar.divsi (Scalar.addi (i547 t) 1#32) 7#32) 32#32) 4#32
    = BitVec.ofNat 32 (4 * ((2 * t.val + 2) / 7 % 32)) := by decide +kernel
theorem t4_lt (t : Fin k0_t4_loop.trips) : t.val < 126 := lt_of_lt_of_eq t.isLt (by decide)

section Half
variable (c : Dev nD) (w : S7168x18432.Idx → Elt F .bf16) (C0 : S7168x18432.Idx → Elt F .fp8e4m3)
  (xd : S256x7168.Idx → Elt F .bf16) (Y0 : S256x18432.Idx → Elt F .bf16) (t : Fin k0_t4_loop.trips)

/-- The even unit's waits and its product. -/
theorem part13_rule {Q : (Σ' (v475 : BitVec 32) (v476 : BitVec 32) (v477 : BitVec 32) (v479 : BitVec 32) (v503 : BitVec 32), BitVec 32) → sProp 𝕄} :
    iprop(WQ c w (min (2 * t.val + 1) 252) (min (2 * t.val + 14) 252) ∗ WE c (2 * t.val + 1) (2 * t.val + 14) ∗ CQ c w C0 (2 * t.val - 14) (2 * t.val) ∗ CE c (2 * t.val)
        ∗ ((c : Thread nD τ).loc cc0_scratch1 ↦[Finset.univ]{fullShare} xd) ∗ ((c : Thread nD τ).loc cc0_scratch7 ↦[Finset.univ]{fullShare} accE w xd (2 * t.val)) ∗ ((c : Thread nD τ).loc cc0_scratch6 ↦[Finset.univ]{fullShare} WDprev w (2 * t.val)) ∗ Ow c)
      ⊢ iprop((iprop(WL c w (2 * t.val + 1) ∗ WQ c w (min (2 * t.val + 2) 252) (min (2 * t.val + 14) 252) ∗ WE c (2 * t.val + 2) (2 * t.val + 14)
        ∗ cI c (2 * t.val) ∗ CQ c w C0 (2 * t.val + 1 - 14) (2 * t.val) ∗ CE c (2 * t.val + 1)
        ∗ ((c : Thread nD τ).loc cc0_scratch1 ↦[Finset.univ]{fullShare} xd) ∗ ((c : Thread nD τ).loc cc0_scratch7 ↦[Finset.univ]{fullShare} accM w xd (2 * t.val)) ∗ ((c : Thread nD τ).loc cc0_scratch6 ↦[Finset.univ]{fullShare} WDprev w (2 * t.val)) ∗ Ow c) -∗ Q ⟨i475 t, i476 t, i477 t, i479 t, i503 t, i504 t⟩)
        -∗ WP c (atArgs (k0_part13 (F := F)) 0#32 1#32 t) Q) := by
  have ht := t4_lt t
  rw [k0_part13_eq_skeleton]
  unfold k0_part13_skel
  simp -zeta only [atArgs, bind_assoc, pure_bind]
  iintro ⟨HW, HE, HC, HCE, HX, HA, HD, HO⟩ HQ
  iapply (w_next c w (u := 2 * t.val) (by omega) (cond1_iff t) (fun h h1 h2 Q' => w_wait c w h1 h2 (off19_eq t) (off20_eq t) ((off21_eq t).trans (tOff_eq h1)))) $$ [HW HE HO]
  · isplitl [HW]; · iexact HW
    isplitl [HE]; · iexact HE
    iexact HO
  iintro ⟨HL, HW, HE, HO⟩
  iapply (c_free c w C0 (u := 2 * t.val) (by omega) (cond2_iff t) (fun h h1 h2 Q' => c_wait c w C0 (by omega) h2 (off22_eq t h1) (off24_eq t h1) ((off23_eq t h1).trans (tOff_eq (by omega))))) $$ [HC HCE HO]
  · isplitl [HC]; · iexact HC
    isplitl [HCE]; · iexact HCE
    iexact HO
  iintro ⟨HI, HC, HCE, HO⟩
  iapply (rdk c (Finset.subset_univ _))
  isplitl [HX]; · iexact HX
  iintro HX
  iapply (rdk c (Finset.subset_univ _))
  isplitl [HA]; · iexact HA
  iintro HA
  iapply (rdk c (Finset.subset_univ _))
  isplitl [HD]; · iexact HD
  iintro HD
  iapply (rdk c (Finset.subset_univ _))
  isplitl [HA]; · iexact HA
  iintro HA
  iapply (wrk c (Finset.subset_univ _))
  isplitl [HA]; · iexact HA
  iintro HA
  iapply WP_pure
  iapply HQ
  rw [acc_write, acc_read, wd1_read, xchunk_read xd (Nat.mod_lt _ (by omega)) _ (off25_eq0 t)]
  isplitl [HL]; · iexact HL
  isplitl [HW]; · iexact HW
  isplitl [HE]; · iexact HE
  isplitl [HI]; · iexact HI
  isplitl [HC]; · iexact HC
  isplitl [HCE]; · iexact HCE
  isplitl [HX]; · iexact HX
  isplitl [HA]; · iexact HA
  isplitl [HD]; · iexact HD
  iexact HO

/-- The even unit searches the next unit's scales, quantises its own tile and sends the codes. -/
theorem part14_rule {Q : BitVec 32 → sProp 𝕄} :
    iprop(WL c w (2 * t.val) ∗ WL c w (2 * t.val + 1) ∗ cI c (2 * t.val) ∗ CQ c w C0 (2 * t.val + 1 - 14) (2 * t.val)
        ∗ (∃ f : S2x56x128.Idx → Elt F .f32, ⌜ScOk w (2 * t.val) f⌝ ∗ ((c : Thread nD τ).loc cc0_scratch9 ↦[Finset.univ]{fullShare} f)) ∗ ((c : Thread nD τ).loc cc0_scratch14 ↦[Finset.univ]{fullShare} INV (blkW w (2 * t.val))) ∗ ((c : Thread nD τ).loc cc0_scratch16 ↦[Finset.univ]{fullShare} SCL (blkW w (2 * t.val))) ∗ (∃ T : S4x8x128.Idx → Elt F .i32, ((c : Thread nD τ).loc cc0_scratch15 ↦[Finset.univ]{fullShare} T)) ∗ (∃ S : S4x8x128.Idx → Elt F .i32, ((c : Thread nD τ).loc cc0_scratch17 ↦[Finset.univ]{fullShare} S)) ∗ (∃ U : S1024x512.Idx → Elt F .bf16, ((c : Thread nD τ).loc cc0_scratch5 ↦[Finset.univ]{fullShare} U)))
      ⊢ iprop((iprop(WL c w (2 * t.val) ∗ WL c w (2 * t.val + 1) ∗ CQ c w C0 (2 * t.val + 1 - 14) (2 * t.val + 1)
        ∗ (∃ f : S2x56x128.Idx → Elt F .f32, ⌜ScOk w (2 * t.val + 1) f⌝ ∗ ((c : Thread nD τ).loc cc0_scratch9 ↦[Finset.univ]{fullShare} f)) ∗ ((c : Thread nD τ).loc cc0_scratch14 ↦[Finset.univ]{fullShare} INV (blkW w (2 * t.val))) ∗ ((c : Thread nD τ).loc cc0_scratch16 ↦[Finset.univ]{fullShare} SCL (blkW w (2 * t.val))) ∗ ((c : Thread nD τ).loc cc0_scratch15 ↦[Finset.univ]{fullShare} INV (blkW w (2 * t.val + 1))) ∗ ((c : Thread nD τ).loc cc0_scratch17 ↦[Finset.univ]{fullShare} SCL (blkW w (2 * t.val + 1))) ∗ ((c : Thread nD τ).loc cc0_scratch5 ↦[Finset.univ]{fullShare} WD w (2 * t.val))) -∗ Q 2#32)
        -∗ WP c (atArgs (k0_part14 (F := F)) lanes subs t (i476 t) (i477 t) (i479 t) (i503 t) (i504 t)) Q) := by
  have ht := t4_lt t
  rw [k0_part14_eq_skeleton]
  unfold k0_part14_skel
  simp -zeta only [atArgs, bind_assoc, pure_bind]
  unfold WL
  iintro ⟨⟨%f0, %hf0, H0, Hs0⟩, ⟨%f1, %hf1, H1, Hs1⟩, HI, HC, ⟨%tb, %htb, HT⟩, H14, H16, ⟨%T, H15⟩, ⟨%S, H17⟩, ⟨%U, H5⟩⟩ HQ
  have e0 := hf0 (by omega)
  subst e0
  have e1 : f1 = wbuf w (2 * t.val + 1) := hf1 (by omega)
  subst e1
  iapply (rdk c (Finset.subset_univ _))
  isplitl [HT]; · iexact HT
  iintro HT
  rw [WP_bind]
  iapply (findB c (wbuf w (2 * t.val + 1)) t _ _ _ _ _ _ _ T S) $$ [H1 H15 H17]
  · isplitl [H1]; · iexact H1
    isplitl [H15]; · iexact H15
    iexact H17
  iintro ⟨H1, H15, H17⟩
  iapply (rdk c (Finset.subset_univ _))
  isplitl [HT]; · iexact HT
  iintro HT
  iapply (wrk c (Finset.subset_univ _))
  isplitl [HT]; · iexact HT
  iintro HT
  unfold cI
  icases HI with ⟨⟨%cb, HCB⟩, Hcs⟩
  rw [WP_bind]
  iapply (quantA c w t _ _ _ _ _ _ _ cb U) $$ [H0 H14 H16 HCB H5]
  · isplitl [H0]; · iexact H0
    isplitl [H14]; · iexact H14
    isplitl [H16]; · iexact H16
    isplitl [HCB]; · iexact HCB
    iexact H5
  iintro ⟨H0, H14, H16, HCB, H5⟩
  rw [WP_bind]
  iapply (c_start c w C0 (v := 2 * t.val) (a := 2 * t.val + 1 - 14) (by omega) (by omega) (off32_eq0 t) (off34_eq0 t) ((off33_eq0 t).trans (tOff_eq (by omega)))) $$ [HCB Hcs HC]
  · isplitl [HCB]; · iexact HCB
    isplitl [Hcs]; · iexact Hcs
    iexact HC
  iintro HC
  iapply WP_pure
  iapply HQ
  have hB : ∀ g r, g < 4 → r < 8 → blkF (wbuf w (2 * t.val + 1)) (2 * t.val + 1) g r = blkW w (2 * t.val + 1) g r := fun g r hg hr => blkF_wbuf w _ hr hg
  isplitl [H0 Hs0]
  · iexists _
    isplitr; · ipureintro; exact fun _ => rfl
    isplitl [H0]; · iexact H0
    iexact Hs0
  isplitl [H1 Hs1]
  · iexists _
    isplitr; · ipureintro; exact fun _ => rfl
    isplitl [H1]; · iexact H1
    iexact Hs1
  isplitl [HC]; · iexact HC
  isplitl [HT]
  · iexists _
    isplitr
    rotate_left
    · iexact HT
    · ipureintro
      exact ScOk_step w (v := 2 * t.val + 1) (by omega) (.inr htb) _ (fun _ => hB) k0_pay53 (fun _ => rfl) _ (off26_eq0 t) _ _ (base0 t) k0_pay55 (fun _ => rfl)
  isplitl [H14]; · iexact H14
  isplitl [H16]; · iexact H16
  rw [INV_congr hB, SCL_congr hB]
  isplitl [H15]; · iexact H15
  isplitl [H17]; · iexact H17
  iexact H5

end Half

end Cert.KernelIdeal.Hand
-- ==== Proof.Mid.lean ====
/-
  Between the two units of a trip.
-/
module

public import proofs.«01_k».proof.Proof.Even

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Half
variable (c : Dev nD) (w : S7168x18432.Idx → Elt F .bf16) (C0 : S7168x18432.Idx → Elt F .fp8e4m3)
  (xd : S256x7168.Idx → Elt F .bf16) (Y0 : S256x18432.Idx → Elt F .bf16) (t : Fin k0_t4_loop.trips)

set_option maxHeartbeats 4000000 in
/-- After the even unit: the next transfer of weights, the end of a strip, the odd unit's waits and the operands
    of its product. -/
theorem part15_rule {b2 : BitVec 32} {Q : (Σ' (v547 : BitVec 32) (v548 : BitVec 32) (v550 : BitVec 32) (v567 : Vec F S256x512 .f32), FVec F S256x512 .f32) → sProp 𝕄} :
    iprop(WL c w (2 * t.val) ∗ WQ c w (min (2 * t.val + 2) 252) (min (2 * t.val + 14) 252) ∗ WE c (2 * t.val + 2) (2 * t.val + 14)
        ∗ YQ c w xd Y0 ((2 * t.val - 1) / 7 - 2) ((2 * t.val - 1) / 7) ∗ YE c ((2 * t.val - 1) / 7)
        ∗ CQ c w C0 (2 * t.val + 1 - 14) (2 * t.val + 1) ∗ CE c (2 * t.val + 1)
        ∗ ((c : Thread nD τ).loc cc0_scratch1 ↦[Finset.univ]{fullShare} xd) ∗ ((c : Thread nD τ).loc cc0_scratch7 ↦[Finset.univ]{fullShare} accM w xd (2 * t.val)) ∗ ((c : Thread nD τ).loc cc0_scratch5 ↦[Finset.univ]{fullShare} WD w (2 * t.val)) ∗ Ow c)
      ⊢ iprop((iprop(WL c w (2 * t.val + 2) ∗ WQ c w (min (2 * t.val + 3) 252) (min (2 * t.val + 15) 252) ∗ WE c (2 * t.val + 3) (2 * t.val + 15)
        ∗ YQ c w xd Y0 ((2 * t.val + 1 - 1) / 7 - 2) ((2 * t.val + 1 - 1) / 7) ∗ YE c ((2 * t.val + 1 - 1) / 7)
        ∗ cI c (2 * t.val + 1) ∗ CQ c w C0 (2 * t.val + 2 - 14) (2 * t.val + 1) ∗ CE c (2 * t.val + 2)
        ∗ ((c : Thread nD τ).loc cc0_scratch1 ↦[Finset.univ]{fullShare} xd) ∗ ((c : Thread nD τ).loc cc0_scratch7 ↦[Finset.univ]{fullShare} accE w xd (2 * t.val + 1)) ∗ ((c : Thread nD τ).loc cc0_scratch5 ↦[Finset.univ]{fullShare} WD w (2 * t.val)) ∗ Ow c)
          -∗ Q ⟨i547 t, i548 t, i550 t, accE w xd (2 * t.val + 1), k0_pay59 (xchunk xd ((2 * t.val + 1 - 1) % 7)) (WD w (2 * t.val))⟩)
        -∗ WP c (atArgs (k0_part15 (F := F)) t (i475 t) (i476 t) (i477 t) (i479 t) b2) Q) := by
  have ht := t4_lt t
  rw [k0_part15_eq_skeleton]
  unfold k0_part15_skel
  simp -zeta only [atArgs, bind_assoc, pure_bind]
  iintro ⟨HL, HW, HE, HY, HYE, HC, HCE, HX, HA, HD, HO⟩ HQ
  iapply (w_more c w (u := 2 * t.val) (a := min (2 * t.val + 2) 252) (by omega) (by omega) (cond3_iff t)
    (fun h h1 h2 Q' => w_start c w h1 h2 (off35_eq t) (off36_eq t) ((off37_eq t).trans (tOff_eq h1)))) $$ [HL HW HE]
  · isplitl [HL]; · iexact HL
    isplitl [HW]; · iexact HW
    iexact HE
  iintro ⟨HW, HE⟩
  iapply (finish_if c w xd Y0 (u := 2 * t.val) (by omega) (cond4_iff t) ?hB) $$ [HA HY HYE HO]
  case hB =>
    intro h h1 hs hu7
    iintro ⟨HA, HY, HYE, HO⟩ HK
    iapply (y_free c w xd Y0 (s := (2 * t.val - 1) / 7) hs ((cond5_iff t h1).trans (by omega))
      (fun h' h2 h3 Q' => y_wait c w xd Y0 (by omega) h3 (off38_eq t (by omega)) (off40_eq t (by omega)) ((off39_eq t (by omega)).trans (ytOff_eq (by omega))))) $$ [HY HYE HO]
    · isplitl [HY]; · iexact HY
      isplitl [HYE]; · iexact HYE
      iexact HO
    iintro ⟨HI, HY, HYE, HO⟩
    iapply (finish_body c w xd Y0 (s := (2 * t.val - 1) / 7) (a := (2 * t.val - 1) / 7 + 1 - 2) hs (by omega) (off41_eq t (by omega)) (off42_eq t (by omega)) (off44_eq t (by omega)) ((off43_eq t (by omega)).trans (ytOff_eq hs))
      (p57 := k0_pay57) (fun _ => rfl) (p58 := k0_pay58) rfl) $$ [HA HI HY]
    · isplitl [HA]; · iexact HA
      isplitl [HI]; · iexact HI
      iexact HY
    iintro ⟨HA, HY⟩
    iapply HK
    isplitl [HA]; · iexact HA
    isplitl [HY]; · iexact HY
    isplitl [HYE]; · iexact HYE
    iexact HO
  · isplitl [HA]; · iexact HA
    isplitl [HY]; · iexact HY
    isplitl [HYE]; · iexact HYE
    iexact HO
  iintro ⟨HA, HY, HYE, HO⟩
  iapply (w_next c w (u := 2 * t.val + 1) (by omega) (cond6_iff t) (fun h h1 h2 Q' => w_wait c w h1 h2 (off45_eq t) (off46_eq t) ((off47_eq t).trans (tOff_eq h1)))) $$ [HW HE HO]
  · isplitl [HW]; · iexact HW
    isplitl [HE]; · iexact HE
    iexact HO
  iintro ⟨HL, HW, HE, HO⟩
  iapply (c_free c w C0 (u := 2 * t.val + 1) (by omega) (cond7_iff t) (fun h h1 h2 Q' => c_wait c w C0 (by omega) h2 (off48_eq t h1) (off50_eq t h1) ((off49_eq t h1).trans (tOff_eq (by omega))))) $$ [HC HCE HO]
  · isplitl [HC]; · iexact HC
    isplitl [HCE]; · iexact HCE
    iexact HO
  iintro ⟨HI, HC, HCE, HO⟩
  iapply (rdk c (Finset.subset_univ _))
  isplitl [HX]; · iexact HX
  iintro HX
  iapply (rdk c (Finset.subset_univ _))
  isplitl [HA]; · iexact HA
  iintro HA
  iapply (rdk c (Finset.subset_univ _))
  isplitl [HD]; · iexact HD
  iintro HD
  iapply WP_pure
  rw [acc_read, wd0_read, xchunk_read xd (Nat.mod_lt _ (by omega)) _ (off25_eq1 t)]
  iapply HQ
  isplitl [HL]; · iexact HL
  isplitl [HW]; · iexact HW
  isplitl [HE]; · iexact HE
  isplitl [HY]; · iexact HY
  isplitl [HYE]; · iexact HYE
  isplitl [HI]; · iexact HI
  isplitl [HC]; · iexact HC
  isplitl [HCE]; · iexact HCE
  isplitl [HX]; · iexact HX
  isplitl [HA]; · iexact HA
  isplitl [HD]; · iexact HD
  iexact HO

end Half

end Cert.KernelIdeal.Hand
-- ==== Proof.Odd.lean ====
/-
  The odd unit of a trip.
-/
module

public import proofs.«01_k».proof.Proof.Even

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Half
variable (c : Dev nD) (w : S7168x18432.Idx → Elt F .bf16) (C0 : S7168x18432.Idx → Elt F .fp8e4m3)
  (xd : S256x7168.Idx → Elt F .bf16) (Y0 : S256x18432.Idx → Elt F .bf16) (t : Fin k0_t4_loop.trips)

/-- The odd unit's product, its search for the next unit's scales and its quantisation. -/
theorem part16_rule {Q : BitVec 32 → sProp 𝕄} :
    iprop(WL c w (2 * t.val + 1) ∗ WL c w (2 * t.val + 2) ∗ cI c (2 * t.val + 1) ∗ ((c : Thread nD τ).loc cc0_scratch7 ↦[Finset.univ]{fullShare} accE w xd (2 * t.val + 1))
        ∗ (∃ f : S2x56x128.Idx → Elt F .f32, ⌜ScOk w (2 * t.val + 1) f⌝ ∗ ((c : Thread nD τ).loc cc0_scratch9 ↦[Finset.univ]{fullShare} f)) ∗ ((c : Thread nD τ).loc cc0_scratch15 ↦[Finset.univ]{fullShare} INV (blkW w (2 * t.val + 1))) ∗ ((c : Thread nD τ).loc cc0_scratch17 ↦[Finset.univ]{fullShare} SCL (blkW w (2 * t.val + 1))) ∗ (∃ T : S4x8x128.Idx → Elt F .i32, ((c : Thread nD τ).loc cc0_scratch14 ↦[Finset.univ]{fullShare} T)) ∗ (∃ S : S4x8x128.Idx → Elt F .i32, ((c : Thread nD τ).loc cc0_scratch16 ↦[Finset.univ]{fullShare} S)) ∗ (∃ U : S1024x512.Idx → Elt F .bf16, ((c : Thread nD τ).loc cc0_scratch6 ↦[Finset.univ]{fullShare} U)))
      ⊢ iprop((iprop(WL c w (2 * t.val + 1) ∗ WL c w (2 * t.val + 2) ∗ cB c w (2 * t.val + 1) ∗ semVal ((c : Thread nD τ), .dma (ccell (2 * t.val + 1))) 0 ∗ ((c : Thread nD τ).loc cc0_scratch7 ↦[Finset.univ]{fullShare} accM w xd (2 * t.val + 1))
        ∗ (∃ f : S2x56x128.Idx → Elt F .f32, ⌜ScOk w (2 * t.val + 2) f⌝ ∗ ((c : Thread nD τ).loc cc0_scratch9 ↦[Finset.univ]{fullShare} f)) ∗ ((c : Thread nD τ).loc cc0_scratch15 ↦[Finset.univ]{fullShare} INV (blkW w (2 * t.val + 1))) ∗ ((c : Thread nD τ).loc cc0_scratch17 ↦[Finset.univ]{fullShare} SCL (blkW w (2 * t.val + 1)))
        ∗ (∃ T : S4x8x128.Idx → Elt F .i32, ⌜2 * t.val + 2 < 252 → T = INV (blkW w (2 * t.val + 2))⌝ ∗ ((c : Thread nD τ).loc cc0_scratch14 ↦[Finset.univ]{fullShare} T)) ∗ (∃ S : S4x8x128.Idx → Elt F .i32, ⌜2 * t.val + 2 < 252 → S = SCL (blkW w (2 * t.val + 2))⌝ ∗ ((c : Thread nD τ).loc cc0_scratch16 ↦[Finset.univ]{fullShare} S)) ∗ ((c : Thread nD τ).loc cc0_scratch6 ↦[Finset.univ]{fullShare} WD w (2 * t.val + 1))) -∗ Q 1024#32)
        -∗ WP c (atArgs (k0_part16 (F := F)) lanes subs t (i547 t) (i548 t) (accE w xd (2 * t.val + 1)) (k0_pay59 (xchunk xd ((2 * t.val + 1 - 1) % 7)) (WD w (2 * t.val)))) Q) := by
  have ht := t4_lt t
  rw [k0_part16_eq_skeleton]
  unfold k0_part16_skel
  simp -zeta only [atArgs, bind_assoc, pure_bind]
  unfold WL
  iintro ⟨⟨%f0, %hf0, H0, Hs0⟩, ⟨%f1, %hf1, H1, Hs1⟩, HI, HA, ⟨%tb, %htb, HT⟩, H15, H17, ⟨%T, H14⟩, ⟨%S, H16⟩, ⟨%U, H6⟩⟩ HQ
  have e0 := hf0 (by omega)
  subst e0
  iapply (rdk c (Finset.subset_univ _))
  isplitl [HA]; · iexact HA
  iintro HA
  iapply (wrk c (Finset.subset_univ _))
  isplitl [HA]; · iexact HA
  iintro HA
  iapply (rdk c (Finset.subset_univ _))
  isplitl [HT]; · iexact HT
  iintro HT
  rw [WP_bind]
  iapply (findC c f1 t _ _ _ _ _ _ _ T S) $$ [H1 H14 H16]
  · isplitl [H1]; · iexact H1
    isplitl [H14]; · iexact H14
    iexact H16
  iintro ⟨H1, H14, H16⟩
  iapply (rdk c (Finset.subset_univ _))
  isplitl [HT]; · iexact HT
  iintro HT
  iapply (wrk c (Finset.subset_univ _))
  isplitl [HT]; · iexact HT
  iintro HT
  unfold cI
  icases HI with ⟨⟨%cb, HCB⟩, Hcs⟩
  rw [WP_bind]
  iapply (quantB c w t _ _ _ _ _ _ cb U) $$ [H0 H15 H17 HCB H6]
  · isplitl [H0]; · iexact H0
    isplitl [H15]; · iexact H15
    isplitl [H17]; · iexact H17
    isplitl [HCB]; · iexact HCB
    iexact H6
  iintro ⟨H0, H15, H17, HCB, H6⟩
  iapply WP_pure
  iapply HQ
  have hB : 2 * t.val + 2 < 252 → ∀ g r, g < 4 → r < 8 → blkF f1 (2 * t.val + 2) g r = blkW w (2 * t.val + 2) g r := fun h g r hg hr => by
    rw [hf1 h]; exact blkF_wbuf w _ hr hg
  have hA : accM w xd (2 * t.val + 1) = k0_pay60 (accE w xd (2 * t.val + 1)) (k0_pay59 (xchunk xd ((2 * t.val + 1 - 1) % 7)) (WD w (2 * t.val))) := by
    have : WDprev w (2 * t.val + 1) = WD w (2 * t.val) := if_neg (by omega)
    unfold accM
    rw [this]
    rfl
  rw [acc_write, ← hA]
  isplitl [H0 Hs0]
  · iexists _
    isplitr; · ipureintro; exact fun _ => rfl
    isplitl [H0]; · iexact H0
    iexact Hs0
  isplitl [H1 Hs1]
  · iexists _
    isplitr; · ipureintro; exact hf1
    isplitl [H1]; · iexact H1
    iexact Hs1
  isplitl [HCB]; · iexact HCB
  isplitl [Hcs]; · iexact Hcs
  isplitl [HA]; · iexact HA
  isplitl [HT]
  · iexists _
    isplitr
    rotate_left
    · iexact HT
    · ipureintro
      exact ScOk_step w (v := 2 * t.val + 2) (by omega) (.inr htb) _ hB k0_pay61 (fun _ => rfl) _ (off26_eq1 t) _ _ (base1 t) k0_pay63 (fun _ => rfl)
  isplitl [H15]; · iexact H15
  isplitl [H17]; · iexact H17
  isplitl [H14]
  · iexists _
    isplitr; · ipureintro; exact fun h => INV_congr (hB h)
    iexact H14
  isplitl [H16]
  · iexists _
    isplitr; · ipureintro; exact fun h => SCL_congr (hB h)
    iexact H16
  iexact H6

end Half

end Cert.KernelIdeal.Hand
-- ==== Proof.Trip.lean ====
/-
  One trip of the main loop.
-/
module

public import proofs.«01_k».proof.Proof.Mid
public import proofs.«01_k».proof.Proof.Odd

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (w : S7168x18432.Idx → Elt F .bf16) (C0 : S7168x18432.Idx → Elt F .fp8e4m3)
  (xd : S256x7168.Idx → Elt F .bf16) (Y0 : S256x18432.Idx → Elt F .bf16)

/-- What the kernel holds at the start of the even unit `u` (`u = 252` after the last trip). -/
def St (u : ℕ) : sProp 𝕄 :=
  iprop(WL c w u ∗ WQ c w (min (u + 1) 252) (min (u + 14) 252) ∗ WE c (u + 1) (u + 14) ∗ CQ c w C0 (u - 14) u ∗ CE c u
    ∗ YQ c w xd Y0 ((u - 1) / 7 - 2) ((u - 1) / 7) ∗ YE c ((u - 1) / 7) ∗ ((c : Thread nD τ).loc cc0_scratch7 ↦[Finset.univ]{fullShare} accE w xd u) ∗ ((c : Thread nD τ).loc cc0_scratch1 ↦[Finset.univ]{fullShare} xd) ∗ ((c : Thread nD τ).loc cc0_scratch6 ↦[Finset.univ]{fullShare} WDprev w u) ∗ (∃ U : S1024x512.Idx → Elt F .bf16, ((c : Thread nD τ).loc cc0_scratch5 ↦[Finset.univ]{fullShare} U))
    ∗ (∃ T : S4x8x128.Idx → Elt F .i32, ⌜u < 252 → T = INV (blkW w u)⌝ ∗ ((c : Thread nD τ).loc cc0_scratch14 ↦[Finset.univ]{fullShare} T)) ∗ (∃ S : S4x8x128.Idx → Elt F .i32, ⌜u < 252 → S = SCL (blkW w u)⌝ ∗ ((c : Thread nD τ).loc cc0_scratch16 ↦[Finset.univ]{fullShare} S)) ∗ (∃ T : S4x8x128.Idx → Elt F .i32, ((c : Thread nD τ).loc cc0_scratch15 ↦[Finset.univ]{fullShare} T)) ∗ (∃ S : S4x8x128.Idx → Elt F .i32, ((c : Thread nD τ).loc cc0_scratch17 ↦[Finset.univ]{fullShare} S))
    ∗ (∃ f : S2x56x128.Idx → Elt F .f32, ⌜ScOk w u f⌝ ∗ ((c : Thread nD τ).loc cc0_scratch9 ↦[Finset.univ]{fullShare} f)) ∗ Ow c)

set_option maxHeartbeats 4000000 in
/-- One trip of the kernel's main loop. -/
theorem t4_step (t : Fin k0_t4_loop.trips) :
    St c w C0 xd Y0 (2 * t.val) ⊢ WP c (atArgs (k0_t4_body (F := F)) lanes subs t ⟨⟩) (fun _ => St c w C0 xd Y0 (2 * (t.val + 1))) := by
  have ht := t4_lt t
  have e : 2 * (t.val + 1) = 2 * t.val + 2 := by omega
  rw [e]
  unfold k0_t4_body
  simp -zeta only [atArgs, bind_assoc, pure_bind]
  unfold St
  iintro ⟨HL, HW, HE, HC, HCE, HY, HYE, HA, HX, H6, H5, ⟨%T, %hT, H14⟩, ⟨%S, %hS, H16⟩, H15, H17, HT, HO⟩
  have eT := hT (by omega)
  subst eT
  have eS := hS (by omega)
  subst eS
  rw [WP_bind]
  iapply (part13_rule c w C0 xd t) $$ [HW HE HC HCE HX HA H6 HO]
  · isplitl [HW]; · iexact HW
    isplitl [HE]; · iexact HE
    isplitl [HC]; · iexact HC
    isplitl [HCE]; · iexact HCE
    isplitl [HX]; · iexact HX
    isplitl [HA]; · iexact HA
    isplitl [H6]; · iexact H6
    iexact HO
  iintro ⟨HL1, HW, HE, HI, HC, HCE, HX, HA, H6, HO⟩
  rw [WP_bind]
  iapply (part14_rule c w C0 t) $$ [HL HL1 HI HC HT H14 H16 H15 H17 H5]
  · isplitl [HL]; · iexact HL
    isplitl [HL1]; · iexact HL1
    isplitl [HI]; · iexact HI
    isplitl [HC]; · iexact HC
    isplitl [HT]; · iexact HT
    isplitl [H14]; · iexact H14
    isplitl [H16]; · iexact H16
    isplitl [H15]; · iexact H15
    isplitl [H17]; · iexact H17
    iexact H5
  iintro ⟨HL, HL1, HC, HT, H14, H16, H15, H17, H5⟩
  rw [WP_bind]
  iapply (part15_rule c w C0 xd Y0 t) $$ [HL HW HE HY HYE HC HCE HX HA H5 HO]
  · isplitl [HL]; · iexact HL
    isplitl [HW]; · iexact HW
    isplitl [HE]; · iexact HE
    isplitl [HY]; · iexact HY
    isplitl [HYE]; · iexact HYE
    isplitl [HC]; · iexact HC
    isplitl [HCE]; · iexact HCE
    isplitl [HX]; · iexact HX
    isplitl [HA]; · iexact HA
    isplitl [H5]; · iexact H5
    iexact HO
  iintro ⟨HL2, HW, HE, HY, HYE, HI, HC, HCE, HX, HA, H5, HO⟩
  rw [WP_bind]
  iapply (part16_rule c w xd t) $$ [HL1 HL2 HI HA HT H15 H17 H14 H16 H6]
  · isplitl [HL1]; · iexact HL1
    isplitl [HL2]; · iexact HL2
    isplitl [HI]; · iexact HI
    isplitl [HA]; · iexact HA
    isplitl [HT]; · iexact HT
    isplitl [H15]; · iexact H15
    isplitl [H17]; · iexact H17
    isplitl [H14]; · iexists _; iexact H14
    isplitl [H16]; · iexists _; iexact H16
    iexists _; iexact H6
  iintro ⟨HL1, HL2, HCB, Hcs, HA, HT, H15, H17, H14, H16, H6⟩
  rw [WP_bind]
  iapply (c_start c w C0 (v := 2 * t.val + 1) (a := 2 * t.val + 2 - 14) (by omega) (by omega) (off32_eq1 t) (off34_eq1 t) ((off33_eq1 t).trans (tOff_eq (by omega)))) $$ [HCB Hcs HC]
  · isplitl [HCB]; · iexact HCB
    isplitl [Hcs]; · iexact Hcs
    iexact HC
  iintro HC
  iapply (w_more c w (u := 2 * t.val + 1) (a := min (2 * t.val + 3) 252) (by omega) (by omega) (cond8_iff t)
    (fun h h1 h2 Q' => w_start c w h1 h2 (off56_eq t) (off57_eq t) ((off58_eq t).trans (tOff_eq h1)))) $$ [HL1 HW HE]
  · isplitl [HL1]; · iexact HL1
    isplitl [HW]; · iexact HW
    iexact HE
  iintro ⟨HW, HE⟩
  iapply (finish_if c w xd Y0 (u := 2 * t.val + 1) (by omega) (cond9_iff t) ?hB) $$ [HA HY HYE HO]
  case hB =>
    intro h h1 hs hu7
    iintro ⟨HA, HY, HYE, HO⟩ HK
    iapply (y_free c w xd Y0 (s := (2 * t.val + 1 - 1) / 7) hs ((cond10_iff t h1).trans (by omega))
      (fun h' h2 h3 Q' => y_wait c w xd Y0 (by omega) h3 (off59_eq t (by omega)) (off61_eq t (by omega)) ((off60_eq t (by omega)).trans (ytOff_eq (by omega))))) $$ [HY HYE HO]
    · isplitl [HY]; · iexact HY
      isplitl [HYE]; · iexact HYE
      iexact HO
    iintro ⟨HI, HY, HYE, HO⟩
    iapply (finish_body c w xd Y0 (s := (2 * t.val + 1 - 1) / 7) (a := (2 * t.val + 1 - 1) / 7 + 1 - 2) hs (by omega) (off62_eq t) (off63_eq t) (off65_eq t) ((off64_eq t).trans (ytOff_eq hs))
      (p57 := k0_pay88) (fun _ => rfl) (p58 := k0_pay89) rfl) $$ [HA HI HY]
    · isplitl [HA]; · iexact HA
      isplitl [HI]; · iexact HI
      iexact HY
    iintro ⟨HA, HY⟩
    iapply HK
    isplitl [HA]; · iexact HA
    isplitl [HY]; · iexact HY
    isplitl [HYE]; · iexact HYE
    iexact HO
  · isplitl [HA]; · iexact HA
    isplitl [HY]; · iexact HY
    isplitl [HYE]; · iexact HYE
    iexact HO
  iintro ⟨HA, HY, HYE, HO⟩
  iapply WP_pure
  have e6 : WDprev w (2 * t.val + 2) = WD w (2 * t.val + 1) := if_neg (by omega)
  rw [e6]
  isplitl [HL2]; · iexact HL2
  isplitl [HW]; · iexact HW
  isplitl [HE]; · iexact HE
  isplitl [HC]; · iexact HC
  isplitl [HCE]; · iexact HCE
  isplitl [HY]; · iexact HY
  isplitl [HYE]; · iexact HYE
  isplitl [HA]; · iexact HA
  isplitl [HX]; · iexact HX
  isplitl [H6]; · iexact H6
  isplitl [H5]; · iexists _; iexact H5
  isplitl [H14]; · iexact H14
  isplitl [H16]; · iexact H16
  isplitl [H15]; · iexists _; iexact H15
  isplitl [H17]; · iexists _; iexact H17
  isplitl [HT]; · iexact HT
  iexact HO

end Trip

end Cert.KernelIdeal.Hand
-- ==== Proof.Part27.lean ====
/-
  The first unit's scales and all trips of the main loop.
-/
module

public import proofs.«01_k».proof.Proof.Trip
public import proofs.«01_k».proof.Proof.Start

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (w : S7168x18432.Idx → Elt F .bf16) (C0 : S7168x18432.Idx → Elt F .fp8e4m3)
  (xd : S256x7168.Idx → Elt F .bf16) (Y0 : S256x18432.Idx → Elt F .bf16)

set_option maxHeartbeats 4000000 in
/-- The first unit's scales are found and all units run. -/
theorem part27_rule {Q : BitVec 32 → sProp 𝕄} :
    iprop(WQ c w 0 14 ∗ CQ c w C0 0 0 ∗ CE c 0 ∗ YQ c w xd Y0 0 0 ∗ YE c 0
        ∗ ((c : Thread nD τ).loc cc0_scratch7 ↦[Finset.univ]{fullShare} k0_pay82 (F := F)) ∗ ((c : Thread nD τ).loc cc0_scratch1 ↦[Finset.univ]{fullShare} xd)
        ∗ ((c : Thread nD τ).loc cc0_scratch6 ↦[Finset.univ]{fullShare} k0_pay84 (F := F))
        ∗ (∃ f : S1024x512.Idx → Elt F .bf16, ((c : Thread nD τ).loc cc0_scratch5 ↦[Finset.univ]{fullShare} f))
        ∗ (∃ f : S4x8x128.Idx → Elt F .i32, ((c : Thread nD τ).loc cc0_scratch14 ↦[Finset.univ]{fullShare} f))
        ∗ (∃ f : S4x8x128.Idx → Elt F .i32, ((c : Thread nD τ).loc cc0_scratch16 ↦[Finset.univ]{fullShare} f))
        ∗ (∃ f : S4x8x128.Idx → Elt F .i32, ((c : Thread nD τ).loc cc0_scratch15 ↦[Finset.univ]{fullShare} f))
        ∗ (∃ f : S4x8x128.Idx → Elt F .i32, ((c : Thread nD τ).loc cc0_scratch17 ↦[Finset.univ]{fullShare} f))
        ∗ (∃ f : S2x56x128.Idx → Elt F .f32, ((c : Thread nD τ).loc cc0_scratch9 ↦[Finset.univ]{fullShare} f)) ∗ Ow c)
      ⊢ iprop((∀ v, St c w C0 xd Y0 252 -∗ Q v) -∗ WP c (atArgs (k0_part27 (F := F)) lanes subs) Q) := by
  rw [k0_part27_eq_skeleton]
  unfold k0_part27_skel
  simp -zeta only [atArgs, bind_assoc, pure_bind]
  iintro ⟨HW, HC, HCE, HY, HYE, HA, HX, H6, H5, ⟨%T, H14⟩, ⟨%S, H16⟩, H15, H17, ⟨%f, H9⟩, HO⟩ HQ
  rw [WP_bind]
  iapply (w_wait c w (v := 0) (b := 14) (by omega) (by omega) (off1_eq 0) (off2_eq 0) (rfl : _ = tOff 0)) $$ [HW HO]
  · isplitl [HW]; · iexact HW
    iexact HO
  iintro ⟨HB, Hs, HW, HO⟩
  iapply (rdk c (Finset.subset_univ _))
  isplitl [H9]; · iexact H9
  iintro H9
  rw [WP_bind]
  iapply (findA c (wbuf w 0) (Scalar.muli (Scalar.remsi (Scalar.divsi 0#32 7#32) 32#32) 4#32) _ T S) $$ [HB H14 H16]
  · isplitl [HB]; · unfold wB; iexact HB
    isplitl [H14]; · iexact H14
    iexact H16
  iintro ⟨HB, H14, H16⟩
  iapply (rdk c (Finset.subset_univ _))
  isplitl [H9]; · iexact H9
  iintro H9
  iapply (wrk c (Finset.subset_univ _))
  isplitl [H9]; · iexact H9
  iintro H9
  have hT := ScOk_step w (v := 0) (by omega) (f := f) (.inl rfl) (blkF (wbuf w 0) 0) (fun _ g r hg hr => blkF_wbuf w 0 hr hg) _ (fun _ => rfl)
    k0_off16 off16_eq k0_off16_inb (Scalar.muli (Scalar.remsi (Scalar.divsi 0#32 7#32) 32#32) 4#32) (by decide) _ (fun _ => rfl)
  rw [WP_bind]
  iapply (WP_for c k0_t4_loop k0_t4_ok ⟨⟩ (atArgs (k0_t4_body (F := F)) lanes subs) (fun n _ => St c w C0 xd Y0 (2 * n)) (fun t _ => t4_step c w C0 xd Y0 t)) $$ [HC HCE HY HYE HA HX H6 H5 H15 H17 Hs HW HO HB H14 H16 H9]
  · unfold St
    isplitl [HB Hs]
    · iapply WL_landed
      unfold wB
      isplitl [HB]; · iexact HB
      iexact Hs
    isplitl [HW]; · iexact HW
    isplitr
    · unfold WE
      rw [Finset.Ico_eq_empty (by omega), BI.bigSep_empty]
      iempintro
    isplitl [HC]; · iexact HC
    isplitl [HCE]; · iexact HCE
    isplitl [HY]; · iexact HY
    isplitl [HYE]; · iexact HYE
    isplitl [HA]; · iexact HA
    isplitl [HX]; · iexact HX
    isplitl [H6]; · iexact H6
    isplitl [H5]; · iexact H5
    isplitl [H14]
    · iexists _
      isplitr; · ipureintro; exact fun _ => INV_congr fun g r hg hr => blkF_wbuf w 0 hr hg
      iexact H14
    isplitl [H16]
    · iexists _
      isplitr; · ipureintro; exact fun _ => SCL_congr fun g r hg hr => blkF_wbuf w 0 hr hg
      iexact H16
    isplitl [H15]; · iexact H15
    isplitl [H17]; · iexact H17
    isplitl [H9]
    · iexists _
      isplitr; · ipureintro; exact hT
      iexact H9
    iexact HO
  iintro %_ H
  iapply WP_pure
  have e : k0_t4_loop.trips = 126 := by decide
  rw [e]
  iapply HQ; iexact H

end Cert.KernelIdeal.Hand
-- ==== Proof.Body.lean ====
/-
  The kernel's body as a whole.
-/
module

public import proofs.«01_k».proof.Proof.End
public import proofs.«01_k».proof.Proof.Part27

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The ring of fourteen comes round. -/
theorem shift14 (P : ℕ → sProp 𝕄) (hP : ∀ v, P (v + 14) = P v) (k : ℕ) :
    bigSep (Finset.Ico (14 * k) (14 * k + 14)) P ⊢ bigSep (Finset.Ico 0 14) P := by
  induction k with
  | zero => exact .rfl
  | succ k ih =>
      have e : bigSep (Finset.Ico (14 * (k + 1)) (14 * (k + 1) + 14)) P = bigSep (Finset.Ico (14 * k) (14 * k + 14)) P := by
        rw [show 14 * (k + 1) = 14 * k + 14 by omega, ← Finset.map_add_right_Ico, BI.bigSep_map]
        exact BI.bigSep_congr fun i _ => hP i
      rw [e]; exact ih

/-- The ring of two comes round. -/
theorem shift2 (P : ℕ → sProp 𝕄) (hP : ∀ v, P (v + 2) = P v) (k : ℕ) :
    bigSep (Finset.Ico (2 * k) (2 * k + 2)) P ⊢ bigSep (Finset.Ico 0 2) P := by
  induction k with
  | zero => exact .rfl
  | succ k ih =>
      have e : bigSep (Finset.Ico (2 * (k + 1)) (2 * (k + 1) + 2)) P = bigSep (Finset.Ico (2 * k) (2 * k + 2)) P := by
        rw [show 2 * (k + 1) = 2 * k + 2 by omega, ← Finset.map_add_right_Ico, BI.bigSep_map]
        exact BI.bigSep_congr fun i _ => hP i
      rw [e]; exact ih

variable (c : Dev nD) (x : S256x7168.Idx → Elt F .bf16) (h : S1x16.Idx → Elt F .f32) (w : S7168x18432.Idx → Elt F .bf16)
  (C0 : S7168x18432.Idx → Elt F .fp8e4m3) (Y0 : S256x18432.Idx → Elt F .bf16)

/-- What the kernel starts from: the operands, the results at any contents, the rings free, all counters at zero. -/
def Pre : sProp 𝕄 := iprop(((c : Thread nD τ).loc main_v0 ↦[Finset.univ]{fullShare} x) ∗ ((c : Thread nD τ).loc main_v1 ↦[Finset.univ]{fullShare} h) ∗ WQ c w 0 0 ∗ bigSep (Finset.Ico 0 14) (wI c (F := F)) ∗ CQ c w C0 0 0 ∗ bigSep (Finset.Ico 0 14) (cI c (F := F))
  ∗ YQ c w (XD x h) Y0 0 0 ∗ bigSep (Finset.Ico 0 2) (yI c (F := F)) ∗ (∃ f : S1x16.Idx → Elt F .f32, ((c : Thread nD τ).loc main_v2_1 ↦[Finset.univ]{fullShare} f)) ∗ (∃ f : S256x7168.Idx → Elt F .fp8e4m3, ((c : Thread nD τ).loc main_v2_2 ↦[Finset.univ]{fullShare} f)) ∗ (∃ f : S1x1.Idx → Elt F .f32, ((c : Thread nD τ).loc main_v2_3 ↦[Finset.univ]{fullShare} f)) ∗ (∃ f : S56x144.Idx → Elt F .f32, ((c : Thread nD τ).loc main_v2_5 ↦[Finset.univ]{fullShare} f))
  ∗ (∃ f : S256x7168.Idx → Elt F .bf16, ((c : Thread nD τ).loc cc0_scratch0 ↦[Finset.univ]{fullShare} f)) ∗ (∃ f : S256x7168.Idx → Elt F .bf16, ((c : Thread nD τ).loc cc0_scratch1 ↦[Finset.univ]{fullShare} f)) ∗ (∃ f : S256x7168.Idx → Elt F .fp8e4m3, ((c : Thread nD τ).loc cc0_scratch2 ↦[Finset.univ]{fullShare} f)) ∗ (∃ f : S1024x512.Idx → Elt F .bf16, ((c : Thread nD τ).loc cc0_scratch5 ↦[Finset.univ]{fullShare} f)) ∗ (∃ f : S1024x512.Idx → Elt F .bf16, ((c : Thread nD τ).loc cc0_scratch6 ↦[Finset.univ]{fullShare} f)) ∗ (∃ f : S256x512.Idx → Elt F .f32, ((c : Thread nD τ).loc cc0_scratch7 ↦[Finset.univ]{fullShare} f)) ∗ (∃ f : S2x56x128.Idx → Elt F .f32, ((c : Thread nD τ).loc cc0_scratch9 ↦[Finset.univ]{fullShare} f)) ∗ (∃ f : S56x144.Idx → Elt F .f32, ((c : Thread nD τ).loc cc0_scratch10 ↦[Finset.univ]{fullShare} f)) ∗ (∃ f : S1x16.Idx → Elt F .f32, ((c : Thread nD τ).loc cc0_scratch11 ↦[Finset.univ]{fullShare} f)) ∗ (∃ f : S1x16.Idx → Elt F .f32, ((c : Thread nD τ).loc cc0_scratch12 ↦[Finset.univ]{fullShare} f)) ∗ (∃ f : S1x1.Idx → Elt F .f32, ((c : Thread nD τ).loc cc0_scratch13 ↦[Finset.univ]{fullShare} f)) ∗ (∃ f : S4x8x128.Idx → Elt F .i32, ((c : Thread nD τ).loc cc0_scratch14 ↦[Finset.univ]{fullShare} f)) ∗ (∃ f : S4x8x128.Idx → Elt F .i32, ((c : Thread nD τ).loc cc0_scratch15 ↦[Finset.univ]{fullShare} f)) ∗ (∃ f : S4x8x128.Idx → Elt F .i32, ((c : Thread nD τ).loc cc0_scratch16 ↦[Finset.univ]{fullShare} f)) ∗ (∃ f : S4x8x128.Idx → Elt F .i32, ((c : Thread nD τ).loc cc0_scratch17 ↦[Finset.univ]{fullShare} f)) ∗ semVal ((c : Thread nD τ), .dma xcell0) 0 ∗ semVal ((c : Thread nD τ), .dma xcell1) 0 ∗ semVal ((c : Thread nD τ), .dma mcell0) 0 ∗ semVal ((c : Thread nD τ), .dma mcell1) 0 ∗ semVal ((c : Thread nD τ), .dma mcell2) 0 ∗ semVal ((c : Thread nD τ), .dma mcell3) 0)

/-- What it ends with: the results at their values. -/
def Post : sProp 𝕄 := iprop(((c : Thread nD τ).loc main_v0 ↦[Finset.univ]{fullShare} x) ∗ ((c : Thread nD τ).loc main_v1 ↦[Finset.univ]{fullShare} h) ∗ WQ c w 252 252 ∗ bigSep (Finset.Ico 0 14) (wI c (F := F)) ∗ CQ c w C0 252 252 ∗ bigSep (Finset.Ico 0 14) (cI c (F := F))
  ∗ YQ c w (XD x h) Y0 36 36 ∗ bigSep (Finset.Ico 0 2) (yI c (F := F)) ∗ ((c : Thread nD τ).loc main_v2_1 ↦[Finset.univ]{fullShare} Hout x h) ∗ ((c : Thread nD τ).loc main_v2_2 ↦[Finset.univ]{fullShare} XC x h) ∗ ((c : Thread nD τ).loc main_v2_3 ↦[Finset.univ]{fullShare} XSout h) ∗ ((c : Thread nD τ).loc main_v2_5 ↦[Finset.univ]{fullShare} WSout w)
  ∗ (∃ f : S256x7168.Idx → Elt F .bf16, ((c : Thread nD τ).loc cc0_scratch0 ↦[Finset.univ]{fullShare} f)) ∗ (∃ f : S256x7168.Idx → Elt F .bf16, ((c : Thread nD τ).loc cc0_scratch1 ↦[Finset.univ]{fullShare} f)) ∗ (∃ f : S256x7168.Idx → Elt F .fp8e4m3, ((c : Thread nD τ).loc cc0_scratch2 ↦[Finset.univ]{fullShare} f)) ∗ (∃ f : S1024x512.Idx → Elt F .bf16, ((c : Thread nD τ).loc cc0_scratch5 ↦[Finset.univ]{fullShare} f)) ∗ (∃ f : S1024x512.Idx → Elt F .bf16, ((c : Thread nD τ).loc cc0_scratch6 ↦[Finset.univ]{fullShare} f)) ∗ (∃ f : S256x512.Idx → Elt F .f32, ((c : Thread nD τ).loc cc0_scratch7 ↦[Finset.univ]{fullShare} f)) ∗ (∃ f : S2x56x128.Idx → Elt F .f32, ((c : Thread nD τ).loc cc0_scratch9 ↦[Finset.univ]{fullShare} f)) ∗ (∃ f : S56x144.Idx → Elt F .f32, ((c : Thread nD τ).loc cc0_scratch10 ↦[Finset.univ]{fullShare} f)) ∗ (∃ f : S1x16.Idx → Elt F .f32, ((c : Thread nD τ).loc cc0_scratch11 ↦[Finset.univ]{fullShare} f)) ∗ (∃ f : S1x16.Idx → Elt F .f32, ((c : Thread nD τ).loc cc0_scratch12 ↦[Finset.univ]{fullShare} f)) ∗ (∃ f : S1x1.Idx → Elt F .f32, ((c : Thread nD τ).loc cc0_scratch13 ↦[Finset.univ]{fullShare} f)) ∗ (∃ f : S4x8x128.Idx → Elt F .i32, ((c : Thread nD τ).loc cc0_scratch14 ↦[Finset.univ]{fullShare} f)) ∗ (∃ f : S4x8x128.Idx → Elt F .i32, ((c : Thread nD τ).loc cc0_scratch15 ↦[Finset.univ]{fullShare} f)) ∗ (∃ f : S4x8x128.Idx → Elt F .i32, ((c : Thread nD τ).loc cc0_scratch16 ↦[Finset.univ]{fullShare} f)) ∗ (∃ f : S4x8x128.Idx → Elt F .i32, ((c : Thread nD τ).loc cc0_scratch17 ↦[Finset.univ]{fullShare} f)) ∗ semVal ((c : Thread nD τ), .dma xcell0) 0 ∗ semVal ((c : Thread nD τ), .dma xcell1) 0 ∗ semVal ((c : Thread nD τ), .dma mcell0) 0 ∗ semVal ((c : Thread nD τ), .dma mcell1) 0 ∗ semVal ((c : Thread nD τ), .dma mcell2) 0 ∗ semVal ((c : Thread nD τ), .dma mcell3) 0)

set_option maxHeartbeats 8000000 in
/-- The whole kernel. -/
theorem body_rule {Q : PUnit → sProp 𝕄} :
    iprop(Pre c x h w C0 Y0 ∗ Ow c) ⊢ iprop((iprop(Post c x h w C0 Y0 ∗ Ow c) -∗ Q ⟨⟩) -∗ WP c (atArgs (cc0_fp8_block_weight_linear (F := F))) Q) := by
  rw [cc0_fp8_block_weight_linear_eq_skeleton]
  unfold cc0_fp8_block_weight_linear_skel
  simp -zeta only [atArgs, bind_assoc, pure_bind]
  unfold Pre
  iintro ⟨⟨HV0, HV1, HW, HWI, HC, HCE, HY, HYE, HV21, HV22, HV23, HV25, H0, H1, H2, H5, H6, H7, H9, H10, H11, H12, H13, H14, H15, H16, H17, Hx0, Hx1, Hm0, Hm1, Hm2, Hm3⟩, HO⟩ HQ
  ihave HF : (Fill c w 0 : sProp 𝕄) $$ [HW HWI]
  · unfold Fill
    isplitl [HWI]; · iexact HWI
    iexact HW
  rw [WP_bind]
  iapply (part17_rule c x h w) $$ [HV1 H11 Hm0 HV0 H0 Hx0 HF]
  · isplitl [HV1]; · iexact HV1
    isplitl [H11]; · iexact H11
    isplitl [Hm0]; · iexact Hm0
    isplitl [HV0]; · iexact HV0
    isplitl [H0]; · iexact H0
    isplitl [Hx0]; · iexact Hx0
    iexact HF
  iintro ⟨FH, FX, HF⟩
  rw [WP_bind]
  iapply (part18_rule c w) $$ HF
  iintro HF
  rw [WP_bind]
  iapply (part19_rule c w) $$ HF
  iintro HF
  rw [WP_bind]
  iapply (part20_rule c h w) $$ [HF FH HO]
  · isplitl [HF]; · iexact HF
    isplitl [FH]; · iexact FH
    iexact HO
  iintro ⟨HF, H11, HV1, Hm0, HO⟩
  rw [WP_bind]
  iapply (part21_rule c h) $$ H11
  iintro H11
  rw [WP_bind]
  iapply (part22_rule c h)
  rw [WP_bind]
  iapply (part23_rule c h)
  rw [WP_bind]
  iapply (part24_rule c x h) $$ [H11 H13 HV23 Hm2 FX H1 H2 HV22 Hx1 H12 HO]
  · isplitl [H11]; · iexact H11
    isplitl [H13]; · iexact H13
    isplitl [HV23]; · iexact HV23
    isplitl [Hm2]; · iexact Hm2
    isplitl [FX]; · iexact FX
    isplitl [H1]; · iexact H1
    isplitl [H2]; · iexact H2
    isplitl [HV22]; · iexact HV22
    isplitl [Hx1]; · iexact Hx1
    isplitl [H12]; · iexact H12
    iexact HO
  iintro ⟨H11, FXS, H0, HV0, Hx0, H1, FXC, HN, HO⟩
  rw [WP_bind]
  iapply (part25_rule c x h) $$ [H11 HN]
  · isplitl [H11]; · iexact H11
    iexact HN
  iintro ⟨H11, HN⟩
  rw [WP_bind]
  iapply (part26_rule c x h) $$ [H11 HN HV21 Hm1 H7 H9 H6]
  · isplitl [H11]; · iexact H11
    isplitl [HN]; · iexact HN
    isplitl [HV21]; · iexact HV21
    isplitl [Hm1]; · iexact Hm1
    isplitl [H7]; · iexact H7
    isplitl [H9]; · iexact H9
    iexact H6
  iintro ⟨H11, FHN, H7, H9, H6⟩
  unfold Fill
  icases HF with ⟨-, HW⟩
  ihave HCE : (CE c 0 : sProp 𝕄) $$ [HCE]
  · unfold CE; iexact HCE
  ihave HYE : (YE c 0 : sProp 𝕄) $$ [HYE]
  · unfold YE; iexact HYE
  rw [WP_bind]
  iapply (part27_rule c w C0 (XD x h) Y0) $$ [HW HC HCE HY HYE H7 H1 H6 H5 H14 H16 H15 H17 H9 HO]
  · isplitl [HW]; · iexact HW
    isplitl [HC]; · iexact HC
    isplitl [HCE]; · iexact HCE
    isplitl [HY]; · iexact HY
    isplitl [HYE]; · iexact HYE
    isplitl [H7]; · iexact H7
    isplitl [H1]; · iexact H1
    isplitl [H6]; · iexact H6
    isplitl [H5]; · iexact H5
    isplitl [H14]; · iexact H14
    isplitl [H16]; · iexact H16
    isplitl [H15]; · iexact H15
    isplitl [H17]; · iexact H17
    isplitl [H9]; · iexact H9
    iexact HO
  iintro %v H
  unfold St
  icases H with ⟨HL, HW, HE, HC, -, HY, HYE, H7, H1, H6, H5, ⟨%T, -, H14⟩, ⟨%S, -, H16⟩, H15, H17, H9, HO⟩
  rw [WP_bind]
  iapply (part28_rule c w (XD x h) Y0 v) $$ [H7 H1 H6 HY HYE HO]
  · isplitl [H7]; · iexact H7
    isplitl [H1]; · iexact H1
    isplitl [H6]; · iexact H6
    isplitl [HY]; · iexact HY
    isplitl [HYE]; · iexact HYE
    iexact HO
  iintro ⟨H7, H1, H6, HY, HYE, HO⟩
  rw [WP_bind]
  iapply (part29_rule c w C0) $$ [H9 H10 HV25 Hm3 HC HO]
  · isplitl [H9]; · iexact H9
    isplitl [H10]; · iexact H10
    isplitl [HV25]; · iexact HV25
    isplitl [Hm3]; · iexact Hm3
    unfold Ending
    isplitl [HC]; · iexact HC
    isplitr
    · rw [Finset.Ico_self, BI.bigSep_empty]
      iempintro
    iexact HO
  iintro ⟨H9, FWS, HC⟩
  rw [WP_bind]
  iapply (part30_rule c w C0) $$ HC
  iintro HC
  rw [WP_bind]
  iapply (part31_rule c w C0) $$ HC
  iintro HC
  rw [WP_bind]
  iapply (part32_rule c w C0 (XD x h) Y0) $$ [HC HY]
  · isplitl [HC]; · iexact HC
    iexact HY
  iintro ⟨HC, HJ, HY⟩
  unfold Ending
  icases HC with ⟨HC, HI, HO⟩
  rw [WP_bind]
  iapply (y_wait c w (XD x h) Y0 (s := 35) (b := 36) (by omega) (by omega) (off74_eq 1) (off75_eq 1) (rfl : _ = ytOff 35)) $$ [HY HO]
  · isplitl [HY]; · iexact HY
    iexact HO
  iintro ⟨HJ5, HY, HO⟩
  unfold FXS
  iapply (waitK c N13 rfl) $$ [FXS HO]
  · isplitl [FXS]; · iexact FXS
    iexact HO
  iintro ⟨⟨HV23, H13⟩, Hm2, HO⟩
  unfold FHN
  iapply (waitK c N12 rfl) $$ [FHN HO]
  · isplitl [FHN]; · iexact FHN
    iexact HO
  iintro ⟨⟨HV21, H12⟩, Hm1, HO⟩
  unfold FXC
  iapply (waitK c N2 rfl) $$ [FXC HO]
  · isplitl [FXC]; · iexact FXC
    iexact HO
  iintro ⟨⟨HV22, H2⟩, Hx1, HO⟩
  unfold FWS
  iapply (waitK c N10 rfl) $$ [FWS HO]
  · isplitl [FWS]; · iexact FWS
    iexact HO
  iintro ⟨⟨HV25, H10⟩, Hm3, HO⟩
  iapply WP_pure
  iapply HQ
  isplitr [HO]
  rotate_left
  · iexact HO
  unfold Post
  isplitl [HV0]; · iexact HV0
  isplitl [HV1]; · iexact HV1
  isplitl [HW]; · iexact HW
  isplitl [HL HE]
  · iapply (shift14 (wI c (F := F)) (wI_add c) 18)
    rw [Ico_take (by omega)]
    isplitl [HL]; · iapply WL_idle; iexact HL
    unfold WE
    iexact HE
  isplitl [HC]; · iexact HC
  isplitl [HI]
  · iapply (shift14 (cI c (F := F)) (cI_add c) 17)
    iexact HI
  isplitl [HY]; · iexact HY
  isplitl [HJ HJ5]
  · iapply (shift2 (yI c (F := F)) (yI_add c) 17)
    rw [Ico_take (by omega), Ico_take (by omega), Finset.Ico_self, BI.bigSep_empty]
    isplitl [HJ]; · iexact HJ
    isplitl [HJ5]; · iexact HJ5
    iempintro
  isplitl [HV21]; · iexact HV21
  isplitl [HV22]; · iexact HV22
  isplitl [HV23]; · iexact HV23
  isplitl [HV25]; · iexact HV25
  isplitl [H0]; · iexists _; iexact H0
  isplitl [H1]; · iexists _; iexact H1
  isplitl [H2]; · iexists _; iexact H2
  isplitl [H5]; · iexact H5
  isplitl [H6]; · iexists _; iexact H6
  isplitl [H7]; · iexact H7
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexists _; iexact H16
  isplitl [H17]; · iexact H17
  isplitl [Hx0]; · iexact Hx0
  isplitl [Hx1]; · iexact Hx1
  isplitl [Hm0]; · iexact Hm0
  isplitl [Hm1]; · iexact Hm1
  isplitl [Hm2]; · iexact Hm2
  iexact Hm3

end Cert.KernelIdeal.Hand
-- ==== Proof.Split.lean ====
/-
  The buffers cut into the tiles and slots of the queues.
-/
module

public import proofs.«01_k».proof.Proof.Body

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The buffers cut into tiles and slots -/

theorem mem_tile {v : ℕ} (hv : v < 252) {i : S7168x18432.Idx} :
    i ∈ (Rect.unit (s := S7168x18432) (tOff v) S1024x512.size (tOff_inb v)).set ↔ v = 7 * ((i 1).val / 512) + (i 0).val / 1024 := by
  have h0 : (i 0).val < 7168 := (i 0).isLt
  have h1 : (i 1).val < 18432 := (i 1).isLt
  rw [Rect.mem_set_unit]
  constructor
  · intro h
    have a0 : 1024 * (v % 252 % 7) ≤ (i 0).val ∧ (i 0).val < 1024 * (v % 252 % 7) + 1024 := h 0
    have a1 : 512 * (v % 252 / 7) ≤ (i 1).val ∧ (i 1).val < 512 * (v % 252 / 7) + 512 := h 1
    omega
  · intro h a
    match a with
    | ⟨0, _⟩ => show 1024 * (v % 252 % 7) ≤ (i 0).val ∧ (i 0).val < 1024 * (v % 252 % 7) + 1024; omega
    | ⟨1, _⟩ => show 512 * (v % 252 / 7) ≤ (i 1).val ∧ (i 1).val < 512 * (v % 252 / 7) + 512; omega

theorem mem_ytile {s : ℕ} (hs : s < 36) {i : S256x18432.Idx} :
    i ∈ (Rect.unit (s := S256x18432) (ytOff s) S256x512.size (ytOff_inb s)).set ↔ s = (i 1).val / 512 := by
  have h0 : (i 0).val < 256 := (i 0).isLt
  have h1 : (i 1).val < 18432 := (i 1).isLt
  rw [Rect.mem_set_unit]
  constructor
  · intro h
    have a1 : 512 * (s % 36) ≤ (i 1).val ∧ (i 1).val < 512 * (s % 36) + 512 := h 1
    omega
  · intro h a
    match a with
    | ⟨0, _⟩ => show 0 ≤ (i 0).val ∧ (i 0).val < 0 + 256; omega
    | ⟨1, _⟩ => show 512 * (s % 36) ≤ (i 1).val ∧ (i 1).val < 512 * (s % 36) + 512; omega

theorem mem_slot {v : ℕ} (hv : v < 14) {i : S2x7168x512.Idx} :
    i ∈ (Rect.unit (s := S2x7168x512) (slotOff v) S1x1024x512.size (slotOff_inb v)).set ↔ v = 7 * (i 0).val + (i 1).val / 1024 := by
  have h0 : (i 0).val < 2 := (i 0).isLt
  have h1 : (i 1).val < 7168 := (i 1).isLt
  have h2 : (i 2).val < 512 := (i 2).isLt
  rw [Rect.mem_set_unit]
  constructor
  · intro h
    have a0 : v / 7 % 2 ≤ (i 0).val ∧ (i 0).val < v / 7 % 2 + 1 := h 0
    have a1 : 1024 * (v % 7) ≤ (i 1).val ∧ (i 1).val < 1024 * (v % 7) + 1024 := h 1
    omega
  · intro h a
    match a with
    | ⟨0, _⟩ => show v / 7 % 2 ≤ (i 0).val ∧ (i 0).val < v / 7 % 2 + 1; omega
    | ⟨1, _⟩ => show 1024 * (v % 7) ≤ (i 1).val ∧ (i 1).val < 1024 * (v % 7) + 1024; omega
    | ⟨2, _⟩ => show 0 ≤ (i 2).val ∧ (i 2).val < 0 + 512; omega

theorem mem_yslot {s : ℕ} (hs : s < 2) {i : S2x256x512.Idx} :
    i ∈ (Rect.unit (s := S2x256x512) (yslotOff s) S1x256x512.size (yslotOff_inb s)).set ↔ s = (i 0).val := by
  have h0 : (i 0).val < 2 := (i 0).isLt
  have h1 : (i 1).val < 256 := (i 1).isLt
  have h2 : (i 2).val < 512 := (i 2).isLt
  rw [Rect.mem_set_unit]
  constructor
  · intro h
    have a0 : s % 2 ≤ (i 0).val ∧ (i 0).val < s % 2 + 1 := h 0
    omega
  · intro h a
    match a with
    | ⟨0, _⟩ => show s % 2 ≤ (i 0).val ∧ (i 0).val < s % 2 + 1; omega
    | ⟨1, _⟩ => show 0 ≤ (i 1).val ∧ (i 1).val < 0 + 256; omega
    | ⟨2, _⟩ => show 0 ≤ (i 2).val ∧ (i 2).val < 0 + 512; omega

/-- Sets told apart by a number below `N` cover a buffer and are apart. -/
theorem cover_of {ι : Type} [Fintype ι] [DecidableEq ι] {N : ℕ} (K : ℕ → Finset ι) (n : ι → ℕ) (hn : ∀ i, n i < N)
    (hK : ∀ v, v < N → ∀ i, i ∈ K v ↔ v = n i) :
    (Finset.range N).biUnion K = Finset.univ ∧ ∀ v ∈ Finset.range N, ∀ v' ∈ Finset.range N, v ≠ v' → Disjoint (K v) (K v') := by
  constructor
  · refine Finset.eq_univ_iff_forall.2 fun i => Finset.mem_biUnion.2 ⟨n i, Finset.mem_range.2 (hn i), (hK _ (hn i) i).2 rfl⟩
  · intro v hv v' hv' h
    refine Finset.disjoint_left.2 fun i hi hi' => h ?_
    rw [(hK v (Finset.mem_range.1 hv) i).1 hi, (hK v' (Finset.mem_range.1 hv') i).1 hi']

omit [FloatOps F] in
/-- A buffer cut into pieces. -/
theorem cut {ℓ : Loc nD τ sig} {N : ℕ} (K : ℕ → Finset (Idx ℓ)) (f : Buf (Elt F) ℓ)
    (h : (Finset.range N).biUnion K = Finset.univ ∧ ∀ v ∈ Finset.range N, ∀ v' ∈ Finset.range N, v ≠ v' → Disjoint (K v) (K v')) :
    (ℓ ↦[Finset.univ]{fullShare} f : sProp 𝕄) = bigSep (Finset.range N) fun v => ℓ ↦[K v]{fullShare} f := by
  rw [← pointsTo_biUnion (Finset.range N) K h.2, h.1]

omit [FloatOps F] in
/-- A buffer of any contents cut into pieces of any contents, -/
theorem cut_any {ℓ : Loc nD τ sig} {N : ℕ} (K : ℕ → Finset (Idx ℓ))
    (h : (Finset.range N).biUnion K = Finset.univ ∧ ∀ v ∈ Finset.range N, ∀ v' ∈ Finset.range N, v ≠ v' → Disjoint (K v) (K v')) :
    (iprop(∃ f : Buf (Elt F) ℓ, ℓ ↦[Finset.univ]{fullShare} f) : sProp 𝕄) ⊢ bigSep (Finset.Ico 0 N) fun v => iprop(∃ f : Buf (Elt F) ℓ, ℓ ↦[K v]{fullShare} f) := by
  rw [← Finset.range_eq_Ico]
  iintro ⟨%f, H⟩
  ihave H := (Entails.of_eq (cut K f h)) $$ H
  have e : bigSep (Finset.range N) (fun v => (ℓ ↦[K v]{fullShare} f : sProp 𝕄)) ⊢ bigSep (Finset.range N) fun v => iprop(∃ f : Buf (Elt F) ℓ, ℓ ↦[K v]{fullShare} f) :=
    BI.bigSep_mono fun v _ => BIClass.exists_intro (Φ := fun f : Buf (Elt F) ℓ => (ℓ ↦[K v]{fullShare} f : sProp 𝕄)) f
  iapply e $$ H

omit [FloatOps F] in
/-- and joined. -/
theorem join_any {ℓ : Loc nD τ sig} {N : ℕ} (K : ℕ → Finset (Idx ℓ)) (f₀ : Buf (Elt F) ℓ)
    (h : (Finset.range N).biUnion K = Finset.univ ∧ ∀ v ∈ Finset.range N, ∀ v' ∈ Finset.range N, v ≠ v' → Disjoint (K v) (K v')) :
    bigSep (Finset.Ico 0 N) (fun v => iprop(∃ f : Buf (Elt F) ℓ, ℓ ↦[K v]{fullShare} f)) ⊢ (iprop(∃ f : Buf (Elt F) ℓ, ℓ ↦[Finset.univ]{fullShare} f) : sProp 𝕄) := by
  rw [← Finset.range_eq_Ico]
  have : Nonempty (Buf (Elt F) ℓ) := ⟨f₀⟩
  refine (BI.bigSep_exists_pi (Finset.range N) (fun v (f : Buf (Elt F) ℓ) => (ℓ ↦[K v]{fullShare} f : sProp 𝕄))).trans ?_
  iintro ⟨%fs, H⟩
  ihave H := (pointsTo_biUnion_join (Finset.range N) K fs f₀ h.2) $$ H
  rw [h.1]
  icases H with ⟨%g, -, H⟩
  iexists g; iexact H

theorem wT_cover : (Finset.range 252).biUnion wT = Finset.univ ∧ ∀ v ∈ Finset.range 252, ∀ v' ∈ Finset.range 252, v ≠ v' → Disjoint (wT v) (wT v') :=
  cover_of wT (fun i => 7 * ((i 1).val / 512) + (i 0).val / 1024)
    (fun i => by have h0 : (i 0).val < 7168 := (i 0).isLt; have h1 : (i 1).val < 18432 := (i 1).isLt; omega)
    (fun v hv i => by rw [wT_eq]; exact mem_tile hv)
theorem cT_cover : (Finset.range 252).biUnion cT = Finset.univ ∧ ∀ v ∈ Finset.range 252, ∀ v' ∈ Finset.range 252, v ≠ v' → Disjoint (cT v) (cT v') :=
  cover_of cT (fun i => 7 * ((i 1).val / 512) + (i 0).val / 1024)
    (fun i => by have h0 : (i 0).val < 7168 := (i 0).isLt; have h1 : (i 1).val < 18432 := (i 1).isLt; omega)
    (fun v hv i => by rw [cT_eq]; exact mem_tile hv)
theorem yT_cover : (Finset.range 36).biUnion yT = Finset.univ ∧ ∀ v ∈ Finset.range 36, ∀ v' ∈ Finset.range 36, v ≠ v' → Disjoint (yT v) (yT v') :=
  cover_of yT (fun i => (i 1).val / 512)
    (fun i => by have h1 : (i 1).val < 18432 := (i 1).isLt; omega)
    (fun v hv i => by rw [yT_eq]; exact mem_ytile hv)
theorem wS_cover : (Finset.range 14).biUnion wS = Finset.univ ∧ ∀ v ∈ Finset.range 14, ∀ v' ∈ Finset.range 14, v ≠ v' → Disjoint (wS v) (wS v') :=
  cover_of wS (fun i => 7 * (i 0).val + (i 1).val / 1024)
    (fun i => by have h0 : (i 0).val < 2 := (i 0).isLt; have h1 : (i 1).val < 7168 := (i 1).isLt; omega)
    (fun v hv i => by rw [wS_eq]; exact mem_slot hv)
theorem cS_cover : (Finset.range 14).biUnion cS = Finset.univ ∧ ∀ v ∈ Finset.range 14, ∀ v' ∈ Finset.range 14, v ≠ v' → Disjoint (cS v) (cS v') :=
  cover_of cS (fun i => 7 * (i 0).val + (i 1).val / 1024)
    (fun i => by have h0 : (i 0).val < 2 := (i 0).isLt; have h1 : (i 1).val < 7168 := (i 1).isLt; omega)
    (fun v hv i => by rw [cS_eq]; exact mem_slot hv)
theorem yS_cover : (Finset.range 2).biUnion yS = Finset.univ ∧ ∀ v ∈ Finset.range 2, ∀ v' ∈ Finset.range 2, v ≠ v' → Disjoint (yS v) (yS v') :=
  cover_of yS (fun i => (i 0).val) (fun i => (i 0).isLt)
    (fun v hv i => by rw [yS_eq]; exact mem_yslot hv)

/-! ## The queues at their ends -/

section Q
variable (c : Dev nD) (w : S7168x18432.Idx → Elt F .bf16) (C0 : S7168x18432.Idx → Elt F .fp8e4m3)
  (xd : S256x7168.Idx → Elt F .bf16) (Y0 : S256x18432.Idx → Elt F .bf16)

theorem WQ_start : (((c : Thread nD τ).loc main_arg2 ↦[Finset.univ]{fullShare} w) : sProp 𝕄) = WQ c w 0 0 := by
  unfold WQ; rw [pipe_start]; exact cut (ℓ := (c : Thread nD τ).loc main_arg2) wT w wT_cover
theorem WQ_done : (((c : Thread nD τ).loc main_arg2 ↦[Finset.univ]{fullShare} w) : sProp 𝕄) = WQ c w 252 252 := by
  unfold WQ; rw [pipe_done]; exact cut (ℓ := (c : Thread nD τ).loc main_arg2) wT w wT_cover
theorem CQ_start : (((c : Thread nD τ).loc main_v2_4 ↦[Finset.univ]{fullShare} C0) : sProp 𝕄) = CQ c w C0 0 0 := by
  unfold CQ; rw [pipe_start]; exact cut (ℓ := (c : Thread nD τ).loc main_v2_4) cT C0 cT_cover
theorem CQ_done : (((c : Thread nD τ).loc main_v2_4 ↦[Finset.univ]{fullShare} WC w) : sProp 𝕄) = CQ c w C0 252 252 := by
  unfold CQ; rw [pipe_done]; exact cut (ℓ := (c : Thread nD τ).loc main_v2_4) cT (WC w) cT_cover
theorem YQ_start : (((c : Thread nD τ).loc main_v2_0 ↦[Finset.univ]{fullShare} Y0) : sProp 𝕄) = YQ c w xd Y0 0 0 := by
  unfold YQ; rw [pipe_start]; exact cut (ℓ := (c : Thread nD τ).loc main_v2_0) yT Y0 yT_cover
theorem YQ_done : (((c : Thread nD τ).loc main_v2_0 ↦[Finset.univ]{fullShare} Yout w xd) : sProp 𝕄) = YQ c w xd Y0 36 36 := by
  unfold YQ; rw [pipe_done]; exact cut (ℓ := (c : Thread nD τ).loc main_v2_0) yT (Yout w xd) yT_cover

theorem wI_split : bigSep (Finset.Ico 0 14) (wI c (F := F)) = iprop(bigSep (Finset.Ico 0 14) (fun v => iprop(∃ f : S2x7168x512.Idx → Elt F .bf16, (c : Thread nD τ).loc cc0_scratch3 ↦[wS v]{fullShare} f))
    ∗ bigSep (Finset.Ico 0 14) fun v => semVal ((c : Thread nD τ), .dma (wcell v)) 0) := by
  unfold wI; exact BI.bigSep_sep' _ _ _
theorem cI_split : bigSep (Finset.Ico 0 14) (cI c (F := F)) = iprop(bigSep (Finset.Ico 0 14) (fun v => iprop(∃ f : S2x7168x512.Idx → Elt F .fp8e4m3, (c : Thread nD τ).loc cc0_scratch4 ↦[cS v]{fullShare} f))
    ∗ bigSep (Finset.Ico 0 14) fun v => semVal ((c : Thread nD τ), .dma (ccell v)) 0) := by
  unfold cI; exact BI.bigSep_sep' _ _ _
theorem yI_split : bigSep (Finset.Ico 0 2) (yI c (F := F)) = iprop(bigSep (Finset.Ico 0 2) (fun v => iprop(∃ f : S2x256x512.Idx → Elt F .bf16, (c : Thread nD τ).loc cc0_scratch8 ↦[yS v]{fullShare} f))
    ∗ bigSep (Finset.Ico 0 2) fun v => semVal ((c : Thread nD τ), .dma (ycell v)) 0) := by
  unfold yI; exact BI.bigSep_sep' _ _ _
end Q

/-! ## The counters -/

/-- The kernel's counters, all of them. -/
abbrev osem0 : Fin 36 → SemLoc sig := fun j => .dma j
theorem ownSemFacts0 : Pipeline.OwnSemFacts (cfg0).spec osem0 := by decide

theorem wcell_eq : ∀ v : Fin 14, wcell v.val = (⟨v.val, by omega⟩ : Fin 36) := by decide
theorem ccell_eq : ∀ v : Fin 14, ccell v.val = (⟨14 + v.val, by omega⟩ : Fin 36) := by decide
theorem ycell_eq : ∀ v : Fin 2, ycell v.val = (⟨28 + v.val, by omega⟩ : Fin 36) := by decide

variable (c : Dev nD)
/-- A counter at zero. -/
abbrev sv (k : ℕ) : sProp 𝕄 := semVal ((c : Thread nD τ), .dma (Fin.ofNat 36 k)) 0

theorem wsv {v : ℕ} (h : v < 14) : (semVal ((c : Thread nD τ), .dma (wcell v)) 0 : sProp 𝕄) = sv c v := by
  have := wcell_eq ⟨v, h⟩
  dsimp only at this
  rw [this]
  unfold sv
  congr 3
  exact Fin.ext (Nat.mod_eq_of_lt (by omega)).symm
theorem csv {v : ℕ} (h : v < 14) : (semVal ((c : Thread nD τ), .dma (ccell v)) 0 : sProp 𝕄) = sv c (14 + v) := by
  have := ccell_eq ⟨v, h⟩
  dsimp only at this
  rw [this]
  unfold sv
  congr 3
  exact Fin.ext (Nat.mod_eq_of_lt (by omega)).symm
theorem ysv {v : ℕ} (h : v < 2) : (semVal ((c : Thread nD τ), .dma (ycell v)) 0 : sProp 𝕄) = sv c (28 + v) := by
  have := ycell_eq ⟨v, h⟩
  dsimp only at this
  rw [this]
  unfold sv
  congr 3
  exact Fin.ext (Nat.mod_eq_of_lt (by omega)).symm

omit [FloatOps F] in
theorem bigSep_shift (P : ℕ → sProp 𝕄) (n k : ℕ) : bigSep (Finset.Ico 0 n) (fun v => P (k + v)) = bigSep (Finset.Ico k (k + n)) P := by
  have e : Finset.Ico k (k + n) = (Finset.Ico 0 n).map (addLeftEmbedding k) := by
    rw [Finset.map_add_left_Ico]; rfl
  rw [e, BI.bigSep_map]; rfl

omit [FloatOps F] in
theorem Ico_split (P : ℕ → sProp 𝕄) {a b d : ℕ} (h : a ≤ b) (h' : b ≤ d) : bigSep (Finset.Ico a d) P = iprop(bigSep (Finset.Ico a b) P ∗ bigSep (Finset.Ico b d) P) := by
  rw [← Finset.Ico_union_Ico_eq_Ico h h']
  exact BI.bigSep_union (Finset.Ico_disjoint_Ico_consecutive a b d)

omit [FloatOps F] in
theorem sems_eq : (Pipeline.ownSems0 (Ix := Unit) (Name := ℕ) (U := UU nD τ) (Lvl := ℕ) (Val := Elt F) (τ := τ) osem0 c : sProp 𝕄) = bigSep (Finset.Ico 0 36) (sv c) := by
  unfold Pipeline.ownSems0
  rw [← Finset.range_eq_Ico, ← Nat.Iio_eq_range, ← Fin.map_valEmbedding_univ, BI.bigSep_map]
  refine BI.bigSep_congr fun k _ => ?_
  unfold sv osem0
  congr 3
  exact Fin.ext (Nat.mod_eq_of_lt k.isLt).symm

/-- The counters by their uses. -/
theorem sems_split : (Pipeline.ownSems0 (Ix := Unit) (Name := ℕ) (U := UU nD τ) (Lvl := ℕ) (Val := Elt F) (τ := τ) osem0 c : sProp 𝕄)
    = iprop(bigSep (Finset.Ico 0 14) (fun v => semVal ((c : Thread nD τ), .dma (wcell v)) 0) ∗ bigSep (Finset.Ico 0 14) (fun v => semVal ((c : Thread nD τ), .dma (ccell v)) 0)
      ∗ bigSep (Finset.Ico 0 2) (fun v => semVal ((c : Thread nD τ), .dma (ycell v)) 0)
      ∗ semVal ((c : Thread nD τ), .dma xcell0) 0 ∗ semVal ((c : Thread nD τ), .dma xcell1) 0 ∗ semVal ((c : Thread nD τ), .dma mcell0) 0
      ∗ semVal ((c : Thread nD τ), .dma mcell1) 0 ∗ semVal ((c : Thread nD τ), .dma mcell2) 0 ∗ semVal ((c : Thread nD τ), .dma mcell3) 0) := by
  rw [sems_eq, Ico_split (sv c) (a := 0) (b := 14) (d := 36) (by omega) (by omega), Ico_split (sv c) (a := 14) (b := 28) (d := 36) (by omega) (by omega),
    Ico_split (sv c) (a := 28) (b := 30) (d := 36) (by omega) (by omega),
    BI.bigSep_congr (s := Finset.Ico 0 14) (Φ := fun v => (semVal ((c : Thread nD τ), .dma (wcell v)) 0 : sProp 𝕄)) (fun v hv => wsv c (Finset.mem_Ico.1 hv).2),
    BI.bigSep_congr (s := Finset.Ico 0 14) (Φ := fun v => (semVal ((c : Thread nD τ), .dma (ccell v)) 0 : sProp 𝕄)) (fun v hv => csv c (Finset.mem_Ico.1 hv).2),
    BI.bigSep_congr (s := Finset.Ico 0 2) (Φ := fun v => (semVal ((c : Thread nD τ), .dma (ycell v)) 0 : sProp 𝕄)) (fun v hv => ysv c (Finset.mem_Ico.1 hv).2),
    bigSep_shift (sv c) 14 14, bigSep_shift (sv c) 2 28]
  have x0 : xcell0 = Fin.ofNat 36 30 := by decide
  have x1 : xcell1 = Fin.ofNat 36 31 := by decide
  have m0 : mcell0 = Fin.ofNat 36 32 := by decide
  have m1 : mcell1 = Fin.ofNat 36 33 := by decide
  have m2 : mcell2 = Fin.ofNat 36 34 := by decide
  have m3 : mcell3 = Fin.ofNat 36 35 := by decide
  rw [x0, x1, m0, m1, m2, m3]
  rw [Ico_take (a := 30) (by omega), Ico_take (a := 31) (by omega), Ico_take (a := 32) (by omega), Ico_take (a := 33) (by omega), Ico_take (a := 34) (by omega),
    show Finset.Ico (34 + 1) 36 = {35} from by decide, BI.bigSep_singleton]

end Cert.KernelIdeal.Hand
-- ==== Proof.Run.lean ====
/-
  The program's run: the kernel's rule at the launch.
-/
module

public import proofs.«01_k».proof.Proof.Split

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat BodyObligation)

variable (m : (ℓ : Loc nD τ sig) → Buf (Elt F) ℓ) (ρ : Dev nD → PrngReg) (c : Dev nD)

/-- The buffers the kernel is handed: the operands and the results. -/
def R0 : Finset (Ref sig .tc) := {main_arg2, main_v0, main_v1, main_v2_0, main_v2_1, main_v2_2, main_v2_3, main_v2_4, main_v2_5}
theorem R0_sub : R0 ⊆ Pipeline.restRefs sig (cfg0).spec := by decide

theorem routed_eq (W : (b : Ref sig .tc) → Buf (Elt F) ((c.tc : Thread nD τ).loc b)) :
    (Pipeline.routed R0 c W : sProp 𝕄) = iprop(((c.tc : Thread nD τ).loc main_arg2 ↦[Finset.univ]{fullShare} W main_arg2) ∗ ((c.tc : Thread nD τ).loc main_v0 ↦[Finset.univ]{fullShare} W main_v0) ∗ ((c.tc : Thread nD τ).loc main_v1 ↦[Finset.univ]{fullShare} W main_v1) ∗ ((c.tc : Thread nD τ).loc main_v2_0 ↦[Finset.univ]{fullShare} W main_v2_0) ∗ ((c.tc : Thread nD τ).loc main_v2_1 ↦[Finset.univ]{fullShare} W main_v2_1) ∗ ((c.tc : Thread nD τ).loc main_v2_2 ↦[Finset.univ]{fullShare} W main_v2_2) ∗ ((c.tc : Thread nD τ).loc main_v2_3 ↦[Finset.univ]{fullShare} W main_v2_3) ∗ ((c.tc : Thread nD τ).loc main_v2_4 ↦[Finset.univ]{fullShare} W main_v2_4) ∗ ((c.tc : Thread nD τ).loc main_v2_5 ↦[Finset.univ]{fullShare} W main_v2_5)) := by
  unfold Pipeline.routed
  rw [BI.bigSep_eq_bigSepL_of_eq [main_arg2, main_v0, main_v1, main_v2_0, main_v2_1, main_v2_2, main_v2_3, main_v2_4, main_v2_5] (by decide) (by decide)]; rfl

/-- The first operand, as the kernel finds it: the argument without its middle axis. -/
def x0 : S256x7168.Idx → Elt F .bf16 := V m c main_v0
/-- The second operand: the argument as one row. -/
def h0 : S1x16.Idx → Elt F .f32 := V m c main_v1
/-- The third operand: the argument. -/
def w0 : S7168x18432.Idx → Elt F .bf16 := V m c main_arg2

/-- The buffers after the kernel: the results at their values, the rest as before. -/
def Yf : (b : Ref sig .tc) → Buf (Elt F) ((c.tc : Thread nD τ).loc b) :=
  Function.update (Function.update (Function.update (Function.update (Function.update (Function.update (V m c) main_v2_0 (Yout (w0 m c) (XD (x0 m c) (h0 m c)))) main_v2_1 (Hout (x0 m c) (h0 m c))) main_v2_2 (XC (x0 m c) (h0 m c))) main_v2_3 (XSout (h0 m c))) main_v2_4 (WC (w0 m c))) main_v2_5 (WSout (w0 m c))
theorem Yf_main_arg2 : Yf m c main_arg2 = V m c main_arg2 := by
  unfold Yf; rw [Function.update_of_ne (by decide), Function.update_of_ne (by decide), Function.update_of_ne (by decide), Function.update_of_ne (by decide), Function.update_of_ne (by decide), Function.update_of_ne (by decide)]
theorem Yf_main_v0 : Yf m c main_v0 = V m c main_v0 := by
  unfold Yf; rw [Function.update_of_ne (by decide), Function.update_of_ne (by decide), Function.update_of_ne (by decide), Function.update_of_ne (by decide), Function.update_of_ne (by decide), Function.update_of_ne (by decide)]
theorem Yf_main_v1 : Yf m c main_v1 = V m c main_v1 := by
  unfold Yf; rw [Function.update_of_ne (by decide), Function.update_of_ne (by decide), Function.update_of_ne (by decide), Function.update_of_ne (by decide), Function.update_of_ne (by decide), Function.update_of_ne (by decide)]
theorem Yf_0 : Yf m c main_v2_0 = Yout (w0 m c) (XD (x0 m c) (h0 m c)) := by
  unfold Yf; rw [Function.update_of_ne (by decide), Function.update_of_ne (by decide), Function.update_of_ne (by decide), Function.update_of_ne (by decide), Function.update_of_ne (by decide), Function.update_self]
theorem Yf_1 : Yf m c main_v2_1 = Hout (x0 m c) (h0 m c) := by
  unfold Yf; rw [Function.update_of_ne (by decide), Function.update_of_ne (by decide), Function.update_of_ne (by decide), Function.update_of_ne (by decide), Function.update_self]
theorem Yf_2 : Yf m c main_v2_2 = XC (x0 m c) (h0 m c) := by
  unfold Yf; rw [Function.update_of_ne (by decide), Function.update_of_ne (by decide), Function.update_of_ne (by decide), Function.update_self]
theorem Yf_3 : Yf m c main_v2_3 = XSout (h0 m c) := by
  unfold Yf; rw [Function.update_of_ne (by decide), Function.update_of_ne (by decide), Function.update_self]
theorem Yf_4 : Yf m c main_v2_4 = WC (w0 m c) := by
  unfold Yf; rw [Function.update_of_ne (by decide), Function.update_self]
theorem Yf_5 : Yf m c main_v2_5 = WSout (w0 m c) := by
  unfold Yf; rw [Function.update_self]

/-- What the launch hands over is what the kernel starts from. -/
theorem ends_pre : Pipeline.Ends (cfg0).spec osem0 R0 c (V m c) ⊢
    (iprop(Pre c (x0 m c) (h0 m c) (w0 m c) (V m c main_v2_4) (V m c main_v2_0) ∗ ∃ r, prngReg c r) : sProp 𝕄) := by
  unfold Pipeline.Ends Pre
  rw [routed_eq, sems_split, scopedRest0_eq]
  rw [← WQ_start, ← CQ_start, ← YQ_start, wI_split, cI_split, yI_split]
  iintro ⟨⟨HW, HX, HH, HV0, HV1, HV2, HV3, HV4, HV5⟩, ⟨SW, SC, SY, SX0, SX1, SM0, SM1, SM2, SM3⟩, ⟨C0, C1, C2, C3, C4, C5, C6, C7, C8, C9, C10, C14, C15, C16, C17, C11, C12, C13⟩, HP⟩
  isplitr [HP]
  rotate_left
  · iexact HP
  isplitl [HX]; · iexact HX
  isplitl [HH]; · iexact HH
  isplitl [HW]; · iexact HW
  isplitl [SW C3]
  · isplitr [SW]
    · iapply (cut_any (ℓ := (c : Thread nD τ).loc cc0_scratch3) wS wS_cover) $$ C3
    · iexact SW
  isplitl [HV4]; · iexact HV4
  isplitl [SC C4]
  · isplitr [SC]
    · iapply (cut_any (ℓ := (c : Thread nD τ).loc cc0_scratch4) cS cS_cover) $$ C4
    · iexact SC
  isplitl [HV0]; · iexact HV0
  isplitl [SY C8]
  · isplitr [SY]
    · iapply (cut_any (ℓ := (c : Thread nD τ).loc cc0_scratch8) yS yS_cover) $$ C8
    · iexact SY
  isplitl [HV1]; · iexists _; iexact HV1
  isplitl [HV2]; · iexists _; iexact HV2
  isplitl [HV3]; · iexists _; iexact HV3
  isplitl [HV5]; · iexists _; iexact HV5
  isplitl [C0]; · iexact C0
  isplitl [C1]; · iexact C1
  isplitl [C2]; · iexact C2
  isplitl [C5]; · iexact C5
  isplitl [C6]; · iexact C6
  isplitl [C7]; · iexact C7
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [SX0]; · iexact SX0
  isplitl [SX1]; · iexact SX1
  isplitl [SM0]; · iexact SM0
  isplitl [SM1]; · iexact SM1
  isplitl [SM2]; · iexact SM2
  iexact SM3

/-- What the kernel ends with is what the launch takes back. -/
theorem post_ends : iprop(Post c (x0 m c) (h0 m c) (w0 m c) (V m c main_v2_4) (V m c main_v2_0) ∗ ∃ r, prngReg c r) ⊢
    (Pipeline.Ends (cfg0).spec osem0 R0 c (Yf m c) : sProp 𝕄) := by
  unfold Pipeline.Ends Post
  rw [routed_eq, sems_split, scopedRest0_eq, Yf_main_arg2, Yf_main_v0, Yf_main_v1, Yf_0, Yf_1, Yf_2, Yf_3, Yf_4, Yf_5]
  rw [← WQ_done, ← CQ_done, ← YQ_done, wI_split, cI_split, yI_split]
  iintro ⟨⟨HX, HH, HW, ⟨C3, SW⟩, HV4, ⟨C4, SC⟩, HV0, ⟨C8, SY⟩, HV1, HV2, HV3, HV5, C0, C1, C2, C5, C6, C7, C9, C10, C11, C12, C13, C14, C15, C16, C17, SX0, SX1, SM0, SM1, SM2, SM3⟩, HP⟩
  isplitl [HW HX HH HV0 HV1 HV2 HV3 HV4 HV5]
  · isplitl [HW]; · iexact HW
    isplitl [HX]; · iexact HX
    isplitl [HH]; · iexact HH
    isplitl [HV0]; · iexact HV0
    isplitl [HV1]; · iexact HV1
    isplitl [HV2]; · iexact HV2
    isplitl [HV3]; · iexact HV3
    isplitl [HV4]; · iexact HV4
    iexact HV5
  isplitl [SW SC SY SX0 SX1 SM0 SM1 SM2 SM3]
  · isplitl [SW]; · iexact SW
    isplitl [SC]; · iexact SC
    isplitl [SY]; · iexact SY
    isplitl [SX0]; · iexact SX0
    isplitl [SX1]; · iexact SX1
    isplitl [SM0]; · iexact SM0
    isplitl [SM1]; · iexact SM1
    isplitl [SM2]; · iexact SM2
    iexact SM3
  isplitr [HP]
  rotate_left
  · iexact HP
  isplitl [C0]; · iexact C0
  isplitl [C1]; · iexact C1
  isplitl [C2]; · iexact C2
  isplitl [C3]; · iapply (join_any (ℓ := (c : Thread nD τ).loc cc0_scratch3) wS (m ((c : Thread nD τ).loc cc0_scratch3)) wS_cover) $$ C3
  isplitl [C4]; · iapply (join_any (ℓ := (c : Thread nD τ).loc cc0_scratch4) cS (m ((c : Thread nD τ).loc cc0_scratch4)) cS_cover) $$ C4
  isplitl [C5]; · iexact C5
  isplitl [C6]; · iexact C6
  isplitl [C7]; · iexact C7
  isplitl [C8]; · iapply (join_any (ℓ := (c : Thread nD τ).loc cc0_scratch8) yS (m ((c : Thread nD τ).loc cc0_scratch8)) yS_cover) $$ C8
  isplitl [C9]; · iexact C9
  isplitl [C10]; · iexact C10
  isplitl [C14]; · iexact C14
  isplitl [C15]; · iexact C15
  isplitl [C16]; · iexact C16
  isplitl [C17]; · iexact C17
  isplitl [C11]; · iexact C11
  isplitl [C12]; · iexact C12
  iexact C13

/-- The proof data of the one region: no windows; before the kernel and after it. -/
def dats (_ : Fin 1) (c : Dev nD) : Dat τ (Elt F) Unit ℕ (UU nD τ) ℕ cfg0 c where
  A w := V m c (Pipeline.arrRef (cfg0).spec w)
  after w _ := absurd w.isLt (Nat.not_lt_zero _)
  Φ t := if t.val = 0 then Pipeline.Ends (cfg0).spec osem0 R0 c (V m c) else Pipeline.Ends (cfg0).spec osem0 R0 c (Yf m c)
  q _ := fullShare
  owed _ := 0

theorem Phi_pre {t : Fin (cfg0.N + 1)} (h : t.val = 0) : (dats m 0 c).Φ t = Pipeline.Ends (cfg0).spec osem0 R0 c (V m c) := if_pos h
theorem Phi_post {t : Fin (cfg0.N + 1)} (h : t.val ≠ 0) : (dats m 0 c).Φ t = Pipeline.Ends (cfg0).spec osem0 R0 c (Yf m c) := if_neg h

theorem defs₀_row (t : Fin cfg0.N) : defs₀ (F := F) .tc cfg0.body (cfg0.bodyArgs t (cfg0.slots t)) = atArgs (cc0_fp8_block_weight_linear (F := F)) := by
  unfold defs₀; rw [Defs.onTc_tc]

theorem no_windows (Φ : Fin cfg0.W → sProp 𝕄) : bigSep Finset.univ Φ = iprop(emp) := by
  have : (Finset.univ : Finset (Fin cfg0.W)) = ∅ := by decide
  rw [this, BI.bigSep_empty]; rfl

theorem body_obligation : BodyObligation (dats (F := F) m 0 c) (defs₀ (F := F)) 𝒱₀ () Set.univ := fun t => by
  have ht : t.val = 0 := by have := t.isLt; have e : cfg0.N = 1 := Gen.N_0; omega
  rw [no_windows, no_windows, defs₀_row, Phi_pre m c (t := t.castSucc) ht, Phi_post m c (t := t.succ) (by simp)]
  unfold Dat.owesAt Pipeline.owesWithin
  rw [show (dats m 0 c).owed t.castSucc = 0 from rfl, show (dats m 0 c).owed t.succ = 0 from rfl]
  iintro ⟨HE, ⟨%W, -, HW⟩, -⟩
  ihave HE := (ends_pre m c) $$ HE
  icases HE with ⟨HE, HP⟩
  iapply (body_rule (Q := _) c (x0 m c) (h0 m c) (w0 m c) (V m c main_v2_4) (V m c main_v2_0)) $$ [HE HW]
  · isplitl [HE]; · iexact HE
    iexists _; iexact HW
  iintro ⟨HE, ⟨%W', HW'⟩⟩
  isplitl [HE HP]
  · iapply (post_ends m c)
    isplitl [HE]; · iexact HE
    iexact HP
  isplitl [HW']
  · iexists W'; isplitr; · ipureintro; exact fun _ _ => Or.inl trivial
    iexact HW'
  iempintro

theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of the program ends with the arguments unchanged, the counters at zero and the six results at their values. -/
theorem run_main : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v2_0) = Yout (w0 m c) (XD (x0 m c) (h0 m c))
      ∧ r.2.mem ((c.tc : Thread nD τ).loc main_v2_1) = Hout (x0 m c) (h0 m c)
      ∧ r.2.mem ((c.tc : Thread nD τ).loc main_v2_2) = XC (x0 m c) (h0 m c)
      ∧ r.2.mem ((c.tc : Thread nD τ).loc main_v2_3) = XSout (h0 m c)
      ∧ r.2.mem ((c.tc : Thread nD τ).loc main_v2_4) = WC (w0 m c)
      ∧ r.2.mem ((c.tc : Thread nD τ).loc main_v2_5) = WSout (w0 m c)) ∧ r.2.sem = fun _ => 0) :=
  Pipeline.θ_run_frame_routed cfgs (dats m) (0 : Fin 1) launch0 ownSemFacts0 defs₀ 𝒱₀ m ρ main
    (hbody := fun c => (body_obligation m c).loose) (hshare := fun c => (dats m 0 c).share_full fun _ => rfl)
    (howed := fun _ _ => rfl) (V := V m) (hmain := hmain' m) (hA := fun _ _ => rfl) (R := R0) (hR := R0_sub) (Y := Yf m) (Q' := _)
    (hin := fun c => Entails.of_eq (Phi_pre m c rfl).symm) (hout := fun c => Entails.of_eq (Phi_post m c (by decide)))
    (hQ' := fun r h => ⟨fun c => ⟨⟨((h.1 c).2.2 main_arg0 (by decide)).trans (V_main_arg0 m c), ((h.1 c).2.2 main_arg1 (by decide)).trans (V_main_arg1 m c),
        (((h.1 c).2.1 main_arg2 (by decide)).trans (Yf_main_arg2 m c)).trans (V_main_arg2 m c)⟩,
      ((h.1 c).2.1 main_v2_0 (by decide)).trans (Yf_0 m c), ((h.1 c).2.1 main_v2_1 (by decide)).trans (Yf_1 m c),
      ((h.1 c).2.1 main_v2_2 (by decide)).trans (Yf_2 m c), ((h.1 c).2.1 main_v2_3 (by decide)).trans (Yf_3 m c),
      ((h.1 c).2.1 main_v2_4 (by decide)).trans (Yf_4 m c), ((h.1 c).2.1 main_v2_5 (by decide)).trans (Yf_5 m c)⟩, h.2⟩)

/-- The same run, of which only the frame is kept. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).1, h.2⟩) (run_main m ρ)

end Cert.KernelIdeal.Hand
-- ==== Proof.Twin.lean ====
/-
  The kernel and its idealization are one text: what is proved of the one at any floats holds of the other.
-/
module

public import proofs.«01_k».proof.Proof.Gen.Kernel
public import proofs.«01_k».proof.Proof.Run

@[expose] public section

set_option maxRecDepth 16384

noncomputable section

namespace Cert.Twin

open Idealize.ShloMosaic Idealize.SL.Sem
open Idealize.ShloMosaic.TcCoe

variable {F : FTy → Type} [FloatOps F]

/-- The two programs are the same program, -/
theorem main_eq : (Cert.Kernel.main (F := F)) = (Cert.KernelIdeal.main (F := F)) := rfl
/-- over the same table of bodies. -/
theorem defs_eq : (Cert.Kernel.defs (F := F)) = (Cert.KernelIdeal.defs (F := F)) := by with_unfolding_all exact rfl

/-- The frame of the kernel as printed. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  have h := Cert.KernelIdeal.Hand.frame_main (F := F) m g
  rw [main_eq, defs_eq]
  exact h

end Cert.Twin

end
-- ==== Proof.Scale.lean ====
/-
  The scale of a block over the extended reals: the kernel searches the exponent of the quotient bit by bit and builds
  the power of two from it; the reference takes the least power of two of a table above the quotient. Both are the
  same power of two.
-/
module

public import Idealize.ShloMosaic.PureOps.Ideal

@[expose] public section

set_option maxRecDepth 16384

noncomputable section

namespace Cert.Scale

open Idealize.ShloMosaic

/-- The power of two `2 ^ n`. -/
def pw (n : ℤ) : EReal := (((2 : ℝ) ^ n : ℝ) : EReal)

/-- Powers of two are ordered as their exponents. -/
theorem pw_le {a b : ℤ} : pw a ≤ pw b ↔ a ≤ b := by
  unfold pw; rw [EReal.coe_le_coe_iff]; exact zpow_le_zpow_iff_right₀ (by norm_num)
/-- Powers of two are ordered strictly as their exponents. -/
theorem pw_lt {a b : ℤ} : pw a < pw b ↔ a < b := by
  unfold pw; rw [EReal.coe_lt_coe_iff]; exact zpow_lt_zpow_iff_right₀ (by norm_num)
/-- A power of two is positive. -/
theorem pw_pos (a : ℤ) : 0 < pw a := by
  unfold pw; exact_mod_cast zpow_pos (by norm_num : (0 : ℝ) < 2) a

/-! ## Words of powers of two -/

/-- The sign, exponent and fraction of an f32 word with only exponent bits set. -/
theorem f32_parts : ∀ k : Fin 255, 1 ≤ k.val →
    ((BitVec.ofNat 32 k.val <<< 23).extractLsb' 31 1 == 1#1) = false ∧
    ((BitVec.ofNat 32 k.val <<< 23).extractLsb' 23 8).toNat = k.val ∧
    ((BitVec.ofNat 32 k.val <<< 23).extractLsb' 0 23).toNat = 0 := by decide +kernel

/-- The sign, exponent and fraction of a bf16 word with only exponent bits set. -/
theorem bf16_parts : ∀ k : Fin 255, 1 ≤ k.val →
    ((BitVec.ofNat 16 k.val <<< 7).extractLsb' 15 1 == 1#1) = false ∧
    ((BitVec.ofNat 16 k.val <<< 7).extractLsb' 7 8).toNat = k.val ∧
    ((BitVec.ofNat 16 k.val <<< 7).extractLsb' 0 7).toNat = 0 := by decide +kernel

/-- A word whose exponent field is `k` and whose other bits are zero is `2 ^ (k - 127)`. -/
theorem f32_pw (k : ℕ) (h1 : 1 ≤ k) (h2 : k < 255) : Ideal.ofBits .f32 (BitVec.ofNat 32 k <<< 23) = pw ((k : ℤ) - 127) := by
  obtain ⟨hn, he, hf⟩ := f32_parts ⟨k, h2⟩ h1
  dsimp only at hn he hf
  show Ideal.ieee 8 23 _ = _
  unfold Ideal.ieee pw
  dsimp only
  rw [show (8 + 23 : ℕ) = 31 from rfl, hn, he, hf, if_neg (by omega), if_neg (by omega)]
  refine congrArg (fun r : ℝ => (r : EReal)) ?_
  have : (2 : ℝ) ^ ((k : ℤ) - (2 ^ (8 - 1) - 1) - (23 : ℕ)) = 2 ^ ((k : ℤ) - 127) / 2 ^ (23 : ℕ) := by
    rw [zpow_sub₀ (by norm_num)]; norm_num
  rw [this]; simp only [Bool.false_eq_true, if_false, add_zero, one_mul]; push_cast; ring

/-- A bf16 word with exponent field `k` and no other bit is `2 ^ (k - 127)`. -/
theorem bf16_pw (k : ℕ) (h1 : 1 ≤ k) (h2 : k < 255) : Ideal.ofBits .bf16 (BitVec.ofNat 16 k <<< 7) = pw ((k : ℤ) - 127) := by
  obtain ⟨hn, he, hf⟩ := bf16_parts ⟨k, h2⟩ h1
  dsimp only at hn he hf
  show Ideal.ieee 8 7 _ = _
  unfold Ideal.ieee pw
  dsimp only
  rw [show (8 + 7 : ℕ) = 15 from rfl, hn, he, hf, if_neg (by omega), if_neg (by omega)]
  refine congrArg (fun r : ℝ => (r : EReal)) ?_
  have : (2 : ℝ) ^ ((k : ℤ) - (2 ^ (8 - 1) - 1) - (7 : ℕ)) = 2 ^ ((k : ℤ) - 127) / 2 ^ (7 : ℕ) := by
    rw [zpow_sub₀ (by norm_num)]; norm_num
  rw [this]; simp only [Bool.false_eq_true, if_false, add_zero, one_mul]; push_cast; ring

/-- The zero word is zero. -/
theorem f32_zero : Ideal.ofBits .f32 0x00000000#32 = 0 := by simp [Ideal.ofBits, Ideal.ieee]

/-! ## The kernel's search -/

/-- One step of the search: `d` is added to `q` when the power of two of `q + d` is at most `v`. -/
def step (v : EReal) (d q : BitVec 32) : BitVec 32 :=
  Scalar.select (Ideal.cmp .oge v (Ideal.ofBits .f32 (IntOp.shli .vector (IntOp.minsi (IntOp.addi q d) 253#32) 23#32)))
    (IntOp.addi q d) q

/-- The threshold of exponent `n`. -/
def thr (n : ℕ) : EReal := Ideal.ofBits .f32 (BitVec.ofNat 32 (min n 253) <<< 23)

/-- The threshold of trial exponent 0 is zero. -/
theorem thr_zero : thr 0 = 0 := by
  unfold thr
  rw [show BitVec.ofNat 32 (min 0 253) <<< 23 = 0x00000000#32 by decide, f32_zero]
/-- The threshold of a trial exponent from 1 to 253 is its power of two. -/
theorem thr_pos {n : ℕ} (h : 1 ≤ n) (h' : n ≤ 253) : thr n = pw ((n : ℤ) - 127) := by
  unfold thr
  rw [Nat.min_eq_left h', f32_pw n h (by omega)]
/-- From 253 on the threshold stays at `2 ^ 126`. -/
theorem thr_big {n : ℕ} (h : 253 ≤ n) : thr n = pw 126 := by
  unfold thr
  rw [Nat.min_eq_right h, f32_pw 253 (by omega) (by omega)]; norm_num

/-- The word built from a trial exponent, clamped at 253. -/
theorem min_word : ∀ n : Fin 256,
    IntOp.shli .vector (IntOp.minsi (BitVec.ofNat 32 n.val) 253#32) 23#32 = BitVec.ofNat 32 (min n.val 253) <<< 23 := by
  decide +kernel

/-- One step of the search: keep the trial bit when the value reaches its threshold. -/
theorem step_ofNat (v : EReal) (d q : ℕ) (h : q + d ≤ 255) :
    step v (BitVec.ofNat 32 d) (BitVec.ofNat 32 q)
      = BitVec.ofNat 32 (if thr (q + d) ≤ v then q + d else q) := by
  have e : IntOp.addi (BitVec.ofNat 32 q) (BitVec.ofNat 32 d) = BitVec.ofNat 32 (q + d) := by
    show BitVec.ofNat 32 q + BitVec.ofNat 32 d = _
    rw [BitVec.ofNat_add]
  unfold step
  rw [e, min_word ⟨q + d, by omega⟩]
  show Scalar.select (Ideal.cmp .oge v (thr (q + d))) _ _ = _
  unfold Scalar.select Ideal.cmp
  by_cases hc : thr (q + d) ≤ v <;> simp [hc]

/-- The search. -/
def qOf (v : EReal) : BitVec 32 :=
  step v 1#32 (step v 2#32 (step v 4#32 (step v 8#32 (step v 16#32 (step v 32#32 (step v 64#32 (step v 128#32 0#32)))))))

/-- What the search has found after some steps: `q` is reached, `q + d` is not, or lies past the end. -/
def Inv (v : EReal) (w : BitVec 32) (d : ℕ) : Prop :=
  ∃ q : ℕ, w = BitVec.ofNat 32 q ∧ q + d ≤ 256 ∧ thr q ≤ v ∧ (thr (q + d) ≤ v → q + d = 256)

/-- One step of the search halves the range left. -/
theorem Inv.step {v : EReal} {w : BitVec 32} {d e : ℕ} (h : Inv v w d) (he : d = 2 * e) (h0 : 0 < e) :
    Inv v (Scale.step v (BitVec.ofNat 32 e) w) e := by
  obtain ⟨q, rfl, hq, h1, h2⟩ := h
  rw [step_ofNat v e q (by omega)]
  by_cases hc : thr (q + e) ≤ v
  · rw [if_pos hc]
    exact ⟨q + e, rfl, by omega, hc, fun h => by have := h2 (by rwa [show q + d = q + e + e by omega]); omega⟩
  · rw [if_neg hc]
    exact ⟨q, rfl, by omega, h1, fun h => absurd h hc⟩

/-- At the end of the search the range left is one exponent. -/
theorem qOf_spec {v : EReal} (hv : 0 ≤ v) : Inv v (qOf v) 1 := by
  have h0 : Inv v 0#32 256 := ⟨0, rfl, le_refl _, by rw [thr_zero]; exact hv, fun _ => rfl⟩
  exact (((((((h0.step (e := 128) rfl (by decide)).step (e := 64) rfl (by decide)).step (e := 32) rfl (by decide)).step
    (e := 16) rfl (by decide)).step (e := 8) rfl (by decide)).step (e := 4) rfl (by decide)).step (e := 2) rfl
    (by decide)).step (e := 1) rfl (by decide)

/-! ## The exponent and the scale -/

/-- The quotient's constant. -/
def cst : EReal := Ideal.ofBits .f32 0x3B124925#32
/-- The quotient's absolute value. -/
def quo (a : EReal) : EReal := max (a * cst) (-(a * cst))

/-- The quotient's absolute value is not negative. -/
theorem quo_nonneg (a : EReal) : 0 ≤ quo a := by
  unfold quo
  rcases le_total 0 (a * cst) with h | h
  · exact le_max_of_le_left h
  · exact le_max_of_le_right (by rwa [EReal.neg_nonneg])
/-- The quotient of zero is zero. -/
theorem quo_zero : quo 0 = 0 := by unfold quo; simp

/-- The scale's exponent, as the kernel computes it. -/
def eOf (a : EReal) : BitVec 32 :=
  Scalar.select (IntOp.ori (IntOp.ori (IntOp.cmpi .eq (qOf (quo a)) 0#32) (IntOp.cmpi .eq (qOf (quo a)) 255#32))
    (Ideal.cmp .oeq a (Ideal.ofBits .f32 0x00000000#32))) 0#32 (IntOp.subi (qOf (quo a)) 126#32)

/-- Entry `i` of the reference's table, as the reference selects it. -/
def tab (v : EReal) (i : ℕ) : EReal := if v < pw ((i : ℤ) - 125) then pw ((i : ℤ) - 125) else ⊤

/-- `m` is the least entry of the table. -/
def IsMin (v m : EReal) : Prop := ∀ z, z ≤ m ↔ ∀ i < 252, z ≤ tab v i

/-- The reference's scale. -/
def refScale (v m : EReal) : EReal := if pw (-126) ≤ v ∧ v < pw 126 then m else 1

/-- `2 ^ 0` is one. -/
theorem pw_zero : pw 0 = 1 := by unfold pw; norm_num

/-- Subtracting 126 from an exponent field, as words. -/
theorem word_sub : ∀ k : Fin 253, IntOp.subi (BitVec.ofNat 32 k.val) 126#32 = BitVec.ofInt 32 ((k.val : ℤ) - 126) := by
  decide +kernel

/-- The test for a special exponent field, decided over all fields. -/
theorem cmp0 : ∀ k : Fin 256, (IntOp.ori (IntOp.cmpi .eq (BitVec.ofNat 32 k.val) 0#32) (IntOp.cmpi .eq (BitVec.ofNat 32 k.val) 255#32))
    = BitVec.ofBool (decide (k.val = 0 ∨ k.val = 255)) := by decide +kernel

/-- The kernel's exponent and the reference's least table entry give the same scale, a power of two between `2 ^ (-125)` and `2 ^ 126`. -/
theorem eOf_spec (a m : EReal) (hm : IsMin (quo a) m) :
    ∃ e : ℤ, -125 ≤ e ∧ e ≤ 126 ∧ eOf a = BitVec.ofInt 32 e ∧ refScale (quo a) m = pw e := by
  obtain ⟨q, hq, hb, h1, h2⟩ := qOf_spec (quo_nonneg a)
  have hE : eOf a = if (q = 0 ∨ q = 255) ∨ a = 0 then 0#32 else IntOp.subi (BitVec.ofNat 32 q) 126#32 := by
    unfold eOf
    rw [hq, cmp0 ⟨q, by omega⟩, f32_zero]
    unfold Scalar.select Ideal.cmp IntOp.ori
    by_cases hA : q = 0 ∨ q = 255 <;> by_cases hB : a = 0 <;> simp [hA, hB]
  have ha : a = 0 → q = 0 := by
    rintro rfl
    by_contra h0
    rw [quo_zero] at h1
    rcases Nat.lt_or_ge q 253 with h | h
    · rw [thr_pos (by omega) (by omega)] at h1; exact absurd (pw_pos _) (not_lt.2 h1)
    · rw [thr_big h] at h1; exact absurd (pw_pos _) (not_lt.2 h1)
  rcases Nat.eq_zero_or_pos q with h0 | h0
  · refine ⟨0, by omega, by omega, ?_, ?_⟩
    · rw [hE, if_pos (.inl (.inl h0))]; rfl
    · subst h0
      have : ¬ pw (-126) ≤ quo a := fun h => by
        have := h2 (by rw [thr_pos (by omega) (by omega)]; exact h)
        omega
      unfold refScale
      rw [if_neg (fun h => this h.1), pw_zero]
  · by_cases hbig : 253 ≤ q
    · have hq255 : q = 255 := by
        rcases Nat.lt_or_ge q 255 with h | h
        · have := h2 (by rw [thr_big (by omega)]; rwa [thr_big hbig] at h1); omega
        · omega
      refine ⟨0, by omega, by omega, ?_, ?_⟩
      · rw [hE, if_pos (.inl (.inr hq255))]; rfl
      · rw [thr_big hbig] at h1
        unfold refScale
        rw [if_neg (fun h => absurd h.2 (not_lt.2 h1)), pw_zero]
    · have hlo : pw ((q : ℤ) - 127) ≤ quo a := by rwa [thr_pos h0 (by omega)] at h1
      have hhi : quo a < pw ((q : ℤ) - 126) := by
        by_contra h
        have := h2 (by rw [thr_pos (by omega) (by omega)]; push_cast; rw [show (q : ℤ) + 1 - 127 = q - 126 by ring]; exact not_lt.1 h)
        omega
      refine ⟨(q : ℤ) - 126, by omega, by omega, ?_, ?_⟩
      · rw [hE, if_neg (by rintro ((h | h) | h); · omega
                           · omega
                           · have := ha h; omega), word_sub ⟨q, by omega⟩]
      · unfold refScale
        rw [if_pos ⟨(pw_le.2 (by omega)).trans hlo, hhi.trans_le (pw_le.2 (by omega))⟩]
        refine eq_of_forall_le_iff fun z => ?_
        rw [hm z]
        constructor
        · intro h
          have := h (q - 1) (by omega)
          unfold tab at this
          rw [show (((q - 1 : ℕ) : ℤ) - 125) = q - 126 by omega, if_pos hhi] at this
          exact this
        · intro h i hi
          unfold tab
          split
          · rename_i hlt
            refine h.trans (pw_le.2 ?_)
            have := pw_lt.1 (hlo.trans_lt hlt)
            omega
          · exact le_top

/-! ## The words the kernel builds from the exponent -/

/-- The scale's word. -/
def wF (e : BitVec 32) : BitVec 32 := IntOp.shli .vector (IntOp.addi e 127#32) 23#32
/-- The pair of halves of the scale. -/
def wS (e : BitVec 32) : BitVec 32 :=
  IntOp.ori (IntOp.shli .vector (IntOp.addi e 127#32) 7#32) (IntOp.shli .vector (IntOp.shli .vector (IntOp.addi e 127#32) 7#32) 16#32)
/-- The pair of halves of the scale's inverse. -/
def wI (e : BitVec 32) : BitVec 32 := wS (IntOp.subi 0#32 e)

/-- The word of the f32 scale, decided over all exponents. -/
theorem wF_word : ∀ k : Fin 252, wF (BitVec.ofInt 32 ((k.val : ℤ) - 125)) = BitVec.ofNat 32 (k.val + 2) <<< 23 := by decide +kernel
/-- Both halves of the word of the bf16 scale, decided over all exponents. -/
theorem wS_word : ∀ k : Fin 252, (wS (BitVec.ofInt 32 ((k.val : ℤ) - 125))).extractLsb' 0 16 = BitVec.ofNat 16 (k.val + 2) <<< 7 ∧
    (wS (BitVec.ofInt 32 ((k.val : ℤ) - 125))).extractLsb' 16 16 = BitVec.ofNat 16 (k.val + 2) <<< 7 := by decide +kernel
/-- Both halves of the word of the inverse bf16 scale, decided over all exponents. -/
theorem wI_word : ∀ k : Fin 252, (wI (BitVec.ofInt 32 ((k.val : ℤ) - 125))).extractLsb' 0 16 = BitVec.ofNat 16 (252 - k.val) <<< 7 ∧
    (wI (BitVec.ofInt 32 ((k.val : ℤ) - 125))).extractLsb' 16 16 = BitVec.ofNat 16 (252 - k.val) <<< 7 := by decide +kernel

section
variable {e : ℤ} (h1 : -125 ≤ e) (h2 : e ≤ 126)
include h1 h2

/-- An exponent in range is one of the 252. -/
theorem exists_fin : ∃ k : Fin 252, e = (k.val : ℤ) - 125 := ⟨⟨(e + 125).toNat, by omega⟩, by simp only; omega⟩

/-- The f32 scale's word is the scale. -/
theorem wF_val : Ideal.ofBits .f32 (wF (BitVec.ofInt 32 e)) = pw e := by
  obtain ⟨k, rfl⟩ := exists_fin h1 h2
  rw [wF_word k, f32_pw _ (by omega) (by omega)]; congr 1; push_cast; ring
/-- Either half of the bf16 scale's word is the scale. -/
theorem wS_val (b : ℕ) : Ideal.ofBits .bf16 ((wS (BitVec.ofInt 32 e)).extractLsb' (16 * (b % 2)) 16) = pw e := by
  obtain ⟨k, rfl⟩ := exists_fin h1 h2
  rcases Nat.mod_two_eq_zero_or_one b with hb | hb <;> rw [hb]
  · rw [(wS_word k).1, bf16_pw _ (by omega) (by omega)]; congr 1; push_cast; ring
  · rw [(wS_word k).2, bf16_pw _ (by omega) (by omega)]; congr 1; push_cast; ring
/-- Either half of the inverse scale's word is the inverse scale. -/
theorem wI_val (b : ℕ) : Ideal.ofBits .bf16 ((wI (BitVec.ofInt 32 e)).extractLsb' (16 * (b % 2)) 16) = pw (-e) := by
  obtain ⟨k, rfl⟩ := exists_fin h1 h2
  have := k.isLt
  rcases Nat.mod_two_eq_zero_or_one b with hb | hb <;> rw [hb]
  · rw [(wI_word k).1, bf16_pw _ (by omega) (by omega)]; congr 1; omega
  · rw [(wI_word k).2, bf16_pw _ (by omega) (by omega)]; congr 1; omega
end

/-- The reference's inverse. -/
theorem inv_pw (e : ℤ) : Ideal.div (Ideal.ofBits .f32 0x3F800000#32) (pw e) = pw (-e) := by
  have h1 : Ideal.ofBits .f32 0x3F800000#32 = 1 := by simp [Ideal.ofBits, Ideal.ieee, -EReal.coe_mul]; norm_num
  unfold Ideal.div
  rw [if_neg (pw_pos e).ne', h1, one_mul]
  unfold pw
  rw [← EReal.coe_inv, zpow_neg]

end Cert.Scale
-- ==== Proof.Maxima.lean ====
/-
  The kernel's maxima on exact values: each is the least upper bound of the absolute values of the elements it is taken
  over, stated as "at most `z` exactly when each of them is".
-/
module

public import proofs.«01_k».proof.Proof.Spec
public import proofs.«01_k».proof.Proof.Scale
public import Idealize.ShloMosaic.Lib.Pipeline.Value

@[expose] public section

set_option maxRecDepth 16384

noncomputable section

namespace Cert.KernelIdeal.Math

open Cert.KernelIdeal Cert.KernelIdeal.Gen Cert.KernelIdeal.Hand
open Idealize.ShloMosaic hiding ix1 ix2 ix3
open Idealize.ShloMosaic.ValueIdx (ix1 ix2 ix3)
open Cert.Scale

/-- The absolute value. -/
def ab (x : EReal) : EReal := max x (-x)

/-- An absolute value is not negative. -/
theorem ab_nonneg (x : EReal) : 0 ≤ ab x := by
  rcases le_total 0 x with h | h
  · exact le_max_of_le_left h
  · exact le_max_of_le_right (EReal.neg_nonneg.mpr h)

/-- Minus infinity's word is the bottom. -/
theorem bot_f32 : Ideal.ofBits .f32 0xFF800000#32 = ⊥ := by simp [Ideal.ofBits, Ideal.ieee]

/-! ## Reductions -/

/-- A maximum over the sublanes is the least upper bound of them. -/
theorem red_sub (Y : FVec Ideal S8x128 .f32) (l : Fin 128) (z : EReal) :
    multiReduction .maximumf [0] S128 Y 0xFF800000#32 reduces_S8x128_S128 (.inl rfl) rfl (ix1 l) ≤ z ↔ ∀ s : Fin 8, Y (ix2 s l) ≤ z := by
  refine (iff_of_eq (congrArg (· ≤ z) (multiReduction_maximumf_eq_fold _ _ _ _ _ _))).trans ?_
  refine (Finset.fold_max_le z).trans ⟨fun h s => h.2 (ix2 s l) ?_, fun h => ⟨?_, fun i hi => ?_⟩⟩
  · refine Finset.mem_filter.mpr ⟨Finset.mem_univ _, funext fun b => Fin.ext ?_⟩
    match b with
    | ⟨0, _⟩ => rfl
  · exact (le_of_eq bot_f32).trans bot_le
  · have e := congrArg Fin.val (congrFun (Finset.mem_filter.mp hi).2 0)
    have e' : i = ix2 (i 0) l := funext fun a => Fin.ext (match a with | ⟨0, _⟩ => rfl | ⟨1, _⟩ => e)
    rw [e']; exact h (i 0)

/-- A maximum over the lanes is the least upper bound of them. -/
theorem red_lane (Y : FVec Ideal S8x128 .f32) (r : Fin 8) (z : EReal) :
    multiReduction .maximumf [1] S8 Y 0xFF800000#32 reduces_S8x128_S8 (.inl rfl) rfl (ix1 r) ≤ z ↔ ∀ l : Fin 128, Y (ix2 r l) ≤ z := by
  refine (iff_of_eq (congrArg (· ≤ z) (multiReduction_maximumf_eq_fold _ _ _ _ _ _))).trans ?_
  refine (Finset.fold_max_le z).trans ⟨fun h s => h.2 (ix2 r s) ?_, fun h => ⟨?_, fun i hi => ?_⟩⟩
  · refine Finset.mem_filter.mpr ⟨Finset.mem_univ _, funext fun b => Fin.ext ?_⟩
    match b with
    | ⟨0, _⟩ => rfl
  · exact (le_of_eq bot_f32).trans bot_le
  · have e := congrArg Fin.val (congrFun (Finset.mem_filter.mp hi).2 0)
    have e' : i = ix2 r (i 1) := funext fun a => Fin.ext (match a with | ⟨0, _⟩ => e | ⟨1, _⟩ => rfl)
    rw [e']; exact h (i 1)

/-- A maximum over a whole vector is the least upper bound of its elements. -/
theorem red_all (Y : FVec Ideal S1x8x128 .f32) (j : S1.Idx) (z : EReal) :
    multiReduction .maximumf [1, 2] S1 Y 0xFF800000#32 reduces_S1x8x128_S1 (.inl rfl) rfl j ≤ z ↔ ∀ i, Y i ≤ z := by
  refine (iff_of_eq (congrArg (· ≤ z) (multiReduction_maximumf_eq_fold _ _ _ _ _ _))).trans ?_
  refine (Finset.fold_max_le z).trans ⟨fun h i => h.2 i ?_, fun h => ⟨?_, fun i hi => h i⟩⟩
  · refine Finset.mem_filter.mpr ⟨Finset.mem_univ _, funext fun b => ?_⟩
    match b with
    | ⟨0, _⟩ => exact Subsingleton.elim (α := Fin 1) _ _
  · exact (le_of_eq bot_f32).trans bot_le

/-! ## The maxima of 128 rows, sixteen at a time -/

/-- The largest absolute values of the rows `s`, `16 + s`, … of a 128 × 128 block. -/
def half (X : FVec Ideal S128x128 .bf16) : FVec Ideal S16x128 .bf16 :=
  maximumf
    (maximumf (maximumf (absf (extractStridedSlice S16x128 ![0, 0] X slices_S128x128_o0_0_S16x128)) (absf (extractStridedSlice S16x128 ![16, 0] X slices_S128x128_o16_0_S16x128)))
      (maximumf (absf (extractStridedSlice S16x128 ![32, 0] X slices_S128x128_o32_0_S16x128)) (absf (extractStridedSlice S16x128 ![48, 0] X slices_S128x128_o48_0_S16x128))))
    (maximumf (maximumf (absf (extractStridedSlice S16x128 ![64, 0] X slices_S128x128_o64_0_S16x128)) (absf (extractStridedSlice S16x128 ![80, 0] X slices_S128x128_o80_0_S16x128)))
      (maximumf (absf (extractStridedSlice S16x128 ![96, 0] X slices_S128x128_o96_0_S16x128)) (absf (extractStridedSlice S16x128 ![112, 0] X slices_S128x128_o112_0_S16x128))))

/-- Sixteen rows of a block, at an index. -/
theorem sl16 {α : Type} (X : S128x128.Idx → α) (o : ℕ) (ho : o ≤ 112) (h : S128x128.Slices ![o, 0] S16x128) (s : Fin 16) (l : Fin 128) :
    extractStridedSlice S16x128 ![o, 0] X h (ix2 s l) = X (ix2 (Fin.ofNat 128 (o + s.val)) l) := by
  refine extractStridedSlice_apply _ _ _ _ _ fun a => ?_
  match a with
  | ⟨0, _⟩ => exact Nat.mod_eq_of_lt (show o + s.val < 128 by omega)
  | ⟨1, _⟩ => exact (Nat.zero_add _).symm

/-- The maximum over eight groups of sixteen rows. -/
theorem half_le (X : FVec Ideal S128x128 .bf16) (s : Fin 16) (l : Fin 128) (z : EReal) :
    half X (ix2 s l) ≤ z ↔ ∀ k : Fin 8, ab (X (ix2 (Fin.ofNat 128 (16 * k.val + s.val)) l)) ≤ z := by
  have e : half X (ix2 s l) = max
      (max (max (ab (X (ix2 (Fin.ofNat 128 (0 + s.val)) l))) (ab (X (ix2 (Fin.ofNat 128 (16 + s.val)) l))))
        (max (ab (X (ix2 (Fin.ofNat 128 (32 + s.val)) l))) (ab (X (ix2 (Fin.ofNat 128 (48 + s.val)) l)))))
      (max (max (ab (X (ix2 (Fin.ofNat 128 (64 + s.val)) l))) (ab (X (ix2 (Fin.ofNat 128 (80 + s.val)) l))))
        (max (ab (X (ix2 (Fin.ofNat 128 (96 + s.val)) l))) (ab (X (ix2 (Fin.ofNat 128 (112 + s.val)) l))))) := by
    rw [← sl16 X 0 (by omega) slices_S128x128_o0_0_S16x128, ← sl16 X 16 (by omega) slices_S128x128_o16_0_S16x128,
      ← sl16 X 32 (by omega) slices_S128x128_o32_0_S16x128, ← sl16 X 48 (by omega) slices_S128x128_o48_0_S16x128,
      ← sl16 X 64 (by omega) slices_S128x128_o64_0_S16x128, ← sl16 X 80 (by omega) slices_S128x128_o80_0_S16x128,
      ← sl16 X 96 (by omega) slices_S128x128_o96_0_S16x128, ← sl16 X 112 (by omega) slices_S128x128_o112_0_S16x128]
    rfl
  rw [e]
  simp only [max_le_iff]
  constructor
  · rintro ⟨⟨⟨a, b⟩, c, d⟩, ⟨e, f⟩, g, h⟩ k
    match k with
    | ⟨0, _⟩ => exact a
    | ⟨1, _⟩ => exact b
    | ⟨2, _⟩ => exact c
    | ⟨3, _⟩ => exact d
    | ⟨4, _⟩ => exact e
    | ⟨5, _⟩ => exact f
    | ⟨6, _⟩ => exact g
    | ⟨7, _⟩ => exact h
  · intro h
    exact ⟨⟨⟨h 0, h 1⟩, h 2, h 3⟩, ⟨h 4, h 5⟩, h 6, h 7⟩

/-- The same, eight rows at a time. -/
def quart (X : FVec Ideal S128x128 .bf16) : FVec Ideal S8x128 .f32 :=
  maximumf (extractStridedSlice S8x128 ![0, 0] (extf .f32 (half X) bitsLt_bf16_f32) slices_S16x128_o0_0_S8x128)
    (extractStridedSlice S8x128 ![8, 0] (extf .f32 (half X) bitsLt_bf16_f32) slices_S16x128_o8_0_S8x128)

/-- The maximum over sixteen groups of eight rows. -/
theorem quart_le (X : FVec Ideal S128x128 .bf16) (s : Fin 8) (l : Fin 128) (z : EReal) :
    quart X (ix2 s l) ≤ z ↔ ∀ k : Fin 16, ab (X (ix2 (Fin.ofNat 128 (8 * k.val + s.val)) l)) ≤ z := by
  have e0 : extractStridedSlice S8x128 ![0, 0] (extf .f32 (half X) bitsLt_bf16_f32) slices_S16x128_o0_0_S8x128 (ix2 s l)
      = half X (ix2 (Fin.ofNat 16 s.val) l) := by
    refine extractStridedSlice_apply _ _ _ _ _ fun a => ?_
    match a with
    | ⟨0, _⟩ => exact (Nat.mod_eq_of_lt (show s.val < 16 by omega)).trans (Nat.zero_add _).symm
    | ⟨1, _⟩ => exact (Nat.zero_add _).symm
  have e1 : extractStridedSlice S8x128 ![8, 0] (extf .f32 (half X) bitsLt_bf16_f32) slices_S16x128_o8_0_S8x128 (ix2 s l)
      = half X (ix2 (Fin.ofNat 16 (8 + s.val)) l) := by
    refine extractStridedSlice_apply _ _ _ _ _ fun a => ?_
    match a with
    | ⟨0, _⟩ => exact Nat.mod_eq_of_lt (show 8 + s.val < 16 by omega)
    | ⟨1, _⟩ => exact (Nat.zero_add _).symm
  have e : quart X (ix2 s l) = max (half X (ix2 (Fin.ofNat 16 s.val) l)) (half X (ix2 (Fin.ofNat 16 (8 + s.val)) l)) := by
    rw [← e0, ← e1]; rfl
  rw [e, max_le_iff, half_le, half_le]
  have v0 : ((Fin.ofNat 16 s.val : Fin 16) : ℕ) = s.val := Nat.mod_eq_of_lt (by omega)
  have v1 : ((Fin.ofNat 16 (8 + s.val) : Fin 16) : ℕ) = 8 + s.val := Nat.mod_eq_of_lt (by omega)
  rw [v0, v1]
  constructor
  · rintro ⟨h0, h1⟩ k
    rcases Nat.mod_two_eq_zero_or_one k.val with hk | hk
    · have := h0 ⟨k.val / 2, by omega⟩
      rwa [show 16 * (k.val / 2) + s.val = 8 * k.val + s.val by omega] at this
    · have := h1 ⟨k.val / 2, by omega⟩
      rwa [show 16 * (k.val / 2) + (8 + s.val) = 8 * k.val + s.val by omega] at this
  · intro h
    constructor
    · intro k
      have := h ⟨2 * k.val, by omega⟩
      rwa [show 8 * (2 * k.val) + s.val = 16 * k.val + s.val by omega] at this
    · intro k
      have := h ⟨2 * k.val + 1, by omega⟩
      rwa [show 8 * (2 * k.val + 1) + s.val = 16 * k.val + (8 + s.val) by omega] at this

/-! ## The weight's blocks -/

/-- The largest absolute values of the columns of a block. -/
def colM (B : Vec Ideal S1x128x128 .bf16) : FVec Ideal S128 .f32 :=
  multiReduction .maximumf [0] S128 (quart (shapeCast S128x128 B shapeCasts_S1x128x128_S128x128)) 0xFF800000#32 reduces_S8x128_S128 (.inl rfl) rfl

/-- A block without its leading axis, at an index. -/
theorem cast3 {α : Type} (B : S1x128x128.Idx → α) (a b : Fin 128) :
    shapeCast S128x128 B shapeCasts_S1x128x128_S128x128 (ix2 a b) = B (ix3 0 a b) := by
  refine shapeCast_apply _ _ _ _ ?_
  rw [Shape.rowMajor_val_three, Shape.rowMajor_val_two]
  show (0 * 128 + a.val) * 128 + b.val = a.val * 128 + b.val
  omega

/-- A column's maximum in a block is the least upper bound of the column's absolute values. -/
theorem colM_le (B : Vec Ideal S1x128x128 .bf16) (l : Fin 128) (z : EReal) :
    colM B (ix1 l) ≤ z ↔ ∀ a : Fin 128, ab (B (ix3 0 a l)) ≤ z := by
  unfold colM
  rw [red_sub]
  simp only [quart_le, cast3]
  constructor
  · intro h a
    have := h ⟨a.val % 8, by omega⟩ ⟨a.val / 8, by omega⟩
    rwa [show (Fin.ofNat 128 (8 * (a.val / 8) + a.val % 8) : Fin 128) = a from Fin.ext ((ofNat_val (by omega)).trans (by omega))] at this
  · intro h s k
    exact h _

/-- One trip's row of column maxima, placed among the rows found so far. -/
theorem pay8_apply (t : Fin k0_t3_loop.trips) (o : FVec Ideal S8x128 .f32) (B : Vec Ideal S1x128x128 .bf16) (r : Fin 8) (l : Fin 128) :
    k0_pay8 (F := Ideal) subs t o B (ix2 r l) = if r.val = t.val then colM B (ix1 l) else o (ix2 r l) := by
  have e : broadcastTo S8x128 (shapeCast S1x128 (shapeCast S1x128 (colM B) shapeCasts_S128_S1x128) shapeCasts_S1x128_S1x128) broadcasts_S1x128_S8x128 (ix2 r l)
      = colM B (ix1 l) := by
    refine (broadcastTo_apply _ _ _ (ix2 0 l) fun a => ?_).trans ?_
    · match a with
      | ⟨0, _⟩ => rfl
      | ⟨1, _⟩ => rfl
    · rw [shapeCast_self]
      refine shapeCast_apply _ _ _ _ ?_
      rw [Shape.rowMajor_val_one, Shape.rowMajor_val_two]
      show l.val = 0 * 128 + l.val
      omega
  have h : k0_pay8 (F := Ideal) subs t o B (ix2 r l)
      = Scalar.select (IntOp.cmpi .eq (subs (ix2 r l)) (Scf.iv 0#32 1#32 t))
        (broadcastTo S8x128 (shapeCast S1x128 (shapeCast S1x128 (colM B) shapeCasts_S128_S1x128) shapeCasts_S1x128_S1x128) broadcasts_S1x128_S8x128 (ix2 r l))
        (o (ix2 r l)) := rfl
  rw [h, e]
  have hc : ∀ (r : Fin 8) (t : Fin 8), IntOp.cmpi .eq (BitVec.ofNat 32 r.val) (Scf.iv 0#32 1#32 t) = if r.val = t.val then 1#1 else 0#1 := by decide
  have hs : subs (ix2 r l) = BitVec.ofNat 32 r.val := by
    unfold subs
    simp [iota]
  rw [hs]
  have := hc r t
  rw [this]
  unfold Scalar.select
  by_cases hrt : r.val = t.val
  · rw [if_pos hrt, if_pos hrt]; exact if_pos rfl
  · rw [if_neg hrt, if_neg hrt]; exact if_neg (by decide)

/-- After the trips, each row holds its block's column maxima. -/
theorem amN_apply (B : ℕ → Vec Ideal S1x128x128 .bf16) (r : Fin 8) (l : Fin 128) :
    ∀ n, n ≤ 8 → r.val < n → amN (F := Ideal) B n (ix2 r l) = colM (B r.val) (ix1 l)
  | 0, _, h => absurd h (Nat.not_lt_zero _)
  | n + 1, hn, h => by
    have hlt : n < k0_t3_loop.trips := by show n < 8; omega
    unfold amN
    rw [dif_pos hlt, pay8_apply]
    by_cases e : r.val = n
    · rw [if_pos e, e]
    · rw [if_neg e]
      exact amN_apply B r l n (by omega) (by omega)

/-- The maximum over the lanes, at every lane. -/
theorem pay9_apply (X : FVec Ideal S8x128 .f32) (r : Fin 8) (l : Fin 128) : k0_pay9 (F := Ideal) X (ix2 r l)
    = multiReduction .maximumf [1] S8 X 0xFF800000#32 reduces_S8x128_S8 (.inl rfl) rfl (ix1 r) := by
  unfold k0_pay9
  refine (broadcastTo_apply _ _ _ (ix2 r 0) fun a => ?_).trans ?_
  · match a with
    | ⟨0, _⟩ => rfl
    | ⟨1, _⟩ => rfl
  · rw [shapeCast_self]
    refine shapeCast_apply _ _ _ _ ?_
    rw [Shape.rowMajor_val_one, Shape.rowMajor_val_two]
    show r.val = r.val * 1 + 0
    omega

/-- The largest absolute value of a block. -/
def blkM (B : ℕ → Vec Ideal S1x128x128 .bf16) (r : Fin 8) : EReal := k0_pay9 (F := Ideal) (amN B 8) (ix2 r 0)

/-- The kernel's block maximum, at every lane of its row. -/
theorem pay9_eq (B : ℕ → Vec Ideal S1x128x128 .bf16) (r : Fin 8) (l : Fin 128) : k0_pay9 (F := Ideal) (amN B 8) (ix2 r l) = blkM B r := by
  unfold blkM
  rw [pay9_apply, pay9_apply]

/-- The block's maximum is the least upper bound of the block's absolute values. -/
theorem blkM_le (B : ℕ → Vec Ideal S1x128x128 .bf16) (r : Fin 8) (z : EReal) :
    blkM B r ≤ z ↔ ∀ a b : Fin 128, ab (B r.val (ix3 0 a b)) ≤ z := by
  unfold blkM
  rw [pay9_apply, red_lane]
  simp only [fun l => amN_apply B r l 8 (le_refl _) r.isLt, colM_le]
  exact ⟨fun h a b => h b a, fun h b a => h a b⟩

/-! ## The activation -/

/-- One trip's update of the activation's maxima. -/
theorem pay80_le (o : FVec Ideal S8x128 .f32) (X : Vec Ideal S256x128 .bf16) (s : Fin 8) (l : Fin 128) (z : EReal) :
    k0_pay80 (F := Ideal) o X (k0_pay5 X) (k0_pay6 X) (ix2 s l) ≤ z
      ↔ o (ix2 s l) ≤ z ∧ ∀ k : Fin 32, ab (X (ix2 (Fin.ofNat 256 (8 * k.val + s.val)) l)) ≤ z := by
  have e : k0_pay80 (F := Ideal) o X (k0_pay5 X) (k0_pay6 X) (ix2 s l)
      = max (max (o (ix2 s l)) (quart (extractStridedSlice S128x128 ![0, 0] X slices_S256x128_o0_0_S128x128) (ix2 s l)))
        (quart (extractStridedSlice S128x128 ![128, 0] X slices_S256x128_o128_0_S128x128) (ix2 s l)) := rfl
  have e0 : ∀ a : Fin 128, extractStridedSlice S128x128 ![0, 0] X slices_S256x128_o0_0_S128x128 (ix2 a l) = X (ix2 (Fin.ofNat 256 a.val) l) := by
    intro a
    refine extractStridedSlice_apply _ _ _ _ _ fun d => ?_
    match d with
    | ⟨0, _⟩ => exact (Nat.mod_eq_of_lt (show a.val < 256 by omega)).trans (Nat.zero_add _).symm
    | ⟨1, _⟩ => exact (Nat.zero_add _).symm
  have e1 : ∀ a : Fin 128, extractStridedSlice S128x128 ![128, 0] X slices_S256x128_o128_0_S128x128 (ix2 a l) = X (ix2 (Fin.ofNat 256 (128 + a.val)) l) := by
    intro a
    refine extractStridedSlice_apply _ _ _ _ _ fun d => ?_
    match d with
    | ⟨0, _⟩ => exact Nat.mod_eq_of_lt (show 128 + a.val < 256 by omega)
    | ⟨1, _⟩ => exact (Nat.zero_add _).symm
  rw [e, max_le_iff, max_le_iff, quart_le, quart_le]
  simp only [e0, e1]
  have v : ∀ k : Fin 16, ((Fin.ofNat 128 (8 * k.val + s.val) : Fin 128) : ℕ) = 8 * k.val + s.val := fun k => ofNat_val (by omega)
  simp only [v]
  constructor
  · rintro ⟨⟨h, h0⟩, h1⟩
    refine ⟨h, fun k => ?_⟩
    by_cases hk : k.val < 16
    · exact h0 ⟨k.val, hk⟩
    · have := h1 ⟨k.val - 16, by omega⟩
      rwa [show 128 + (8 * (k.val - 16) + s.val) = 8 * k.val + s.val by omega] at this
  · rintro ⟨h, h0⟩
    refine ⟨⟨h, fun k => h0 ⟨k.val, by omega⟩⟩, fun k => ?_⟩
    have := h0 ⟨k.val + 16, by omega⟩
    rwa [show 8 * (k.val + 16) + s.val = 128 + (8 * k.val + s.val) by omega] at this

/-- The activation's maxima after the trips, as least upper bounds. -/
theorem xam_le (x : S256x7168.Idx → Elt Ideal .bf16) (s : Fin 8) (l : Fin 128) (z : EReal) :
    ∀ n, xam (F := Ideal) x n (ix2 s l) ≤ z
      ↔ 0 ≤ z ∧ ∀ m, m < n → ∀ k : Fin 32, ab (xblk x m (ix2 (Fin.ofNat 256 (8 * k.val + s.val)) l)) ≤ z
  | 0 => by
    have e : xam (F := Ideal) x 0 (ix2 s l) = 0 := f32_zero
    rw [e]
    exact ⟨fun h => ⟨h, fun m hm => absurd hm (Nat.not_lt_zero _)⟩, fun h => h.1⟩
  | n + 1 => by
    unfold xam
    rw [pay80_le, xam_le x s l z n]
    constructor
    · rintro ⟨⟨h0, h⟩, h'⟩
      refine ⟨h0, fun m hm => ?_⟩
      rcases Nat.lt_succ_iff_lt_or_eq.mp hm with hm | rfl
      · exact h m hm
      · exact h'
    · rintro ⟨h0, h⟩
      exact ⟨⟨h0, fun m hm => h m (by omega)⟩, h n (by omega)⟩

/-- The maximum over the last vector. -/
theorem pay81_le (X : FVec Ideal S8x128 .f32) (z : EReal) : k0_pay81 (F := Ideal) X ≤ z ↔ ∀ i, X i ≤ z := by
  unfold k0_pay81 extractAt
  dsimp only
  rw [shapeCast_apply (s := S1) _ _ _ (ix1 0) (by rfl), red_all]
  constructor
  · intro h i
    have := h (ix3 0 (i 0) (i 1))
    rwa [shapeCast_apply (s := S8x128) _ _ _ i (by
      rw [Shape.rowMajor_val_three, Shape.rowMajor_val_two]
      show (i 0).val * 128 + (i 1).val = (0 * 8 + (i 0).val) * 128 + (i 1).val
      omega)] at this
  · intro h i
    exact h _

/-- The largest absolute value of the activation. -/
theorem xmax_le (x : S256x7168.Idx → Elt Ideal .bf16) (z : EReal) : k0_pay81 (F := Ideal) (xam x 56) ≤ z ↔ ∀ i, ab (x i) ≤ z := by
  rw [pay81_le]
  constructor
  · intro h i
    have h1 := (h (ix2 ⟨(i 0).val % 8, by omega⟩ ⟨(i 1).val % 128, by omega⟩))
    rw [xam_le] at h1
    have b0 : (i 0).val < 256 := (i 0).isLt
    have b1 : (i 1).val < 7168 := (i 1).isLt
    have h2 := h1.2 ((i 1).val / 128) (by omega) ⟨(i 0).val / 8, by omega⟩
    unfold xblk at h2
    have e : mkX (Fin.ofNat 256 (8 * ((i 0).val / 8) + (i 0).val % 8) : Fin 256).val (128 * ((i 1).val / 128) + (i 1).val % 128) = i := by
      funext a
      refine Fin.ext ?_
      match a with
      | ⟨0, _⟩ => show (8 * ((i 0).val / 8) + (i 0).val % 8) % 256 % 256 = (i 0).val; omega
      | ⟨1, _⟩ => show (128 * ((i 1).val / 128) + (i 1).val % 128) % 7168 = (i 1).val; omega
    have e' := congrArg (fun i => ab (x i) ≤ z) e
    exact e'.mp h2
  · intro h i
    have e : i = ix2 (i 0) (i 1) := funext fun a => match a with | ⟨0, _⟩ => rfl | ⟨1, _⟩ => rfl
    rw [e]
    refine (xam_le x (i 0) (i 1) z 56).mpr ?_
    exact ⟨(ab_nonneg _).trans (h (mkX 0 0)), fun m hm k => h _⟩

/-- The kernel's maximum of the activation is the least upper bound of its absolute values. -/
theorem xmax_eq (x : S256x7168.Idx → Elt Ideal .bf16) (M : EReal) (hM : ∀ z, M ≤ z ↔ ∀ i, ab (x i) ≤ z) :
    k0_pay81 (F := Ideal) (xam x 56) = M :=
  eq_of_forall_ge_iff fun z => (xmax_le x z).trans (hM z).symm

end Cert.KernelIdeal.Math
-- ==== Proof.RefVal.lean ====
/-
  The reference's host values on exact numbers, as pure functions of the arguments: the greatest values, the table of
  powers of two, the scale chosen from the table, and the same for the blocks of the weights.
-/
module

public import proofs.«01_k».proof.Proof.Gen.ReferenceIdeal
public import proofs.«01_k».proof.Proof.Maxima
public import Idealize.ShloMosaic.PureOps.Ideal

@[expose] public section

set_option maxRecDepth 16384

noncomputable section

namespace Cert.RefVal

open Cert.ReferenceIdeal Cert.ReferenceIdeal.Gen
open Idealize.ShloMosaic hiding ix1 ix2 ix3 ix4
open Idealize.ShloMosaic.ValueIdx (ix1 ix2 ix3 ix4)
open Cert.Scale
open Cert.KernelIdeal.Math (ab bot_f32)

/-- Minus infinity's bf16 word is the bottom. -/
theorem bot_bf16 : Ideal.ofBits .bf16 0xFF80#16 = ⊥ := by simp [Ideal.ofBits, Ideal.ieee]
/-- Infinity's word is the top. -/
theorem top_f32 : Ideal.ofBits .f32 0x7F800000#32 = ⊤ := by simp [Ideal.ofBits, Ideal.ieee]
/-- One's word is one. -/
theorem one_f32 : Ideal.ofBits .f32 0x3F800000#32 = 1 := by
  rw [show (0x3F800000#32 : BitVec 32) = BitVec.ofNat 32 127 <<< 23 by decide, f32_pw 127 (by omega) (by omega)]
  norm_num [pw]
/-- Two's word is two. -/
theorem two_f32 : Ideal.ofBits .f32 0x40000000#32 = ((2 : ℝ) : EReal) := by
  rw [show (0x40000000#32 : BitVec 32) = BitVec.ofNat 32 128 <<< 23 by decide, f32_pw 128 (by omega) (by omega)]
  norm_num [pw]
/-- The least normal f32 is `2 ^ (-126)`. -/
theorem lo_scale : Ideal.ofBits .f32 0x00800000#32 = pw (-126) := by
  rw [show (0x00800000#32 : BitVec 32) = BitVec.ofNat 32 1 <<< 23 by decide, f32_pw 1 (by omega) (by omega)]
  norm_num
/-- The range's upper end is `2 ^ 126`. -/
theorem hi_scale : Ideal.ofBits .f32 0x7E800000#32 = pw 126 := by
  rw [show (0x7E800000#32 : BitVec 32) = BitVec.ofNat 32 253 <<< 23 by decide, f32_pw 253 (by omega) (by omega)]
  norm_num

/-! ## The table -/

/-- The 252 powers of two the scales are chosen from. -/
def tbl : FVec Ideal S252 .f32 :=
  Host.powf (broadcastInDim S252 ![] bcast_S_S252 (constant (F := Ideal) S_ .f32 1073741824#32))
    (sitofp .f32 (addi (broadcastInDim S252 ![] bcast_S_S252 (constantI S_ 32 4294967171#32)) (iotaInDim S252 32 0)))

/-- The table's exponents, decided over all entries. -/
theorem tbl_word : ∀ k : Fin 252, (IntOp.addi 4294967171#32 (BitVec.ofNat 32 k.val)).toInt = (k.val : ℤ) - 125 := by decide +kernel

/-- Entry `k` of the table is `2 ^ (k - 125)`. -/
theorem tbl_apply (k : Fin 252) : tbl (ix1 k) = pw ((k.val : ℤ) - 125) := by
  show Ideal.pow (Ideal.ofBits .f32 0x40000000#32)
    ((((IntOp.addi 4294967171#32 (BitVec.ofNat 32 k.val)).toInt : ℝ)) : EReal) = _
  rw [tbl_word, two_f32, Ideal.pow_coe_coe]
  unfold pw
  exact congrArg _ (Real.rpow_intCast 2 _)

/-- An entry above the value is kept, another is infinity. -/
theorem sel_tab (k : Fin 252) (v : EReal) :
    Scalar.select (Ideal.cmp .ogt (tbl (ix1 k)) v) (tbl (ix1 k)) (Ideal.ofBits .f32 0x7F800000#32) = tab v k.val := by
  rw [tbl_apply, top_f32]
  unfold Scalar.select Ideal.cmp tab
  by_cases h : v < pw ((k.val : ℤ) - 125) <;> simp [h]

/-- The scale is the table's choice in the normal range and one outside. -/
theorem sel_scale (v M : EReal) :
    Scalar.select (IntOp.andi (Ideal.cmp .oge v (Ideal.ofBits .f32 0x00800000#32)) (Ideal.cmp .olt v (Ideal.ofBits .f32 0x7E800000#32)))
      M (Ideal.ofBits .f32 0x3F800000#32) = refScale v M := by
  rw [lo_scale, hi_scale, one_f32]
  unfold Scalar.select Ideal.cmp refScale IntOp.andi
  by_cases h : pw (-126) ≤ v <;> by_cases h' : v < pw 126 <;> simp [h, h']

/-! ## The activation's scale -/

variable (h : FVec Ideal S16 .f32) (x : FVec Ideal S256x7168 .bf16) (w : FVec Ideal S7168x18432 .bf16)

/-- The greatest word of the history. -/
def hmx : FVec Ideal S_ .f32 := Host.reduce FloatOps.maximumf h (constant S_ .f32 4286578688#32) reducesTo_S16_S_d0 h_S_

/-- The greatest word over the largest code. -/
def xq : FVec Ideal S_ .f32 := Host.absf (mulf (hmx h) (constant S_ .f32 991054117#32))

/-- The least entry of the table above it. -/
def xmin : FVec Ideal S_ .f32 :=
  Host.reduce FloatOps.minimumf
    (select (cmpf .ogt tbl (broadcastInDim S252 ![0] bcast_S1_S252_0 (broadcastInDim S1 ![] bcast_S_S1 (xq h)))) tbl
      (broadcastInDim S252 ![] bcast_S_S252 (constant S_ .f32 2139095040#32)))
    (constant S_ .f32 2139095040#32) reducesTo_S252_S_d0 h_S_

/-- The activation's scale. -/
def xsc : FVec Ideal S_ .f32 :=
  select (andi (cmpf .oge (xq h) (constant S_ .f32 8388608#32)) (cmpf .olt (xq h) (constant S_ .f32 2122317824#32))) (xmin h)
    (constant S_ .f32 1065353216#32)

/-- The history's maximum is the least upper bound of its values. -/
theorem hmx_le (i : S_.Idx) (z : EReal) : hmx h i ≤ z ↔ ∀ k, h k ≤ z := by
  unfold hmx
  refine (iff_of_eq (congrArg (· ≤ z) (Host.reduce_eq_fold _ _ _ _ _ _))).trans ?_
  refine (Finset.fold_max_le z).trans ⟨fun H k => H.2 k ?_, fun H => ⟨?_, fun k _ => H k⟩⟩
  · exact Finset.mem_filter.mpr ⟨Finset.mem_univ _, funext fun b => b.elim0⟩
  · exact (le_of_eq bot_f32).trans bot_le

/-- The reduction finds the least entry kept. -/
theorem xmin_isMin (i : S_.Idx) : IsMin (quo (hmx h i)) (xmin h i) := by
  intro z
  unfold xmin
  refine (iff_of_eq (congrArg (z ≤ ·) (Host.reduce_eq_fold _ _ _ _ _ _))).trans ?_
  have hi : ∀ i' : S_.Idx, i' = i := fun i' => funext fun b => b.elim0
  have key : ∀ k : Fin 252, (select (cmpf .ogt tbl (broadcastInDim S252 ![0] bcast_S1_S252_0 (broadcastInDim S1 ![] bcast_S_S1 (xq h)))) tbl
      (broadcastInDim S252 ![] bcast_S_S252 (constant (F := Ideal) S_ .f32 2139095040#32))) (ix1 k) = tab (quo (hmx h i)) k.val := by
    intro k
    rw [← sel_tab k]
    have e : (broadcastInDim S252 ![0] bcast_S1_S252_0 (broadcastInDim S1 ![] bcast_S_S1 (xq h))) (ix1 k) = quo (hmx h i) := by
      show xq h _ = xq h i
      exact congrArg (xq h) (hi _)
    show Scalar.select (Ideal.cmp .ogt (tbl (ix1 k)) ((broadcastInDim S252 ![0] bcast_S1_S252_0 (broadcastInDim S1 ![] bcast_S_S1 (xq h))) (ix1 k))) _ _ = _
    rw [e]
    rfl
  refine (Finset.le_fold_min z).trans ⟨fun H k hk => ?_, fun H => ⟨?_, fun k _ => ?_⟩⟩
  · have := H.2 (ix1 ⟨k, hk⟩) (Finset.mem_filter.mpr ⟨Finset.mem_univ _, funext fun b => b.elim0⟩)
    rwa [key] at this
  · exact le_top.trans (le_of_eq top_f32.symm)
  · have e : k = ix1 (k 0) := funext fun a => match a with | ⟨0, _⟩ => rfl
    exact le_of_le_of_eq (H _ (k 0).isLt) ((congrArg _ e).trans (key _)).symm

/-- The activation's scale, from its quotient and the least entry. -/
theorem xsc_apply (i : S_.Idx) : xsc h i = refScale (quo (hmx h i)) (xmin h i) := (sel_scale (xq h i) (xmin h i))

/-! ## The activation's greatest absolute value -/

/-- The greatest absolute value of the activation. -/
def xmx : FVec Ideal S_ .bf16 :=
  Host.reduce FloatOps.maximumf (Host.absf (s := main_v0.ty.shape) x) (constant S_ .bf16 65408#16) reducesTo_S256x7168_S_d0_1 h_S_

/-- The activation's maximum is the least upper bound of its absolute values. -/
theorem xmx_le (i : S_.Idx) (z : EReal) : xmx x i ≤ z ↔ ∀ k, ab (x k) ≤ z := by
  unfold xmx
  refine (iff_of_eq (congrArg (· ≤ z) (Host.reduce_eq_fold _ _ _ _ _ _))).trans ?_
  refine (Finset.fold_max_le z).trans ⟨fun H k => H.2 k ?_, fun H => ⟨?_, fun k _ => H k⟩⟩
  · exact Finset.mem_filter.mpr ⟨Finset.mem_univ _, funext fun b => b.elim0⟩
  · exact (le_of_eq bot_bf16).trans bot_le

/-! ## The weights' scales -/

/-- The greatest absolute value of each block of the weights. -/
def wmx : FVec Ideal S56x144 .bf16 :=
  Host.reduce FloatOps.maximumf (Host.absf fun i => shapeCast main_v27.ty.shape w shapeCasts_S7168x18432_S56x128x144x128 i)
    (constant S_ .bf16 65408#16) reducesTo_S56x128x144x128_S56x144_d1_3 h_S_

/-- Each over the largest code. -/
def wq : FVec Ideal S56x144 .f32 :=
  Host.absf (mulf (extf .f32 (wmx w) bitsLt_bf16_f32) (broadcastInDim S56x144 ![] bcast_S_S56x144 (constant (F := Ideal) S_ .f32 991054117#32)))

/-- The least entry of the table above each. -/
def wmin : FVec Ideal S56x144 .f32 :=
  Host.reduce FloatOps.minimumf
    (select (cmpf .ogt
        (broadcastInDim S56x144x252 ![0, 1, 2] bcast_S1x1x252_S56x144x252_0_1_2 (broadcastInDim S1x1x252 ![2] bcast_S252_S1x1x252_2 tbl))
        (broadcastInDim S56x144x252 ![0, 1, 2] bcast_S56x144x1_S56x144x252_0_1_2 (broadcastInDim S56x144x1 ![0, 1] bcast_S56x144_S56x144x1_0_1 (wq w))))
      (broadcastInDim S56x144x252 ![2] bcast_S252_S56x144x252_2 tbl)
      (broadcastInDim S56x144x252 ![] bcast_S_S56x144x252 (constant S_ .f32 2139095040#32)))
    (constant S_ .f32 2139095040#32) reducesTo_S56x144x252_S56x144_d2 h_S_

/-- The weights' scales. -/
def wsc : FVec Ideal S56x144 .f32 :=
  select (andi (cmpf .oge (wq w) (broadcastInDim S56x144 ![] bcast_S_S56x144 (constant S_ .f32 8388608#32)))
      (cmpf .olt (wq w) (broadcastInDim S56x144 ![] bcast_S_S56x144 (constant S_ .f32 2122317824#32)))) (wmin w)
    (broadcastInDim S56x144 ![] bcast_S_S56x144 (constant S_ .f32 1065353216#32))

/-- A block's maximum is the least upper bound of its 128 times 128 absolute values. -/
theorem wmx_le (i : S56x144.Idx) (z : EReal) :
    wmx w i ≤ z ↔ ∀ a b : Fin 128, ab (w (Cert.KernelIdeal.Hand.mkW (128 * (i 0).val + a.val) (128 * (i 1).val + b.val))) ≤ z := by
  unfold wmx
  have key : ∀ k : S56x128x144x128.Idx, shapeCast S56x128x144x128 w shapeCasts_S7168x18432_S56x128x144x128 k
      = w (Cert.KernelIdeal.Hand.mkW (128 * (k 0).val + (k 1).val) (128 * (k 2).val + (k 3).val)) := by
    intro k
    have h0 : (k 0).val < 56 := (k 0).isLt
    have h1 : (k 1).val < 128 := (k 1).isLt
    have h2 : (k 2).val < 144 := (k 2).isLt
    have h3 : (k 3).val < 128 := (k 3).isLt
    refine shapeCast_apply _ _ _ _ ?_
    rw [Shape.rowMajor_val_two, Shape.rowMajor_val_four]
    show (128 * (k 0).val + (k 1).val) % 7168 * 18432 + (128 * (k 2).val + (k 3).val) % 18432 = (((k 0).val * 128 + (k 1).val) * 144 + (k 2).val) * 128 + (k 3).val
    rw [Nat.mod_eq_of_lt (by omega), Nat.mod_eq_of_lt (by omega)]
    omega
  refine (iff_of_eq (congrArg (· ≤ z) (Host.reduce_eq_fold _ _ _ _ _ _))).trans ?_
  refine (Finset.fold_max_le z).trans ⟨fun H a b => ?_, fun H => ⟨?_, fun k hk => ?_⟩⟩
  · have := H.2 (ix4 (n0 := 56) (n1 := 128) (n2 := 144) (n3 := 128) (i 0) a (i 1) b) (Finset.mem_filter.mpr ⟨Finset.mem_univ _, funext fun c => Fin.ext (match c with | ⟨0, _⟩ => rfl | ⟨1, _⟩ => rfl)⟩)
    have e := key (ix4 (n0 := 56) (n1 := 128) (n2 := 144) (n3 := 128) (i 0) a (i 1) b)
    refine le_trans (le_of_eq ?_) this
    exact congrArg ab e.symm
  · exact (le_of_eq bot_bf16).trans bot_le
  · have d := (Finset.mem_filter.mp hk).2
    have e0 : (k 0).val = (i 0).val := congrArg Fin.val (congrFun d 0)
    have e1 : (k 2).val = (i 1).val := congrArg Fin.val (congrFun d 1)
    refine le_trans (le_of_eq (congrArg ab (key k))) ?_
    rw [e0, e1]
    exact H (k 1) (k 3)

/-- A selection by a comparison, at an index. -/
theorem sel_at {S : Shape} (A B C D : FVec Ideal S .f32) (k : S.Idx) :
    select (cmpf .ogt A B) C D k = Scalar.select (Ideal.cmp .ogt (A k) (B k)) (C k) (D k) := rfl

/-- A selection by two comparisons, at an index. -/
theorem sel_at₂ {S : Shape} (A B C D E : FVec Ideal S .f32) (k : S.Idx) :
    select (andi (cmpf .oge A B) (cmpf .olt A C)) D E k
      = Scalar.select (IntOp.andi (Ideal.cmp .oge (A k) (B k)) (Ideal.cmp .olt (A k) (C k))) (D k) (E k) := rfl

/-- A constant spread over the blocks, at a block. -/
theorem bc_at (b : BitVec 32) (i : S56x144.Idx) :
    (broadcastInDim S56x144 ![] bcast_S_S56x144 (constant (F := Ideal) S_ .f32 b)) i = Ideal.ofBits .f32 b := rfl

/-- The quotients' absolute values, at a block. -/
theorem quo_at (M : FVec Ideal S56x144 .bf16) (i : S56x144.Idx) :
    (Host.absf (mulf (extf .f32 M bitsLt_bf16_f32) (broadcastInDim S56x144 ![] bcast_S_S56x144 (constant (F := Ideal) S_ .f32 991054117#32)))) i
      = quo (M i) := rfl

/-- A block's quotient. -/
theorem wq_apply (i : S56x144.Idx) : wq w i = quo (wmx w i) := quo_at (wmx w) i

/-- For each block the reduction finds the least entry kept. -/
theorem wmin_isMin (i : S56x144.Idx) : IsMin (quo (wmx w i)) (wmin w i) := by
  intro z
  unfold wmin
  refine (iff_of_eq (congrArg (z ≤ ·) (Host.reduce_eq_fold _ _ _ _ _ _))).trans ?_
  have key : ∀ k : S56x144x252.Idx, (k 0).val = (i 0).val → (k 1).val = (i 1).val → (select (cmpf .ogt
        (broadcastInDim S56x144x252 ![0, 1, 2] bcast_S1x1x252_S56x144x252_0_1_2 (broadcastInDim S1x1x252 ![2] bcast_S252_S1x1x252_2 tbl))
        (broadcastInDim S56x144x252 ![0, 1, 2] bcast_S56x144x1_S56x144x252_0_1_2 (broadcastInDim S56x144x1 ![0, 1] bcast_S56x144_S56x144x1_0_1 (wq w))))
      (broadcastInDim S56x144x252 ![2] bcast_S252_S56x144x252_2 tbl)
      (broadcastInDim S56x144x252 ![] bcast_S_S56x144x252 (constant (F := Ideal) S_ .f32 2139095040#32))) k = tab (quo (wmx w i)) (k 2).val := by
    intro k e0 e1
    have t1 : (broadcastInDim S56x144x252 ![0, 1, 2] bcast_S1x1x252_S56x144x252_0_1_2 (broadcastInDim S1x1x252 ![2] bcast_S252_S1x1x252_2 tbl)) k = tbl (ix1 (k 2)) :=
      congrArg tbl (funext fun a => Fin.ext (match a with | ⟨0, _⟩ => rfl))
    have t2 : (broadcastInDim S56x144x252 ![0, 1, 2] bcast_S56x144x1_S56x144x252_0_1_2 (broadcastInDim S56x144x1 ![0, 1] bcast_S56x144_S56x144x1_0_1 (wq w))) k = wq w i :=
      congrArg (wq w) (funext fun a => Fin.ext (match a with | ⟨0, _⟩ => e0 | ⟨1, _⟩ => e1))
    have t4 : (broadcastInDim S56x144x252 ![] bcast_S_S56x144x252 (constant (F := Ideal) S_ .f32 2139095040#32)) k = Ideal.ofBits .f32 0x7F800000#32 := rfl
    have t5 : wq w i = quo (wmx w i) := wq_apply w i
    have t3 : (broadcastInDim S56x144x252 ![2] bcast_S252_S56x144x252_2 tbl) k = tbl (ix1 (k 2)) :=
      congrArg tbl (funext fun a => Fin.ext (match a with | ⟨0, _⟩ => rfl))
    refine (sel_at _ _ _ _ k).trans ?_
    rw [t1, t2, t3, t4, t5]
    exact sel_tab (k 2) _
  refine (Finset.le_fold_min z).trans ⟨fun H k hk => ?_, fun H => ⟨?_, fun k hk => ?_⟩⟩
  · have := H.2 (ix3 (n0 := 56) (n1 := 144) (n2 := 252) (i 0) (i 1) ⟨k, hk⟩) (Finset.mem_filter.mpr ⟨Finset.mem_univ _, funext fun c => Fin.ext (match c with | ⟨0, _⟩ => rfl | ⟨1, _⟩ => rfl)⟩)
    exact le_of_le_of_eq this (key _ rfl rfl)
  · exact le_top.trans (le_of_eq top_f32.symm)
  · have d := (Finset.mem_filter.mp hk).2
    exact le_of_le_of_eq (H _ (k 2).isLt) (key k (congrArg Fin.val (congrFun d 0)) (congrArg Fin.val (congrFun d 1))).symm

/-- A block's scale, from its quotient and the least entry. -/
theorem wsc_apply (i : S56x144.Idx) : wsc w i = refScale (quo (wmx w i)) (wmin w i) := by
  have t5 : wq w i = quo (wmx w i) := wq_apply w i
  refine (sel_at₂ _ _ _ _ _ i).trans ?_
  rw [bc_at, bc_at, bc_at, t5]
  exact sel_scale _ _

end Cert.RefVal
-- ==== Proof.RefRead.lean ====
/-
  What the reference's host program leaves in its buffers: the pure functions of the arguments, on exact numbers.
-/
module

public import proofs.«01_k».proof.Proof.Gen.ReferenceIdeal.Value
public import proofs.«01_k».proof.Proof.RefVal
public import Idealize.ShloMosaic.PureOps.Ideal
public import Idealize.ShloMosaic.Lib.StableHlo.Run
public import Idealize.ShloMosaic.Lib.StableHlo.RunRead
public import Idealize.ShloMosaic.Lib.StableHlo.ReadAt
public import Idealize.ShloMosaic.Lib.Tactic

@[expose] public section

set_option maxRecDepth 16384

noncomputable section

namespace Cert.RefRead

open Cert.ReferenceIdeal Cert.ReferenceIdeal.Gen Cert.RefVal
open Idealize.ShloMosaic hiding ix1 ix2 ix3 ix4
open Idealize.ShloMosaic.ValueIdx (ix1 ix2 ix3 ix4)
open Idealize.ShloMosaic.TcCoe Idealize.ShloMosaic.StableHlo
open Idealize.SL Idealize.SL.Sem

attribute [local irreducible] Host.reduce

variable (m : (ℓ : Loc nD τ sig) → Buf (Elt Ideal) ℓ) (c : Dev nD)

/-- The activation, its middle axis dropped. -/
def ax : FVec Ideal S256x7168 .bf16 := fun i => shapeCast main_v0.ty.shape (m (c, Proc.tc.devRef main_arg0)) shapeCasts_S256x1x7168_S256x7168 i
/-- The history. -/
def ah : FVec Ideal S16 .f32 := m (c, Proc.tc.devRef main_arg1)
/-- The weights. -/
def aw : FVec Ideal S7168x18432 .bf16 := m (c, Proc.tc.devRef main_arg2)

/-- The activation's buffer. -/
theorem read0 : V (F := Ideal) m c main_v0 = ax m c := by
  unfold V
  after_reads_simp
  rfl

/-- One over the activation's scale, at each element. -/
theorem read54 : V (F := Ideal) m c main_v54
    = broadcastInDim S256x7168 ![] bcast_S_S256x7168 (Host.divf (constant S_ .f32 1065353216#32) (xsc (ah m c))) := by
  unfold V
  after_reads_simp
  simp -implicitDefEqProofs only [TRef.toBuf, TRef.ofBuf, TRef.of, cast_cast, cast_eq, id]
  unfold xsc xmin xq hmx tbl ah
  rfl

/-- The activation's scale, at each element. -/
theorem read55 : V (F := Ideal) m c main_v55 = broadcastInDim S256x7168 ![] bcast_S_S256x7168 (xsc (ah m c)) := by
  unfold V
  after_reads_simp
  simp -implicitDefEqProofs only [TRef.toBuf, TRef.ofBuf, TRef.of, cast_cast, cast_eq, id]
  unfold xsc xmin xq hmx tbl ah
  rfl

/-- The activation's scale. -/
theorem read26 : V (F := Ideal) m c main_v26 = fun i => shapeCast main_v26.ty.shape (xsc (ah m c)) shapeCasts_S_S1x1 i := by
  unfold V
  after_reads_simp
  simp -implicitDefEqProofs only [TRef.toBuf, TRef.ofBuf, TRef.of, cast_cast, cast_eq, id]
  unfold xsc xmin xq hmx tbl ah
  rfl

/-- A scalar as one word, at its index. -/
theorem bc1_at (M : FVec Ideal S_ .bf16) (j : S1.Idx) (i : S_.Idx) :
    broadcastInDim S1 ![] bcast_S_S1 (extf .f32 M bitsLt_bf16_f32) j = M i := congrArg M (funext fun a => Fin.elim0 a)

/-- The new history: the greatest absolute value of the activation, then all but the last word of the old one. -/
theorem read25 (i : S1x16.Idx) : V (F := Ideal) m c main_v25 i
    = if (i 1).val = 0 then xmx (ax m c) (fun a => a.elim0) else ah m c (ix1 (Fin.ofNat 16 ((i 1).val - 1))) := by
  have h1 : (i 1).val < 16 := (i 1).isLt
  unfold V
  after_reads_at
  by_cases h : (i 1).val = 0
  · rw [if_pos h, dif_pos (by omega)]
    after_reads_simp
    unfold xmx ax
    exact bc1_at _ _ _
  · rw [if_neg h, dif_neg (by omega)]
    after_reads_simp
    unfold ah
    refine congrArg (m (c, Proc.tc.devRef main_arg1)) (funext fun a => Fin.ext ?_)
    match a with
    | ⟨0, _⟩ =>
      show 0 + ((i 1).val - 1) = ((i 1).val - 1) % 16
      omega
/-- The weights' scales. -/
theorem read52 : V (F := Ideal) m c main_v52 = wsc (aw m c) := by
  unfold V
  after_reads_simp
  simp -implicitDefEqProofs only [TRef.toBuf, TRef.ofBuf, TRef.of, cast_cast, cast_eq, id]
  unfold wsc wmin wq wmx tbl aw
  rfl

/-- A value of each block, at each of its elements. -/
def spread63 (s : FVec Ideal S56x144 .f32) : FVec Ideal S7168x18432 .f32 :=
  fun i => shapeCast main_v63.ty.shape (broadcastInDim S56x128x144x128 ![0, 1, 2, 3] bcast_S56x1x144x1_S56x128x144x128_0_1_2_3
    (broadcastInDim S56x1x144x1 ![0, 2] bcast_S56x144_S56x1x144x1_0_2 s)) shapeCasts_S56x128x144x128_S7168x18432 i

/-- A value of each block, at each of its elements. -/
def spread60 (s : FVec Ideal S56x144 .f32) : FVec Ideal S7168x18432 .f32 :=
  fun i => shapeCast main_v60.ty.shape (broadcastInDim S56x128x144x128 ![0, 1, 2, 3] bcast_S56x1x144x1_S56x128x144x128_0_1_2_3
    (broadcastInDim S56x1x144x1 ![0, 2] bcast_S56x144_S56x1x144x1_0_2 s)) shapeCasts_S56x128x144x128_S7168x18432 i

/-- The weights' scales, at each element. -/
theorem read63 : V (F := Ideal) m c main_v63 = spread63 (wsc (aw m c)) := by
  unfold V
  after_reads_simp
  simp -implicitDefEqProofs only [TRef.toBuf, TRef.ofBuf, TRef.of, cast_cast, cast_eq, id]
  unfold spread63 wsc wmin wq wmx tbl aw
  rfl

/-- One over the weights' scales, at each element. -/
theorem read60 : V (F := Ideal) m c main_v60
    = spread60 (Host.divf (broadcastInDim S56x144 ![] bcast_S_S56x144 (constant S_ .f32 1065353216#32)) (wsc (aw m c))) := by
  unfold V
  after_reads_simp
  simp -implicitDefEqProofs only [TRef.toBuf, TRef.ofBuf, TRef.of, cast_cast, cast_eq, id]
  unfold spread60 wsc wmin wq wmx tbl aw
  rfl

/-- The value at an element is its block's. -/
theorem spread63_apply (s : FVec Ideal S56x144 .f32) (i : S7168x18432.Idx) :
    spread63 s i = s (ix2 (⟨(i 0).val / 128, by have : (i 0).val < 7168 := (i 0).isLt; omega⟩ : Fin 56)
      (⟨(i 1).val / 128, by have : (i 1).val < 18432 := (i 1).isLt; omega⟩ : Fin 144)) := by
  have h0 : (i 0).val < 7168 := (i 0).isLt
  have h1 : (i 1).val < 18432 := (i 1).isLt
  refine (shapeCast_apply _ _ i (ix4 (n0 := 56) (n1 := 128) (n2 := 144) (n3 := 128) ⟨(i 0).val / 128, by omega⟩ ⟨(i 0).val % 128, by omega⟩
    ⟨(i 1).val / 128, by omega⟩ ⟨(i 1).val % 128, by omega⟩) ?_).trans ?_
  · rw [Shape.rowMajor_val_two, Shape.rowMajor_val_four]
    show ((((i 0).val / 128) * 128 + (i 0).val % 128) * 144 + (i 1).val / 128) * 128 + (i 1).val % 128 = (i 0).val * 18432 + (i 1).val
    omega
  · exact congrArg s (funext fun a => Fin.ext (match a with | ⟨0, _⟩ => rfl | ⟨1, _⟩ => rfl))

/-- The value at an element is its block's. -/
theorem spread60_apply (s : FVec Ideal S56x144 .f32) (i : S7168x18432.Idx) :
    spread60 s i = s (ix2 (⟨(i 0).val / 128, by have : (i 0).val < 7168 := (i 0).isLt; omega⟩ : Fin 56)
      (⟨(i 1).val / 128, by have : (i 1).val < 18432 := (i 1).isLt; omega⟩ : Fin 144)) := by
  have h0 : (i 0).val < 7168 := (i 0).isLt
  have h1 : (i 1).val < 18432 := (i 1).isLt
  refine (shapeCast_apply _ _ i (ix4 (n0 := 56) (n1 := 128) (n2 := 144) (n3 := 128) ⟨(i 0).val / 128, by omega⟩ ⟨(i 0).val % 128, by omega⟩
    ⟨(i 1).val / 128, by omega⟩ ⟨(i 1).val % 128, by omega⟩) ?_).trans ?_
  · rw [Shape.rowMajor_val_two, Shape.rowMajor_val_four]
    show ((((i 0).val / 128) * 128 + (i 0).val % 128) * 144 + (i 1).val / 128) * 128 + (i 1).val % 128 = (i 0).val * 18432 + (i 1).val
    omega
  · exact congrArg s (funext fun a => Fin.ext (match a with | ⟨0, _⟩ => rfl | ⟨1, _⟩ => rfl))

end Cert.RefRead
-- ==== Proof.Words.lean ====
/-
  The kernel's words over the extended reals: the exponents, the scales and their inverses are the scalar functions of
  the largest absolute value, element by element.
-/
module

public import proofs.«01_k».proof.Proof.Spec
public import proofs.«01_k».proof.Proof.Scale
public import Idealize.ShloMosaic.Lib.BitcastPair
public import Idealize.ShloMosaic.Lib.Pointwise.SelectCore
public import Idealize.ShloMosaic.Lib.Pipeline.Value

@[expose] public section

set_option maxRecDepth 16384

noncomputable section

namespace Cert.KernelIdeal.Math

open Cert.KernelIdeal Cert.KernelIdeal.Gen Cert.KernelIdeal.Hand Cert.Scale
open Idealize.ShloMosaic Idealize.ShloMosaic.TcCoe

/-! ## A step of the search, on vectors -/

/-- One step of the search, element by element. -/
def vstep (v : FVec Ideal S8x128 .f32) (d : BitVec 32) (q : IVec S8x128 32) : IVec S8x128 32 :=
  select (cmpf .oge v (bitcastToFloat .f32 (shli (minsi (addi q (broadcast S8x128 d)) (broadcast S8x128 253#32)) (broadcast S8x128 23#32))))
    (addi q (broadcast S8x128 d)) q

/-- A step of the search on a vector is the step on each element. -/
theorem vstep_apply (v : FVec Ideal S8x128 .f32) (d : BitVec 32) (q : IVec S8x128 32) (i : S8x128.Idx) :
    vstep v d q i = step (v i) d (q i) := rfl

/-- The exponent from what the search found. -/
def vexp (a : FVec Ideal S8x128 .f32) (q : IVec S8x128 32) : IVec S8x128 32 :=
  select (ori (ori (cmpi .eq q (broadcast S8x128 0#32)) (cmpi .eq q (broadcast S8x128 255#32)))
    (cmpf .oeq a (broadcast S8x128 (Scalar.ofBits (F := Ideal) .f32 0x00000000#32)))) (broadcast S8x128 0#32) (subi q (broadcast S8x128 126#32))

/-- The search on vectors. -/
def vq (v : FVec Ideal S8x128 .f32) : IVec S8x128 32 :=
  vstep v 1#32 (vstep v 2#32 (vstep v 4#32 (vstep v 8#32 (vstep v 16#32 (vstep v 32#32 (vstep v 64#32 (vstep v 128#32
    (broadcast S8x128 0#32))))))))

/-- The search on a vector is the search on each element. -/
theorem vq_apply (v : FVec Ideal S8x128 .f32) (i : S8x128.Idx) : vq v i = qOf (v i) := by
  unfold vq qOf
  simp only [vstep_apply]
  rfl

/-- The exponents of a vector are the exponents of its elements. -/
theorem vexp_apply (a v : FVec Ideal S8x128 .f32) (i : S8x128.Idx) (hv : v i = quo (a i)) : vexp a (vq v) i = eOf (a i) := by
  unfold eOf
  rw [← hv, ← vq_apply]
  rfl

/-! ## The weight's scales -/

/-- The first steps of the search for the weights' scales, as steps on a vector. -/
theorem pay11_eq (am : FVec Ideal S8x128 .f32) : k0_pay11 (F := Ideal) am
    = vstep (k0_pay10 am) 32#32 (vstep (k0_pay10 am) 64#32 (vstep (k0_pay10 am) 128#32 (broadcast S8x128 0#32))) := by
  unfold k0_pay11 vstep
  rfl

/-- The later steps of that search, as steps on a vector. -/
theorem pay13_eq (v : FVec Ideal S8x128 .f32) (q : IVec S8x128 32) : k0_pay13 (F := Ideal) v q (addi q (broadcast S8x128 16#32)) 253#32
    = vstep v 1#32 (vstep v 2#32 (vstep v 4#32 (vstep v 8#32 (vstep v 16#32 q)))) := by
  unfold k0_pay13 vstep
  rfl

/-- The whole search for the weights' scales is the search on a vector. -/
theorem search_eq (am : FVec Ideal S8x128 .f32) :
    k0_pay13 (F := Ideal) (k0_pay10 am) (k0_pay11 am) (k0_pay12 am) 253#32 = vq (k0_pay10 am) := by
  have h12 : k0_pay12 (F := Ideal) am = addi (k0_pay11 am) (broadcast S8x128 16#32) := rfl
  rw [h12, pay13_eq, pay11_eq]
  rfl

/-- The exponents from the searched fields. -/
theorem pay15_eq (a : FVec Ideal S8x128 .f32) (q : IVec S8x128 32) :
    k0_pay15 (F := Ideal) a q (cmpi .eq q (broadcast S8x128 0#32)) 255#32 = vexp a q := rfl

/-- The quotients of the block maxima. -/
theorem quo_apply (am : FVec Ideal S8x128 .f32) (i : S8x128.Idx) : k0_pay10 (F := Ideal) am i = quo (k0_pay9 (F := Ideal) am i) := rfl

/-- The exponents, as the kernel computes them. -/
def expo (am : FVec Ideal S8x128 .f32) : IVec S8x128 32 := vexp (k0_pay9 am) (vq (k0_pay10 am))

/-- The exponents of the block maxima. -/
theorem expo_apply (am : FVec Ideal S8x128 .f32) (i : S8x128.Idx) : expo am i = eOf (k0_pay9 (F := Ideal) am i) :=
  vexp_apply _ _ _ (quo_apply am i)

/-- The kernel's exponents are those of the search on a vector. -/
theorem expo_eq (am : FVec Ideal S8x128 .f32) :
    k0_pay15 (F := Ideal) (k0_pay9 am) (k0_pay13 (k0_pay10 am) (k0_pay11 am) (k0_pay12 am) 253#32)
      (k0_pay14 (k0_pay10 am) (k0_pay11 am) (k0_pay12 am) 253#32) 255#32 = expo am := by
  have h14 : k0_pay14 (F := Ideal) (k0_pay10 am) (k0_pay11 am) (k0_pay12 am) 253#32
      = cmpi .eq (k0_pay13 (F := Ideal) (k0_pay10 am) (k0_pay11 am) (k0_pay12 am) 253#32) (broadcast S8x128 0#32) := rfl
  rw [h14, search_eq, pay15_eq]
  rfl

/-- The stored f32 scale at an index is the word of its exponent. -/
theorem scF_apply (am : FVec Ideal S8x128 .f32) (i : S8x128.Idx) :
    scF (F := Ideal) am i = Ideal.ofBits .f32 (wF (eOf (k0_pay9 (F := Ideal) am i))) := by
  rw [← expo_apply]
  unfold scF k0_pay19
  rw [expo_eq]
  rfl

/-- The stored inverse scale at an index is the word of its exponent. -/
theorem scI_apply (am : FVec Ideal S8x128 .f32) (r : Fin 8) (l : Fin 128) :
    scI (F := Ideal) am (ValueIdx.ix3 0 r l) = wI (eOf (k0_pay9 (F := Ideal) am (ValueIdx.ix2 r l))) := by
  rw [← expo_apply]
  unfold scI k0_pay16
  rw [expo_eq]
  show shapeCast S1x8x128 (fun i => wI (expo am i)) shapeCasts_S8x128_S1x8x128 (ValueIdx.ix3 0 r l) = wI (expo am (ValueIdx.ix2 r l))
  refine shapeCast_apply _ _ _ _ ?_
  rw [Shape.rowMajor_val_three, Shape.rowMajor_val_two]
  show r.val * 128 + l.val = (0 * 8 + r.val) * 128 + l.val
  omega

/-- The stored bf16 scale at an index is the word of its exponent. -/
theorem scS_apply (am : FVec Ideal S8x128 .f32) (r : Fin 8) (l : Fin 128) :
    scS (F := Ideal) am (ValueIdx.ix3 0 r l) = wS (eOf (k0_pay9 (F := Ideal) am (ValueIdx.ix2 r l))) := by
  rw [← expo_apply]
  unfold scS k0_pay17
  rw [expo_eq]
  show shapeCast S1x8x128 (fun i => wS (expo am i)) shapeCasts_S8x128_S1x8x128 (ValueIdx.ix3 0 r l) = wS (expo am (ValueIdx.ix2 r l))
  refine shapeCast_apply _ _ _ _ ?_
  rw [Shape.rowMajor_val_three, Shape.rowMajor_val_two]
  show r.val * 128 + l.val = (0 * 8 + r.val) * 128 + l.val
  omega

/-! ## The activation's scale -/

section
variable (h : S1x16.Idx → Elt Ideal .f32)

/-- The largest word of the history. -/
def hmax : EReal := max (max (max (max (max (max (max (max (max (max (max (max (max (max (max (hw h 0) (hw h 1)) (hw h 2)) (hw h 3))
  (hw h 4)) (hw h 5)) (hw h 6)) (hw h 7)) (hw h 8)) (hw h 9)) (hw h 10)) (hw h 11)) (hw h 12)) (hw h 13)) (hw h 14)) (hw h 15)

/-- The activation's maximum, at every element. -/
theorem xv121_apply (i : S8x128.Idx) : xv121 (F := Ideal) h i = hmax h := rfl
/-- Its quotient, at every element. -/
theorem xv124_apply (i : S8x128.Idx) : xv124 (F := Ideal) h i = quo (hmax h) := rfl
/-- The first step of the activation's search. -/
theorem xv134_eq : xv134 (F := Ideal) h = vstep (xv124 h) 128#32 (broadcast S8x128 0#32) := rfl
/-- The second trial field. -/
theorem xv136_eq : xv136 (F := Ideal) h = addi (xv134 h) (broadcast S8x128 64#32) := rfl
/-- The second threshold. -/
theorem xv141_eq : xv141 (F := Ideal) h = bitcastToFloat .f32 (shli (minsi (addi (xv134 h) (broadcast S8x128 64#32)) (broadcast S8x128 253#32)) (broadcast S8x128 23#32)) := rfl

/-- The middle steps of the activation's search. -/
theorem pay71_eq (v : FVec Ideal S8x128 .f32) (q : IVec S8x128 32) : k0_pay71 (F := Ideal) v q (addi q (broadcast S8x128 64#32))
      (bitcastToFloat .f32 (shli (minsi (addi q (broadcast S8x128 64#32)) (broadcast S8x128 253#32)) (broadcast S8x128 23#32)))
    = vstep v 4#32 (vstep v 8#32 (vstep v 16#32 (vstep v 32#32 (vstep v 64#32 q)))) := by
  unfold k0_pay71 vstep
  rfl

/-- The field after six steps of the activation's search. -/
theorem xv179_eq : xv179 (F := Ideal) h = vstep (xv124 h) 4#32 (vstep (xv124 h) 8#32 (vstep (xv124 h) 16#32 (vstep (xv124 h) 32#32
    (vstep (xv124 h) 64#32 (vstep (xv124 h) 128#32 (broadcast S8x128 0#32)))))) := by
  unfold xv179
  rw [xv136_eq, xv141_eq, pay71_eq, xv134_eq]
/-- The seventh trial field. -/
theorem xv181_eq : xv181 (F := Ideal) h = addi (xv179 h) (broadcast S8x128 2#32) := rfl
/-- The seventh threshold. -/
theorem xv186_eq : xv186 (F := Ideal) h = bitcastToFloat .f32 (shli (minsi (addi (xv179 h) (broadcast S8x128 2#32)) (broadcast S8x128 253#32)) (broadcast S8x128 23#32)) := rfl

/-- The last steps of the activation's search and the exponent. -/
theorem pay74_eq (a v : FVec Ideal S8x128 .f32) (q : IVec S8x128 32) : k0_pay74 (F := Ideal) a v q (addi q (broadcast S8x128 2#32))
      (bitcastToFloat .f32 (shli (minsi (addi q (broadcast S8x128 2#32)) (broadcast S8x128 253#32)) (broadcast S8x128 23#32)))
    = vexp a (vstep v 1#32 (vstep v 2#32 q)) := by
  unfold k0_pay74 vexp vstep
  rfl

/-- The activation's exponents, as the kernel computes them. -/
def xexpo : IVec S8x128 32 := vexp (xv121 h) (vq (xv124 h))
/-- The kernel's exponent of the activation, as the search on a vector. -/
theorem xexpo_eq : k0_pay74 (F := Ideal) (xv121 h) (xv124 h) (xv179 h) (xv181 h) (xv186 h) = xexpo h := by
  rw [xv181_eq, xv186_eq, pay74_eq, xv179_eq]
  rfl
/-- The activation's exponent is that of the history's largest value. -/
theorem xexpo_apply (i : S8x128.Idx) : xexpo h i = eOf (hmax h) := by
  rw [← xv121_apply h i]
  exact vexp_apply _ _ _ ((xv124_apply h i).trans (by rw [← xv121_apply h i]))

/-- The activation's inverse scale is the word of that exponent. -/
theorem xInv_apply (i : S8x128.Idx) : xInv (F := Ideal) h i = wI (eOf (hmax h)) := by
  rw [← xexpo_apply h i]
  unfold xInv k0_pay75
  rw [xexpo_eq]
  rfl
/-- The activation's bf16 scale is the word of that exponent. -/
theorem xScl_apply (i : S8x128.Idx) : xScl (F := Ideal) h i = wS (eOf (hmax h)) := by
  rw [← xexpo_apply h i]
  unfold xScl k0_pay76
  rw [xexpo_eq]
  rfl
/-- The activation's f32 scale is the word of that exponent. -/
theorem xBits_apply (i : S8x128.Idx) : xBits (F := Ideal) h i = wF (eOf (hmax h)) := by
  rw [← xexpo_apply h i]
  unfold xBits k0_pay77
  rw [xexpo_eq]
  rfl
end

end Cert.KernelIdeal.Math
-- ==== Proof.Codes.lean ====
/-
  The kernel's six results on exact values: codes are the clamped products with the inverse scale, the rescaled values
  are codes times scales, and the product is the sum over all 7168 columns.
-/
module

public import proofs.«01_k».proof.Proof.Words
public import proofs.«01_k».proof.Proof.Maxima
public import Idealize.ShloMosaic.Lib.Pointwise.Contract

@[expose] public section

set_option maxRecDepth 16384

noncomputable section

namespace Cert.KernelIdeal.Math

open Cert.KernelIdeal Cert.KernelIdeal.Gen Cert.KernelIdeal.Hand
open Idealize.ShloMosaic hiding ix1 ix2 ix3
open Idealize.ShloMosaic.ValueIdx (ix1 ix2 ix3)
open Cert.Scale

/-- The code of `x` at the inverse scale `s`: the product, clamped to the format's range. -/
def code (x s : EReal) : EReal := min ((448 : ℝ) : EReal) (max ((-448 : ℝ) : EReal) (x * s))

/-- The largest code, as bf16. -/
theorem hi_bf16 : Ideal.ofBits .bf16 0x43E0#16 = ((448 : ℝ) : EReal) := by
  simp [Ideal.ofBits, Ideal.ieee, -EReal.coe_mul]; norm_num
/-- The least code, as bf16. -/
theorem lo_bf16 : Ideal.ofBits .bf16 0xC3E0#16 = ((-448 : ℝ) : EReal) := by
  simp [Ideal.ofBits, Ideal.ieee, -EReal.coe_mul]; norm_num
/-- The largest code, as f32. -/
theorem hi_f32 : Ideal.ofBits .f32 0x43E00000#32 = ((448 : ℝ) : EReal) := by
  simp [Ideal.ofBits, Ideal.ieee, -EReal.coe_mul]; norm_num
/-- The least code, as f32. -/
theorem lo_f32 : Ideal.ofBits .f32 0xC3E00000#32 = ((-448 : ℝ) : EReal) := by
  simp [Ideal.ofBits, Ideal.ieee, -EReal.coe_mul]; norm_num
/-- The bf16 zero. -/
theorem zero_bf16 : Ideal.ofBits .bf16 0x0000#16 = 0 := by
  simp [Ideal.ofBits, Ideal.ieee, -EReal.coe_mul]

/-- The scale's exponent of the largest absolute value `a` is `e`. -/
def Has (a : EReal) (e : ℤ) : Prop := -125 ≤ e ∧ e ≤ 126 ∧ eOf a = BitVec.ofInt 32 e

/-! ## Words read as bfloat16 -/

/-- A vector of one word, read as pairs of bfloat16, is one value. -/
theorem pair_const (x : IVec S8x128 32) (wd : BitVec 32) (v : EReal) (hx : ∀ j, x j = wd)
    (hw : ∀ b, Ideal.ofBits .bf16 (wd.extractLsb' (16 * (b % 2)) 16) = v) (j : S16x128.Idx) :
    (bitcastToFloat (F := Ideal) .bf16 (bitcast S16x128 16 x bitcasts_S8x128_w32_S16x128_w16) : FVec Ideal S16x128 .bf16) j = v := by
  refine (congrArg (Ideal.ofBits .bf16) (bitcast_32_16 x _ j)).trans ?_
  rw [hx]
  exact hw _

/-- A row of one word, at every row, is that word. -/
theorem row_const (row : Vec Ideal S1x1x128 .i32) (wd : BitVec 32) (hr : ∀ x, row x = wd) (j : S8x128.Idx) :
    broadcastTo S8x128 (shapeCast S1x128 (shapeCast S1x128 (row : IVec S1x1x128 32) shapeCasts_S1x1x128_S1x128) shapeCasts_S1x128_S1x128) broadcasts_S1x128_S8x128 j = wd := by
  unfold broadcastTo shapeCast
  exact hr _

/-- A weight block's codes are the clamped products with the inverse scale. -/
theorem pay33_apply (row : Vec Ideal S1x1x128 .i32) (B : Vec Ideal S1x128x128 .bf16) (a b : Fin 128) {e : ℤ} (h1 : -125 ≤ e) (h2 : e ≤ 126)
    (hr : ∀ x, row x = wI (BitVec.ofInt 32 e)) : k0_pay33 (F := Ideal) row B (ix2 a b) = code (B (ix3 0 a b)) (pw (-e)) := by
  unfold k0_pay33 code
  rw [← hi_bf16, ← lo_bf16]
  refine congrArg (min _) (congrArg (max _) (congrArg₂ (fun x y : EReal => x * y) (cast3 B a b) (concatenate_forall (P := fun y : EReal => y = pw (-e)) _ _ _ _ ?_ _)))
  intro p hp
  simp only [List.mem_cons, List.not_mem_nil, or_false, or_self] at hp
  subst hp
  exact pair_const _ _ _ (row_const row _ hr) (wI_val h1 h2)

/-- A weight block rescaled is its codes times the scale. -/
theorem pay56_apply (C : FVec Ideal S128x128 .fp8e4m3) (row : Vec Ideal S1x1x128 .i32) (a b : Fin 128) {e : ℤ} (h1 : -125 ≤ e) (h2 : e ≤ 126)
    (hr : ∀ x, row x = wS (BitVec.ofInt 32 e)) : k0_pay56 (F := Ideal) C (k0_pay35 (F := Ideal) row) (ix2 a b) = C (ix2 a b) * pw e := by
  unfold k0_pay56 k0_pay35
  dsimp only
  rw [shapeCast_self]
  refine congrArg (fun y : EReal => C (ix2 a b) * y) (concatenate_forall (P := fun y : EReal => y = pw e) _ _ _ _ ?_ _)
  intro p hp
  simp only [List.mem_cons, List.not_mem_nil, or_false, or_self] at hp
  subst hp
  exact pair_const _ _ _ (row_const row _ hr) (wS_val h1 h2)

/-- A strip of the activation's codes: the clamped products with the inverse scale. -/
theorem pay1_apply (v : IVec S8x128 32) (X : Vec Ideal S256x128 .bf16) (j : S256x128.Idx) {e : ℤ} (h1 : -125 ≤ e) (h2 : e ≤ 126)
    (hv : ∀ x, v x = wI (BitVec.ofInt 32 e)) : k0_pay1 (F := Ideal) v X j = code (X j) (pw (-e)) := by
  unfold k0_pay1 code
  rw [← hi_bf16, ← lo_bf16]
  refine congrArg (min _) (congrArg (max _) (congrArg (fun y : EReal => X j * y) (concatenate_forall (P := fun y : EReal => y = pw (-e)) _ _ _ _ ?_ _)))
  intro p hp
  simp only [List.mem_cons, List.not_mem_nil, or_false, or_self] at hp
  subst hp
  exact pair_const _ _ _ hv (wI_val h1 h2)

/-- A strip of the activation rescaled: the codes times the scale. -/
theorem pay3_apply (v u : IVec S8x128 32) (X : Vec Ideal S256x128 .bf16) (j : S256x128.Idx) {e : ℤ} (h1 : -125 ≤ e) (h2 : e ≤ 126)
    (hv : ∀ x, v x = wI (BitVec.ofInt 32 e)) (hu : ∀ x, u x = wS (BitVec.ofInt 32 e)) :
    k0_pay3 (F := Ideal) v u X j = code (X j) (pw (-e)) * pw e := by
  unfold k0_pay3
  rw [shapeCast_self]
  refine congrArg₂ (fun x y : EReal => x * y) (pay1_apply v X j h1 h2 hv) (concatenate_forall (P := fun y : EReal => y = pw e) _ _ _ _ ?_ _)
  intro p hp
  simp only [List.mem_cons, List.not_mem_nil, or_false, or_self] at hp
  subst hp
  exact pair_const _ _ _ hu (wS_val h1 h2)

/-! ## The activation -/

section X
variable (x : S256x7168.Idx → Elt Ideal .bf16) (h : S1x16.Idx → Elt Ideal .f32) {e : ℤ} (he : Has (hmax h) e)
include he

/-- The activation's strip at an index is the activation. -/
theorem xblk_at (i : S256x7168.Idx) : xblk x ((i 1).val / 128) (ix2 (i 0) (Fin.ofNat 128 (i 1).val)) = x i := by
  unfold xblk
  refine congrArg x (funext fun a => Fin.ext ?_)
  have b0 : (i 0).val < 256 := (i 0).isLt
  have b1 : (i 1).val < 7168 := (i 1).isLt
  match a with
  | ⟨0, _⟩ => show (i 0).val % 256 = (i 0).val; omega
  | ⟨1, _⟩ => show (128 * ((i 1).val / 128) + (i 1).val % 128) % 7168 = (i 1).val; omega

/-- The activation's codes. -/
theorem XC_apply (i : S256x7168.Idx) : XC (F := Ideal) x h i = code (x i) (pw (-e)) := by
  unfold XC k0_pay2
  dsimp only
  rw [shapeCast_self]
  refine (pay1_apply _ _ _ he.1 he.2.1 (fun j => (xInv_apply h j).trans (congrArg wI he.2.2))).trans ?_
  rw [xblk_at x h he i]

/-- The activation, quantised and rescaled. -/
theorem XD_apply (i : S256x7168.Idx) : XD (F := Ideal) x h i = code (x i) (pw (-e)) * pw e := by
  unfold XD
  refine (pay3_apply _ _ _ _ he.1 he.2.1 (fun j => (xInv_apply h j).trans (congrArg wI he.2.2)) (fun j => (xScl_apply h j).trans (congrArg wS he.2.2))).trans ?_
  rw [xblk_at x h he i]

/-- The activation's f32 scale. -/
theorem pay78_eq : k0_pay78 (F := Ideal) (xBits h) = pw e := by
  have e1 : k0_pay78 (F := Ideal) (xBits h) = k0_pay81 (F := Ideal) (bitcastToFloat .f32 (xBits h)) := rfl
  have hb : ∀ i, bitcastToFloat (F := Ideal) .f32 (xBits (F := Ideal) h) i = pw e := fun i =>
    (congrArg (Ideal.ofBits .f32) ((xBits_apply h i).trans (congrArg wF he.2.2))).trans (wF_val he.1 he.2.1)
  rw [e1]
  refine eq_of_forall_ge_iff fun z => (pay81_le _ z).trans ⟨fun hz => ?_, fun hz i => ?_⟩
  · rw [← hb (ix2 0 0)]; exact hz _
  · rw [hb]; exact hz

/-- The result that holds the activation's scale. -/
theorem XSout_apply (i : S1x1.Idx) : XSout (F := Ideal) h i = pw e := pay78_eq h he

end X

/-! ## The weight -/

section W
variable (w : S7168x18432.Idx → Elt Ideal .bf16)

/-- The largest absolute value of the weight's block at row block `r`, column block `j`. -/
def wAm (r j : ℕ) : EReal := blkM (blkW w (7 * (j / 4) + r / 8) (j % 4)) (Fin.ofNat 8 r)

/-- A block's maximum is the least upper bound of its 128 times 128 absolute values. -/
theorem wAm_le {r j : ℕ} (hr : r < 56) (hj : j < 144) (z : EReal) :
    wAm w r j ≤ z ↔ ∀ a b : Fin 128, ab (w (mkW (128 * r + a.val) (128 * j + b.val))) ≤ z := by
  unfold wAm
  rw [blkM_le]
  refine forall_congr' fun a => forall_congr' fun b => ?_
  unfold blkW
  have e : mkW (1024 * ((7 * (j / 4) + r / 8) % 7) + 128 * (Fin.ofNat 8 r : Fin 8).val + a.val) (512 * ((7 * (j / 4) + r / 8) / 7) + 128 * (j % 4) + b.val)
      = mkW (128 * r + a.val) (128 * j + b.val) := by
    have e8 : (Fin.ofNat 8 r : Fin 8).val = r % 8 := rfl
    rw [e8]
    congr 1 <;> omega
  exact iff_of_eq (congrArg (fun i => ab (w i) ≤ z) e)

variable (E : ℕ → ℕ → ℤ) (hE : ∀ r j, r < 56 → j < 144 → Has (wAm w r j) (E r j))
include hE

/-- A block's f32 scale. -/
theorem WS_apply {r j : ℕ} (hr : r < 56) (hj : j < 144) : WS (F := Ideal) w r j = pw (E r j) := by
  have h := hE r j hr hj
  unfold WS
  refine (scF_apply _ _).trans ?_
  rw [pay9_eq]
  have h2 := h.2.2
  unfold wAm at h2
  rw [h2]
  exact wF_val h.1 h.2.1

/-- The tables' rows read back for a block: its inverse scale and its scale. -/
theorem inv_row {s c r g : ℕ} (hs : s < 36) (hc : c < 7) (hr : r < 8) (hg : g < 4) (x : S1x1x128.Idx) :
    rowAt (F := Ideal) (INV (blkW w (7 * s + c))) r g x = wI (BitVec.ofInt 32 (E (8 * c + r) (4 * s + g)))
      ∧ rowAt (F := Ideal) (SCL (blkW w (7 * s + c))) r g x = wS (BitVec.ofInt 32 (E (8 * c + r) (4 * s + g))) := by
  have h := hE (8 * c + r) (4 * s + g) (by omega) (by omega)
  have h2 := h.2.2
  unfold wAm at h2
  rw [show 7 * ((4 * s + g) / 4) + (8 * c + r) / 8 = 7 * s + c by omega, show (4 * s + g) % 4 = g by omega,
    show (Fin.ofNat 8 (8 * c + r) : Fin 8) = Fin.ofNat 8 r from Fin.ext (show (8 * c + r) % 8 = r % 8 by omega)] at h2
  have eg : (Fin.ofNat 4 g : Fin 4).val = g := ofNat_val hg
  constructor
  · unfold rowAt INV
    refine (scI_apply _ _ _).trans ?_
    refine (congrArg (fun a => wI (eOf a)) (pay9_eq _ _ _)).trans ?_
    refine congrArg wI ?_
    rw [← h2]
    exact congrArg (fun g' => eOf (blkM (blkW w (7 * s + c) g') (Fin.ofNat 8 r))) eg
  · unfold rowAt SCL
    refine (scS_apply _ _ _).trans ?_
    refine (congrArg (fun a => wS (eOf a)) (pay9_eq _ _ _)).trans ?_
    refine congrArg wS ?_
    rw [← h2]
    exact congrArg (fun g' => eOf (blkM (blkW w (7 * s + c) g') (Fin.ofNat 8 r))) eg

/-- The rescaled weight's element. -/
def wdq (i : S7168x18432.Idx) : EReal := code (w i) (pw (-E ((i 0).val / 128) ((i 1).val / 128))) * pw (E ((i 0).val / 128) ((i 1).val / 128))

omit hE in
/-- A unit's block at an index is the weight. -/
theorem blk_at {s c a b : ℕ} (hs : s < 36) (hc : c < 7) (ha : a < 1024) (hb : b < 512) :
    blkW w (7 * s + c) (b / 128) (a / 128) (ix3 0 (Fin.ofNat 128 a) (Fin.ofNat 128 b)) = w (mkW (1024 * c + a) (512 * s + b)) := by
  unfold blkW
  have e : mkW (1024 * ((7 * s + c) % 7) + 128 * (a / 128) + a % 128) (512 * ((7 * s + c) / 7) + 128 * (b / 128) + b % 128)
      = mkW (1024 * c + a) (512 * s + b) := by congr 1 <;> omega
  exact congrArg w e

/-- A unit's codes at an index. -/
theorem pay33_at {s c a b : ℕ} (hs : s < 36) (hc : c < 7) (ha : a < 1024) (hb : b < 512) :
    k0_pay33 (F := Ideal) (rowAt (INV (blkW w (7 * s + c))) (a / 128) (b / 128)) (blkW w (7 * s + c) (b / 128) (a / 128)) (ix2 (Fin.ofNat 128 a) (Fin.ofNat 128 b))
      = code (w (mkW (1024 * c + a) (512 * s + b))) (pw (-E ((1024 * c + a) / 128) ((512 * s + b) / 128))) := by
  have h := hE (8 * c + a / 128) (4 * s + b / 128) (by omega) (by omega)
  refine (pay33_apply _ _ _ _ h.1 h.2.1 fun x => (inv_row w E hE hs hc (by omega) (by omega) x).1).trans ?_
  rw [blk_at w hs hc ha hb, show (1024 * c + a) / 128 = 8 * c + a / 128 by omega, show (512 * s + b) / 128 = 4 * s + b / 128 by omega]

/-- The weights' codes. -/
theorem WC_apply (i : S7168x18432.Idx) : WC (F := Ideal) w i = code (w i) (pw (-E ((i 0).val / 128) ((i 1).val / 128))) := by
  have b0 : (i 0).val < 7168 := (i 0).isLt
  have b1 : (i 1).val < 18432 := (i 1).isLt
  unfold WC codeU k0_pay34
  dsimp only
  refine (shapeCast_apply (s := S128x128) _ _ _ (ix2 (Fin.ofNat 128 ((i 0).val % 1024)) (Fin.ofNat 128 ((i 1).val % 512))) ?_).trans ?_
  · rw [Shape.rowMajor_val_three, Shape.rowMajor_val_two]
    show _ * 128 + _ = (0 * 128 + _) * 128 + _
    rw [Nat.zero_mul, Nat.zero_add]
  · refine (pay33_at w E hE (s := (i 1).val / 512) (c := (i 0).val / 1024) (by omega) (by omega) (Nat.mod_lt _ (by omega)) (Nat.mod_lt _ (by omega))).trans ?_
    rw [show 1024 * ((i 0).val / 1024) + (i 0).val % 1024 = (i 0).val by omega, show 512 * ((i 1).val / 512) + (i 1).val % 512 = (i 1).val by omega]
    have e : mkW (i 0).val (i 1).val = i := by
      funext a
      refine Fin.ext ?_
      match a with
      | ⟨0, _⟩ => exact Nat.mod_eq_of_lt b0
      | ⟨1, _⟩ => exact Nat.mod_eq_of_lt b1
    rw [e]

/-- A unit's weights, quantised and rescaled. -/
theorem WD_apply {s c : ℕ} (hs : s < 36) (hc : c < 7) (a : Fin 1024) (b : Fin 512) :
    WD (F := Ideal) w (7 * s + c) (ix2 a b) = wdq w E (mkW (1024 * c + a.val) (512 * s + b.val)) := by
  have h := hE (8 * c + a.val / 128) (4 * s + b.val / 128) (by omega) (by omega)
  unfold WD
  refine (pay56_apply _ _ _ _ h.1 h.2.1 fun x => (inv_row w E hE hs hc (by show a.val / 128 < 8; omega) (by show b.val / 128 < 4; omega) x).2).trans ?_
  have p := pay33_at w E hE hs hc a.isLt b.isLt
  unfold wdq
  refine congrArg₂ (fun x y : EReal => x * y) (p.trans ?_) ?_
  · have e0 : (mkW (1024 * c + a.val) (512 * s + b.val) 0).val = 1024 * c + a.val := Nat.mod_eq_of_lt (by omega)
    have e1 : (mkW (1024 * c + a.val) (512 * s + b.val) 1).val = 512 * s + b.val := Nat.mod_eq_of_lt (by omega)
    rw [e0, e1]
  · have e0 : (mkW (1024 * c + a.val) (512 * s + b.val) 0).val = 1024 * c + a.val := Nat.mod_eq_of_lt (by omega)
    have e1 : (mkW (1024 * c + a.val) (512 * s + b.val) 1).val = 512 * s + b.val := Nat.mod_eq_of_lt (by omega)
    rw [e0, e1, show (1024 * c + a.val) / 128 = 8 * c + a.val / 128 by omega, show (512 * s + b.val) / 128 = 4 * s + b.val / 128 by omega]

/-! ## The product -/

variable (xd : S256x7168.Idx → Elt Ideal .bf16)

omit hE in
/-- One unit's product added to the accumulator is a sum over 1024 rows. -/
theorem pay52_apply (X : Vec Ideal S256x1024 .bf16) (acc : FVec Ideal S256x512 .f32) (D : Vec Ideal S1024x512 .bf16) (a : Fin 256) (b : Fin 512) :
    k0_pay52 (F := Ideal) X acc D (ix2 a b) = acc (ix2 a b) + ∑ k : Fin 1024, (X (ix2 a k) * D (ix2 k b) : EReal) := by
  unfold k0_pay52
  rw [shapeCast_self]
  refine congrArg (fun y : EReal => acc (ix2 a b) + y) ?_
  refine (Ideal.matmul_apply _ _ _ _ _ _).trans ?_
  have z : constant (F := Ideal) S256x512 .f32 0x00000000#32 (ix2 a b) = (0 : EReal) := f32_zero
  rw [z, zero_add, DotDims.sum_contr₁ dot_S256x1024_S1024x512_S256x512_1_0_0_1_n_n (a := 1) rfl (K := 1024) rfl]
  refine Finset.sum_congr rfl fun k _ => ?_
  congr 1
  · refine congrArg X (funext fun d => Fin.ext ?_)
    match d with
    | ⟨0, _⟩ => rfl
    | ⟨1, _⟩ => rfl
  · refine congrArg D (funext fun d => Fin.ext ?_)
    match d with
    | ⟨0, _⟩ => rfl
    | ⟨1, _⟩ => rfl

/-- One term of the product's sum. -/
def term (a b q : ℕ) : EReal := xd (mkX a q) * wdq w E (mkW q b)

/-- The accumulator after a unit. -/
theorem accM_succ {s c : ℕ} (hs : s < 36) (hc : c < 7) (a : Fin 256) (b : Fin 512) :
    accM (F := Ideal) w xd (7 * s + c + 1) (ix2 a b)
      = accE (F := Ideal) w xd (7 * s + c + 1) (ix2 a b) + ∑ k ∈ Finset.range 1024, term w E xd a.val (512 * s + b.val) (1024 * c + k) := by
  unfold accM
  refine (pay52_apply _ _ _ a b).trans ?_
  rw [Finset.sum_range]
  refine congrArg (fun y : EReal => _ + y) (Finset.sum_congr rfl fun k _ => ?_)
  unfold term
  have e1 : WDprev (F := Ideal) w (7 * s + c + 1) = WD w (7 * s + c) := by
    unfold WDprev
    rw [if_neg (by omega), Nat.add_sub_cancel]
  rw [e1, WD_apply w E hE hs hc k b]
  have e2 : (7 * s + c + 1 - 1) % 7 = c := by omega
  rw [e2]
  rfl

/-- The accumulator before a unit is the sum over the strip's earlier rows. -/
theorem accE_at {s : ℕ} (hs : s < 36) (a : Fin 256) (b : Fin 512) : ∀ c, c < 7 →
    accE (F := Ideal) w xd (7 * s + c + 1) (ix2 a b) = ∑ q ∈ Finset.range (1024 * c), term w E xd a.val (512 * s + b.val) q
  | 0, _ => by
    rw [Nat.mul_zero, Finset.range_zero, Finset.sum_empty, Nat.add_zero]
    by_cases h0 : s = 0
    · subst h0
      rw [accE_succ w xd (by omega)]
      unfold accM
      refine (pay52_apply _ _ _ a b).trans ?_
      have z : accE (F := Ideal) w xd (7 * 0) (ix2 a b) = (0 : EReal) := by
        rw [Nat.mul_zero, accE_zero]
        unfold k0_pay82
        rw [shapeCast_self]
        exact f32_zero
      have z' : ∀ i, WDprev (F := Ideal) w (7 * 0) i = (0 : EReal) := by
        intro i
        unfold WDprev
        rw [if_pos (by omega)]
        unfold k0_pay84
        rw [shapeCast_self]
        exact zero_bf16
      rw [z, zero_add]
      refine Finset.sum_eq_zero fun k _ => ?_
      rw [z', mul_zero]
    · rw [accE_succ_reset w xd ⟨by omega, by omega⟩]
      unfold k0_pay58
      rw [shapeCast_self]
      exact f32_zero
  | c + 1, hc => by
    rw [show 7 * s + (c + 1) + 1 = (7 * s + c + 1) + 1 by omega, accE_succ w xd (by omega), accM_succ w E hE xd hs (by omega), accE_at hs a b c (by omega),
      show 1024 * (c + 1) = 1024 * c + 1024 by omega, Finset.sum_range_add]

/-- The product at an index is the sum over all 7168 columns of the rescaled activation times the rescaled weight. -/
theorem Yout_apply (i : S256x18432.Idx) :
    Yout (F := Ideal) w xd i = ∑ q : Fin 7168, (xd (ix2 (i 0) q) * wdq w E (ix2 q (i 1)) : EReal) := by
  have b0 : (i 0).val < 256 := (i 0).isLt
  have b1 : (i 1).val < 18432 := (i 1).isLt
  unfold Yout ystrip k0_pay57
  dsimp only
  refine (shapeCast_apply (s := S256x512) _ _ _ (ix2 (i 0) (Fin.ofNat 512 (i 1).val)) ?_).trans ?_
  · rw [Shape.rowMajor_val_three, Shape.rowMajor_val_two]
    show _ * 512 + _ = (0 * 256 + _) * 512 + _
    rw [Nat.zero_mul, Nat.zero_add]
  · refine (accM_succ w E hE xd (s := (i 1).val / 512) (c := 6) (by omega) (by omega) (i 0) (Fin.ofNat 512 (i 1).val)).trans ?_
    rw [accE_at w E hE xd (by omega) (i 0) (Fin.ofNat 512 (i 1).val) 6 (by omega), ← Finset.sum_range_add (fun q => term w E xd (i 0).val (512 * ((i 1).val / 512) + (Fin.ofNat 512 (i 1).val : Fin 512).val) q) (1024 * 6) 1024]
    rw [Finset.sum_range]
    refine Finset.sum_congr rfl fun q _ => ?_
    unfold term
    have e1 : mkX (i 0).val q.val = ix2 (i 0) q := by
      funext a
      refine Fin.ext ?_
      match a with
      | ⟨0, _⟩ => exact Nat.mod_eq_of_lt b0
      | ⟨1, _⟩ => exact Nat.mod_eq_of_lt q.isLt
    have e2 : mkW q.val (512 * ((i 1).val / 512) + (Fin.ofNat 512 (i 1).val : Fin 512).val) = ix2 q (i 1) := by
      funext a
      refine Fin.ext ?_
      match a with
      | ⟨0, _⟩ => exact Nat.mod_eq_of_lt q.isLt
      | ⟨1, _⟩ =>
        show (512 * ((i 1).val / 512) + (i 1).val % 512) % 18432 = (i 1).val
        omega
    rw [e1, e2]
    rfl

end W

end Cert.KernelIdeal.Math
-- ==== Proof.RefOut.lean ====
/-
  What the reference's call leaves in its three result arrays, on exact numbers, in terms of the buffers the host program
  gives it: the codes are the clamped products, and the result is the sum over all 7168 columns.
-/
module

public import proofs.«01_k».proof.Proof.Gen.ReferenceIdeal.Value
public import proofs.«01_k».proof.Proof.Codes
public import Idealize.ShloMosaic.PureOps.Ideal
public import Idealize.ShloMosaic.Lib.Pointwise.Contract
public import Idealize.ShloMosaic.Lib.Pipeline.Value

@[expose] public section

set_option maxRecDepth 16384

noncomputable section

namespace Cert.RefOut

open Cert.ReferenceIdeal Cert.ReferenceIdeal.Gen
open Idealize.ShloMosaic hiding ix1 ix2 ix3 ix4
open Idealize.ShloMosaic.ValueIdx (ix1 ix2 ix3 ix4)
open Idealize.ShloMosaic.TcCoe
open Idealize.SL Idealize.SL.Sem
open Cert.KernelIdeal.Math (code hi_f32 lo_f32)
open Cert.Scale (f32_zero)

/-! ## The body's values at an index -/

/-- The activation's codes are the clamped products. -/
theorem pay1_apply (v0 : FVec Ideal S256x7168 .bf16) (v3 : FVec Ideal S256x7168 .f32) (i : S256x7168.Idx) :
    k0_pay1 (F := Ideal) v0 v3 i = code (v0 i) (v3 i) := by
  unfold k0_pay1
  rw [shapeCast_self, shapeCast_self]
  show min (Ideal.ofBits .f32 0x43E00000#32) (max (Ideal.ofBits .f32 0xC3E00000#32) (v0 i * v3 i)) = _
  rw [hi_f32, lo_f32]
  rfl

/-- The weights' codes are the clamped products. -/
theorem pay2_apply (v0 : FVec Ideal S7168x18432 .bf16) (v3 : FVec Ideal S7168x18432 .f32) (i : S7168x18432.Idx) :
    k0_pay2 (F := Ideal) v0 v3 i = code (v0 i) (v3 i) := by
  unfold k0_pay2
  rw [shapeCast_self]
  show min (Ideal.ofBits .f32 0x43E00000#32) (max (Ideal.ofBits .f32 0xC3E00000#32) (v0 i * v3 i)) = _
  rw [hi_f32, lo_f32]
  rfl

/-- The product at an index is a sum over 7168 columns. -/
theorem dot_apply (A : FVec Ideal S256x7168 .bf16) (B : FVec Ideal S7168x18432 .bf16) (i : S256x18432.Idx) :
    matmul (F := Ideal) dot_S256x7168_S7168x18432_S256x18432_1_0_0_1_n_n none A B (constant (F := Ideal) S256x18432 .f32 0x00000000#32) i
      = ∑ q : Fin 7168, (A (ix2 (i 0) q) * B (ix2 q (i 1)) : EReal) := by
  refine (Ideal.matmul_apply _ _ _ _ _ i).trans ?_
  refine (congrArg (· + _) (show (constant (F := Ideal) S256x18432 .f32 0x00000000#32) i = (0 : EReal) from f32_zero)).trans ?_
  rw [zero_add]
  refine (DotDims.sum_contr₁ dot_S256x7168_S7168x18432_S256x18432_1_0_0_1_n_n (a := 1) rfl (K := 7168) rfl _).trans ?_
  refine Finset.sum_congr rfl fun q _ => ?_
  refine congrArg₂ (fun a b : EReal => a * b) (congrArg A ?_) (congrArg B ?_)
  · exact funext fun a => Fin.ext (match a with | ⟨0, _⟩ => rfl | ⟨1, _⟩ => rfl)
  · exact funext fun a => Fin.ext (match a with | ⟨0, _⟩ => rfl | ⟨1, _⟩ => rfl)

/-- The result at an index, from the call's inputs. -/
theorem pay3_apply (v0 : FVec Ideal S256x7168 .bf16) (v3 : FVec Ideal S256x7168 .f32) (v11 : FVec Ideal S7168x18432 .bf16)
    (v13 : FVec Ideal S7168x18432 .f32) (v24 : FVec Ideal S256x7168 .f32) (v29 : FVec Ideal S7168x18432 .f32) (i : S256x18432.Idx) :
    k0_pay3 (F := Ideal) v0 v3 v11 v13 v24 v29 i
      = ∑ q : Fin 7168, ((code (v0 (ix2 (i 0) q)) (v3 (ix2 (i 0) q)) * v24 (ix2 (i 0) q))
          * (code (v11 (ix2 q (i 1))) (v13 (ix2 q (i 1))) * v29 (ix2 q (i 1))) : EReal) := by
  unfold k0_pay3
  rw [shapeCast_self, shapeCast_self]
  refine (dot_apply _ _ i).trans ?_
  refine Finset.sum_congr rfl fun q _ => ?_
  refine congrArg₂ (fun a b : EReal => a * b) ?_ ?_
  · exact congrArg (fun a : EReal => a * v24 (ix2 (i 0) q)) (pay1_apply v0 v3 (ix2 (i 0) q))
  · exact congrArg (fun a : EReal => a * v29 (ix2 q (i 1))) (pay2_apply v11 v13 (ix2 q (i 1)))

/-! ## The arrays after the run -/

variable (m : (ℓ : Loc nD τ sig) → Buf (Elt Ideal) ℓ) (c : Dev nD)

/-- Window 0's block is its whole buffer. -/
theorem iblk0 : iblk (F := Ideal) m c 0 t0_0 = V m c main_v0 := by
  show (win0_0.blk t0_0).view.read (Elt Ideal) (V m c main_v0) = _
  generalize V (F := Ideal) m c main_v0 = f
  exact Memref.read_access_unit_zero (Elt Ideal) main_v0
    (show (fun a => (win0_0.index t0_0) a * main_v0.ty.shape.size a) = fun _ => 0 from
      funext fun a => by fin_cases a <;> decide) (fun a => by fin_cases a <;> decide) f

/-- Window 1's block is its whole buffer. -/
theorem iblk1 : iblk (F := Ideal) m c 1 t0_0 = V m c main_v54 := by
  show (win0_1.blk t0_0).view.read (Elt Ideal) (V m c main_v54) = _
  generalize V (F := Ideal) m c main_v54 = f
  exact Memref.read_access_unit_zero (Elt Ideal) main_v54
    (show (fun a => (win0_1.index t0_0) a * main_v54.ty.shape.size a) = fun _ => 0 from
      funext fun a => by fin_cases a <;> decide) (fun a => by fin_cases a <;> decide) f

/-- Window 2's block is its whole buffer. -/
theorem iblk2 : iblk (F := Ideal) m c 2 t0_0 = V m c main_v55 := by
  show (win0_2.blk t0_0).view.read (Elt Ideal) (V m c main_v55) = _
  generalize V (F := Ideal) m c main_v55 = f
  exact Memref.read_access_unit_zero (Elt Ideal) main_v55
    (show (fun a => (win0_2.index t0_0) a * main_v55.ty.shape.size a) = fun _ => 0 from
      funext fun a => by fin_cases a <;> decide) (fun a => by fin_cases a <;> decide) f

/-- Window 3's block is its whole buffer. -/
theorem iblk3 : iblk (F := Ideal) m c 3 t0_0 = V m c main_arg2 := by
  show (win0_3.blk t0_0).view.read (Elt Ideal) (V m c main_arg2) = _
  generalize V (F := Ideal) m c main_arg2 = f
  exact Memref.read_access_unit_zero (Elt Ideal) main_arg2
    (show (fun a => (win0_3.index t0_0) a * main_arg2.ty.shape.size a) = fun _ => 0 from
      funext fun a => by fin_cases a <;> decide) (fun a => by fin_cases a <;> decide) f

/-- Window 4's block is its whole buffer. -/
theorem iblk4 : iblk (F := Ideal) m c 4 t0_0 = V m c main_v60 := by
  show (win0_4.blk t0_0).view.read (Elt Ideal) (V m c main_v60) = _
  generalize V (F := Ideal) m c main_v60 = f
  exact Memref.read_access_unit_zero (Elt Ideal) main_v60
    (show (fun a => (win0_4.index t0_0) a * main_v60.ty.shape.size a) = fun _ => 0 from
      funext fun a => by fin_cases a <;> decide) (fun a => by fin_cases a <;> decide) f

/-- Window 5's block is its whole buffer. -/
theorem iblk5 : iblk (F := Ideal) m c 5 t0_0 = V m c main_v63 := by
  show (win0_5.blk t0_0).view.read (Elt Ideal) (V m c main_v63) = _
  generalize V (F := Ideal) m c main_v63 = f
  exact Memref.read_access_unit_zero (Elt Ideal) main_v63
    (show (fun a => (win0_5.index t0_0) a * main_v63.ty.shape.size a) = fun _ => 0 from
      funext fun a => by fin_cases a <;> decide) (fun a => by fin_cases a <;> decide) f

/-- Both offsets are zero. -/
theorem zero2 : (![0, 0] : Fin 2 → ℕ) = fun _ => 0 := by funext a; fin_cases a <;> rfl

/-- A load of a whole activation-shaped buffer is its contents. -/
theorem ldX {e : EltTy} (x : S256x7168.Idx → Elt Ideal e) : View.ld x r0_0 = x := View.ld_unit_zero (S := S256x7168) zero2 _ x
/-- A load of a whole weight-shaped buffer is its contents. -/
theorem ldW {e : EltTy} (x : S7168x18432.Idx → Elt Ideal e) : View.ld x r0_1 = x := View.ld_unit_zero (S := S7168x18432) zero2 _ x

/-- The body leaves the product in its first result. -/
theorem out6_eq (x0 : Vec Ideal S256x7168 .bf16) (x1 : Vec Ideal S256x7168 .f32) (x2 : Vec Ideal S256x7168 .f32) (x3 : Vec Ideal S7168x18432 .bf16)
    (x4 : Vec Ideal S7168x18432 .f32) (x5 : Vec Ideal S7168x18432 .f32) :
    out0_6 (F := Ideal) x0 x1 x2 x3 x4 x5 = k0_pay3 x0 x1 x3 x4 x2 x5 := by
  unfold out0_6
  refine (View.canon_unit_zero zero2 _ _).trans ?_
  simp only [ldX, ldW]

/-- Window 6's block is its whole array. -/
theorem read6 (f : Buf (Elt Ideal) ((c : Thread nD τ).loc main_v64_0)) : (win0_6.blk t0_0).view.read (Elt Ideal) f = f :=
  Memref.read_access_unit_zero (Elt Ideal) main_v64_0
    (show (fun a => (win0_6.index t0_0) a * main_v64_0.ty.shape.size a) = fun _ => 0 from
      funext fun a => by fin_cases a <;> decide) (fun a => by fin_cases a <;> decide) f

/-- Result array 1 of the call after the run. -/
theorem arr6 : (dats (F := Ideal) m 0 c).arrAt 6 cfg0.N = k0_pay3 (V m c main_v0) (V m c main_v54) (V m c main_arg2) (V m c main_v60) (V m c main_v55) (V m c main_v63) := by
  refine (read6 c _).symm.trans ((Value.blocks6 m c t0_0 rfl).trans ((Value.flushed6 m c t0_0).trans ?_))
  rw [iblk0, iblk1, iblk2, iblk3, iblk4, iblk5]
  have e := out6_eq (V (F := Ideal) m c main_v0) (V m c main_v54) (V m c main_v55) (V m c main_arg2) (V m c main_v60) (V m c main_v63)
  refine Eq.trans ?_ e
  exact funext fun _ => rfl

/-- The body leaves the activation's codes in its second result. -/
theorem out7_eq (x0 : Vec Ideal S256x7168 .bf16) (x1 : Vec Ideal S256x7168 .f32) (x2 : Vec Ideal S256x7168 .f32) (x3 : Vec Ideal S7168x18432 .bf16)
    (x4 : Vec Ideal S7168x18432 .f32) (x5 : Vec Ideal S7168x18432 .f32) :
    out0_7 (F := Ideal) x0 x1 x2 x3 x4 x5 = k0_pay1 x0 x1 := by
  unfold out0_7
  refine (View.canon_unit_zero zero2 _ _).trans ?_
  simp only [ldX, ldW]

/-- Window 7's block is its whole array. -/
theorem read7 (f : Buf (Elt Ideal) ((c : Thread nD τ).loc main_v64_1)) : (win0_7.blk t0_0).view.read (Elt Ideal) f = f :=
  Memref.read_access_unit_zero (Elt Ideal) main_v64_1
    (show (fun a => (win0_7.index t0_0) a * main_v64_1.ty.shape.size a) = fun _ => 0 from
      funext fun a => by fin_cases a <;> decide) (fun a => by fin_cases a <;> decide) f

/-- Result array 2 of the call after the run. -/
theorem arr7 : (dats (F := Ideal) m 0 c).arrAt 7 cfg0.N = k0_pay1 (V m c main_v0) (V m c main_v54) := by
  refine (read7 c _).symm.trans ((Value.blocks7 m c t0_0 rfl).trans ((Value.flushed7 m c t0_0).trans ?_))
  rw [iblk0, iblk1, iblk2, iblk3, iblk4, iblk5]
  have e := out7_eq (V (F := Ideal) m c main_v0) (V m c main_v54) (V m c main_v55) (V m c main_arg2) (V m c main_v60) (V m c main_v63)
  refine Eq.trans ?_ e
  exact funext fun _ => rfl

/-- The body leaves the weights' codes in its third result. -/
theorem out8_eq (x0 : Vec Ideal S256x7168 .bf16) (x1 : Vec Ideal S256x7168 .f32) (x2 : Vec Ideal S256x7168 .f32) (x3 : Vec Ideal S7168x18432 .bf16)
    (x4 : Vec Ideal S7168x18432 .f32) (x5 : Vec Ideal S7168x18432 .f32) :
    out0_8 (F := Ideal) x0 x1 x2 x3 x4 x5 = k0_pay2 x3 x4 := by
  unfold out0_8
  refine (View.canon_unit_zero zero2 _ _).trans ?_
  simp only [ldX, ldW]

/-- Window 8's block is its whole array. -/
theorem read8 (f : Buf (Elt Ideal) ((c : Thread nD τ).loc main_v64_2)) : (win0_8.blk t0_0).view.read (Elt Ideal) f = f :=
  Memref.read_access_unit_zero (Elt Ideal) main_v64_2
    (show (fun a => (win0_8.index t0_0) a * main_v64_2.ty.shape.size a) = fun _ => 0 from
      funext fun a => by fin_cases a <;> decide) (fun a => by fin_cases a <;> decide) f

/-- Result array 3 of the call after the run. -/
theorem arr8 : (dats (F := Ideal) m 0 c).arrAt 8 cfg0.N = k0_pay2 (V m c main_arg2) (V m c main_v60) := by
  refine (read8 c _).symm.trans ((Value.blocks8 m c t0_0 rfl).trans ((Value.flushed8 m c t0_0).trans ?_))
  rw [iblk0, iblk1, iblk2, iblk3, iblk4, iblk5]
  have e := out8_eq (V (F := Ideal) m c main_v0) (V m c main_v54) (V m c main_v55) (V m c main_arg2) (V m c main_v60) (V m c main_v63)
  refine Eq.trans ?_ e
  exact funext fun _ => rfl

end Cert.RefOut
-- ==== Proof.Match.lean ====
/-
  The kernel's six results and the reference's, as functions of the same arguments on exact numbers, are equal.
-/
module

public import proofs.«01_k».proof.Proof.RefVal
public import proofs.«01_k».proof.Proof.RefRead
public import proofs.«01_k».proof.Proof.RefOut
public import proofs.«01_k».proof.Proof.Codes

@[expose] public section

set_option maxRecDepth 16384

noncomputable section

namespace Cert.Match

open Cert.KernelIdeal.Hand Cert.KernelIdeal.Math Cert.RefVal Cert.RefRead Cert.RefOut
open Cert.ReferenceIdeal Cert.ReferenceIdeal.Gen
open Idealize.ShloMosaic hiding ix1 ix2 ix3 ix4
open Idealize.ShloMosaic.ValueIdx (ix1 ix2 ix3 ix4)
open Cert.Scale

/-! ## The activation -/

section X

variable (x : FVec Ideal S256x7168 .bf16) (h : FVec Ideal S16 .f32) (h1 : S1x16.Idx → Elt Ideal .f32)

/-- The only index of a scalar. -/
def o : S_.Idx := fun a => a.elim0

/-- The kernel's greatest word of the history is the reference's. -/
theorem hmax_eq (hh : ∀ k : Fin 16, h1 (ix2 0 k) = h (ix1 k)) : hmax h1 = hmx h o := by
  refine eq_of_forall_ge_iff fun z => ?_
  rw [hmx_le]
  have e : ∀ k : Fin 16, hw h1 k = h (ix1 k) := by
    intro k
    rw [← hh k]
    fin_cases k <;> rfl
  have g : (∀ k, h k ≤ z) ↔ ∀ k : Fin 16, hw h1 k ≤ z :=
    ⟨fun H k => by rw [e]; exact H _, fun H k => by
      have ek : k = ix1 (k 0) := funext fun a => match a with | ⟨0, _⟩ => rfl
      exact le_of_eq_of_le ((congrArg h ek).trans (e (k 0)).symm) (H (k 0))⟩
  rw [g]
  unfold hmax
  simp only [max_le_iff]
  constructor
  · rintro ⟨⟨⟨⟨⟨⟨⟨⟨⟨⟨⟨⟨⟨⟨⟨a0, a1⟩, a2⟩, a3⟩, a4⟩, a5⟩, a6⟩, a7⟩, a8⟩, a9⟩, a10⟩, a11⟩, a12⟩, a13⟩, a14⟩, a15⟩ k
    fin_cases k
    exacts [a0, a1, a2, a3, a4, a5, a6, a7, a8, a9, a10, a11, a12, a13, a14, a15]
  · intro H
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact H _

/-- The exponent of the activation's scale: the kernel's, and the reference's scale is its power of two. -/
theorem xexp (hh : ∀ k : Fin 16, h1 (ix2 0 k) = h (ix1 k)) : ∃ e : ℤ, Has (hmax h1) e ∧ ∀ i, xsc h i = pw e := by
  obtain ⟨e, a, b, c, d⟩ := eOf_spec (hmx h o) (xmin h o) (xmin_isMin h o)
  refine ⟨e, ?_, fun i => ?_⟩
  · rw [hmax_eq h h1 hh]
    exact ⟨a, b, c⟩
  · have : i = o := funext fun a => a.elim0
    rw [this, xsc_apply, d]

/-- The new history's first word. -/
theorem amax_eq : Cert.KernelIdeal.Gen.k0_pay81 (xam (F := Ideal) x 56) = xmx x o :=
  xmax_eq x _ fun z => xmx_le x o z

/-- The kernel's new history: the activation's maximum first, as the reference finds it, then the old history moved on by one. -/
theorem hist_eq (hh : ∀ k : Fin 16, h1 (ix2 0 k) = h (ix1 k)) (i : S1x16.Idx) :
    Hout (F := Ideal) x h1 i = if (i 1).val = 0 then xmx x (fun a => a.elim0) else h (ix1 (Fin.ofNat 16 ((i 1).val - 1))) := by
  unfold Hout
  by_cases e : (i 1).val = 0
  · rw [if_pos e, if_pos e]
    exact amax_eq x
  · rw [if_neg e, if_neg e]
    exact hh _

end X

/-! ## The weights -/

section W

variable (w : FVec Ideal S7168x18432 .bf16)

/-- The kernel's block maximum is the reference's. -/
theorem wAm_eq {r j : ℕ} (hr : r < 56) (hj : j < 144) : wAm w r j = wmx w (ix2 (⟨r, hr⟩ : Fin 56) (⟨j, hj⟩ : Fin 144)) :=
  eq_of_forall_ge_iff fun z => (wAm_le w hr hj z).trans (wmx_le w (ix2 (⟨r, hr⟩ : Fin 56) (⟨j, hj⟩ : Fin 144)) z).symm

/-- Each weight block has an exponent that both the kernel and the reference use for its scale. -/
theorem wexp1 (r j : ℕ) : ∃ e : ℤ, ∀ (hr : r < 56) (hj : j < 144),
    Has (wAm w r j) e ∧ wsc w (ix2 (⟨r, hr⟩ : Fin 56) (⟨j, hj⟩ : Fin 144)) = pw e := by
  by_cases hr : r < 56
  · by_cases hj : j < 144
    · obtain ⟨e, a, b, c, d⟩ := eOf_spec _ _ (wmin_isMin w (ix2 (⟨r, hr⟩ : Fin 56) (⟨j, hj⟩ : Fin 144)))
      refine ⟨e, fun _ _ => ⟨?_, ?_⟩⟩
      · rw [wAm_eq w hr hj]
        exact ⟨a, b, c⟩
      · exact (wsc_apply w _).trans d
    · exact ⟨0, fun _ h => absurd h hj⟩
  · exact ⟨0, fun h => absurd h hr⟩

/-- The exponents of the weights' scales: the kernel's, and the reference's scales are their powers of two. -/
theorem wexp : ∃ E : ℕ → ℕ → ℤ, ∀ r j (hr : r < 56) (hj : j < 144),
    Has (wAm w r j) (E r j) ∧ wsc w (ix2 (⟨r, hr⟩ : Fin 56) (⟨j, hj⟩ : Fin 144)) = pw (E r j) :=
  ⟨fun r j => (wexp1 w r j).choose, fun r j => (wexp1 w r j).choose_spec⟩

end W

/-! ## The reference's inputs of the call -/

/-- One over the activation's scale, at each element. -/
def ix (h : FVec Ideal S16 .f32) : FVec Ideal S256x7168 .f32 :=
  broadcastInDim S256x7168 ![] bcast_S_S256x7168 (Host.divf (constant S_ .f32 1065353216#32) (xsc h))
/-- The activation's scale, at each element. -/
def sx (h : FVec Ideal S16 .f32) : FVec Ideal S256x7168 .f32 := broadcastInDim S256x7168 ![] bcast_S_S256x7168 (xsc h)
/-- One over the weights' scales, at each element. -/
def iw (w : FVec Ideal S7168x18432 .bf16) : FVec Ideal S7168x18432 .f32 :=
  spread60 (Host.divf (broadcastInDim S56x144 ![] bcast_S_S56x144 (constant S_ .f32 1065353216#32)) (wsc w))
/-- The weights' scales, at each element. -/
def sw (w : FVec Ideal S7168x18432 .bf16) : FVec Ideal S7168x18432 .f32 := spread63 (wsc w)

/-- A scalar spread over the activation, at an index. -/
theorem bcx_at (s : FVec Ideal S_ .f32) (i : S256x7168.Idx) : broadcastInDim S256x7168 ![] bcast_S_S256x7168 s i = s o :=
  congrArg s (funext fun a => Fin.elim0 a)
/-- One over a scalar. -/
theorem div_at (s : FVec Ideal S_ .f32) (i : S_.Idx) :
    (Host.divf (constant S_ .f32 1065353216#32) s) i = Ideal.div (Ideal.ofBits .f32 0x3F800000#32) (s i) := rfl
/-- One over the blocks' values, at a block. -/
theorem div_at₂ (s : FVec Ideal S56x144 .f32) (i : S56x144.Idx) :
    (Host.divf (broadcastInDim S56x144 ![] bcast_S_S56x144 (constant S_ .f32 1065353216#32)) s) i
      = Ideal.div (Ideal.ofBits .f32 0x3F800000#32) (s i) := rfl

section XV
variable {h : FVec Ideal S16 .f32} {e : ℤ} (he : ∀ i, xsc h i = pw e)
include he
/-- One over the activation's scale is its inverse power of two. -/
theorem ix_apply (i : S256x7168.Idx) : ix h i = pw (-e) := by
  unfold ix
  rw [bcx_at, div_at, he, inv_pw]
/-- The activation's scale is its power of two. -/
theorem sx_apply (i : S256x7168.Idx) : sx h i = pw e := by
  unfold sx
  rw [bcx_at, he]
end XV

section WV
variable {w : FVec Ideal S7168x18432 .bf16} {E : ℕ → ℕ → ℤ}
  (hE : ∀ r j (hr : r < 56) (hj : j < 144), Has (wAm w r j) (E r j) ∧ wsc w (ix2 (⟨r, hr⟩ : Fin 56) (⟨j, hj⟩ : Fin 144)) = pw (E r j))
include hE
/-- One over a block's scale is its inverse power of two. -/
theorem iw_apply (i : S7168x18432.Idx) : iw w i = pw (-E ((i 0).val / 128) ((i 1).val / 128)) := by
  have h0 : (i 0).val < 7168 := (i 0).isLt
  have h1 : (i 1).val < 18432 := (i 1).isLt
  unfold iw
  refine (spread60_apply _ i).trans ((div_at₂ _ _).trans ?_)
  rw [(hE _ _ _ _).2, inv_pw]
/-- A block's scale is its power of two. -/
theorem sw_apply (i : S7168x18432.Idx) : sw w i = pw (E ((i 0).val / 128) ((i 1).val / 128)) := by
  have h0 : (i 0).val < 7168 := (i 0).isLt
  have h1 : (i 1).val < 18432 := (i 1).isLt
  unfold sw
  exact (spread63_apply _ i).trans (hE _ _ _ _).2
end WV

/-! ## The results -/

variable (x : FVec Ideal S256x7168 .bf16) (h : FVec Ideal S16 .f32) (w : FVec Ideal S7168x18432 .bf16) (h1 : S1x16.Idx → Elt Ideal .f32)
  (hh : ∀ k : Fin 16, h1 (ix2 0 k) = h (ix1 k))

include hh in
/-- The activation's codes. -/
theorem xcodes_eq : k0_pay1 (F := Ideal) x (ix h) = XC (F := Ideal) x h1 := by
  obtain ⟨e, H, he⟩ := xexp h h1 hh
  funext i
  refine (pay1_apply x (ix h) i).trans ?_
  rw [ix_apply he]
  exact (XC_apply x h1 H i).symm

include hh in
/-- The activation's scale. -/
theorem xscale_eq (i : S1x1.Idx) (k : S_.Idx) : xsc h k = XSout (F := Ideal) h1 i := by
  obtain ⟨e, H, he⟩ := xexp h h1 hh
  rw [he]
  exact (XSout_apply h1 H i).symm

/-- The weights' codes. -/
theorem wcodes_eq : k0_pay2 (F := Ideal) w (iw w) = WC (F := Ideal) w := by
  obtain ⟨E, hE⟩ := wexp w
  funext i
  refine (pay2_apply w (iw w) i).trans ?_
  rw [iw_apply hE]
  exact (WC_apply w E (fun r j hr hj => (hE r j hr hj).1) i).symm

/-- The weights' scales. -/
theorem wscales_eq : wsc w = WSout (F := Ideal) w := by
  obtain ⟨E, hE⟩ := wexp w
  funext i
  have e : i = ix2 (⟨(i 0).val, (i 0).isLt⟩ : Fin 56) (⟨(i 1).val, (i 1).isLt⟩ : Fin 144) :=
    funext fun a => match a with | ⟨0, _⟩ => rfl | ⟨1, _⟩ => rfl
  refine ((congrArg (wsc w) e).trans (hE _ _ (i 0).isLt (i 1).isLt).2).trans ?_
  exact (WS_apply w E (fun r j hr hj => (hE r j hr hj).1) (i 0).isLt (i 1).isLt).symm

include hh in
/-- The product. -/
theorem y_eq : k0_pay3 (F := Ideal) x (ix h) w (iw w) (sx h) (sw w) = Yout (F := Ideal) w (XD (F := Ideal) x h1) := by
  obtain ⟨e, H, he⟩ := xexp h h1 hh
  obtain ⟨E, hE⟩ := wexp w
  funext i
  refine (pay3_apply _ _ _ _ _ _ i).trans ?_
  refine Eq.trans ?_ (Yout_apply w E (fun r j hr hj => (hE r j hr hj).1) _ i).symm
  refine Finset.sum_congr rfl fun q _ => ?_
  refine congrArg₂ (fun a b : EReal => a * b) ?_ ?_
  · rw [ix_apply he, sx_apply he]
    exact (XD_apply x h1 H _).symm
  · rw [iw_apply hE, sw_apply hE]
    rfl

end Cert.Match
-- ==== Proof.KerRead.lean ====
/-
  The kernel's operands on exact numbers: the arguments, reshaped.
-/
module

public import proofs.«01_k».proof.Proof.Run
public import Idealize.ShloMosaic.PureOps.Ideal
public import Idealize.ShloMosaic.Lib.StableHlo.Run
public import Idealize.ShloMosaic.Lib.StableHlo.RunRead
public import Idealize.ShloMosaic.Lib.StableHlo.ReadAt
public import Idealize.ShloMosaic.Lib.Tactic

@[expose] public section

set_option maxRecDepth 16384

noncomputable section

namespace Cert.KerRead

open Cert.KernelIdeal Cert.KernelIdeal.Gen Cert.KernelIdeal.Hand
open Idealize.ShloMosaic hiding ix1 ix2 ix3 ix4
open Idealize.ShloMosaic.ValueIdx (ix1 ix2 ix3 ix4)
open Idealize.ShloMosaic.TcCoe Idealize.ShloMosaic.StableHlo
open Idealize.SL Idealize.SL.Sem

variable (m : (ℓ : Loc nD τ sig) → Buf (Elt Ideal) ℓ) (c : Dev nD)

/-- The activation, its middle axis dropped. -/
theorem x0_eq : x0 m c = fun i => shapeCast main_v0.ty.shape (m (c, Proc.tc.devRef main_arg0)) shapeCasts_S256x1x7168_S256x7168 i := by
  unfold x0 V
  after_reads_simp

/-- The history, as one row. -/
theorem h0_eq : h0 m c = fun i => shapeCast main_v1.ty.shape (m (c, Proc.tc.devRef main_arg1)) shapeCasts_S16_S1x16 i := by
  unfold h0 V
  after_reads_simp

/-- The history's words. -/
theorem h0_apply (k : Fin 16) : h0 m c (ix2 0 k) = m (c, Proc.tc.devRef main_arg1) (ix1 k) := by
  rw [h0_eq]
  refine shapeCast_apply (s := S16) (t := S1x16) _ _ _ _ ?_
  rw [Shape.rowMajor_val_one, Shape.rowMajor_val_two]
  show k.val = 0 * 16 + k.val
  omega

/-- The weights the kernel starts from are the contents of the third argument. -/
theorem w0_eq : w0 m c = m (c, Proc.tc.devRef main_arg2) := V_main_arg2 m c

end Cert.KerRead
-- ==== Proof.Algebraic.lean ====
/-
  On exact numbers, from the same arguments, the kernel and the reference leave the same six results.
-/
module

public import proofs.«01_k».proof.Defs
public import proofs.«01_k».proof.Proof.Match
public import proofs.«01_k».proof.Proof.KerRead

@[expose] public section

set_option maxRecDepth 16384

noncomputable section

namespace Cert.Algebraic

open Idealize.ShloMosaic hiding ix1 ix2 ix3 ix4
open Idealize.ShloMosaic.ValueIdx (ix1 ix2 ix3 ix4)
open Idealize.ShloMosaic.TcCoe
open Idealize.SL Idealize.SL.Sem
open Cert.KernelIdeal.Hand Cert.RefVal Cert.RefRead Cert.RefOut Cert.Match

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include a0 in
/-- The activation is the same. -/
theorem x_eq : ax m' c = x0 m c := by
  rw [Cert.KerRead.x0_eq]
  exact congrArg (fun A => (fun i => shapeCast Cert.KernelIdeal.main_v0.ty.shape A Cert.KernelIdeal.Facts₀.shapeCasts_S256x1x7168_S256x7168 i)) a0

include a1 in
/-- The history is the same. -/
theorem h_eq (k : Fin 16) : h0 m c (ix2 0 k) = ah m' c (ix1 k) :=
  (Cert.KerRead.h0_apply m c k).trans (congrFun a1 (ix1 k)).symm

include a2 in
/-- The weights are the same. -/
theorem w_eq : aw m' c = w0 m c := a2.trans (Cert.KerRead.w0_eq m c).symm

variable (r : PUnit × MemSt Cert.ReferenceIdeal.nD Cert.ReferenceIdeal.τ Cert.ReferenceIdeal.sig (Elt Ideal))
  (H : Pipeline.FramePost Cert.ReferenceIdeal.cfgs (Cert.ReferenceIdeal.Gen.dats m') 0 (Cert.ReferenceIdeal.Gen.V m') r)

include H a0 a1 a2 in
/-- The reference's product is the kernel's. -/
theorem ref0 : r.2.mem ((c.tc : Thread Cert.ReferenceIdeal.nD Cert.ReferenceIdeal.τ).loc Cert.ReferenceIdeal.main_v64_0)
    = Yout (F := Ideal) (w0 m c) (XD (x0 m c) (h0 m c)) := by
  refine (Cert.ReferenceIdeal.Value.post6 m' r H c).trans ((arr6 m' c).trans ?_)
  rw [read0, read54, read55, read60, read63, Cert.ReferenceIdeal.Gen.V_main_arg2]
  refine Eq.trans ?_ (y_eq (x0 m c) (ah m' c) (w0 m c) (h0 m c) (h_eq m m' c a1))
  rw [← x_eq m m' c a0, ← w_eq m m' c a2]
  rfl

include H a0 a1 in
/-- The reference's history is the kernel's. -/
theorem ref1 : r.2.mem ((c.tc : Thread Cert.ReferenceIdeal.nD Cert.ReferenceIdeal.τ).loc Cert.ReferenceIdeal.main_v25)
    = Hout (F := Ideal) (x0 m c) (h0 m c) := by
  refine ((H c).2 Cert.ReferenceIdeal.main_v25 (Pipeline.mem_restRefs_of _ (by decide) (by decide))).trans ?_
  funext i
  refine (read25 m' c i).trans ?_
  refine Eq.trans ?_ (hist_eq (x0 m c) (ah m' c) (h0 m c) (h_eq m m' c a1) i).symm
  rw [x_eq m m' c a0]

include H a0 a1 in
/-- The reference's codes of the activation are the kernel's. -/
theorem ref2 : r.2.mem ((c.tc : Thread Cert.ReferenceIdeal.nD Cert.ReferenceIdeal.τ).loc Cert.ReferenceIdeal.main_v64_1)
    = XC (F := Ideal) (x0 m c) (h0 m c) := by
  refine (Cert.ReferenceIdeal.Value.post7 m' r H c).trans ((arr7 m' c).trans ?_)
  rw [read0, read54]
  refine Eq.trans ?_ (xcodes_eq (x0 m c) (ah m' c) (h0 m c) (h_eq m m' c a1))
  rw [← x_eq m m' c a0]
  rfl

include H a1 in
/-- The reference's scale of the activation is the kernel's. -/
theorem ref3 : r.2.mem ((c.tc : Thread Cert.ReferenceIdeal.nD Cert.ReferenceIdeal.τ).loc Cert.ReferenceIdeal.main_v26)
    = XSout (F := Ideal) (h0 m c) := by
  refine ((H c).2 Cert.ReferenceIdeal.main_v26 (Pipeline.mem_restRefs_of _ (by decide) (by decide))).trans ?_
  refine (read26 m' c).trans ?_
  funext i
  exact xscale_eq (ah m' c) (h0 m c) (h_eq m m' c a1) i _

include H a2 in
/-- The reference's codes of the weights are the kernel's. -/
theorem ref4 : r.2.mem ((c.tc : Thread Cert.ReferenceIdeal.nD Cert.ReferenceIdeal.τ).loc Cert.ReferenceIdeal.main_v64_2)
    = WC (F := Ideal) (w0 m c) := by
  refine (Cert.ReferenceIdeal.Value.post8 m' r H c).trans ((arr8 m' c).trans ?_)
  rw [read60, Cert.ReferenceIdeal.Gen.V_main_arg2]
  refine Eq.trans ?_ (wcodes_eq (w0 m c))
  rw [← w_eq m m' c a2]
  rfl

include H a2 in
/-- The reference's scales of the weights are the kernel's. -/
theorem ref5 : r.2.mem ((c.tc : Thread Cert.ReferenceIdeal.nD Cert.ReferenceIdeal.τ).loc Cert.ReferenceIdeal.main_v52)
    = WSout (F := Ideal) (w0 m c) := by
  refine ((H c).2 Cert.ReferenceIdeal.main_v52 (Pipeline.mem_restRefs_of _ (by decide) (by decide))).trans ?_
  refine (read52 m' c).trans ?_
  rw [w_eq m m' c a2]
  exact wscales_eq (w0 m c)

end

/-- The value claim: all six results. -/
theorem main : Cert.algebraic_KernelIdeal_ReferenceIdeal := by
  intro m g m' g' _ hag
  refine ⟨fun c => Yout (F := Ideal) (w0 m c) (XD (x0 m c) (h0 m c)), fun c => Hout (F := Ideal) (x0 m c) (h0 m c),
    fun c => XC (F := Ideal) (x0 m c) (h0 m c), fun c => XSout (F := Ideal) (h0 m c), fun c => WC (F := Ideal) (w0 m c),
    fun c => WSout (F := Ideal) (w0 m c), ?_, ?_⟩
  · refine (θ_run _ _ _).mono (fun r h c => ?_) (run_main (F := Ideal) m g)
    obtain ⟨⟨k0, k1, k2⟩, r0, r1, r2, r3, r4, r5⟩ := h.1 c
    exact ⟨r0, r1, r2, r3, r4, r5, k0, k1, k2⟩
  · refine (θ_run _ _ _).mono (fun r h c => ?_) (Cert.ReferenceIdeal.Gen.run_main (F := Ideal) m' g')
    obtain ⟨a0, a1, a2⟩ := hag c
    exact ⟨ref0 m m' c a0 a1 a2 r h, ref1 m m' c a0 a1 r h, ref2 m m' c a0 a1 r h, ref3 m m' c a1 r h, ref4 m m' c a2 r h,
      ref5 m m' c a2 r h, Cert.ReferenceIdeal.Value.kept_main_arg0 m' r h c, Cert.ReferenceIdeal.Value.kept_main_arg1 m' r h c,
      Cert.ReferenceIdeal.Value.kept_main_arg2 m' r h c⟩

end Cert.Algebraic
-- ==== Proof.lean ====
/-
  The proof of the claims: each program runs from any memory, its arguments end unchanged and its counters at zero,
  and on exact numbers the kernel's six results are the reference's.
-/
module

public import proofs.«01_k».proof.Defs
public import proofs.«01_k».proof.Proof.Gen.Kernel
public import proofs.«01_k».proof.Proof.Gen.ReferenceIdeal
public import proofs.«01_k».proof.Proof.Gen.ReferenceIdeal.Frame
public import proofs.«01_k».proof.Proof.Gen.ReferenceIdeal.Value
public import proofs.«01_k».proof.Proof.Run
public import proofs.«01_k».proof.Proof.Twin
public import proofs.«01_k».proof.Proof.Algebraic

@[expose] public section

noncomputable section

namespace Cert.Proof

/-- All five claims. -/
theorem claim : Cert.Claim := ⟨Cert.Kernel.Gen.facts, Cert.KernelIdeal.Gen.facts, Cert.ReferenceIdeal.Gen.facts,
  fun m g _ => Cert.Twin.frame m g, fun m g _ => Cert.KernelIdeal.Hand.frame_main m g, fun m g _ => Cert.ReferenceIdeal.Gen.frame m g, trivial,
  Cert.Algebraic.main⟩

end Cert.Proof

end
